-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 8192]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v0_0) i = v0 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.KernelIdeal.nD Cert.KernelIdeal.τ).loc Cert.KernelIdeal.main_v0_1) i = v1 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 i = 1#1 → r.2.mem ((c.tc : Thread Cert.KernelIdeal.nD Cert.KernelIdeal.τ).loc Cert.KernelIdeal.main_v0_2) i = v2 c i)
          ∧ (∀ i : (⟨3, ![32, 128, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 i = 1#1 → r.2.mem ((c.tc : Thread Cert.KernelIdeal.nD Cert.KernelIdeal.τ).loc Cert.KernelIdeal.main_v0_3) i = v3 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 i = 1#1 → r.2.mem ((c.tc : Thread Cert.KernelIdeal.nD Cert.KernelIdeal.τ).loc Cert.KernelIdeal.main_v0_4) i = v4 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 i = 1#1 → r.2.mem ((c.tc : Thread Cert.KernelIdeal.nD Cert.KernelIdeal.τ).loc Cert.KernelIdeal.main_v0_5) i = v5 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 i = 1#1 → r.2.mem ((c.tc : Thread Cert.KernelIdeal.nD Cert.KernelIdeal.τ).loc Cert.KernelIdeal.main_v0_6) i = v6 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 i = 1#1 → r.2.mem ((c.tc : Thread Cert.KernelIdeal.nD Cert.KernelIdeal.τ).loc Cert.KernelIdeal.main_v0_7) i = v7 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 i = 1#1 → r.2.mem ((c.tc : Thread Cert.KernelIdeal.nD Cert.KernelIdeal.τ).loc Cert.KernelIdeal.main_v0_8) i = v8 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 i = 1#1 → r.2.mem ((c.tc : Thread Cert.KernelIdeal.nD Cert.KernelIdeal.τ).loc Cert.KernelIdeal.main_v0_9) i = v9 c i)
          ∧ (∀ i : (⟨2, ![8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2 i = 1#1 → r.2.mem ((c.tc : Thread Cert.KernelIdeal.nD Cert.KernelIdeal.τ).loc Cert.KernelIdeal.main_v0_10) i = v10 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 8192]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v412) i = v0 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.ReferenceIdeal.nD Cert.ReferenceIdeal.τ).loc Cert.ReferenceIdeal.main_v136) i = v1 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 i = 1#1 → r.2.mem ((c.tc : Thread Cert.ReferenceIdeal.nD Cert.ReferenceIdeal.τ).loc Cert.ReferenceIdeal.main_v144) i = v2 c i)
          ∧ (∀ i : (⟨3, ![32, 128, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 i = 1#1 → r.2.mem ((c.tc : Thread Cert.ReferenceIdeal.nD Cert.ReferenceIdeal.τ).loc Cert.ReferenceIdeal.main_v401) i = v3 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 i = 1#1 → r.2.mem ((c.tc : Thread Cert.ReferenceIdeal.nD Cert.ReferenceIdeal.τ).loc Cert.ReferenceIdeal.main_v109) i = v4 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 i = 1#1 → r.2.mem ((c.tc : Thread Cert.ReferenceIdeal.nD Cert.ReferenceIdeal.τ).loc Cert.ReferenceIdeal.main_v413) i = v5 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 i = 1#1 → r.2.mem ((c.tc : Thread Cert.ReferenceIdeal.nD Cert.ReferenceIdeal.τ).loc Cert.ReferenceIdeal.main_v414) i = v6 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 i = 1#1 → r.2.mem ((c.tc : Thread Cert.ReferenceIdeal.nD Cert.ReferenceIdeal.τ).loc Cert.ReferenceIdeal.main_v415) i = v7 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 i = 1#1 → r.2.mem ((c.tc : Thread Cert.ReferenceIdeal.nD Cert.ReferenceIdeal.τ).loc Cert.ReferenceIdeal.main_v416) i = v8 c i)
          ∧ (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 i = 1#1 → r.2.mem ((c.tc : Thread Cert.ReferenceIdeal.nD Cert.ReferenceIdeal.τ).loc Cert.ReferenceIdeal.main_v417) i = v9 c i)
          ∧ (∀ i : (⟨2, ![8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2 i = 1#1 → r.2.mem ((c.tc : Thread Cert.ReferenceIdeal.nD Cert.ReferenceIdeal.τ).loc Cert.ReferenceIdeal.main_v411) i = v10 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v96) = v0 c
          ∧ r.2.mem ((c.tc : Thread Cert.Reference7Ideal.nD Cert.Reference7Ideal.τ).loc Cert.Reference7Ideal.main_v98) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_written.lean ====
abbrev S4096x1024 : Shape := ⟨2, ![4096, 1024]⟩
abbrev S4096x8192 : Shape := ⟨2, ![4096, 8192]⟩
abbrev S32x128x1024 : Shape := ⟨3, ![32, 128, 1024]⟩
abbrev S1024x1024 : Shape := ⟨2, ![1024, 1024]⟩
abbrev S1x1024 : Shape := ⟨2, ![1, 1024]⟩
abbrev S32x1x1024 : Shape := ⟨3, ![32, 1, 1024]⟩
abbrev S_ : Shape := ⟨0, ![]⟩
abbrev S8x1024 : Shape := ⟨2, ![8, 1024]⟩

class Facts : Prop where
  bcast_S_S4096x8192 : S_.BroadcastsInDim S4096x8192 (![] : Fin 0 → Fin S4096x8192.rank)
  bcast_S_S4096x1024 : S_.BroadcastsInDim S4096x1024 (![] : Fin 0 → Fin S4096x1024.rank)
  bcast_S_S32x128x1024 : S_.BroadcastsInDim S32x128x1024 (![] : Fin 0 → Fin S32x128x1024.rank)
  bcast_S_S8x1024 : S_.BroadcastsInDim S8x1024 (![] : Fin 0 → Fin S8x1024.rank)

variable [Facts]

def fn {F : FTy → Type} [FloatOps F] (main_arg0 : FVec F S4096x1024 .f32) (main_arg1 : FVec F S4096x8192 .f32) (main_arg2 : FVec F S4096x1024 .bf16) (main_arg3 : FVec F S4096x1024 .f32) (main_arg4 : FVec F S32x128x1024 .f32) (main_arg5 : FVec F S4096x1024 .bf16) (main_arg6 : FVec F S1024x1024 .bf16) (main_arg7 : FVec F S1024x1024 .bf16) (main_arg8 : FVec F S1024x1024 .bf16) (main_arg9 : FVec F S1x1024 .f32) (main_arg10 : FVec F S1x1024 .f32) (main_arg11 : FVec F S1x1024 .f32) (main_arg12 : FVec F S4096x1024 .f32) (main_arg13 : FVec F S32x1x1024 .f32) : IVec S4096x8192 1 × IVec S4096x1024 1 × IVec S4096x1024 1 × IVec S32x128x1024 1 × IVec S4096x1024 1 × IVec S4096x1024 1 × IVec S4096x1024 1 × IVec S4096x1024 1 × IVec S4096x1024 1 × IVec S4096x1024 1 × IVec S8x1024 1 :=
  let main_v0 : IVec S4096x8192 32 := iotaInDim S4096x8192 32 1
  let main_c : IVec S_ 32 := constantI S_ 32 3072#32
  let main_v1 : IVec S4096x8192 32 := broadcastInDim S4096x8192 ![] bcast_S_S4096x8192 main_c
  let main_v2 : IVec S4096x8192 1 := cmpi .slt main_v0 main_v1
  let main_c_0 : IVec S_ 1 := constantI S_ 1 1#1
  let main_v3 : IVec S4096x1024 1 := broadcastInDim S4096x1024 ![] bcast_S_S4096x1024 main_c_0
  let main_c_1 : IVec S_ 1 := constantI S_ 1 1#1
  let main_v4 : IVec S4096x1024 1 := broadcastInDim S4096x1024 ![] bcast_S_S4096x1024 main_c_1
  let main_c_2 : IVec S_ 1 := constantI S_ 1 1#1
  let main_v5 : IVec S32x128x1024 1 := broadcastInDim S32x128x1024 ![] bcast_S_S32x128x1024 main_c_2
  let main_c_3 : IVec S_ 1 := constantI S_ 1 1#1
  let main_v6 : IVec S4096x1024 1 := broadcastInDim S4096x1024 ![] bcast_S_S4096x1024 main_c_3
  let main_c_4 : IVec S_ 1 := constantI S_ 1 1#1
  let main_v7 : IVec S4096x1024 1 := broadcastInDim S4096x1024 ![] bcast_S_S4096x1024 main_c_4
  let main_c_5 : IVec S_ 1 := constantI S_ 1 1#1
  let main_v8 : IVec S4096x1024 1 := broadcastInDim S4096x1024 ![] bcast_S_S4096x1024 main_c_5
  let main_c_6 : IVec S_ 1 := constantI S_ 1 1#1
  let main_v9 : IVec S4096x1024 1 := broadcastInDim S4096x1024 ![] bcast_S_S4096x1024 main_c_6
  let main_c_7 : IVec S_ 1 := constantI S_ 1 1#1
  let main_v10 : IVec S4096x1024 1 := broadcastInDim S4096x1024 ![] bcast_S_S4096x1024 main_c_7
  let main_c_8 : IVec S_ 1 := constantI S_ 1 1#1
  let main_v11 : IVec S4096x1024 1 := broadcastInDim S4096x1024 ![] bcast_S_S4096x1024 main_c_8
  let main_c_9 : IVec S_ 1 := constantI S_ 1 1#1
  let main_v12 : IVec S8x1024 1 := broadcastInDim S8x1024 ![] bcast_S_S8x1024 main_c_9
  (main_v2, main_v3, main_v4, main_v5, main_v6, main_v7, main_v8, main_v9, main_v10, main_v11, main_v12)
-- ==== Kernel.lean ====
abbrev S4096x1024 : Shape := ⟨2, ![4096, 1024]⟩
abbrev S4096x8192 : Shape := ⟨2, ![4096, 8192]⟩
abbrev S32x128x1024 : Shape := ⟨3, ![32, 128, 1024]⟩
abbrev S1024x1024 : Shape := ⟨2, ![1024, 1024]⟩
abbrev S1x1024 : Shape := ⟨2, ![1, 1024]⟩
abbrev S32x1x1024 : Shape := ⟨3, ![32, 1, 1024]⟩
abbrev S8x1024 : Shape := ⟨2, ![8, 1024]⟩
abbrev S256x1024 : Shape := ⟨2, ![256, 1024]⟩
abbrev S2x128x1024 : Shape := ⟨3, ![2, 128, 1024]⟩
abbrev S2x1x1024 : Shape := ⟨3, ![2, 1, 1024]⟩
abbrev S256x3072 : Shape := ⟨2, ![256, 3072]⟩
abbrev S128x1024 : Shape := ⟨2, ![128, 1024]⟩
abbrev S1x128x1024 : Shape := ⟨3, ![1, 128, 1024]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S256x896 : Shape := ⟨2, ![256, 896]⟩
abbrev S256x768 : Shape := ⟨2, ![256, 768]⟩
abbrev S256x640 : Shape := ⟨2, ![256, 640]⟩
abbrev S256x256 : Shape := ⟨2, ![256, 256]⟩
abbrev S256x512 : Shape := ⟨2, ![256, 512]⟩
abbrev S256x384 : Shape := ⟨2, ![256, 384]⟩
abbrev S1x1x1024 : Shape := ⟨3, ![1, 1, 1024]⟩

abbrev nBuf : Space → Nat
  | .hbm => 25
  | .vmem => 48
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .bf16⟩
  | .hbm, ⟨3, _⟩ => ⟨S4096x1024, .f32⟩
  | .hbm, ⟨4, _⟩ => ⟨S32x128x1024, .f32⟩
  | .hbm, ⟨5, _⟩ => ⟨S4096x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S32x1x1024, .f32⟩
  | .hbm, ⟨14, _⟩ => ⟨S4096x8192, .bf16⟩
  | .hbm, ⟨15, _⟩ => ⟨S4096x1024, .f32⟩
  | .hbm, ⟨16, _⟩ => ⟨S4096x1024, .f32⟩
  | .hbm, ⟨17, _⟩ => ⟨S32x128x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S2x128x1024, .f32⟩
  | .local _ .vmem, ⟨13, _⟩ => ⟨S2x128x1024, .f32⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S2x1x1024, .f32⟩
  | .local _ .vmem, ⟨25, _⟩ => ⟨S2x1x1024, .f32⟩
  | .local _ .vmem, ⟨26, _⟩ => ⟨S256x3072, .bf16⟩
  | .local _ .vmem, ⟨27, _⟩ => ⟨S256x3072, .bf16⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S2x128x1024, .f32⟩
  | .local _ .vmem, ⟨33, _⟩ => ⟨S2x128x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S8x1024, .f32⟩
  | .local _ .vmem, ⟨47, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_20 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S8x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== ReferenceIdeal.lean ====
abbrev S4096x1024 : Shape := ⟨2, ![4096, 1024]⟩
abbrev S4096x8192 : Shape := ⟨2, ![4096, 8192]⟩
abbrev S32x128x1024 : Shape := ⟨3, ![32, 128, 1024]⟩
abbrev S1024x1024 : Shape := ⟨2, ![1024, 1024]⟩
abbrev S1x1024 : Shape := ⟨2, ![1, 1024]⟩
abbrev S32x1x1024 : Shape := ⟨3, ![32, 1, 1024]⟩
abbrev S32x128x8x128 : Shape := ⟨4, ![32, 128, 8, 128]⟩
abbrev S32x8x128x128 : Shape := ⟨4, ![32, 8, 128, 128]⟩
abbrev S4096x8x128 : Shape := ⟨3, ![4096, 8, 128]⟩
abbrev S8x128 : Shape := ⟨2, ![8, 128]⟩
abbrev S_ : Shape := ⟨0, ![]⟩
abbrev S4096x8 : Shape := ⟨2, ![4096, 8]⟩
abbrev S4096x8x1 : Shape := ⟨3, ![4096, 8, 1]⟩
abbrev S1x8x128 : Shape := ⟨3, ![1, 8, 128]⟩
abbrev S4096 : Shape := ⟨1, ![4096]⟩
abbrev S4096x1 : Shape := ⟨2, ![4096, 1]⟩
abbrev S1024 : Shape := ⟨1, ![1024]⟩
abbrev S1x1x1024 : Shape := ⟨3, ![1, 1, 1024]⟩
abbrev S128x1024 : Shape := ⟨2, ![128, 1024]⟩
abbrev S1x128x1024 : Shape := ⟨3, ![1, 128, 1024]⟩
abbrev S16x128x1024 : Shape := ⟨3, ![16, 128, 1024]⟩
abbrev S4096x5120 : Shape := ⟨2, ![4096, 5120]⟩
abbrev S2x1024 : Shape := ⟨2, ![2, 1024]⟩
abbrev S8x1024 : Shape := ⟨2, ![8, 1024]⟩

abbrev nBuf : Space → Nat
  | .hbm => 478
  | .vmem => 0
  | .smem => 0
  | _ => 0

abbrev hbmTy0_0 (i : Nat) : BufTy := match i % 128 with
  | 0 => ⟨S4096x1024, .f32⟩
  | 1 => ⟨S4096x8192, .f32⟩
  | 2 => ⟨S4096x1024, .bf16⟩
  | 3 => ⟨S4096x1024, .f32⟩
  | 4 => ⟨S32x128x1024, .f32⟩
  | 5 => ⟨S4096x1024, .bf16⟩
  | 6 => ⟨S1024x1024, .bf16⟩
  | 7 => ⟨S1024x1024, .bf16⟩
  | 8 => ⟨S1024x1024, .bf16⟩
  | 9 => ⟨S1x1024, .f32⟩
  | 10 => ⟨S1x1024, .f32⟩
  | 11 => ⟨S1x1024, .f32⟩
  | 12 => ⟨S4096x1024, .f32⟩
  | 13 => ⟨S32x1x1024, .f32⟩
  | 14 => ⟨S4096x1024, .f32⟩
  | 15 => ⟨S4096x1024, .f32⟩
  | 16 => ⟨S1024x1024, .f32⟩
  | 17 => ⟨S1024x1024, .f32⟩
  | 18 => ⟨S1024x1024, .f32⟩
  | 19 => ⟨S4096x1024, .f32⟩
  | 20 => ⟨S4096x1024, .f32⟩
  | 21 => ⟨S4096x1024, .f32⟩
  | 22 => ⟨S32x128x8x128, .f32⟩
  | 23 => ⟨S32x128x8x128, .f32⟩
  | 24 => ⟨S32x8x128x128, .f32⟩
  | 25 => ⟨S32x128x8x128, .f32⟩
  | 26 => ⟨S4096x1024, .f32⟩
  | 27 => ⟨S4096x1024, .f32⟩
  | 28 => ⟨S4096x8x128, .f32⟩
  | 29 => ⟨S8x128, .f32⟩
  | 30 => ⟨S4096x8x128, .f32⟩
  | 31 => ⟨S_, .f32⟩
  | 32 => ⟨S4096x8, .f32⟩
  | 33 => ⟨S4096x8x1, .f32⟩
  | 34 => ⟨S_, .f32⟩
  | 35 => ⟨S4096x8x1, .f32⟩
  | 36 => ⟨S4096x8x1, .f32⟩
  | 37 => ⟨S_, .f32⟩
  | 38 => ⟨S4096x8x1, .f32⟩
  | 39 => ⟨S4096x8x1, .f32⟩
  | 40 => ⟨S4096x8x1, .f32⟩
  | 41 => ⟨S4096x8x1, .f32⟩
  | 42 => ⟨S_, .f32⟩
  | 43 => ⟨S4096x8x1, .f32⟩
  | 44 => ⟨S4096x8x1, .f32⟩
  | 45 => ⟨S4096x8x128, .f32⟩
  | 46 => ⟨S4096x8x128, .f32⟩
  | 47 => ⟨S1x8x128, .f32⟩
  | 48 => ⟨S4096x8x128, .f32⟩
  | 49 => ⟨S4096x8x128, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S_, .f32⟩
  | 126 => ⟨S1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x8x128, .f32⟩
  | 35 => ⟨S4096x8x128, .f32⟩
  | 36 => ⟨S_, .f32⟩
  | 37 => ⟨S8x128, .f32⟩
  | 38 => ⟨S1x8x128, .f32⟩
  | 39 => ⟨S4096x8x128, .f32⟩
  | 40 => ⟨S4096x8x128, .f32⟩
  | 41 => ⟨S_, .f32⟩
  | 42 => ⟨S8x128, .f32⟩
  | 43 => ⟨S4096x8x128, .f32⟩
  | 44 => ⟨S_, .f32⟩
  | 45 => ⟨S4096x8, .f32⟩
  | 46 => ⟨S4096x8x1, .f32⟩
  | 47 => ⟨S4096x8x128, .f32⟩
  | 48 => ⟨S4096x8x128, .f32⟩
  | 49 => ⟨S4096x8x1, .f32⟩
  | 50 => ⟨S_, .f32⟩
  | 51 => ⟨S4096x8x1, .f32⟩
  | 52 => ⟨S4096x8x1, .f32⟩
  | 53 => ⟨S_, .f32⟩
  | 54 => ⟨S4096x8, .f32⟩
  | 55 => ⟨S4096x8x128, .f32⟩
  | 56 => ⟨S4096x8x128, .f32⟩
  | 57 => ⟨S4096x8x128, .f32⟩
  | 58 => ⟨S4096x8x128, .f32⟩
  | 59 => ⟨S4096x8x128, .f32⟩
  | 60 => ⟨S1x1024, .f32⟩
  | 61 => ⟨S4096x1024, .f32⟩
  | 62 => ⟨S32x128x8x128, .f32⟩
  | 63 => ⟨S32x8x128x128, .f32⟩
  | 64 => ⟨S32x8x128x128, .f32⟩
  | 65 => ⟨S32x128x8x128, .f32⟩
  | 66 => ⟨S32x8x128x128, .f32⟩
  | 67 => ⟨S32x128x8x128, .f32⟩
  | 68 => ⟨S32x128x1024, .f32⟩
  | 69 => ⟨S4096x1024, .f32⟩
  | 70 => ⟨S1x1x1024, .f32⟩
  | 71 => ⟨S1x1024, .f32⟩
  | 72 => ⟨S1x1x1024, .f32⟩
  | 73 => ⟨S1x1024, .f32⟩
  | 74 => ⟨S1x1x1024, .f32⟩
  | 75 => ⟨S1x1024, .f32⟩
  | 76 => ⟨S1x1x1024, .f32⟩
  | 77 => ⟨S1x1024, .f32⟩
  | 78 => ⟨S1x1x1024, .f32⟩
  | 79 => ⟨S1x1024, .f32⟩
  | 80 => ⟨S1x1x1024, .f32⟩
  | 81 => ⟨S1x1024, .f32⟩
  | 82 => ⟨S1x1x1024, .f32⟩
  | 83 => ⟨S1x1024, .f32⟩
  | 84 => ⟨S1x1x1024, .f32⟩
  | 85 => ⟨S1x1024, .f32⟩
  | 86 => ⟨S1x1x1024, .f32⟩
  | 87 => ⟨S1x1024, .f32⟩
  | 88 => ⟨S1x1x1024, .f32⟩
  | 89 => ⟨S1x1024, .f32⟩
  | 90 => ⟨S1x1x1024, .f32⟩
  | 91 => ⟨S1x1024, .f32⟩
  | 92 => ⟨S1x1x1024, .f32⟩
  | 93 => ⟨S1x1024, .f32⟩
  | 94 => ⟨S1x1x1024, .f32⟩
  | 95 => ⟨S1x1024, .f32⟩
  | 96 => ⟨S1x1x1024, .f32⟩
  | 97 => ⟨S1x1024, .f32⟩
  | 98 => ⟨S1x1x1024, .f32⟩
  | 99 => ⟨S1x1024, .f32⟩
  | 100 => ⟨S1x1x1024, .f32⟩
  | 101 => ⟨S1x1024, .f32⟩
  | 102 => ⟨S1x1x1024, .f32⟩
  | 103 => ⟨S1x1024, .f32⟩
  | 104 => ⟨S1x1x1024, .f32⟩
  | 105 => ⟨S1x1024, .f32⟩
  | 106 => ⟨S1x1x1024, .f32⟩
  | 107 => ⟨S1x1024, .f32⟩
  | 108 => ⟨S1x1x1024, .f32⟩
  | 109 => ⟨S1x1024, .f32⟩
  | 110 => ⟨S1x1x1024, .f32⟩
  | 111 => ⟨S1x1024, .f32⟩
  | 112 => ⟨S1x1x1024, .f32⟩
  | 113 => ⟨S1x1024, .f32⟩
  | 114 => ⟨S1x1x1024, .f32⟩
  | 115 => ⟨S1x1024, .f32⟩
  | 116 => ⟨S1x1x1024, .f32⟩
  | 117 => ⟨S1x1024, .f32⟩
  | 118 => ⟨S1x1x1024, .f32⟩
  | 119 => ⟨S1x1024, .f32⟩
  | 120 => ⟨S1x1x1024, .f32⟩
  | 121 => ⟨S1x1024, .f32⟩
  | 122 => ⟨S1x1x1024, .f32⟩
  | 123 => ⟨S1x1024, .f32⟩
  | 124 => ⟨S1x1x1024, .f32⟩
  | 125 => ⟨S1x1024, .f32⟩
  | 126 => ⟨S1x1x1024, .f32⟩
  | 127 => ⟨S1x1024, .f32⟩
  | _ => ⟨S4096x1024, .f32⟩

abbrev hbmTy0_2 (i : Nat) : BufTy := match i % 128 with
  | 0 => ⟨S1x1x1024, .f32⟩
  | 1 => ⟨S1x1024, .f32⟩
  | 2 => ⟨S1x1x1024, .f32⟩
  | 3 => ⟨S1x1024, .f32⟩
  | 4 => ⟨S1x1x1024, .f32⟩
  | 5 => ⟨S1x1024, .f32⟩
  | 6 => ⟨S_, .f32⟩
  | 7 => ⟨S128x1024, .f32⟩
  | 8 => ⟨S128x1024, .f32⟩
  | 9 => ⟨S128x1024, .f32⟩
  | 10 => ⟨S1x128x1024, .f32⟩
  | 11 => ⟨S128x1024, .f32⟩
  | 12 => ⟨S1x128x1024, .f32⟩
  | 13 => ⟨S128x1024, .f32⟩
  | 14 => ⟨S1x128x1024, .f32⟩
  | 15 => ⟨S128x1024, .f32⟩
  | 16 => ⟨S1x128x1024, .f32⟩
  | 17 => ⟨S128x1024, .f32⟩
  | 18 => ⟨S1x128x1024, .f32⟩
  | 19 => ⟨S128x1024, .f32⟩
  | 20 => ⟨S1x128x1024, .f32⟩
  | 21 => ⟨S128x1024, .f32⟩
  | 22 => ⟨S1x128x1024, .f32⟩
  | 23 => ⟨S128x1024, .f32⟩
  | 24 => ⟨S1x128x1024, .f32⟩
  | 25 => ⟨S128x1024, .f32⟩
  | 26 => ⟨S1x128x1024, .f32⟩
  | 27 => ⟨S128x1024, .f32⟩
  | 28 => ⟨S1x128x1024, .f32⟩
  | 29 => ⟨S128x1024, .f32⟩
  | 30 => ⟨S1x128x1024, .f32⟩
  | 31 => ⟨S128x1024, .f32⟩
  | 32 => ⟨S1x128x1024, .f32⟩
  | 33 => ⟨S128x1024, .f32⟩
  | 34 => ⟨S1x128x1024, .f32⟩
  | 35 => ⟨S128x1024, .f32⟩
  | 36 => ⟨S1x128x1024, .f32⟩
  | 37 => ⟨S128x1024, .f32⟩
  | 38 => ⟨S1x128x1024, .f32⟩
  | 39 => ⟨S128x1024, .f32⟩
  | 40 => ⟨S1x128x1024, .f32⟩
  | 41 => ⟨S128x1024, .f32⟩
  | 42 => ⟨S1x128x1024, .f32⟩
  | 43 => ⟨S128x1024, .f32⟩
  | 44 => ⟨S1x128x1024, .f32⟩
  | 45 => ⟨S128x1024, .f32⟩
  | 46 => ⟨S1x128x1024, .f32⟩
  | 47 => ⟨S128x1024, .f32⟩
  | 48 => ⟨S1x128x1024, .f32⟩
  | 49 => ⟨S128x1024, .f32⟩
  | 50 => ⟨S1x128x1024, .f32⟩
  | 51 => ⟨S128x1024, .f32⟩
  | 52 => ⟨S1x128x1024, .f32⟩
  | 53 => ⟨S128x1024, .f32⟩
  | 54 => ⟨S1x128x1024, .f32⟩
  | 55 => ⟨S128x1024, .f32⟩
  | 56 => ⟨S1x128x1024, .f32⟩
  | 57 => ⟨S128x1024, .f32⟩
  | 58 => ⟨S1x128x1024, .f32⟩
  | 59 => ⟨S128x1024, .f32⟩
  | 60 => ⟨S1x128x1024, .f32⟩
  | 61 => ⟨S128x1024, .f32⟩
  | 62 => ⟨S1x128x1024, .f32⟩
  | 63 => ⟨S128x1024, .f32⟩
  | 64 => ⟨S1x128x1024, .f32⟩
  | 65 => ⟨S128x1024, .f32⟩
  | 66 => ⟨S1x128x1024, .f32⟩
  | 67 => ⟨S128x1024, .f32⟩
  | 68 => ⟨S1x128x1024, .f32⟩
  | 69 => ⟨S128x1024, .f32⟩
  | 70 => ⟨S1x128x1024, .f32⟩
  | 71 => ⟨S128x1024, .f32⟩
  | 72 => ⟨S1x128x1024, .f32⟩
  | 73 => ⟨S128x1024, .f32⟩
  | 74 => ⟨S128x1024, .f32⟩
  | 75 => ⟨S128x1024, .f32⟩
  | 76 => ⟨S128x1024, .f32⟩
  | 77 => ⟨S128x1024, .f32⟩
  | 78 => ⟨S128x1024, .f32⟩
  | 79 => ⟨S128x1024, .f32⟩
  | 80 => ⟨S128x1024, .f32⟩
  | 81 => ⟨S128x1024, .f32⟩
  | 82 => ⟨S128x1024, .f32⟩
  | 83 => ⟨S128x1024, .f32⟩
  | 84 => ⟨S128x1024, .f32⟩
  | 85 => ⟨S128x1024, .f32⟩
  | 86 => ⟨S128x1024, .f32⟩
  | 87 => ⟨S128x1024, .f32⟩
  | 88 => ⟨S128x1024, .f32⟩
  | 89 => ⟨S128x1024, .f32⟩
  | 90 => ⟨S128x1024, .f32⟩
  | 91 => ⟨S128x1024, .f32⟩
  | 92 => ⟨S128x1024, .f32⟩
  | 93 => ⟨S128x1024, .f32⟩
  | 94 => ⟨S128x1024, .f32⟩
  | 95 => ⟨S128x1024, .f32⟩
  | 96 => ⟨S128x1024, .f32⟩
  | 97 => ⟨S128x1024, .f32⟩
  | 98 => ⟨S128x1024, .f32⟩
  | 99 => ⟨S128x1024, .f32⟩
  | 100 => ⟨S128x1024, .f32⟩
  | 101 => ⟨S128x1024, .f32⟩
  | 102 => ⟨S128x1024, .f32⟩
  | 103 => ⟨S128x1024, .f32⟩
  | 104 => ⟨S128x1024, .f32⟩
  | 105 => ⟨S128x1024, .f32⟩
  | 106 => ⟨S128x1024, .f32⟩
  | 107 => ⟨S128x1024, .f32⟩
  | 108 => ⟨S128x1024, .f32⟩
  | 109 => ⟨S128x1024, .f32⟩
  | 110 => ⟨S128x1024, .f32⟩
  | 111 => ⟨S128x1024, .f32⟩
  | 112 => ⟨S128x1024, .f32⟩
  | 113 => ⟨S128x1024, .f32⟩
  | 114 => ⟨S128x1024, .f32⟩
  | 115 => ⟨S128x1024, .f32⟩
  | 116 => ⟨S128x1024, .f32⟩
  | 117 => ⟨S128x1024, .f32⟩
  | 118 => ⟨S128x1024, .f32⟩
  | 119 => ⟨S128x1024, .f32⟩
  | 120 => ⟨S128x1024, .f32⟩
  | 121 => ⟨S128x1024, .f32⟩
  | 122 => ⟨S128x1024, .f32⟩
  | 123 => ⟨S128x1024, .f32⟩
  | 124 => ⟨S128x1024, .f32⟩
  | 125 => ⟨S128x1024, .f32⟩
  | 126 => ⟨S128x1024, .f32⟩
  | 127 => ⟨S128x1024, .f32⟩
  | _ => ⟨S4096x1024, .f32⟩

abbrev hbmTy0_3 (i : Nat) : BufTy := match i % 128 with
  | 0 => ⟨S128x1024, .f32⟩
  | 1 => ⟨S128x1024, .f32⟩
  | 2 => ⟨S128x1024, .f32⟩
  | 3 => ⟨S128x1024, .f32⟩
  | 4 => ⟨S128x1024, .f32⟩
  | 5 => ⟨S128x1024, .f32⟩
  | 6 => ⟨S128x1024, .f32⟩
  | 7 => ⟨S128x1024, .f32⟩
  | 8 => ⟨S128x1024, .f32⟩
  | 9 => ⟨S128x1024, .f32⟩
  | 10 => ⟨S128x1024, .f32⟩
  | 11 => ⟨S128x1024, .f32⟩
  | 12 => ⟨S128x1024, .f32⟩
  | 13 => ⟨S128x1024, .f32⟩
  | 14 => ⟨S128x1024, .f32⟩
  | 15 => ⟨S128x1024, .f32⟩
  | 16 => ⟨S128x1024, .f32⟩
  | 17 => ⟨S128x1024, .f32⟩
  | 18 => ⟨S128x1024, .f32⟩
  | 19 => ⟨S128x1024, .f32⟩
  | 20 => ⟨S128x1024, .f32⟩
  | 21 => ⟨S128x1024, .f32⟩
  | 22 => ⟨S128x1024, .f32⟩
  | 23 => ⟨S128x1024, .f32⟩
  | 24 => ⟨S128x1024, .f32⟩
  | 25 => ⟨S128x1024, .f32⟩
  | 26 => ⟨S128x1024, .f32⟩
  | 27 => ⟨S128x1024, .f32⟩
  | 28 => ⟨S128x1024, .f32⟩
  | 29 => ⟨S128x1024, .f32⟩
  | 30 => ⟨S128x1024, .f32⟩
  | 31 => ⟨S128x1024, .f32⟩
  | 32 => ⟨S128x1024, .f32⟩
  | 33 => ⟨S128x1024, .f32⟩
  | 34 => ⟨S128x1024, .f32⟩
  | 35 => ⟨S128x1024, .f32⟩
  | 36 => ⟨S_, .f32⟩
  | 37 => ⟨S128x1024, .f32⟩
  | 38 => ⟨S1x128x1024, .f32⟩
  | 39 => ⟨S1x128x1024, .f32⟩
  | 40 => ⟨S1x128x1024, .f32⟩
  | 41 => ⟨S1x128x1024, .f32⟩
  | 42 => ⟨S1x128x1024, .f32⟩
  | 43 => ⟨S1x128x1024, .f32⟩
  | 44 => ⟨S1x128x1024, .f32⟩
  | 45 => ⟨S1x128x1024, .f32⟩
  | 46 => ⟨S1x128x1024, .f32⟩
  | 47 => ⟨S1x128x1024, .f32⟩
  | 48 => ⟨S1x128x1024, .f32⟩
  | 49 => ⟨S1x128x1024, .f32⟩
  | 50 => ⟨S1x128x1024, .f32⟩
  | 51 => ⟨S1x128x1024, .f32⟩
  | 52 => ⟨S1x128x1024, .f32⟩
  | 53 => ⟨S1x128x1024, .f32⟩
  | 54 => ⟨S1x128x1024, .f32⟩
  | 55 => ⟨S1x128x1024, .f32⟩
  | 56 => ⟨S1x128x1024, .f32⟩
  | 57 => ⟨S1x128x1024, .f32⟩
  | 58 => ⟨S1x128x1024, .f32⟩
  | 59 => ⟨S1x128x1024, .f32⟩
  | 60 => ⟨S1x128x1024, .f32⟩
  | 61 => ⟨S1x128x1024, .f32⟩
  | 62 => ⟨S1x128x1024, .f32⟩
  | 63 => ⟨S1x128x1024, .f32⟩
  | 64 => ⟨S1x128x1024, .f32⟩
  | 65 => ⟨S1x128x1024, .f32⟩
  | 66 => ⟨S1x128x1024, .f32⟩
  | 67 => ⟨S1x128x1024, .f32⟩
  | 68 => ⟨S1x128x1024, .f32⟩
  | 69 => ⟨S1x128x1024, .f32⟩
  | 70 => ⟨S16x128x1024, .f32⟩
  | 71 => ⟨S16x128x1024, .f32⟩
  | 72 => ⟨S32x128x1024, .f32⟩
  | 73 => ⟨S_, .f32⟩
  | 74 => ⟨S4096x5120, .f32⟩
  | 75 => ⟨S4096x8192, .f32⟩
  | 76 => ⟨S_, .f32⟩
  | 77 => ⟨S1024, .f32⟩
  | 78 => ⟨S1x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S1x1024, .f32⟩
  | 85 => ⟨S_, .f32⟩
  | 86 => ⟨S2x1024, .f32⟩
  | 87 => ⟨S8x1024, .f32⟩
  | 88 => ⟨S4096x8192, .bf16⟩
  | 89 => ⟨S4096x1024, .bf16⟩
  | 90 => ⟨S4096x1024, .bf16⟩
  | 91 => ⟨S4096x1024, .bf16⟩
  | 92 => ⟨S4096x1024, .bf16⟩
  | 93 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v33_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v33_1 : Ref sig .tc := ⟨.hbm, 62, rfl⟩
abbrev main_v33_0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_9 : Ref sig .tc := ⟨.hbm, 96, rfl⟩
abbrev main_v60 : Ref sig .tc := ⟨.hbm, 97, rfl⟩
abbrev main_v61 : Ref sig .tc := ⟨.hbm, 98, rfl⟩
abbrev main_cst_10 : Ref sig .tc := ⟨.hbm, 99, rfl⟩
abbrev main_v62 : Ref sig .tc := ⟨.hbm, 100, rfl⟩
abbrev main_v63 : Ref sig .tc := ⟨.hbm, 101, rfl⟩
abbrev main_cst_11 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_12 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_13 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_14 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_15 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_16 : Ref sig .tc := ⟨.hbm, 137, rfl⟩
abbrev main_v94 : Ref sig .tc := ⟨.hbm, 138, rfl⟩
abbrev main_v95 : Ref sig .tc := ⟨.hbm, 139, rfl⟩
abbrev main_cst_17 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_call1_v0 : Ref sig .tc := ⟨.hbm, 158, rfl⟩
abbrev main_call1_v1 : Ref sig .tc := ⟨.hbm, 159, rfl⟩
abbrev main_call1_v2 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_18 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_19 : Ref sig .tc := ⟨.hbm, 169, rfl⟩
abbrev main_v120 : Ref sig .tc := ⟨.hbm, 170, rfl⟩
abbrev main_v121 : Ref sig .tc := ⟨.hbm, 171, rfl⟩
abbrev main_cst_20 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_21 : Ref sig .tc := ⟨.hbm, 178, rfl⟩
abbrev main_v127 : Ref sig .tc := ⟨.hbm, 179, rfl⟩
abbrev main_v128 : Ref sig .tc := ⟨.hbm, 180, rfl⟩
abbrev main_cst_22 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_cst_23 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_v339 : Ref sig .tc := ⟨.hbm, 393, rfl⟩
abbrev main_v340 : Ref sig .tc := ⟨.hbm, 394, rfl⟩
abbrev main_v341 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_v362 : Ref sig .tc := ⟨.hbm, 416, rfl⟩
abbrev main_v363 : Ref sig .tc := ⟨.hbm, 417, rfl⟩
abbrev main_v364 : Ref sig .tc := ⟨.hbm, 418, rfl⟩
abbrev main_v365 : Ref sig .tc := ⟨.hbm, 419, rfl⟩
abbrev main_cst_24 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_v369 : Ref sig .tc := ⟨.hbm, 424, rfl⟩
abbrev main_v370 : Ref sig .tc := ⟨.hbm, 425, rfl⟩
abbrev main_v371 : Ref sig .tc := ⟨.hbm, 426, rfl⟩
abbrev main_v372 : Ref sig .tc := ⟨.hbm, 427, rfl⟩
abbrev main_v373 : Ref sig .tc := ⟨.hbm, 428, rfl⟩
abbrev main_v374 : Ref sig .tc := ⟨.hbm, 429, rfl⟩
abbrev main_v375 : Ref sig .tc := ⟨.hbm, 430, rfl⟩
abbrev main_v376 : Ref sig .tc := ⟨.hbm, 431, rfl⟩
abbrev main_v377 : Ref sig .tc := ⟨.hbm, 432, rfl⟩
abbrev main_v378 : Ref sig .tc := ⟨.hbm, 433, rfl⟩
abbrev main_v379 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_v383 : Ref sig .tc := ⟨.hbm, 438, rfl⟩
abbrev main_v384 : Ref sig .tc := ⟨.hbm, 439, rfl⟩
abbrev main_v385 : Ref sig .tc := ⟨.hbm, 440, rfl⟩
abbrev main_v386 : Ref sig .tc := ⟨.hbm, 441, rfl⟩
abbrev main_v387 : Ref sig .tc := ⟨.hbm, 442, rfl⟩
abbrev main_v388 : Ref sig .tc := ⟨.hbm, 443, rfl⟩
abbrev main_v389 : Ref sig .tc := ⟨.hbm, 444, rfl⟩
abbrev main_v390 : Ref sig .tc := ⟨.hbm, 445, rfl⟩
abbrev main_v391 : Ref sig .tc := ⟨.hbm, 446, rfl⟩
abbrev main_v392 : Ref sig .tc := ⟨.hbm, 447, rfl⟩
abbrev main_v393 : Ref sig .tc := ⟨.hbm, 448, rfl⟩
abbrev main_v394 : Ref sig .tc := ⟨.hbm, 449, rfl⟩
abbrev main_v395 : Ref sig .tc := ⟨.hbm, 450, rfl⟩
abbrev main_v396 : Ref sig .tc := ⟨.hbm, 451, rfl⟩
abbrev main_v397 : Ref sig .tc := ⟨.hbm, 452, rfl⟩
abbrev main_v398 : Ref sig .tc := ⟨.hbm, 453, rfl⟩
abbrev main_v399 : Ref sig .tc := ⟨.hbm, 454, rfl⟩
abbrev main_v400 : Ref sig .tc := ⟨.hbm, 455, rfl⟩
abbrev main_v401 : Ref sig .tc := ⟨.hbm, 456, rfl⟩
abbrev main_cst_25 : Ref sig .tc := ⟨.hbm, 457, rfl⟩
abbrev main_v402 : Ref sig .tc := ⟨.hbm, 458, rfl⟩
abbrev main_v403 : Ref sig .tc := ⟨.hbm, 459, rfl⟩
abbrev main_cst_26 : Ref sig .tc := ⟨.hbm, 460, rfl⟩
abbrev main_v404 : Ref sig .tc := ⟨.hbm, 461, rfl⟩
abbrev main_v405 : Ref sig .tc := ⟨.hbm, 462, rfl⟩
abbrev main_cst_27 : Ref sig .tc := ⟨.hbm, 463, rfl⟩
abbrev main_v406 : Ref sig .tc := ⟨.hbm, 464, rfl⟩
abbrev main_v407 : Ref sig .tc := ⟨.hbm, 465, rfl⟩
abbrev main_cst_28 : Ref sig .tc := ⟨.hbm, 466, rfl⟩
abbrev main_v408 : Ref sig .tc := ⟨.hbm, 467, rfl⟩
abbrev main_v409 : Ref sig .tc := ⟨.hbm, 468, rfl⟩
abbrev main_cst_29 : Ref sig .tc := ⟨.hbm, 469, rfl⟩
abbrev main_v410 : Ref sig .tc := ⟨.hbm, 470, rfl⟩
abbrev main_v411 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .f32⟩
  | .hbm, ⟨3, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .f32⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S4096x8192 : Shape := ⟨2, ![4096, 8192]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S4x1024x1024, .f32⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c3_i32 : BitVec 32 := 3#32
  let v1 : BitVec 1 := Scalar.cmpi .slt v0 c3_i32
  let c3_i32_0 : BitVec 32 := 3#32
  let v2 : BitVec 32 := Scalar.addi v0 c3_i32_0
  let c3_i32_1 : BitVec 32 := 3#32
  let v3 : BitVec 1 := Scalar.cmpi .eq v0 c3_i32_1
  let c6_i32 : BitVec 32 := 6#32
  let v4 : BitVec 1 := Scalar.cmpi .slt v0 c6_i32
  let c2_i32_2 : BitVec 32 := 2#32
  let v5 : BitVec 32 := Scalar.addi v0 c2_i32_2
  let c5_i32 : BitVec 32 := 5#32
  let v6 : BitVec 32 := Scalar.subi v0 c5_i32
  let v7 : BitVec 32 := Scalar.select v4 v5 v6
  let c0_i32 : BitVec 32 := 0#32
  let v8 : BitVec 32 := Scalar.select v3 c0_i32 v7
  let v9 : BitVec 32 := Scalar.select v1 v2 v8
  let c0_i32_3 : BitVec 32 := 0#32
  ![arg1.toNat, v9.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S4096x1024, .f32⟩
  | .hbm, ⟨3, _⟩ => ⟨S4096x8192, .f32⟩
  | .hbm, ⟨4, _⟩ => ⟨S_, .f32⟩
  | .hbm, ⟨5, _⟩ => ⟨S1024x8192, .f32⟩
  | .hbm, ⟨6, _⟩ => ⟨S4096x8192, .f32⟩
  | .hbm, ⟨7, _⟩ => ⟨S8192x1024, .f32⟩
  | .hbm, ⟨8, _⟩ => ⟨S1024x8192, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S4x1024x1024, .f32⟩
  | .hbm, ⟨18, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S4096x1024 : Shape := ⟨2, ![4096, 1024]⟩
abbrev S4096x8192 : Shape := ⟨2, ![4096, 8192]⟩
abbrev S8x128 : Shape := ⟨2, ![8, 128]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S8x128, .f32⟩
  | .hbm, ⟨3, _⟩ => ⟨S4x1024x1024, .f32⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let v2 : BitVec 1 := Scalar.cmpi .slt v1 c3_i32
  let c3_i32_0 : BitVec 32 := 3#32
  let v3 : BitVec 32 := Scalar.addi v1 c3_i32_0
  let c3_i32_1 : BitVec 32 := 3#32
  let v4 : BitVec 1 := Scalar.cmpi .eq v1 c3_i32_1
  let c6_i32 : BitVec 32 := 6#32
  let v5 : BitVec 1 := Scalar.cmpi .slt v1 c6_i32
  let c2_i32_2 : BitVec 32 := 2#32
  let v6 : BitVec 32 := Scalar.addi v1 c2_i32_2
  let c5_i32 : BitVec 32 := 5#32
  let v7 : BitVec 32 := Scalar.subi v1 c5_i32
  let v8 : BitVec 32 := Scalar.select v5 v6 v7
  let c0_i32 : BitVec 32 := 0#32
  let v9 : BitVec 32 := Scalar.select v4 c0_i32 v8
  let v10 : BitVec 32 := Scalar.select v2 v3 v9
  let c0_i32_3 : BitVec 32 := 0#32
  ![arg1.toNat, v10.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S4096x1024 : Shape := ⟨2, ![4096, 1024]⟩
abbrev S4096x8192 : Shape := ⟨2, ![4096, 8192]⟩
abbrev S8x128 : Shape := ⟨2, ![8, 128]⟩
abbrev S_ : Shape := ⟨0, ![]⟩
abbrev S1024x8192 : Shape := ⟨2, ![1024, 8192]⟩
abbrev S8192x1024 : Shape := ⟨2, ![8192, 1024]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S8x128, .f32⟩
  | .hbm, ⟨3, _⟩ => ⟨S4096x1024, .f32⟩
  | .hbm, ⟨4, _⟩ => ⟨S4096x8192, .f32⟩
  | .hbm, ⟨5, _⟩ => ⟨S_, .f32⟩
  | .hbm, ⟨6, _⟩ => ⟨S1024x8192, .f32⟩
  | .hbm, ⟨7, _⟩ => ⟨S4096x8192, .f32⟩
  | .hbm, ⟨8, _⟩ => ⟨S8192x1024, .f32⟩
  | .hbm, ⟨9, _⟩ => ⟨S1024x8192, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S4x1024x1024, .f32⟩
  | .hbm, ⟨19, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel7.lean ====
abbrev S4096x8192 : Shape := ⟨2, ![4096, 8192]⟩
abbrev S8x1024x1024 : Shape := ⟨3, ![8, 1024, 1024]⟩
abbrev S4096x1024 : Shape := ⟨2, ![4096, 1024]⟩
abbrev S1x1024 : Shape := ⟨2, ![1, 1024]⟩
abbrev S8x1024 : Shape := ⟨2, ![8, 1024]⟩
abbrev S512x8192 : Shape := ⟨2, ![512, 8192]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S8x1024, .f32⟩
  | .local _ .vmem, ⟨0, _⟩ => ⟨S512x8192, .bf16⟩
  | .local _ .vmem, ⟨1, _⟩ => ⟨S512x8192, .bf16⟩
  | .local _ .vmem, ⟨2, _⟩ => ⟨S8x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x8192 : Shape := ⟨2, ![4096, 8192]⟩
abbrev S8x1024x1024 : Shape := ⟨3, ![8, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x8192, .f32⟩
  | .hbm, ⟨8, _⟩ => ⟨S8x1024x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024x1024, .f32⟩
  | .hbm, ⟨36, _⟩ => ⟨S1024x1024, .f32⟩
  | .hbm, ⟨37, _⟩ => ⟨S4096x1024, .f32⟩
  | .hbm, ⟨38, _⟩ => ⟨S1x1024x1024, .f32⟩
  | .hbm, ⟨39, _⟩ => ⟨S1024x1024, .f32⟩
  | .hbm, ⟨40, _⟩ => ⟨S4096x1024, .f32⟩
  | .hbm, ⟨41, _⟩ => ⟨S1x1024x1024, .f32⟩
  | .hbm, ⟨42, _⟩ => ⟨S1024x1024, .f32⟩
  | .hbm, ⟨43, _⟩ => ⟨S4096x1024, .f32⟩
  | .hbm, ⟨44, _⟩ => ⟨S1x1024x1024, .f32⟩
  | .hbm, ⟨45, _⟩ => ⟨S1024x1024, .f32⟩
  | .hbm, ⟨46, _⟩ => ⟨S4096x1024, .f32⟩
  | .hbm, ⟨47, _⟩ => ⟨S1x1024x1024, .f32⟩
  | .hbm, ⟨48, _⟩ => ⟨S1024x1024, .f32⟩
  | .hbm, ⟨49, _⟩ => ⟨S4096x1024, .f32⟩
  | .hbm, ⟨50, _⟩ => ⟨S1x1024x1024, .f32⟩
  | .hbm, ⟨51, _⟩ => ⟨S1024x1024, .f32⟩
  | .hbm, ⟨52, _⟩ => ⟨S4096x1024, .f32⟩
  | .hbm, ⟨53, _⟩ => ⟨S1x1024x1024, .f32⟩
  | .hbm, ⟨54, _⟩ => ⟨S1024x1024, .f32⟩
  | .hbm, ⟨55, _⟩ => ⟨S4096x1024, .f32⟩
  | .hbm, ⟨56, _⟩ => ⟨S1x1024x1024, .f32⟩
  | .hbm, ⟨57, _⟩ => ⟨S1024x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S_, .f32⟩
  | .hbm, ⟨116, _⟩ => ⟨S5x1024, .f32⟩
  | .hbm, ⟨117, _⟩ => ⟨S8x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_4 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_cst_9 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_10 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== Proof.Tile.lean ====
/-
  What one tile of the kernel computes, over any float values: each value the body reads or stores, named, as a
  function of the tile's input blocks `In`, the state gradient `G` carried in from the tile before and the
  column sums `A` gathered so far.
-/
module

public import proofs.«01_k».proof.Proof.Gen.KernelIdeal.Skeleton
public import Idealize.ShloMosaic.Lib.Pipeline.FrameBody
public import Idealize.ShloMosaic.Lib.Pipeline.Value

@[expose] public section

noncomputable section

namespace Cert.KernelIdeal.Mix

open Idealize.ShloMosaic Idealize.ShloMosaic.TcCoe Cert.KernelIdeal.Gen

variable {F : FTy → Type} [FloatOps F]

/-- A tile's input blocks. -/
structure In (F : FTy → Type) [FloatOps F] where
  x : Vec F S256x1024 .f32
  og : Vec F S256x1024 .f32
  ga : Vec F S256x1024 .f32
  gb : Vec F S256x1024 .f32
  qe : Vec F S256x1024 .bf16
  intra : Vec F S256x1024 .f32
  st : Vec F S2x128x1024 .f32
  act : Vec F S256x1024 .bf16
  wa : Vec F S1024x1024 .bf16
  wb : Vec F S1024x1024 .bf16
  wo : Vec F S1024x1024 .bf16
  hg : Vec F S1x1024 .f32
  g1 : Vec F S1x1024 .f32
  post : Vec F S1x1024 .f32
  dx : Vec F S256x1024 .f32
  dec : Vec F S2x1x1024 .f32

/-- Two zero offsets. -/
theorem zero2 : (![0, 0] : Fin 2 → Nat) = fun _ => 0 := by decide

/-- The blocks as the body loads them, each whole one at its full rectangle. -/
def In.of (x1 : Vec F S256x1024 .f32) (x2 : Vec F S256x1024 .f32) (x3 : Vec F S256x1024 .f32) (x4 : Vec F S256x1024 .f32) (x5 : Vec F S256x1024 .bf16) (x6 : Vec F S256x1024 .f32) (x7 : Vec F S2x128x1024 .f32) (x8 : Vec F S256x1024 .bf16) (x9 : Vec F S1024x1024 .bf16) (x10 : Vec F S1024x1024 .bf16) (x11 : Vec F S1024x1024 .bf16) (x12 : Vec F S1x1024 .f32) (x13 : Vec F S1x1024 .f32) (x14 : Vec F S1x1024 .f32) (x15 : Vec F S256x1024 .f32) (x16 : Vec F S2x1x1024 .f32) : In F :=
  ⟨x1,
   View.ld x2 (Rect.unit (s := S256x1024) ![0, 0] S256x1024.size inb_S256x1024_S256x1024_0_0),
   View.ld x3 (Rect.unit (s := S256x1024) ![0, 0] S256x1024.size inb_S256x1024_S256x1024_0_0),
   View.ld x4 (Rect.unit (s := S256x1024) ![0, 0] S256x1024.size inb_S256x1024_S256x1024_0_0),
   View.ld x5 (Rect.unit (s := S256x1024) ![0, 0] S256x1024.size inb_S256x1024_S256x1024_0_0),
   View.ld x6 (Rect.unit (s := S256x1024) ![0, 0] S256x1024.size inb_S256x1024_S256x1024_0_0),
   x7,
   View.ld x8 (Rect.unit (s := S256x1024) ![0, 0] S256x1024.size inb_S256x1024_S256x1024_0_0),
   View.ld x9 (Rect.unit (s := S1024x1024) ![0, 0] S1024x1024.size inb_S1024x1024_S1024x1024_0_0),
   View.ld x10 (Rect.unit (s := S1024x1024) ![0, 0] S1024x1024.size inb_S1024x1024_S1024x1024_0_0),
   View.ld x11 (Rect.unit (s := S1024x1024) ![0, 0] S1024x1024.size inb_S1024x1024_S1024x1024_0_0),
   View.ld x12 (Rect.unit (s := S1x1024) ![0, 0] S1x1024.size inb_S1x1024_S1x1024_0_0),
   View.ld x13 (Rect.unit (s := S1x1024) ![0, 0] S1x1024.size inb_S1x1024_S1x1024_0_0),
   View.ld x14 (Rect.unit (s := S1x1024) ![0, 0] S1x1024.size inb_S1x1024_S1x1024_0_0),
   View.ld x15 (Rect.unit (s := S256x1024) ![0, 0] S256x1024.size inb_S256x1024_S256x1024_0_0),
   x16⟩

/-- Loading a whole block is the block. -/
theorem In.of_eq (x1 : Vec F S256x1024 .f32) (x2 : Vec F S256x1024 .f32) (x3 : Vec F S256x1024 .f32) (x4 : Vec F S256x1024 .f32) (x5 : Vec F S256x1024 .bf16) (x6 : Vec F S256x1024 .f32) (x7 : Vec F S2x128x1024 .f32) (x8 : Vec F S256x1024 .bf16) (x9 : Vec F S1024x1024 .bf16) (x10 : Vec F S1024x1024 .bf16) (x11 : Vec F S1024x1024 .bf16) (x12 : Vec F S1x1024 .f32) (x13 : Vec F S1x1024 .f32) (x14 : Vec F S1x1024 .f32) (x15 : Vec F S256x1024 .f32) (x16 : Vec F S2x1x1024 .f32) :
    In.of x1 x2 x3 x4 x5 x6 x7 x8 x9 x10 x11 x12 x13 x14 x15 x16 = ⟨x1, x2, x3, x4, x5, x6, x7, x8, x9, x10, x11, x12, x13, x14, x15, x16⟩ := by
  unfold In.of
  congr 1 <;> exact View.ld_unit_zero zero2 _ _

def stA (X : In F) : Vec F S1x128x1024 .f32 :=
  View.ld X.st (Rect.unit (s := S2x128x1024) ![0, 0, 0] S1x128x1024.size inb_S2x128x1024_S1x128x1024_0_0_0)
def stB (X : In F) : Vec F S1x128x1024 .f32 :=
  View.ld X.st (Rect.unit (s := S2x128x1024) ![1, 0, 0] S1x128x1024.size inb_S2x128x1024_S1x128x1024_1_0_0)
def v31 (X : In F) : FVec F S128x1024 .f32 :=
  k0_pay4 X.qe (stA X)
def v34 (X : In F) : FVec F S128x1024 .bf16 :=
  k0_pay5 (stB X)
def v37 (X : In F) : FVec F S128x128 .f32 :=
  k0_pay6 X.qe (stB X)
def v38 (X : In F) : FVec F S128x128 .bf16 :=
  k0_pay7 X.qe
/-- The recurrence output of the tile, intra-chunk part plus the product with the entering states. -/
def o (X : In F) : FVec F S256x1024 .f32 :=
  k0_pay8 X.qe (v31 X) (v34 X) (v37 X) (v38 X) X.intra
def v75 (X : In F) : FVec F S256x128 .f32 :=
  k0_pay9 X.qe (v31 X) (v34 X) (v37 X) (v38 X) X.intra
def v76 (X : In F) : FVec F S256x128 .f32 :=
  k0_pay10 X.qe (v31 X) (v34 X) (v37 X) (v38 X) X.intra
def v79 (X : In F) : FVec F S256x1 .f32 :=
  k0_pay11 X.qe (v31 X) (v34 X) (v37 X) (v38 X) X.intra
def v80 (X : In F) : FVec F S256x1 .f32 :=
  k0_pay12 (F := F)
def v86 (X : In F) : FVec F S256x128 .f32 :=
  k0_pay13 (v76 X) (v79 X) (v80 X)
def v97 (X : In F) : FVec F S256x128 .f32 :=
  k0_pay14 (o X)
def v108 (X : In F) : FVec F S256x128 .f32 :=
  k0_pay15 (o X)
def v119 (X : In F) : FVec F S256x128 .f32 :=
  k0_pay16 (o X)
def v120 (X : In F) : FVec F S256x128 .f32 :=
  k0_pay17 (o X)
def v127 (X : In F) : FVec F S256x1 .f32 :=
  k0_pay18 (o X)
/-- The gated, normed heads. -/
def att (X : In F) : FVec F S256x1024 .f32 :=
  k0_pay19 (o X) X.og X.hg (v75 X) (v86 X) (v97 X) (v108 X) (v119 X) (v120 X) (v127 X)
/-- First branch. -/
def ya (X : In F) : FVec F S256x1024 .f32 :=
  k0_pay20 (o X) X.og X.hg (v75 X) (v86 X) (v97 X) (v108 X) (v119 X) (v120 X) (v127 X) X.wa
/-- Second branch. -/
def yb (X : In F) : FVec F S256x1024 .f32 :=
  k0_pay21 X.act X.wb
/-- First branch times its gate. -/
def mixA (X : In F) : FVec F S256x1024 .f32 :=
  k0_pay22 (o X) X.og X.hg (v75 X) (v86 X) (v97 X) (v108 X) (v119 X) (v120 X) (v127 X) X.wa X.ga
/-- The second branch's gate. -/
def sigB (X : In F) : FVec F S256x1024 .f32 :=
  k0_pay23 X.gb
def attW (X : In F) : FVec F S256x1024 .bf16 :=
  k0_pay26 (att X)
def mergedW (X : In F) : FVec F S256x1024 .bf16 :=
  k0_pay27 (yb X) (mixA X) (sigB X)
/-- The merged branches through the output matrix. -/
def y (X : In F) : FVec F S256x1024 .f32 :=
  k0_pay25 (yb X) (mixA X) (sigB X) X.wo
def v188 (X : In F) : FVec F S256x1 .f32 :=
  k0_pay29 (yb X) (mixA X) (sigB X) X.wo
def v191 (X : In F) : FVec F S256x1 .f32 :=
  k0_pay30 (yb X) (mixA X) (sigB X) X.wo
/-- The tile's share of the gradient of `g1`. -/
def dgateTile (X : In F) : FVec F S1x1024 .f32 :=
  k0_pay34 (yb X) (mixA X) (sigB X) X.wo X.post X.dx
/-- The tile's share of the gradient of `post`. -/
def dpostTile (X : In F) : FVec F S1x1024 .f32 :=
  k0_pay35 (yb X) (mixA X) (sigB X) X.wo X.g1 X.dx
/-- Cotangent of the normed merged output. -/
def cot (X : In F) : FVec F S256x1024 .f32 :=
  k0_pay36 X.g1 X.post X.dx
def ycot (X : In F) : FVec F S256x1024 .f32 :=
  k0_pay37 (yb X) (mixA X) (sigB X) X.wo X.g1 X.post X.dx
def dyW (X : In F) : FVec F S256x1024 .bf16 :=
  k0_pay38 (y X) (v188 X) (v191 X) (cot X) (ycot X)
def dgaW (X : In F) : FVec F S256x1024 .bf16 :=
  k0_pay45 (ya X) (y X) (v188 X) (v191 X) (cot X) (ycot X) X.wo X.ga
def dgbW (X : In F) : FVec F S256x1024 .bf16 :=
  k0_pay46 (yb X) (y X) (v188 X) (v191 X) (cot X) (ycot X) X.wo X.gb
/-- Gradient of the second branch. -/
def dyb (X : In F) : FVec F S256x1024 .f32 :=
  k0_pay42 (y X) (v188 X) (v191 X) (cot X) (ycot X) X.wo X.gb
/-- Gradient of the second gate's input. -/
def dgb (X : In F) : FVec F S256x1024 .f32 :=
  k0_pay43 (yb X) (y X) (v188 X) (v191 X) (cot X) (ycot X) X.wo X.gb
/-- Gradient of the first gate's input. -/
def dga (X : In F) : FVec F S256x1024 .f32 :=
  k0_pay44 (ya X) (y X) (v188 X) (v191 X) (cot X) (ycot X) X.wo X.ga
/-- Gradient of the first branch. -/
def dya (X : In F) : FVec F S256x1024 .bf16 :=
  k0_pay47 (y X) (v188 X) (v191 X) (cot X) (ycot X) X.wo X.ga
def dybW (X : In F) : FVec F S256x1024 .bf16 :=
  k0_pay48 (dyb X)
def dact (X : In F) : FVec F S256x1024 .f32 :=
  k0_pay50 (dyb X) X.wb
/-- Gradient of the gated heads. -/
def da (X : In F) : FVec F S256x1024 .f32 :=
  k0_pay49 (dya X) X.wa
def v258 (X : In F) : FVec F S256x128 .f32 :=
  k0_pay51 (o X)
def v266 (X : In F) : FVec F S256x1 .f32 :=
  k0_pay53 (o X)
def v269 (X : In F) : FVec F S256x1 .f32 :=
  k0_pay54 (o X)
def v271 (X : In F) : FVec F S256x128 .f32 :=
  k0_pay55 (o X)
def v272 (X : In F) : FVec F S256x128 .f32 :=
  k0_pay56 (o X)
def v280 (X : In F) : FVec F S256x1 .f32 :=
  k0_pay58 (o X)
def v281 (X : In F) : FVec F S256x1 .f32 :=
  k0_pay59 (o X)
def v283 (X : In F) : FVec F S256x1 .f32 :=
  k0_pay60 (v281 X)
def v285 (X : In F) : FVec F S256x128 .f32 :=
  k0_pay61 (v272 X) (v280 X)
def v286 (X : In F) : FVec F S256x128 .f32 :=
  k0_pay62 (o X)
def v294 (X : In F) : FVec F S256x1 .f32 :=
  k0_pay64 (o X)
def v297 (X : In F) : FVec F S256x1 .f32 :=
  k0_pay65 (o X)
def v299 (X : In F) : FVec F S256x128 .f32 :=
  k0_pay66 (o X)
def v300 (X : In F) : FVec F S256x128 .f32 :=
  k0_pay67 (o X)
def v308 (X : In F) : FVec F S256x1 .f32 :=
  k0_pay69 (o X)
def v311 (X : In F) : FVec F S256x1 .f32 :=
  k0_pay70 (o X)
def v313 (X : In F) : FVec F S256x128 .f32 :=
  k0_pay71 (o X)
def v314 (X : In F) : FVec F S256x128 .f32 :=
  k0_pay72 (o X)
def v322 (X : In F) : FVec F S256x1 .f32 :=
  k0_pay74 (o X)
def v325 (X : In F) : FVec F S256x1 .f32 :=
  k0_pay75 (o X)
def v327 (X : In F) : FVec F S256x128 .f32 :=
  k0_pay76 (o X)
def v328 (X : In F) : FVec F S256x128 .f32 :=
  k0_pay77 (o X)
def v336 (X : In F) : FVec F S256x1 .f32 :=
  k0_pay79 (v328 X)
def v339 (X : In F) : FVec F S256x1 .f32 :=
  k0_pay80 (v328 X)
def v342 (X : In F) : FVec F S256x128 .f32 :=
  k0_pay81 (o X)
def v350 (X : In F) : FVec F S256x1 .f32 :=
  k0_pay83 (o X)
def v353 (X : In F) : FVec F S256x1 .f32 :=
  k0_pay84 (o X)
def v356 (X : In F) : FVec F S256x128 .f32 :=
  k0_pay85 (o X)
def v364 (X : In F) : FVec F S256x1 .f32 :=
  k0_pay87 (o X)
def v367 (X : In F) : FVec F S256x1 .f32 :=
  k0_pay88 (o X)
/-- Normed heads. -/
def heads (X : In F) : FVec F S256x1024 .f32 :=
  k0_pay89 (o X) (v271 X) (v285 X) (v299 X) (v313 X) (v327 X) (v328 X)
def headsGain (X : In F) : FVec F S256x1024 .f32 :=
  k0_pay90 (o X) X.hg (v271 X) (v285 X) (v299 X) (v313 X) (v327 X) (v328 X)
def sigO (X : In F) : FVec F S256x1024 .f32 :=
  k0_pay91 X.og
def sigO1 (X : In F) : FVec F S256x1024 .f32 :=
  k0_pay92 X.og
/-- Gradient of the output gate's input. -/
def dog (X : In F) : FVec F S256x1024 .f32 :=
  k0_pay94 (da X) X.og (headsGain X) (sigO X) (sigO1 X)
/-- The tile's share of the gradient of `hg`. -/
def dgainTile (X : In F) : FVec F S1x1024 .f32 :=
  k0_pay95 (da X) X.og (heads X) (sigO X)
def v389 (X : In F) : FVec F S256x128 .f32 :=
  k0_pay97 (da X) X.og X.hg (sigO X)
def v390 (X : In F) : FVec F S256x128 .f32 :=
  k0_pay98 (da X) X.og X.hg (sigO X)
def v391 (X : In F) : FVec F S256x128 .f32 :=
  k0_pay99 (da X) X.og X.hg (sigO X)
def v392 (X : In F) : FVec F S256x128 .f32 :=
  k0_pay100 (da X) X.og X.hg (sigO X)
def v393 (X : In F) : FVec F S256x128 .f32 :=
  k0_pay101 (da X) X.og X.hg (sigO X)
def v394 (X : In F) : FVec F S256x128 .f32 :=
  k0_pay102 (da X) X.og X.hg (sigO X)
def v413 (X : In F) : FVec F S256x1024 .f32 :=
  k0_pay104 (da X) X.og X.hg (v356 X) (v364 X) (v367 X) (sigO X)
def v426 (X : In F) : FVec F S256x128 .f32 :=
  k0_pay106 (da X) X.og X.hg (v342 X) (v350 X) (v353 X) (sigO X)
def v427 (X : In F) : FVec F S256x128 .f32 :=
  k0_pay107 (da X) X.og X.hg (v342 X) (v353 X) (sigO X)
def v473 (X : In F) : FVec F S256x1024 .f32 :=
  k0_pay108 (v314 X) (v322 X) (v325 X) (v328 X) (v336 X) (v339 X) (v393 X) (v394 X) (v413 X) (v426 X) (v427 X)
def v476 (X : In F) : FVec F S256x1 .f32 :=
  k0_pay109 (v300 X) (v392 X)
def v477 (X : In F) : FVec F S256x128 .f32 :=
  k0_pay110 (v308 X)
def v513 (X : In F) : FVec F S256x1024 .f32 :=
  k0_pay111 (v286 X) (v294 X) (v297 X) (v300 X) (v311 X) (v391 X) (v392 X) (v473 X) (v476 X) (v477 X)
def v526 (X : In F) : FVec F S256x128 .f32 :=
  k0_pay113 (v272 X) (v280 X) (v283 X) (v390 X)
def v527 (X : In F) : FVec F S256x128 .f32 :=
  k0_pay114 (v272 X) (v283 X) (v390 X)
def dogW (X : In F) : FVec F S256x1024 .bf16 :=
  k0_pay116 (dog X)
/-- Gradient of the recurrence output. -/
def dout (X : In F) : FVec F S256x1024 .f32 :=
  k0_pay115 (v258 X) (v266 X) (v269 X) (v389 X) (v513 X) (v526 X) (v527 X)
def stB2 (X : In F) : Vec F S1x128x1024 .f32 :=
  View.ld X.st (Rect.unit (s := S2x128x1024) ![1, 0, 0] S1x128x1024.size inb_S2x128x1024_S1x128x1024_1_0_0)
/-- The same, cast. -/
def dob (X : In F) : FVec F S256x1024 .bf16 :=
  k0_pay117 (v258 X) (v266 X) (v269 X) (v389 X) (v513 X) (v526 X) (v527 X)
def v559 (X : In F) : FVec F S128x1024 .bf16 :=
  k0_pay118 (stB2 X)
def v562 (X : In F) : FVec F S128x128 .f32 :=
  k0_pay119 (v258 X) (v266 X) (v269 X) (v389 X) (v513 X) (v526 X) (v527 X) (stB2 X)
def v565 (X : In F) : FVec F S128x128 .f32 :=
  k0_pay120 (v258 X) (v266 X) (v269 X) (v389 X) (v513 X) (v526 X) (v527 X) X.qe
def v568 (X : In F) : FVec F S128x128 .f32 :=
  k0_pay121 (v258 X) (v266 X) (v269 X) (v389 X) (v513 X) (v526 X) (v527 X) (stB2 X)
/-- Query gradient of the second chunk. -/
def dq1 (X : In F) : FVec F S128x1024 .f32 :=
  k0_pay129 (dob X) (v559 X) (v562 X) (v568 X)
def v571 (X : In F) : FVec F S128x128 .f32 :=
  k0_pay122 (dob X) X.qe
def v577 (X : In F) : FVec F S128x128 .f32 :=
  k0_pay123 (dob X) X.qe
def v583 (X : In F) : FVec F S128x128 .f32 :=
  k0_pay124 (dob X) X.qe
def v589 (X : In F) : FVec F S128x128 .f32 :=
  k0_pay125 (dob X) X.qe
def v595 (X : In F) : FVec F S128x128 .f32 :=
  k0_pay126 (dob X) X.qe
def v601 (X : In F) : FVec F S128x128 .f32 :=
  k0_pay127 (dob X) X.qe
def v607 (X : In F) : FVec F S128x128 .f32 :=
  k0_pay128 (dob X) X.qe
/-- State gradient handed to the second chunk. -/
def gt1 (X : In F) (G : FVec F S128x1024 .f32) : FVec F S1x128x1024 .f32 :=
  k0_pay130 G
def decB (X : In F) : Vec F S1x1x1024 .f32 :=
  View.ld X.dec (Rect.unit (s := S2x1x1024) ![1, 0, 0] S1x1x1024.size inb_S2x1x1024_S1x1x1024_1_0_0)
/-- Carried state gradient after the second chunk. -/
def st1 (X : In F) (G : FVec F S128x1024 .f32) : FVec F S128x1024 .f32 :=
  k0_pay131 (v565 X) (v571 X) (v577 X) (v583 X) (v589 X) (v595 X) (v601 X) (v607 X) G (decB X)
def stA2 (X : In F) : Vec F S1x128x1024 .f32 :=
  View.ld X.st (Rect.unit (s := S2x128x1024) ![0, 0, 0] S1x128x1024.size inb_S2x128x1024_S1x128x1024_0_0_0)
def v625 (X : In F) : FVec F S128x1024 .bf16 :=
  k0_pay132 (stA2 X)
def v628 (X : In F) : FVec F S128x128 .f32 :=
  k0_pay133 (dob X) (stA2 X)
def v631 (X : In F) : FVec F S128x128 .f32 :=
  k0_pay134 (dob X) X.qe
def v634 (X : In F) : FVec F S128x128 .f32 :=
  k0_pay135 (dob X) (stA2 X)
def v637 (X : In F) : FVec F S128x128 .f32 :=
  k0_pay136 (dob X) X.qe
def v640 (X : In F) : FVec F S128x128 .f32 :=
  k0_pay137 (dob X) (stA2 X)
def v643 (X : In F) : FVec F S128x128 .f32 :=
  k0_pay138 (dob X) X.qe
def v646 (X : In F) : FVec F S128x128 .f32 :=
  k0_pay139 (dob X) (stA2 X)
def v649 (X : In F) : FVec F S128x128 .f32 :=
  k0_pay140 (dob X) X.qe
/-- Query gradient of the first chunk. -/
def dq0 (X : In F) : FVec F S128x1024 .f32 :=
  k0_pay141 (dob X) (v625 X) (v628 X) (v634 X) (v640 X) (v646 X)
/-- State gradient handed to the first chunk. -/
def gt0 (X : In F) (G : FVec F S128x1024 .f32) : FVec F S1x128x1024 .f32 :=
  k0_pay142 (st1 X G)
def decA (X : In F) : Vec F S1x1x1024 .f32 :=
  View.ld X.dec (Rect.unit (s := S2x1x1024) ![0, 0, 0] S1x1x1024.size inb_S2x1x1024_S1x1x1024_0_0_0)
def v685 (X : In F) (G : FVec F S128x1024 .f32) : FVec F S128x1024 .f32 :=
  k0_pay143 (dob X) X.qe (v631 X) (v637 X) (v643 X) (v649 X) (st1 X G) (decA X)
/-- Carried state gradient after the first chunk. -/
def st0 (X : In F) (G : FVec F S128x1024 .f32) : FVec F S128x1024 .f32 :=
  k0_pay144 (v685 X G)
def v689 (A : FVec F S8x1024 .f32) : Vec F S1x1024 .f32 :=
  View.ld A (Rect.unit (s := S8x1024) ![0, 0] S1x1024.size inb_S8x1024_S1x1024_0_0)
def acc0 (X : In F) (A : FVec F S8x1024 .f32) : FVec F S1x1024 .f32 :=
  k0_pay145 (dgateTile X) (v689 A)
def v693 (A : FVec F S8x1024 .f32) : Vec F S1x1024 .f32 :=
  View.ld A (Rect.unit (s := S8x1024) ![1, 0] S1x1024.size inb_S8x1024_S1x1024_1_0)
def acc1 (X : In F) (A : FVec F S8x1024 .f32) : FVec F S1x1024 .f32 :=
  k0_pay146 (dpostTile X) (v693 A)
def v697 (A : FVec F S8x1024 .f32) : Vec F S1x1024 .f32 :=
  View.ld A (Rect.unit (s := S8x1024) ![2, 0] S1x1024.size inb_S8x1024_S1x1024_2_0)
def acc2 (X : In F) (A : FVec F S8x1024 .f32) : FVec F S1x1024 .f32 :=
  k0_pay147 (dgainTile X) (v697 A)
def v701 (A : FVec F S8x1024 .f32) : Vec F S1x1024 .f32 :=
  View.ld A (Rect.unit (s := S8x1024) ![3, 0] S1x1024.size inb_S8x1024_S1x1024_3_0)
def acc3 (X : In F) (A : FVec F S8x1024 .f32) : FVec F S1x1024 .f32 :=
  k0_pay148 (dog X) (v701 A)
def v707 (A : FVec F S8x1024 .f32) : Vec F S1x1024 .f32 :=
  View.ld A (Rect.unit (s := S8x1024) ![4, 0] S1x1024.size inb_S8x1024_S1x1024_4_0)
def acc4 (X : In F) (A : FVec F S8x1024 .f32) : FVec F S1x1024 .f32 :=
  k0_pay149 (dga X) (v707 A)
def v713 (A : FVec F S8x1024 .f32) : Vec F S1x1024 .f32 :=
  View.ld A (Rect.unit (s := S8x1024) ![5, 0] S1x1024.size inb_S8x1024_S1x1024_5_0)
def v714 (X : In F) (A : FVec F S8x1024 .f32) : FVec F S1x1024 .f32 :=
  k0_pay150 (v713 A)
def v716 (X : In F) : FVec F S1x1024 .f32 :=
  k0_pay151 (dgb X)
def acc5 (X : In F) (A : FVec F S8x1024 .f32) : FVec F S1x1024 .f32 :=
  k0_pay1 (v714 X A) (v716 X)

/-- The three gate gradients side by side. -/
def dp (X : In F) : Vec F S256x3072 .bf16 := View.canon [
  ⟨Rect.unit (s := S256x3072) ![0, 0] S256x1024.size inb_S256x3072_S256x1024_0_0, dogW X⟩,
  ⟨Rect.unit (s := S256x3072) ![0, 2048] S256x1024.size inb_S256x3072_S256x1024_0_2048, dgbW X⟩,
  ⟨Rect.unit (s := S256x3072) ![0, 1024] S256x1024.size inb_S256x3072_S256x1024_0_1024, dgaW X⟩]
/-- The query gradients of the tile's two chunks. -/
def dq (X : In F) : Vec F S256x1024 .f32 := View.canon [
  ⟨Rect.unit (s := S256x1024) ![0, 0] S128x1024.size inb_S256x1024_S128x1024_0_0, dq0 X⟩,
  ⟨Rect.unit (s := S256x1024) ![128, 0] S128x1024.size inb_S256x1024_S128x1024_128_0, dq1 X⟩]
/-- The state gradients handed to the tile's two chunks. -/
def gt (X : In F) (G : FVec F S128x1024 .f32) : Vec F S2x128x1024 .f32 := View.canon [
  ⟨Rect.unit (s := S2x128x1024) ![0, 0, 0] S1x128x1024.size inb_S2x128x1024_S1x128x1024_0_0_0, gt0 X G⟩,
  ⟨Rect.unit (s := S2x128x1024) ![1, 0, 0] S1x128x1024.size inb_S2x128x1024_S1x128x1024_1_0_0, gt1 X G⟩]
/-- The column sums with the tile's share added. -/
def acc (X : In F) (A : FVec F S8x1024 .f32) : Vec F S8x1024 .f32 := View.canon [
  ⟨Rect.unit (s := S8x1024) ![5, 0] S1x1024.size inb_S8x1024_S1x1024_5_0, acc5 X A⟩,
  ⟨Rect.unit (s := S8x1024) ![4, 0] S1x1024.size inb_S8x1024_S1x1024_4_0, acc4 X A⟩,
  ⟨Rect.unit (s := S8x1024) ![3, 0] S1x1024.size inb_S8x1024_S1x1024_3_0, acc3 X A⟩,
  ⟨Rect.unit (s := S8x1024) ![2, 0] S1x1024.size inb_S8x1024_S1x1024_2_0, acc2 X A⟩,
  ⟨Rect.unit (s := S8x1024) ![1, 0] S1x1024.size inb_S8x1024_S1x1024_1_0, acc1 X A⟩,
  ⟨Rect.unit (s := S8x1024) ![0, 0] S1x1024.size inb_S8x1024_S1x1024_0_0, acc0 X A⟩,
  ⟨Rect.unit (s := S8x1024) ![0, 0] S8x1024.size inb_S8x1024_S8x1024_0_0, A⟩]

end Cert.KernelIdeal.Mix

end
-- ==== Proof.Run.lean ====
module

public import proofs.«01_k».proof.Proof.Tile
public import proofs.«01_k».proof.Proof.Gen.KernelIdeal.Frame

@[expose] public section

set_option maxRecDepth 16384
set_option maxHeartbeats 1000000

noncomputable section

namespace Cert.KernelIdeal.Mix

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first tile. -/
abbrev cond (i : grid0.Coords) : Prop :=
  Scalar.cmpi .ne (Scalar.extui (Scalar.cmpi .eq (BitVec.ofNat 32 (i 0).val) 0#32) : BitVec 32) 0#32 = 1#1

/-- Stores over a block known beforehand leave the stores' contents, the block's own elsewhere. -/
theorem read_writes_over {κ : Kind} {sp : Space} {s : Shape} {e : EltTy} (v : View sig κ sp s e) (f : v.ty.Contents (Elt F))
    {off : Fin s.rank → ℕ} (h : off = fun _ => 0) (inb : ∀ a, off a + s.size a ≤ s.size a) (L : List (View.Piece (Elt F) s e)) :
    v.read (Elt F) (v.writes (Elt F) f L) = View.canon (L ++ [⟨Rect.unit off s.size inb, v.read (Elt F) f⟩]) := by
  induction L with
  | nil => exact (View.canon_unit_zero (Val := Elt F) h inb _).symm
  | cons p L ih =>
    funext y
    by_cases hy : y ∈ p.1.set
    · rw [← Rect.map_emb_univ] at hy
      obtain ⟨x, -, rfl⟩ := Finset.mem_map.mp hy
      rw [List.cons_append]
      exact (View.read_writes_cons_emb (Val := Elt F) v f p.1 p.2 L x).trans (View.canon_cons_emb (Val := Elt F) p.1 p.2 _ x).symm
    · rw [List.cons_append, View.canon_cons_of_not_mem p _ hy, ← ih]
      exact View.read_writes_cons_miss (Val := Elt F) v f p L y hy

/-- A row loaded after a store to another row is what it was. -/
theorem row_after_row (v : View sig .tc .vmem S8x1024 .f32) (k l : ℕ) (hkl : l ≠ k)
    (inb : ∀ a, (![l, 0] : Fin S8x1024.rank → ℕ) a + (![1, 1024] : Fin S8x1024.rank → ℕ) a ≤ S8x1024.size a)
    (inb' : ∀ a, (![k, 0] : Fin S8x1024.rank → ℕ) a + (![1, 1024] : Fin S8x1024.rank → ℕ) a ≤ S8x1024.size a)
    (w : (Rect.unit (s := S8x1024) ![l, 0] ![1, 1024] inb).shape.Idx → Elt F .f32) (L : List (View.Piece (Elt F) S8x1024 .f32)) :
    v.readCov (⟨Rect.unit (s := S8x1024) ![l, 0] ![1, 1024] inb, w⟩ :: L) (Rect.unit (s := S8x1024) ![k, 0] ![1, 1024] inb').toLoadRect
      = v.readCov L (Rect.unit (s := S8x1024) ![k, 0] ![1, 1024] inb').toLoadRect :=
  View.readCov_cons_of_disjoint (Val := Elt F) v _ L _
    (Rect.unit_disjoint (s := S8x1024) (inb := inb) (inb' := inb') 0 (by
      show l + 1 ≤ k ∨ k + 1 ≤ l
      omega))

/-- A row loaded after a store to every row is the stored block's row. -/
theorem row_after_all (v : View sig .tc .vmem S8x1024 .f32) (r : Rect S8x1024)
    (inb : ∀ a, (![0, 0] : Fin S8x1024.rank → ℕ) a + (![8, 1024] : Fin S8x1024.rank → ℕ) a ≤ S8x1024.size a)
    (w : Vec F S8x1024 .f32) :
    v.readCov [⟨Rect.unit (s := S8x1024) ![0, 0] ![8, 1024] inb, w⟩] r.toLoadRect = View.ld w r := by
  rw [View.readCov_eq_canon']
  exact congrArg (View.ld · r) (View.canon_unit_zero (Val := Elt F) (S := S8x1024) zero2 inb w)

theorem run_first (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S2x128x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x1x1024 .f32) (harg16 : arg16.IsWhole) (arg17 : Memref sig .tc .vmem S256x3072 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S2x128x1024 .f32) (harg20 : arg20.IsWhole) (arg21 : Memref sig .tc .vmem S256x1024 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S8x1024 .f32) (harg27 : arg27.IsWhole) (arg28 : Memref sig .tc .vmem S128x1024 .f32) (harg28 : arg28.IsWhole)
    (c : Dev nD) (i : grid0.Coords) (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F))
    (E : Set ℕ) (K : PUnit → sProp 𝕄)
    (hc : cond i) :
    iprop((arg1.view.loc (c : Thread nD τ) ↦[arg1.view.set]{fullShare} f1) ∗
      (arg2.view.loc (c : Thread nD τ) ↦[arg2.view.set]{fullShare} f2) ∗
      (arg3.view.loc (c : Thread nD τ) ↦[arg3.view.set]{fullShare} f3) ∗
      (arg4.view.loc (c : Thread nD τ) ↦[arg4.view.set]{fullShare} f4) ∗
      (arg5.view.loc (c : Thread nD τ) ↦[arg5.view.set]{fullShare} f5) ∗
      (arg6.view.loc (c : Thread nD τ) ↦[arg6.view.set]{fullShare} f6) ∗
      (arg7.view.loc (c : Thread nD τ) ↦[arg7.view.set]{fullShare} f7) ∗
      (arg8.view.loc (c : Thread nD τ) ↦[arg8.view.set]{fullShare} f8) ∗
      (arg9.view.loc (c : Thread nD τ) ↦[arg9.view.set]{fullShare} f9) ∗
      (arg10.view.loc (c : Thread nD τ) ↦[arg10.view.set]{fullShare} f10) ∗
      (arg11.view.loc (c : Thread nD τ) ↦[arg11.view.set]{fullShare} f11) ∗
      (arg12.view.loc (c : Thread nD τ) ↦[arg12.view.set]{fullShare} f12) ∗
      (arg13.view.loc (c : Thread nD τ) ↦[arg13.view.set]{fullShare} f13) ∗
      (arg14.view.loc (c : Thread nD τ) ↦[arg14.view.set]{fullShare} f14) ∗
      (arg15.view.loc (c : Thread nD τ) ↦[arg15.view.set]{fullShare} f15) ∗
      (arg16.view.loc (c : Thread nD τ) ↦[arg16.view.set]{fullShare} f16) ∗
      (arg17.view.loc (c : Thread nD τ) ↦[arg17.view.set]{fullShare} f17) ∗
      (arg18.view.loc (c : Thread nD τ) ↦[arg18.view.set]{fullShare} f18) ∗
      (arg19.view.loc (c : Thread nD τ) ↦[arg19.view.set]{fullShare} f19) ∗
      (arg20.view.loc (c : Thread nD τ) ↦[arg20.view.set]{fullShare} f20) ∗
      (arg21.view.loc (c : Thread nD τ) ↦[arg21.view.set]{fullShare} f21) ∗
      (arg22.view.loc (c : Thread nD τ) ↦[arg22.view.set]{fullShare} f22) ∗
      (arg23.view.loc (c : Thread nD τ) ↦[arg23.view.set]{fullShare} f23) ∗
      (arg24.view.loc (c : Thread nD τ) ↦[arg24.view.set]{fullShare} f24) ∗
      (arg25.view.loc (c : Thread nD τ) ↦[arg25.view.set]{fullShare} f25) ∗
      (arg26.view.loc (c : Thread nD τ) ↦[arg26.view.set]{fullShare} f26) ∗
      (arg27.view.loc (c : Thread nD τ) ↦[arg27.view.set]{fullShare} f27) ∗
      (arg28.view.loc (c : Thread nD τ) ↦[arg28.view.set]{fullShare} f28) ∗
      (owns (c : Thread nD τ) arg1 fullShare (arg1.view.read (Elt F) f1) ∗
      owns (c : Thread nD τ) arg2 fullShare (arg2.view.read (Elt F) f2) ∗
      owns (c : Thread nD τ) arg3 fullShare (arg3.view.read (Elt F) f3) ∗
      owns (c : Thread nD τ) arg4 fullShare (arg4.view.read (Elt F) f4) ∗
      owns (c : Thread nD τ) arg5 fullShare (arg5.view.read (Elt F) f5) ∗
      owns (c : Thread nD τ) arg6 fullShare (arg6.view.read (Elt F) f6) ∗
      owns (c : Thread nD τ) arg7 fullShare (arg7.view.read (Elt F) f7) ∗
      owns (c : Thread nD τ) arg8 fullShare (arg8.view.read (Elt F) f8) ∗
      owns (c : Thread nD τ) arg9 fullShare (arg9.view.read (Elt F) f9) ∗
      owns (c : Thread nD τ) arg10 fullShare (arg10.view.read (Elt F) f10) ∗
      owns (c : Thread nD τ) arg11 fullShare (arg11.view.read (Elt F) f11) ∗
      owns (c : Thread nD τ) arg12 fullShare (arg12.view.read (Elt F) f12) ∗
      owns (c : Thread nD τ) arg13 fullShare (arg13.view.read (Elt F) f13) ∗
      owns (c : Thread nD τ) arg14 fullShare (arg14.view.read (Elt F) f14) ∗
      owns (c : Thread nD τ) arg15 fullShare (arg15.view.read (Elt F) f15) ∗
      owns (c : Thread nD τ) arg16 fullShare (arg16.view.read (Elt F) f16) ∗
      owns (c : Thread nD τ) arg17 fullShare (dp (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg18 fullShare (dout (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg19 fullShare (dq (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg20 fullShare (gt (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) k0_pay3) ∗
      owns (c : Thread nD τ) arg21 fullShare (dact (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg22 fullShare (attW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg23 fullShare (mergedW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg24 fullShare (dya (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg25 fullShare (dybW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg26 fullShare (dyW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg27 fullShare (acc (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) k0_pay2) ∗
      owns (c : Thread nD τ) arg28 fullShare (st0 (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) k0_pay3) -∗ K ⟨⟩)) ⊢
    wp frame (wpE (defs₀ (F := F)) Variants.none c none) E (cc0_mix_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_mix_backward_eq_skeleton]
  unfold cc0_mix_backward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  iintro ⟨H1, H2, H3, H4, H5, H6, H7, H8, H9, H10, H11, H12, H13, H14, H15, H16, H17, H18, H19, H20, H21, H22, H23, H24, H25, H26, H27, H28, Hk⟩
  sl_exec (disch := first | sl_exact hc)
  sl_step
  iapply Hk
  isplitl [H1]
  · iapply owns_intro $$ H1
  isplitl [H2]
  · iapply owns_intro $$ H2
  isplitl [H3]
  · iapply owns_intro $$ H3
  isplitl [H4]
  · iapply owns_intro $$ H4
  isplitl [H5]
  · iapply owns_intro $$ H5
  isplitl [H6]
  · iapply owns_intro $$ H6
  isplitl [H7]
  · iapply owns_intro $$ H7
  isplitl [H8]
  · iapply owns_intro $$ H8
  isplitl [H9]
  · iapply owns_intro $$ H9
  isplitl [H10]
  · iapply owns_intro $$ H10
  isplitl [H11]
  · iapply owns_intro $$ H11
  isplitl [H12]
  · iapply owns_intro $$ H12
  isplitl [H13]
  · iapply owns_intro $$ H13
  isplitl [H14]
  · iapply owns_intro $$ H14
  isplitl [H15]
  · iapply owns_intro $$ H15
  isplitl [H16]
  · iapply owns_intro $$ H16
  isplitl [H17]
  · unfold owns
    iexists _
    isplitr
    swap
    iexact H17
    ipureintro
    refine Eq.trans (View.read_writes_eq_canon (Val := Elt F) _ _ _ ?_) ?_
    · exact View.cover_of_tiledL _ S256x1024.size (by sl_kernel_rfl)
    sl_kernel_rfl
  isplitl [H18]
  · unfold owns
    iexists _
    isplitr
    swap
    iexact H18
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H19]
  · unfold owns
    iexists _
    isplitr
    swap
    iexact H19
    ipureintro
    refine Eq.trans (View.read_writes_eq_canon (Val := Elt F) _ _ _ ?_) ?_
    · exact View.cover_of_tiledL _ S128x1024.size (by sl_kernel_rfl)
    sl_kernel_rfl
  isplitl [H20]
  · unfold owns
    iexists _
    isplitr
    swap
    iexact H20
    ipureintro
    refine Eq.trans (View.read_writes_eq_canon (Val := Elt F) _ _ _ ?_) ?_
    · exact View.cover_of_tiledL _ S1x128x1024.size (by sl_kernel_rfl)
    delta run_first.sl.v676
    delta run_first.sl.H28_2
    delta run_first.sl.v610
    delta run_first.sl.H28_1
    simp only [View.readCov_cons_toLoadRect]
    sl_kernel_rfl
  isplitl [H21]
  · unfold owns
    iexists _
    isplitr
    swap
    iexact H21
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H22]
  · unfold owns
    iexists _
    isplitr
    swap
    iexact H22
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H23]
  · unfold owns
    iexists _
    isplitr
    swap
    iexact H23
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H24]
  · unfold owns
    iexists _
    isplitr
    swap
    iexact H24
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H25]
  · unfold owns
    iexists _
    isplitr
    swap
    iexact H25
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H26]
  · unfold owns
    iexists _
    isplitr
    swap
    iexact H26
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H27]
  · unfold owns
    iexists _
    isplitr
    swap
    iexact H27
    ipureintro
    refine Eq.trans (View.read_writes_eq_canon (Val := Elt F) _ _ _ ?_) ?_
    · exact View.cover_of_tiledL _ S8x1024.size (by sl_kernel_rfl)
    delta run_first.sl.r_107
    delta run_first.sl.v713
    delta run_first.sl.H27_6
    delta run_first.sl.v707
    delta run_first.sl.H27_5
    delta run_first.sl.v701
    delta run_first.sl.H27_4
    delta run_first.sl.v697
    delta run_first.sl.H27_3
    delta run_first.sl.v693
    delta run_first.sl.H27_2
    delta run_first.sl.v689
    delta run_first.sl.H27_1
    simp (disch := decide) only [row_after_row, row_after_all]
    sl_kernel_rfl
  · unfold owns
    iexists _
    isplitr
    swap
    iexact H28
    ipureintro
    refine Eq.trans (View.read_writes_eq_canon (Val := Elt F) _ _ _ ?_) ?_
    · exact View.cover_of_tiledL _ S128x1024.size (by sl_kernel_rfl)
    refine (View.canon_cons_unit_zero (Val := Elt F) zero2 _ _ _).trans ?_
    delta run_first.sl.r_106
    delta run_first.sl.v676
    delta run_first.sl.H28_2
    delta run_first.sl.v610
    delta run_first.sl.H28_1
    simp only [View.readCov_cons_toLoadRect]
    sl_kernel_rfl

theorem run_next (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S2x128x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x1x1024 .f32) (harg16 : arg16.IsWhole) (arg17 : Memref sig .tc .vmem S256x3072 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S2x128x1024 .f32) (harg20 : arg20.IsWhole) (arg21 : Memref sig .tc .vmem S256x1024 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S8x1024 .f32) (harg27 : arg27.IsWhole) (arg28 : Memref sig .tc .vmem S128x1024 .f32) (harg28 : arg28.IsWhole)
    (c : Dev nD) (i : grid0.Coords) (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F))
    (E : Set ℕ) (K : PUnit → sProp 𝕄)
    (hc : ¬ cond i) :
    iprop((arg1.view.loc (c : Thread nD τ) ↦[arg1.view.set]{fullShare} f1) ∗
      (arg2.view.loc (c : Thread nD τ) ↦[arg2.view.set]{fullShare} f2) ∗
      (arg3.view.loc (c : Thread nD τ) ↦[arg3.view.set]{fullShare} f3) ∗
      (arg4.view.loc (c : Thread nD τ) ↦[arg4.view.set]{fullShare} f4) ∗
      (arg5.view.loc (c : Thread nD τ) ↦[arg5.view.set]{fullShare} f5) ∗
      (arg6.view.loc (c : Thread nD τ) ↦[arg6.view.set]{fullShare} f6) ∗
      (arg7.view.loc (c : Thread nD τ) ↦[arg7.view.set]{fullShare} f7) ∗
      (arg8.view.loc (c : Thread nD τ) ↦[arg8.view.set]{fullShare} f8) ∗
      (arg9.view.loc (c : Thread nD τ) ↦[arg9.view.set]{fullShare} f9) ∗
      (arg10.view.loc (c : Thread nD τ) ↦[arg10.view.set]{fullShare} f10) ∗
      (arg11.view.loc (c : Thread nD τ) ↦[arg11.view.set]{fullShare} f11) ∗
      (arg12.view.loc (c : Thread nD τ) ↦[arg12.view.set]{fullShare} f12) ∗
      (arg13.view.loc (c : Thread nD τ) ↦[arg13.view.set]{fullShare} f13) ∗
      (arg14.view.loc (c : Thread nD τ) ↦[arg14.view.set]{fullShare} f14) ∗
      (arg15.view.loc (c : Thread nD τ) ↦[arg15.view.set]{fullShare} f15) ∗
      (arg16.view.loc (c : Thread nD τ) ↦[arg16.view.set]{fullShare} f16) ∗
      (arg17.view.loc (c : Thread nD τ) ↦[arg17.view.set]{fullShare} f17) ∗
      (arg18.view.loc (c : Thread nD τ) ↦[arg18.view.set]{fullShare} f18) ∗
      (arg19.view.loc (c : Thread nD τ) ↦[arg19.view.set]{fullShare} f19) ∗
      (arg20.view.loc (c : Thread nD τ) ↦[arg20.view.set]{fullShare} f20) ∗
      (arg21.view.loc (c : Thread nD τ) ↦[arg21.view.set]{fullShare} f21) ∗
      (arg22.view.loc (c : Thread nD τ) ↦[arg22.view.set]{fullShare} f22) ∗
      (arg23.view.loc (c : Thread nD τ) ↦[arg23.view.set]{fullShare} f23) ∗
      (arg24.view.loc (c : Thread nD τ) ↦[arg24.view.set]{fullShare} f24) ∗
      (arg25.view.loc (c : Thread nD τ) ↦[arg25.view.set]{fullShare} f25) ∗
      (arg26.view.loc (c : Thread nD τ) ↦[arg26.view.set]{fullShare} f26) ∗
      (arg27.view.loc (c : Thread nD τ) ↦[arg27.view.set]{fullShare} f27) ∗
      (arg28.view.loc (c : Thread nD τ) ↦[arg28.view.set]{fullShare} f28) ∗
      (owns (c : Thread nD τ) arg1 fullShare (arg1.view.read (Elt F) f1) ∗
      owns (c : Thread nD τ) arg2 fullShare (arg2.view.read (Elt F) f2) ∗
      owns (c : Thread nD τ) arg3 fullShare (arg3.view.read (Elt F) f3) ∗
      owns (c : Thread nD τ) arg4 fullShare (arg4.view.read (Elt F) f4) ∗
      owns (c : Thread nD τ) arg5 fullShare (arg5.view.read (Elt F) f5) ∗
      owns (c : Thread nD τ) arg6 fullShare (arg6.view.read (Elt F) f6) ∗
      owns (c : Thread nD τ) arg7 fullShare (arg7.view.read (Elt F) f7) ∗
      owns (c : Thread nD τ) arg8 fullShare (arg8.view.read (Elt F) f8) ∗
      owns (c : Thread nD τ) arg9 fullShare (arg9.view.read (Elt F) f9) ∗
      owns (c : Thread nD τ) arg10 fullShare (arg10.view.read (Elt F) f10) ∗
      owns (c : Thread nD τ) arg11 fullShare (arg11.view.read (Elt F) f11) ∗
      owns (c : Thread nD τ) arg12 fullShare (arg12.view.read (Elt F) f12) ∗
      owns (c : Thread nD τ) arg13 fullShare (arg13.view.read (Elt F) f13) ∗
      owns (c : Thread nD τ) arg14 fullShare (arg14.view.read (Elt F) f14) ∗
      owns (c : Thread nD τ) arg15 fullShare (arg15.view.read (Elt F) f15) ∗
      owns (c : Thread nD τ) arg16 fullShare (arg16.view.read (Elt F) f16) ∗
      owns (c : Thread nD τ) arg17 fullShare (dp (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg18 fullShare (dout (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg19 fullShare (dq (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg20 fullShare (gt (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) (View.ld (arg28.view.read (Elt F) f28) (Rect.unit (s := S128x1024) ![0, 0] S128x1024.size inb_S128x1024_S128x1024_0_0))) ∗
      owns (c : Thread nD τ) arg21 fullShare (dact (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg22 fullShare (attW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg23 fullShare (mergedW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg24 fullShare (dya (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg25 fullShare (dybW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg26 fullShare (dyW (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16))) ∗
      owns (c : Thread nD τ) arg27 fullShare (acc (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) (arg27.view.read (Elt F) f27)) ∗
      owns (c : Thread nD τ) arg28 fullShare (st0 (In.of (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) (View.ld (arg28.view.read (Elt F) f28) (Rect.unit (s := S128x1024) ![0, 0] S128x1024.size inb_S128x1024_S128x1024_0_0))) -∗ K ⟨⟩)) ⊢
    wp frame (wpE (defs₀ (F := F)) Variants.none c none) E (cc0_mix_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_mix_backward_eq_skeleton]
  unfold cc0_mix_backward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  iintro ⟨H1, H2, H3, H4, H5, H6, H7, H8, H9, H10, H11, H12, H13, H14, H15, H16, H17, H18, H19, H20, H21, H22, H23, H24, H25, H26, H27, H28, Hk⟩
  sl_exec (disch := first | sl_exact hc)
  sl_step
  iapply Hk
  isplitl [H1]
  · iapply owns_intro $$ H1
  isplitl [H2]
  · iapply owns_intro $$ H2
  isplitl [H3]
  · iapply owns_intro $$ H3
  isplitl [H4]
  · iapply owns_intro $$ H4
  isplitl [H5]
  · iapply owns_intro $$ H5
  isplitl [H6]
  · iapply owns_intro $$ H6
  isplitl [H7]
  · iapply owns_intro $$ H7
  isplitl [H8]
  · iapply owns_intro $$ H8
  isplitl [H9]
  · iapply owns_intro $$ H9
  isplitl [H10]
  · iapply owns_intro $$ H10
  isplitl [H11]
  · iapply owns_intro $$ H11
  isplitl [H12]
  · iapply owns_intro $$ H12
  isplitl [H13]
  · iapply owns_intro $$ H13
  isplitl [H14]
  · iapply owns_intro $$ H14
  isplitl [H15]
  · iapply owns_intro $$ H15
  isplitl [H16]
  · iapply owns_intro $$ H16
  isplitl [H17]
  · unfold owns
    iexists _
    isplitr
    swap
    iexact H17
    ipureintro
    refine Eq.trans (View.read_writes_eq_canon (Val := Elt F) _ _ _ ?_) ?_
    · exact View.cover_of_tiledL _ S256x1024.size (by sl_kernel_rfl)
    sl_kernel_rfl
  isplitl [H18]
  · unfold owns
    iexists _
    isplitr
    swap
    iexact H18
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H19]
  · unfold owns
    iexists _
    isplitr
    swap
    iexact H19
    ipureintro
    refine Eq.trans (View.read_writes_eq_canon (Val := Elt F) _ _ _ ?_) ?_
    · exact View.cover_of_tiledL _ S128x1024.size (by sl_kernel_rfl)
    sl_kernel_rfl
  isplitl [H20]
  · unfold owns
    iexists _
    isplitr
    swap
    iexact H20
    ipureintro
    refine Eq.trans (View.read_writes_eq_canon (Val := Elt F) _ _ _ ?_) ?_
    · exact View.cover_of_tiledL _ S1x128x1024.size (by sl_kernel_rfl)
    delta run_next.sl.v676
    delta run_next.sl.H28_1
    simp only [View.readCov_cons_toLoadRect]
    sl_kernel_rfl
  isplitl [H21]
  · unfold owns
    iexists _
    isplitr
    swap
    iexact H21
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H22]
  · unfold owns
    iexists _
    isplitr
    swap
    iexact H22
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H23]
  · unfold owns
    iexists _
    isplitr
    swap
    iexact H23
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H24]
  · unfold owns
    iexists _
    isplitr
    swap
    iexact H24
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H25]
  · unfold owns
    iexists _
    isplitr
    swap
    iexact H25
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H26]
  · unfold owns
    iexists _
    isplitr
    swap
    iexact H26
    ipureintro
    refine Eq.trans (View.read_writes_eq_canon (Val := Elt F) _ _ _ ?_) ?_
    · exact View.cover_of_tiledL _ S256x1024.size (by sl_kernel_rfl)
    exact (View.canon_unit_zero (Val := Elt F) zero2 _ _).trans (by sl_kernel_rfl)
  isplitl [H27]
  · unfold owns
    iexists _
    isplitr
    swap
    iexact H27
    ipureintro
    exact (read_writes_over _ _ zero2 inb_S8x1024_S8x1024_0_0 _).trans (by sl_kernel_rfl)
  · unfold owns
    iexists _
    isplitr
    swap
    iexact H28
    ipureintro
    refine Eq.trans (View.read_writes_eq_canon (Val := Elt F) _ _ _ ?_) ?_
    · exact View.cover_of_tiledL _ S128x1024.size (by sl_kernel_rfl)
    refine (View.canon_cons_unit_zero (Val := Elt F) zero2 _ _ _).trans ?_
    delta run_next.sl.r_107
    delta run_next.sl.v676
    delta run_next.sl.H28_1
    simp only [View.readCov_cons_toLoadRect]
    sl_kernel_rfl

end Cert.KernelIdeal.Mix

end
-- ==== Proof.Body.lean ====
module

public import proofs.«01_k».proof.Proof.Run
public import proofs.«01_k».proof.Proof.Gen.KernelIdeal.Frame

@[expose] public section

set_option maxRecDepth 16384
set_option maxHeartbeats 1000000

noncomputable section

namespace Cert.KernelIdeal.Mix

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Owning a whole buffer is holding its points-to at the contents it reads. -/
theorem owns_unread (c : Dev nD) {s : Shape} {e : EltTy} (M : Memref sig .tc .vmem s e) (h : M.IsWhole) (x : s.Idx → Elt F e) :
    (owns (c : Thread nD τ) M fullShare x : sProp 𝕄) = (M.view.loc (c : Thread nD τ) ↦[M.view.set]{fullShare} h.unread x) := by
  have h₁ : (owns (c : Thread nD τ) M fullShare x : sProp 𝕄) ⊢ (M.view.loc (c : Thread nD τ) ↦[M.view.set]{fullShare} h.unread x) := by
    unfold owns
    iintro ⟨%f, %hf, H⟩
    obtain rfl := h.eq_unread hf
    iexact H
  have h₂ : (M.view.loc (c : Thread nD τ) ↦[M.view.set]{fullShare} h.unread x : sProp 𝕄) ⊢ owns (c : Thread nD τ) M fullShare x := by
    have e := owns_intro (Ix := Unit) (Val := Elt F) (Name := ℕ) (U := UR sig nD τ) (Lvl := ℕ) (c : Thread nD τ) M fullShare (h.unread x)
    rwa [h.read_unread] at e
  exact BI.Entails.antisymm h₁ h₂

theorem body_first (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S2x128x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x1x1024 .f32) (harg16 : arg16.IsWhole) (arg17 : Memref sig .tc .vmem S256x3072 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S2x128x1024 .f32) (harg20 : arg20.IsWhole) (arg21 : Memref sig .tc .vmem S256x1024 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S8x1024 .f32) (harg27 : arg27.IsWhole) (arg28 : Memref sig .tc .vmem S128x1024 .f32) (harg28 : arg28.IsWhole)
    (c : Dev nD) (i : grid0.Coords) (x1 : Vec F S256x1024 .f32) (x2 : Vec F S256x1024 .f32) (x3 : Vec F S256x1024 .f32) (x4 : Vec F S256x1024 .f32) (x5 : Vec F S256x1024 .bf16) (x6 : Vec F S256x1024 .f32) (x7 : Vec F S2x128x1024 .f32) (x8 : Vec F S256x1024 .bf16) (x9 : Vec F S1024x1024 .bf16) (x10 : Vec F S1024x1024 .bf16) (x11 : Vec F S1024x1024 .bf16) (x12 : Vec F S1x1024 .f32) (x13 : Vec F S1x1024 .f32) (x14 : Vec F S1x1024 .f32) (x15 : Vec F S256x1024 .f32) (x16 : Vec F S2x1x1024 .f32) (d17 : Vec F S256x3072 .bf16) (d18 : Vec F S256x1024 .f32) (d19 : Vec F S256x1024 .f32) (d20 : Vec F S2x128x1024 .f32) (d21 : Vec F S256x1024 .f32) (d22 : Vec F S256x1024 .bf16) (d23 : Vec F S256x1024 .bf16) (d24 : Vec F S256x1024 .bf16) (d25 : Vec F S256x1024 .bf16) (d26 : Vec F S256x1024 .bf16) (d27 : Vec F S8x1024 .f32) (d28 : Vec F S128x1024 .f32)
    (E : Set ℕ) (K : PUnit → sProp 𝕄)
    (hc : cond i) :
    iprop(owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare x11 ∗
      owns (c : Thread nD τ) arg12 fullShare x12 ∗
      owns (c : Thread nD τ) arg13 fullShare x13 ∗
      owns (c : Thread nD τ) arg14 fullShare x14 ∗
      owns (c : Thread nD τ) arg15 fullShare x15 ∗
      owns (c : Thread nD τ) arg16 fullShare x16 ∗
      owns (c : Thread nD τ) arg17 fullShare d17 ∗
      owns (c : Thread nD τ) arg18 fullShare d18 ∗
      owns (c : Thread nD τ) arg19 fullShare d19 ∗
      owns (c : Thread nD τ) arg20 fullShare d20 ∗
      owns (c : Thread nD τ) arg21 fullShare d21 ∗
      owns (c : Thread nD τ) arg22 fullShare d22 ∗
      owns (c : Thread nD τ) arg23 fullShare d23 ∗
      owns (c : Thread nD τ) arg24 fullShare d24 ∗
      owns (c : Thread nD τ) arg25 fullShare d25 ∗
      owns (c : Thread nD τ) arg26 fullShare d26 ∗
      owns (c : Thread nD τ) arg27 fullShare d27 ∗
      owns (c : Thread nD τ) arg28 fullShare d28 ∗
      (owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare x11 ∗
      owns (c : Thread nD τ) arg12 fullShare x12 ∗
      owns (c : Thread nD τ) arg13 fullShare x13 ∗
      owns (c : Thread nD τ) arg14 fullShare x14 ∗
      owns (c : Thread nD τ) arg15 fullShare x15 ∗
      owns (c : Thread nD τ) arg16 fullShare x16 ∗
      owns (c : Thread nD τ) arg17 fullShare (dp (⟨x1, x2, x3, x4, x5, x6, x7, x8, x9, x10, x11, x12, x13, x14, x15, x16⟩ : In F)) ∗
      owns (c : Thread nD τ) arg18 fullShare (dout (⟨x1, x2, x3, x4, x5, x6, x7, x8, x9, x10, x11, x12, x13, x14, x15, x16⟩ : In F)) ∗
      owns (c : Thread nD τ) arg19 fullShare (dq (⟨x1, x2, x3, x4, x5, x6, x7, x8, x9, x10, x11, x12, x13, x14, x15, x16⟩ : In F)) ∗
      owns (c : Thread nD τ) arg20 fullShare (gt (⟨x1, x2, x3, x4, x5, x6, x7, x8, x9, x10, x11, x12, x13, x14, x15, x16⟩ : In F) k0_pay3) ∗
      owns (c : Thread nD τ) arg21 fullShare (dact (⟨x1, x2, x3, x4, x5, x6, x7, x8, x9, x10, x11, x12, x13, x14, x15, x16⟩ : In F)) ∗
      owns (c : Thread nD τ) arg22 fullShare (attW (⟨x1, x2, x3, x4, x5, x6, x7, x8, x9, x10, x11, x12, x13, x14, x15, x16⟩ : In F)) ∗
      owns (c : Thread nD τ) arg23 fullShare (mergedW (⟨x1, x2, x3, x4, x5, x6, x7, x8, x9, x10, x11, x12, x13, x14, x15, x16⟩ : In F)) ∗
      owns (c : Thread nD τ) arg24 fullShare (dya (⟨x1, x2, x3, x4, x5, x6, x7, x8, x9, x10, x11, x12, x13, x14, x15, x16⟩ : In F)) ∗
      owns (c : Thread nD τ) arg25 fullShare (dybW (⟨x1, x2, x3, x4, x5, x6, x7, x8, x9, x10, x11, x12, x13, x14, x15, x16⟩ : In F)) ∗
      owns (c : Thread nD τ) arg26 fullShare (dyW (⟨x1, x2, x3, x4, x5, x6, x7, x8, x9, x10, x11, x12, x13, x14, x15, x16⟩ : In F)) ∗
      owns (c : Thread nD τ) arg27 fullShare (acc (⟨x1, x2, x3, x4, x5, x6, x7, x8, x9, x10, x11, x12, x13, x14, x15, x16⟩ : In F) k0_pay2) ∗
      owns (c : Thread nD τ) arg28 fullShare (st0 (⟨x1, x2, x3, x4, x5, x6, x7, x8, x9, x10, x11, x12, x13, x14, x15, x16⟩ : In F) k0_pay3) -∗ K ⟨⟩)) ⊢
    wp frame (wpE (defs₀ (F := F)) Variants.none c none) E (cc0_mix_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  have h := run_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 c i (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread d17) (harg18.unread d18) (harg19.unread d19) (harg20.unread d20) (harg21.unread d21) (harg22.unread d22) (harg23.unread d23) (harg24.unread d24) (harg25.unread d25) (harg26.unread d26) (harg27.unread d27) (harg28.unread d28) E K hc
  simp only [Memref.IsWhole.read_unread, In.of_eq] at h
  simp only [owns_unread c _ harg1, owns_unread c _ harg2, owns_unread c _ harg3, owns_unread c _ harg4, owns_unread c _ harg5, owns_unread c _ harg6, owns_unread c _ harg7, owns_unread c _ harg8, owns_unread c _ harg9, owns_unread c _ harg10, owns_unread c _ harg11, owns_unread c _ harg12, owns_unread c _ harg13, owns_unread c _ harg14, owns_unread c _ harg15, owns_unread c _ harg16, owns_unread c _ harg17, owns_unread c _ harg18, owns_unread c _ harg19, owns_unread c _ harg20, owns_unread c _ harg21, owns_unread c _ harg22, owns_unread c _ harg23, owns_unread c _ harg24, owns_unread c _ harg25, owns_unread c _ harg26, owns_unread c _ harg27, owns_unread c _ harg28] at h ⊢
  exact h

theorem body_next (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S2x128x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x1x1024 .f32) (harg16 : arg16.IsWhole) (arg17 : Memref sig .tc .vmem S256x3072 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S2x128x1024 .f32) (harg20 : arg20.IsWhole) (arg21 : Memref sig .tc .vmem S256x1024 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S8x1024 .f32) (harg27 : arg27.IsWhole) (arg28 : Memref sig .tc .vmem S128x1024 .f32) (harg28 : arg28.IsWhole)
    (c : Dev nD) (i : grid0.Coords) (x1 : Vec F S256x1024 .f32) (x2 : Vec F S256x1024 .f32) (x3 : Vec F S256x1024 .f32) (x4 : Vec F S256x1024 .f32) (x5 : Vec F S256x1024 .bf16) (x6 : Vec F S256x1024 .f32) (x7 : Vec F S2x128x1024 .f32) (x8 : Vec F S256x1024 .bf16) (x9 : Vec F S1024x1024 .bf16) (x10 : Vec F S1024x1024 .bf16) (x11 : Vec F S1024x1024 .bf16) (x12 : Vec F S1x1024 .f32) (x13 : Vec F S1x1024 .f32) (x14 : Vec F S1x1024 .f32) (x15 : Vec F S256x1024 .f32) (x16 : Vec F S2x1x1024 .f32) (d17 : Vec F S256x3072 .bf16) (d18 : Vec F S256x1024 .f32) (d19 : Vec F S256x1024 .f32) (d20 : Vec F S2x128x1024 .f32) (d21 : Vec F S256x1024 .f32) (d22 : Vec F S256x1024 .bf16) (d23 : Vec F S256x1024 .bf16) (d24 : Vec F S256x1024 .bf16) (d25 : Vec F S256x1024 .bf16) (d26 : Vec F S256x1024 .bf16) (d27 : Vec F S8x1024 .f32) (d28 : Vec F S128x1024 .f32)
    (E : Set ℕ) (K : PUnit → sProp 𝕄)
    (hc : ¬ cond i) :
    iprop(owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare x11 ∗
      owns (c : Thread nD τ) arg12 fullShare x12 ∗
      owns (c : Thread nD τ) arg13 fullShare x13 ∗
      owns (c : Thread nD τ) arg14 fullShare x14 ∗
      owns (c : Thread nD τ) arg15 fullShare x15 ∗
      owns (c : Thread nD τ) arg16 fullShare x16 ∗
      owns (c : Thread nD τ) arg17 fullShare d17 ∗
      owns (c : Thread nD τ) arg18 fullShare d18 ∗
      owns (c : Thread nD τ) arg19 fullShare d19 ∗
      owns (c : Thread nD τ) arg20 fullShare d20 ∗
      owns (c : Thread nD τ) arg21 fullShare d21 ∗
      owns (c : Thread nD τ) arg22 fullShare d22 ∗
      owns (c : Thread nD τ) arg23 fullShare d23 ∗
      owns (c : Thread nD τ) arg24 fullShare d24 ∗
      owns (c : Thread nD τ) arg25 fullShare d25 ∗
      owns (c : Thread nD τ) arg26 fullShare d26 ∗
      owns (c : Thread nD τ) arg27 fullShare d27 ∗
      owns (c : Thread nD τ) arg28 fullShare d28 ∗
      (owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare x11 ∗
      owns (c : Thread nD τ) arg12 fullShare x12 ∗
      owns (c : Thread nD τ) arg13 fullShare x13 ∗
      owns (c : Thread nD τ) arg14 fullShare x14 ∗
      owns (c : Thread nD τ) arg15 fullShare x15 ∗
      owns (c : Thread nD τ) arg16 fullShare x16 ∗
      owns (c : Thread nD τ) arg17 fullShare (dp (⟨x1, x2, x3, x4, x5, x6, x7, x8, x9, x10, x11, x12, x13, x14, x15, x16⟩ : In F)) ∗
      owns (c : Thread nD τ) arg18 fullShare (dout (⟨x1, x2, x3, x4, x5, x6, x7, x8, x9, x10, x11, x12, x13, x14, x15, x16⟩ : In F)) ∗
      owns (c : Thread nD τ) arg19 fullShare (dq (⟨x1, x2, x3, x4, x5, x6, x7, x8, x9, x10, x11, x12, x13, x14, x15, x16⟩ : In F)) ∗
      owns (c : Thread nD τ) arg20 fullShare (gt (⟨x1, x2, x3, x4, x5, x6, x7, x8, x9, x10, x11, x12, x13, x14, x15, x16⟩ : In F) d28) ∗
      owns (c : Thread nD τ) arg21 fullShare (dact (⟨x1, x2, x3, x4, x5, x6, x7, x8, x9, x10, x11, x12, x13, x14, x15, x16⟩ : In F)) ∗
      owns (c : Thread nD τ) arg22 fullShare (attW (⟨x1, x2, x3, x4, x5, x6, x7, x8, x9, x10, x11, x12, x13, x14, x15, x16⟩ : In F)) ∗
      owns (c : Thread nD τ) arg23 fullShare (mergedW (⟨x1, x2, x3, x4, x5, x6, x7, x8, x9, x10, x11, x12, x13, x14, x15, x16⟩ : In F)) ∗
      owns (c : Thread nD τ) arg24 fullShare (dya (⟨x1, x2, x3, x4, x5, x6, x7, x8, x9, x10, x11, x12, x13, x14, x15, x16⟩ : In F)) ∗
      owns (c : Thread nD τ) arg25 fullShare (dybW (⟨x1, x2, x3, x4, x5, x6, x7, x8, x9, x10, x11, x12, x13, x14, x15, x16⟩ : In F)) ∗
      owns (c : Thread nD τ) arg26 fullShare (dyW (⟨x1, x2, x3, x4, x5, x6, x7, x8, x9, x10, x11, x12, x13, x14, x15, x16⟩ : In F)) ∗
      owns (c : Thread nD τ) arg27 fullShare (acc (⟨x1, x2, x3, x4, x5, x6, x7, x8, x9, x10, x11, x12, x13, x14, x15, x16⟩ : In F) d27) ∗
      owns (c : Thread nD τ) arg28 fullShare (st0 (⟨x1, x2, x3, x4, x5, x6, x7, x8, x9, x10, x11, x12, x13, x14, x15, x16⟩ : In F) d28) -∗ K ⟨⟩)) ⊢
    wp frame (wpE (defs₀ (F := F)) Variants.none c none) E (cc0_mix_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  have h := run_next arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 c i (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread d17) (harg18.unread d18) (harg19.unread d19) (harg20.unread d20) (harg21.unread d21) (harg22.unread d22) (harg23.unread d23) (harg24.unread d24) (harg25.unread d25) (harg26.unread d26) (harg27.unread d27) (harg28.unread d28) E K hc
  simp only [Memref.IsWhole.read_unread, In.of_eq] at h
  rw [show View.ld d28 (Rect.unit (s := S128x1024) ![0, 0] S128x1024.size inb_S128x1024_S128x1024_0_0) = d28 from View.ld_unit_zero zero2 _ _] at h
  simp only [owns_unread c _ harg1, owns_unread c _ harg2, owns_unread c _ harg3, owns_unread c _ harg4, owns_unread c _ harg5, owns_unread c _ harg6, owns_unread c _ harg7, owns_unread c _ harg8, owns_unread c _ harg9, owns_unread c _ harg10, owns_unread c _ harg11, owns_unread c _ harg12, owns_unread c _ harg13, owns_unread c _ harg14, owns_unread c _ harg15, owns_unread c _ harg16, owns_unread c _ harg17, owns_unread c _ harg18, owns_unread c _ harg19, owns_unread c _ harg20, owns_unread c _ harg21, owns_unread c _ harg22, owns_unread c _ harg23, owns_unread c _ harg24, owns_unread c _ harg25, owns_unread c _ harg26, owns_unread c _ harg27, owns_unread c _ harg28] at h ⊢
  exact h

/-- The body at a tile: from the input blocks, and — past the first tile — the column sums `A` and the state gradient
    `G` left by the tile before, it leaves the tile's outputs. The first tile starts both at zero. -/
theorem body (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S2x128x1024 .f32) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x1x1024 .f32) (harg16 : arg16.IsWhole) (arg17 : Memref sig .tc .vmem S256x3072 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S2x128x1024 .f32) (harg20 : arg20.IsWhole) (arg21 : Memref sig .tc .vmem S256x1024 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S8x1024 .f32) (harg27 : arg27.IsWhole) (arg28 : Memref sig .tc .vmem S128x1024 .f32) (harg28 : arg28.IsWhole)
    (c : Dev nD) (i : grid0.Coords) (x1 : Vec F S256x1024 .f32) (x2 : Vec F S256x1024 .f32) (x3 : Vec F S256x1024 .f32) (x4 : Vec F S256x1024 .f32) (x5 : Vec F S256x1024 .bf16) (x6 : Vec F S256x1024 .f32) (x7 : Vec F S2x128x1024 .f32) (x8 : Vec F S256x1024 .bf16) (x9 : Vec F S1024x1024 .bf16) (x10 : Vec F S1024x1024 .bf16) (x11 : Vec F S1024x1024 .bf16) (x12 : Vec F S1x1024 .f32) (x13 : Vec F S1x1024 .f32) (x14 : Vec F S1x1024 .f32) (x15 : Vec F S256x1024 .f32) (x16 : Vec F S2x1x1024 .f32) (d17 : Vec F S256x3072 .bf16) (d18 : Vec F S256x1024 .f32) (d19 : Vec F S256x1024 .f32) (d20 : Vec F S2x128x1024 .f32) (d21 : Vec F S256x1024 .f32) (d22 : Vec F S256x1024 .bf16) (d23 : Vec F S256x1024 .bf16) (d24 : Vec F S256x1024 .bf16) (d25 : Vec F S256x1024 .bf16) (d26 : Vec F S256x1024 .bf16) (d27 : Vec F S8x1024 .f32) (d28 : Vec F S128x1024 .f32)
    (E : Set ℕ) (K : PUnit → sProp 𝕄) (A : Vec F S8x1024 .f32) (G : Vec F S128x1024 .f32)
    (h₁ : cond i → A = k0_pay2 ∧ G = k0_pay3) (h₂ : ¬ cond i → d27 = A ∧ d28 = G) :
    iprop(owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare x11 ∗
      owns (c : Thread nD τ) arg12 fullShare x12 ∗
      owns (c : Thread nD τ) arg13 fullShare x13 ∗
      owns (c : Thread nD τ) arg14 fullShare x14 ∗
      owns (c : Thread nD τ) arg15 fullShare x15 ∗
      owns (c : Thread nD τ) arg16 fullShare x16 ∗
      owns (c : Thread nD τ) arg17 fullShare d17 ∗
      owns (c : Thread nD τ) arg18 fullShare d18 ∗
      owns (c : Thread nD τ) arg19 fullShare d19 ∗
      owns (c : Thread nD τ) arg20 fullShare d20 ∗
      owns (c : Thread nD τ) arg21 fullShare d21 ∗
      owns (c : Thread nD τ) arg22 fullShare d22 ∗
      owns (c : Thread nD τ) arg23 fullShare d23 ∗
      owns (c : Thread nD τ) arg24 fullShare d24 ∗
      owns (c : Thread nD τ) arg25 fullShare d25 ∗
      owns (c : Thread nD τ) arg26 fullShare d26 ∗
      owns (c : Thread nD τ) arg27 fullShare d27 ∗
      owns (c : Thread nD τ) arg28 fullShare d28 ∗
      (owns (c : Thread nD τ) arg1 fullShare x1 ∗
      owns (c : Thread nD τ) arg2 fullShare x2 ∗
      owns (c : Thread nD τ) arg3 fullShare x3 ∗
      owns (c : Thread nD τ) arg4 fullShare x4 ∗
      owns (c : Thread nD τ) arg5 fullShare x5 ∗
      owns (c : Thread nD τ) arg6 fullShare x6 ∗
      owns (c : Thread nD τ) arg7 fullShare x7 ∗
      owns (c : Thread nD τ) arg8 fullShare x8 ∗
      owns (c : Thread nD τ) arg9 fullShare x9 ∗
      owns (c : Thread nD τ) arg10 fullShare x10 ∗
      owns (c : Thread nD τ) arg11 fullShare x11 ∗
      owns (c : Thread nD τ) arg12 fullShare x12 ∗
      owns (c : Thread nD τ) arg13 fullShare x13 ∗
      owns (c : Thread nD τ) arg14 fullShare x14 ∗
      owns (c : Thread nD τ) arg15 fullShare x15 ∗
      owns (c : Thread nD τ) arg16 fullShare x16 ∗
      owns (c : Thread nD τ) arg17 fullShare (dp (⟨x1, x2, x3, x4, x5, x6, x7, x8, x9, x10, x11, x12, x13, x14, x15, x16⟩ : In F)) ∗
      owns (c : Thread nD τ) arg18 fullShare (dout (⟨x1, x2, x3, x4, x5, x6, x7, x8, x9, x10, x11, x12, x13, x14, x15, x16⟩ : In F)) ∗
      owns (c : Thread nD τ) arg19 fullShare (dq (⟨x1, x2, x3, x4, x5, x6, x7, x8, x9, x10, x11, x12, x13, x14, x15, x16⟩ : In F)) ∗
      owns (c : Thread nD τ) arg20 fullShare (gt (⟨x1, x2, x3, x4, x5, x6, x7, x8, x9, x10, x11, x12, x13, x14, x15, x16⟩ : In F) G) ∗
      owns (c : Thread nD τ) arg21 fullShare (dact (⟨x1, x2, x3, x4, x5, x6, x7, x8, x9, x10, x11, x12, x13, x14, x15, x16⟩ : In F)) ∗
      owns (c : Thread nD τ) arg22 fullShare (attW (⟨x1, x2, x3, x4, x5, x6, x7, x8, x9, x10, x11, x12, x13, x14, x15, x16⟩ : In F)) ∗
      owns (c : Thread nD τ) arg23 fullShare (mergedW (⟨x1, x2, x3, x4, x5, x6, x7, x8, x9, x10, x11, x12, x13, x14, x15, x16⟩ : In F)) ∗
      owns (c : Thread nD τ) arg24 fullShare (dya (⟨x1, x2, x3, x4, x5, x6, x7, x8, x9, x10, x11, x12, x13, x14, x15, x16⟩ : In F)) ∗
      owns (c : Thread nD τ) arg25 fullShare (dybW (⟨x1, x2, x3, x4, x5, x6, x7, x8, x9, x10, x11, x12, x13, x14, x15, x16⟩ : In F)) ∗
      owns (c : Thread nD τ) arg26 fullShare (dyW (⟨x1, x2, x3, x4, x5, x6, x7, x8, x9, x10, x11, x12, x13, x14, x15, x16⟩ : In F)) ∗
      owns (c : Thread nD τ) arg27 fullShare (acc (⟨x1, x2, x3, x4, x5, x6, x7, x8, x9, x10, x11, x12, x13, x14, x15, x16⟩ : In F) A) ∗
      owns (c : Thread nD τ) arg28 fullShare (st0 (⟨x1, x2, x3, x4, x5, x6, x7, x8, x9, x10, x11, x12, x13, x14, x15, x16⟩ : In F) G) -∗ K ⟨⟩)) ⊢
    wp frame (wpE (defs₀ (F := F)) Variants.none c none) E (cc0_mix_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  by_cases hc : cond i
  · rw [(h₁ hc).1, (h₁ hc).2]
    exact body_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 c i x1 x2 x3 x4 x5 x6 x7 x8 x9 x10 x11 x12 x13 x14 x15 x16 d17 d18 d19 d20 d21 d22 d23 d24 d25 d26 d27 d28 E K hc
  · rw [← (h₂ hc).1, ← (h₂ hc).2]
    exact body_next arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 c i x1 x2 x3 x4 x5 x6 x7 x8 x9 x10 x11 x12 x13 x14 x15 x16 d17 d18 d19 d20 d21 d22 d23 d24 d25 d26 d27 d28 E K hc

end Cert.KernelIdeal.Mix

end
-- ==== Proof.Carry.lean ====
/-
  The launch, over any float values: what each window holds before and after each tile, the column sums and the
  state gradient carried from tile to tile, and from the body's run at every tile the run of the whole program.
-/
module

public import proofs.«01_k».proof.Proof.Body
public import proofs.«01_k».proof.Proof.Gen.KernelIdeal.Frame
public import Idealize.ShloMosaic.Lib.Claim
public import Idealize.ShloMosaic.Lib.WordCmp

@[expose] public section

set_option maxRecDepth 16384
set_option maxHeartbeats 1000000

noncomputable section

namespace Cert.KernelIdeal.Mix

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of tile `t`. -/
def tile (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The column sums and the state gradient when `n` tiles are done. -/
def carried (c : Dev nD) : (n : ℕ) → n ≤ cfg0.N → Vec F S8x1024 .f32 × Vec F S128x1024 .f32
  | 0, _ => (k0_pay2, k0_pay3)
  | n + 1, h => (acc (tile m c ⟨n, h⟩) (carried c n (Nat.le_of_succ_le h)).1,
      st0 (tile m c ⟨n, h⟩) (carried c n (Nat.le_of_succ_le h)).2)

theorem carried_succ (c : Dev nD) (n : ℕ) (h : n + 1 ≤ cfg0.N) : carried m c (n + 1) h
    = (acc (tile m c ⟨n, h⟩) (carried m c n (Nat.le_of_succ_le h)).1, st0 (tile m c ⟨n, h⟩) (carried m c n (Nat.le_of_succ_le h)).2) := by
  rw [carried]

/-- The body takes its first branch at the first tile only. -/
theorem cond_iff (t : Fin cfg0.N) : cond (grid0.coords t) ↔ t.val = 0 := by
  have ht : t.val < 16 := Nat.lt_of_lt_of_eq t.isLt N_0
  have e0 : (grid0.coords t 0).val = t.val / 1 % 16 := Pipeline.Grid.coords_val t 0 (by decide) rfl
  have h : cond (grid0.coords t) ↔ t.val % 16 = 0 := by
    simp only [cond, e0]
    word_cmp
  rw [h]
  omega

/-- The carried state gradient's buffer. -/
abbrev scratch : Memref sig .tc .vmem S128x1024 .f32 := Memref.whole cc0_scratch0

/-- What holds between tiles: the state gradient is the carried one once a tile is done. -/
def Inv (c : Dev nD) (n : ℕ) (h : n ≤ cfg0.N) : sProp 𝕄 :=
  iprop(∃ d, ⌜n ≠ 0 → d = (carried m c n h).2⌝ ∗ (owns (c : Thread nD τ) scratch fullShare d ∗ (∃ r, prngReg c r)))

/-- The launch's own buffers: the carried state gradient's, at any contents, and the generator. -/
theorem own_buffers (c : Dev nD) : (Pipeline.ΦA spec0 c : sProp 𝕄)
    = iprop((∃ d, owns (c : Thread nD τ) scratch fullShare d) ∗ (∃ r, prngReg c r)) := by
  unfold Pipeline.ΦA
  rw [scopedRest0_eq]
  simp only [scratch, owns_whole]
  rfl

/-- What each window's array holds at the start and what the body leaves in each window at each tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => dp (tile m c t)
    | ⟨17, _⟩ => dout (tile m c t)
    | ⟨18, _⟩ => dq (tile m c t)
    | ⟨19, _⟩ => gt (tile m c t) (carried m c t.val (Nat.le_of_lt t.isLt)).2
    | ⟨20, _⟩ => dact (tile m c t)
    | ⟨21, _⟩ => attW (tile m c t)
    | ⟨22, _⟩ => mergedW (tile m c t)
    | ⟨23, _⟩ => dya (tile m c t)
    | ⟨24, _⟩ => dybW (tile m c t)
    | ⟨25, _⟩ => dyW (tile m c t)
    | ⟨26, _⟩ => acc (tile m c t) (carried m c t.val (Nat.le_of_lt t.isLt)).1
    | ⟨_ + 27, h⟩ => absurd h (Nat.not_lt.2 (Nat.le_add_left _ _))
  Φ t := Inv m c t.val (Nat.le_of_lt_succ t.isLt)
  q w := Pipeline.shareOf spec0 w
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = dp (tile m c t) := by dsimp only [dats]
theorem after17 (c : Dev nD) (t : Fin cfg0.N) : (dats m 0 c).after 17 t = dout (tile m c t) := by dsimp only [dats]
theorem after18 (c : Dev nD) (t : Fin cfg0.N) : (dats m 0 c).after 18 t = dq (tile m c t) := by dsimp only [dats]
theorem after19 (c : Dev nD) (t : Fin cfg0.N) : (dats m 0 c).after 19 t = gt (tile m c t) (carried m c t.val (Nat.le_of_lt t.isLt)).2 := by dsimp only [dats]
theorem after20 (c : Dev nD) (t : Fin cfg0.N) : (dats m 0 c).after 20 t = dact (tile m c t) := by dsimp only [dats]
theorem after21 (c : Dev nD) (t : Fin cfg0.N) : (dats m 0 c).after 21 t = attW (tile m c t) := by dsimp only [dats]
theorem after22 (c : Dev nD) (t : Fin cfg0.N) : (dats m 0 c).after 22 t = mergedW (tile m c t) := by dsimp only [dats]
theorem after23 (c : Dev nD) (t : Fin cfg0.N) : (dats m 0 c).after 23 t = dya (tile m c t) := by dsimp only [dats]
theorem after24 (c : Dev nD) (t : Fin cfg0.N) : (dats m 0 c).after 24 t = dybW (tile m c t) := by dsimp only [dats]
theorem after25 (c : Dev nD) (t : Fin cfg0.N) : (dats m 0 c).after 25 t = dyW (tile m c t) := by dsimp only [dats]
theorem after26 (c : Dev nD) (t : Fin cfg0.N) : (dats m 0 c).after 26 t = acc (tile m c t) (carried m c t.val (Nat.le_of_lt t.isLt)).1 := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d
theorem before6 (c : Dev nD) (t : Fin cfg0.N) (d) : (dats m 0 c).before 6 t d = iblk m c 6 t :=
  before0_6_of m (dats m 0 c) (arrays m c 6) (after6 m c) t d
theorem before7 (c : Dev nD) (t : Fin cfg0.N) (d) : (dats m 0 c).before 7 t d = iblk m c 7 t :=
  before0_7_of m (dats m 0 c) (arrays m c 7) (after7 m c) t d
theorem before8 (c : Dev nD) (t : Fin cfg0.N) (d) : (dats m 0 c).before 8 t d = iblk m c 8 t :=
  before0_8_of m (dats m 0 c) (arrays m c 8) (after8 m c) t d
theorem before9 (c : Dev nD) (t : Fin cfg0.N) (d) : (dats m 0 c).before 9 t d = iblk m c 9 t :=
  before0_9_of m (dats m 0 c) (arrays m c 9) (after9 m c) t d
theorem before10 (c : Dev nD) (t : Fin cfg0.N) (d) : (dats m 0 c).before 10 t d = iblk m c 10 t :=
  before0_10_of m (dats m 0 c) (arrays m c 10) (after10 m c) t d
theorem before11 (c : Dev nD) (t : Fin cfg0.N) (d) : (dats m 0 c).before 11 t d = iblk m c 11 t :=
  before0_11_of m (dats m 0 c) (arrays m c 11) (after11 m c) t d
theorem before12 (c : Dev nD) (t : Fin cfg0.N) (d) : (dats m 0 c).before 12 t d = iblk m c 12 t :=
  before0_12_of m (dats m 0 c) (arrays m c 12) (after12 m c) t d
theorem before13 (c : Dev nD) (t : Fin cfg0.N) (d) : (dats m 0 c).before 13 t d = iblk m c 13 t :=
  before0_13_of m (dats m 0 c) (arrays m c 13) (after13 m c) t d
theorem before14 (c : Dev nD) (t : Fin cfg0.N) (d) : (dats m 0 c).before 14 t d = iblk m c 14 t :=
  before0_14_of m (dats m 0 c) (arrays m c 14) (after14 m c) t d
theorem before15 (c : Dev nD) (t : Fin cfg0.N) (d) : (dats m 0 c).before 15 t d = iblk m c 15 t :=
  before0_15_of m (dats m 0 c) (arrays m c 15) (after15 m c) t d

/-- Past the first tile the column sums' window holds what the tile before left. -/
theorem before26 (c : Dev nD) (t : Fin cfg0.N) (h : t.val ≠ 0) (d) :
    (dats m 0 c).before 26 t d = (carried m c t.val (Nat.le_of_lt t.isLt)).1 := by
  have ht : t.val < 16 := Nat.lt_of_lt_of_eq t.isLt N_0
  rw [Dat.before_out_kept _ 26 rfl t (by omega)
    (Bool.eq_false_iff.mpr fun h => by have := (flush0_26 _).mp h; dsimp only at this; omega) (fun _ => rfl) (fun _ _ => rfl)]
  obtain ⟨n, hn⟩ := t
  cases n with
  | zero => exact absurd rfl h
  | succ n =>
    rw [after26, carried_succ]
    sl_kernel_rfl

/-- What the body finds at tile `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- What the body leaves at tile `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

/-- The body at any tile. -/
theorem at_tile (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26,
    show (dats m 0 c).Φ t.castSucc = Inv m c t.val (Nat.le_of_lt t.isLt) from rfl,
    show (dats m 0 c).Φ t.succ = Inv m c (t.val + 1) t.isLt from rfl]
  unfold Inv
  iintro ⟨⟨%g, %hg, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    ((dats m 0 c).before 16 t d16) ((dats m 0 c).before 17 t d17) ((dats m 0 c).before 18 t d18) ((dats m 0 c).before 19 t d19) ((dats m 0 c).before 20 t d20) ((dats m 0 c).before 21 t d21) ((dats m 0 c).before 22 t d22) ((dats m 0 c).before 23 t d23) ((dats m 0 c).before 24 t d24) ((dats m 0 c).before 25 t d25) ((dats m 0 c).before 26 t d26) g Set.univ _
    (carried m c t.val (Nat.le_of_lt t.isLt)).1 (carried m c t.val (Nat.le_of_lt t.isLt)).2
    (fun h => by
      have h0 := (cond_iff t).mp h
      obtain ⟨n, hn⟩ := t
      obtain rfl : n = 0 := h0
      exact ⟨rfl, rfl⟩)
    (fun h => ⟨before26 m c t (fun h0 => h ((cond_iff t).mpr h0)) d26, hg (fun h0 => h ((cond_iff t).mpr h0))⟩))
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  isplitl [H26]
  · iexact H26
  isplitl [HS]
  · iexact HS
  iintro ⟨H0, H1, H2, H3, H4, H5, H6, H7, H8, H9, H10, H11, H12, H13, H14, H15, H16, H17, H18, H19, H20, H21, H22, H23, H24, H25, H26, HS⟩
  isplitl [HS Hg]
  · iexists _
    isplitr
    swap
    · isplitl [HS]
      · iexact HS
      · iexact Hg
    ipureintro
    intro _
    rw [carried_succ]
    sl_kernel_rfl
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  iexact H26

theorem row (t : Fin cfg0.N) : defs₀ (F := F) .tc cfg0.body (cfg0.bodyArgs t (cfg0.slots t)) = bodyAt0 t := by
  unfold defs₀
  rw [Defs.onTc_tc]

theorem obligation (c : Dev nD) : BodyObligation (dats (F := F) m 0 c) (defs₀ (F := F)) Variants.none () Set.univ := fun t => by
  rw [bigSep_W0, bigSep_W0, row]
  exact triple_restated (at_tile m c t) rfl .rfl fun _ => .rfl

theorem enter (c : Dev nD) : Pipeline.ΦA spec0 c ⊢ (dats m 0 c).Φ 0 := by
  rw [show (dats m 0 c).Φ 0 = Inv m c 0 (Nat.zero_le _) from rfl, own_buffers]
  unfold Inv
  iintro ⟨⟨%d, H⟩, Hg⟩
  iexists d
  isplitr
  swap
  · isplitl [H]
    · iexact H
    · iexact Hg
  ipureintro
  intro h
  exact absurd rfl h

theorem leave (c : Dev nD) : (dats m 0 c).Φ (Fin.last cfg0.N) ⊢ Pipeline.ΦA spec0 c := by
  rw [show (dats m 0 c).Φ (Fin.last cfg0.N) = Inv m c cfg0.N le_rfl from rfl, own_buffers]
  unfold Inv
  iintro ⟨%d, -, H, Hg⟩
  isplitl [H]
  · iexists d
    iexact H
  · iexact Hg

set_option backward.isDefEq.respectTransparency.types false in
/-- The program's run: every array ends at what the windows' write-backs leave in it, every semaphore at zero. -/
theorem run : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hin := enter m) (hout := leave m)

end Cert.KernelIdeal.Mix

end
-- ==== Proof.Frames.lean ====
/-
  The frames: every run ends, with every argument as it was and every semaphore at zero.
-/
module

public import proofs.«01_k».proof.Defs
public import proofs.«01_k».proof.Proof.Carry
public import proofs.«01_k».proof.Proof.Gen.Kernel.Launch
public import proofs.«01_k».proof.Proof.Gen.ReferenceIdeal.Run
public import Idealize.ShloMosaic.Lib.Quiescent
public import Idealize.ShloMosaic.Lib.Tactic

@[expose] public section

set_option maxRecDepth 16384
set_option maxHeartbeats 1000000

noncomputable section

namespace Cert.Frames

open Idealize.ShloMosaic Idealize.ShloMosaic.Tactic Idealize.SL.Sem

/-- The arguments end as they were, and every semaphore at zero. -/
def Kept {F : FTy → Type} [FloatOps F] (m : (ℓ : Loc KernelIdeal.nD KernelIdeal.τ KernelIdeal.sig) → Buf (Elt F) ℓ)
    (ρ : Dev KernelIdeal.nD → PrngReg) : Prop :=
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0) ∧
        r.2.mem ((c.tc : Thread KernelIdeal.nD KernelIdeal.τ).loc KernelIdeal.main_arg1) = m ((c.tc : Thread KernelIdeal.nD KernelIdeal.τ).loc KernelIdeal.main_arg1) ∧
        r.2.mem ((c.tc : Thread KernelIdeal.nD KernelIdeal.τ).loc KernelIdeal.main_arg2) = m ((c.tc : Thread KernelIdeal.nD KernelIdeal.τ).loc KernelIdeal.main_arg2) ∧
        r.2.mem ((c.tc : Thread KernelIdeal.nD KernelIdeal.τ).loc KernelIdeal.main_arg3) = m ((c.tc : Thread KernelIdeal.nD KernelIdeal.τ).loc KernelIdeal.main_arg3) ∧
        r.2.mem ((c.tc : Thread KernelIdeal.nD KernelIdeal.τ).loc KernelIdeal.main_arg4) = m ((c.tc : Thread KernelIdeal.nD KernelIdeal.τ).loc KernelIdeal.main_arg4) ∧
        r.2.mem ((c.tc : Thread KernelIdeal.nD KernelIdeal.τ).loc KernelIdeal.main_arg5) = m ((c.tc : Thread KernelIdeal.nD KernelIdeal.τ).loc KernelIdeal.main_arg5) ∧
        r.2.mem ((c.tc : Thread KernelIdeal.nD KernelIdeal.τ).loc KernelIdeal.main_arg6) = m ((c.tc : Thread KernelIdeal.nD KernelIdeal.τ).loc KernelIdeal.main_arg6) ∧
        r.2.mem ((c.tc : Thread KernelIdeal.nD KernelIdeal.τ).loc KernelIdeal.main_arg7) = m ((c.tc : Thread KernelIdeal.nD KernelIdeal.τ).loc KernelIdeal.main_arg7) ∧
        r.2.mem ((c.tc : Thread KernelIdeal.nD KernelIdeal.τ).loc KernelIdeal.main_arg8) = m ((c.tc : Thread KernelIdeal.nD KernelIdeal.τ).loc KernelIdeal.main_arg8) ∧
        r.2.mem ((c.tc : Thread KernelIdeal.nD KernelIdeal.τ).loc KernelIdeal.main_arg9) = m ((c.tc : Thread KernelIdeal.nD KernelIdeal.τ).loc KernelIdeal.main_arg9) ∧
        r.2.mem ((c.tc : Thread KernelIdeal.nD KernelIdeal.τ).loc KernelIdeal.main_arg10) = m ((c.tc : Thread KernelIdeal.nD KernelIdeal.τ).loc KernelIdeal.main_arg10) ∧
        r.2.mem ((c.tc : Thread KernelIdeal.nD KernelIdeal.τ).loc KernelIdeal.main_arg11) = m ((c.tc : Thread KernelIdeal.nD KernelIdeal.τ).loc KernelIdeal.main_arg11) ∧
        r.2.mem ((c.tc : Thread KernelIdeal.nD KernelIdeal.τ).loc KernelIdeal.main_arg12) = m ((c.tc : Thread KernelIdeal.nD KernelIdeal.τ).loc KernelIdeal.main_arg12) ∧
        r.2.mem ((c.tc : Thread KernelIdeal.nD KernelIdeal.τ).loc KernelIdeal.main_arg13) = m ((c.tc : Thread KernelIdeal.nD KernelIdeal.τ).loc KernelIdeal.main_arg13))
      ∧ r.2.sem = fun _ => 0)

theorem kept {F : FTy → Type} [FloatOps F] (m : (ℓ : Loc KernelIdeal.nD KernelIdeal.τ KernelIdeal.sig) → Buf (Elt F) ℓ)
    (ρ : Dev KernelIdeal.nD → PrngReg) : Kept m ρ :=
  θ_run_and (KernelIdeal.Gen.frame_of m ρ (KernelIdeal.Mix.dats m) (KernelIdeal.Mix.arrays m)
      ((θ_run KernelIdeal.defs _ _).mono (fun _ h => h.1) (KernelIdeal.Mix.run m ρ)))
    ((θ_run KernelIdeal.defs _ _).mono (fun _ h => h.2) (KernelIdeal.Mix.run m ρ))

theorem kernel_ideal : Cert.quiescent_KernelIdeal (hKernelIdeal := KernelIdeal.Gen.facts) :=
  fun m ρ _ => kept m ρ

theorem kernel : Cert.quiescent_Kernel (hKernel := Kernel.Gen.facts) :=

  cast (show (∀ m ρ, Cert.Pre_Kernel m → Kept (F := Bits) m ρ) = Cert.quiescent_Kernel (hKernel := Kernel.Gen.facts) by
    sl_kernel_rfl) fun m ρ _ => kept m ρ

theorem reference : Cert.quiescent_ReferenceIdeal (hReferenceIdeal := ReferenceIdeal.Gen.facts) :=
  fun m ρ _ => (θ_run ReferenceIdeal.defs _ _).mono
    (fun r h => ⟨fun c => (h c).2.2.2.2.2.2.2.2.2.2.2, sem_eq_zero_of_no_sems rfl r.2⟩) (ReferenceIdeal.Value.run m ρ)

end Cert.Frames

end
-- ==== Proof.Plain.lean ====
/-
  The tile's values written plainly: each head's norm and its derivative, the heads side by side, the products of a
  chunk, as functions of their operands; and the body's values as these. What the body spells out head by head is
  one function of the head here.
-/
module

public import proofs.«01_k».proof.Proof.Tile
public import Idealize.ShloMosaic.Lib.Tactic

@[expose] public section

set_option maxRecDepth 16384
set_option maxHeartbeats 1000000

noncomputable section

namespace Cert.KernelIdeal.Mix

open Idealize.ShloMosaic Idealize.ShloMosaic.Tactic Cert.KernelIdeal.Gen

variable {F : FTy → Type} [FloatOps F]

theorem slices_head (h : Fin 8) : S256x1024.Slices ![0, 128 * h.val] S256x128 := by
  revert h; decide
theorem slices_block (r : Fin 2) (h : Fin 8) : S256x1024.Slices ![128 * r.val, 128 * h.val] S128x128 := by
  revert r h; decide
theorem slices_state (h : Fin 8) : S128x1024.Slices ![0, 128 * h.val] S128x128 := by
  revert h; decide

/-- The lanes of one head. -/
def head (x : FVec F S256x1024 .f32) (h : Fin 8) : FVec F S256x128 .f32 :=
  extractStridedSlice S256x128 ![0, 128 * h.val] x (slices_head h)
/-- One chunk's rows of one head. -/
def block {φ : FTy} (x : FVec F S256x1024 φ) (r : Fin 2) (h : Fin 8) : FVec F S128x128 φ :=
  extractStridedSlice S128x128 ![128 * r.val, 128 * h.val] x (slices_block r h)
/-- One head of a chunk's state. -/
def stHead {φ : FTy} (s : FVec F S128x1024 φ) (h : Fin 8) : FVec F S128x128 φ :=
  extractStridedSlice S128x128 ![0, 128 * h.val] s (slices_state h)

/-- The sums along the rows, as a column. -/
def rowSum {n : Nat} (hr : (⟨2, ![256, n]⟩ : Shape).Reduces [1] S256) (x : FVec F ⟨2, ![256, n]⟩ .f32) : FVec F S256x1 .f32 :=
  shapeCast S256x1 (multiReduction .add [1] S256 x 0x00000000#32 hr (.inl rfl) rfl) shapeCasts_S256_S256x1

/-- A norm's width, with its count as a float word. -/
structure Width where
  n : Nat
  word : BitVec 32
  sums : (⟨2, ![256, n]⟩ : Shape).Reduces [1] S256
  spreads : S256x1.Broadcasts ⟨2, ![256, n]⟩
  ne : n ≠ 1

def w128 : Width := ⟨128, 0x43000000#32, reduces_S256x128_S256, broadcasts_S256x1_S256x128, by decide⟩
def w1024 : Width := ⟨1024, 0x44800000#32, reduces_S256x1024_S256, broadcasts_S256x1_S256x1024, by decide⟩

section Norm
variable (w : Width) (x d : FVec F ⟨2, ![256, w.n]⟩ .f32)

/-- The mean square and the norm's constant. -/
def meanSq : FVec F S256x1 .f32 :=
  addf (divf (rowSum w.sums (mulf x x)) (broadcast S256x1 (Scalar.ofBits .f32 w.word)))
    (broadcast S256x1 (Scalar.ofBits .f32 0x358637BD#32))
/-- The norm's factor, and its derivative by the mean square. -/
def fac : FVec F S256x1 .f32 := rsqrt (meanSq w x)
def dfac : FVec F S256x1 .f32 :=
  mulf (broadcast S256x1 (Scalar.ofBits .f32 0xBF000000#32)) (divf (fac w x) (meanSq w x))
def norm : FVec F ⟨2, ![256, w.n]⟩ .f32 := mulf x (broadcastTo ⟨2, ![256, w.n]⟩ (fac w x) w.spreads)
/-- What each square gets of the cotangent. -/
def part : FVec F S256x1 .f32 :=
  rowSum (n := 1) reduces_S256x1_S256 (divf (mulf (rowSum w.sums (mulf x d)) (dfac w x)) (broadcast S256x1 (Scalar.ofBits .f32 w.word)))
/-- The norm's derivative, applied to a cotangent. -/
def normBack : FVec F ⟨2, ![256, w.n]⟩ .f32 :=
  addf (addf (mulf d (broadcastTo ⟨2, ![256, w.n]⟩ (fac w x) w.spreads))
      (mulf x (broadcastTo ⟨2, ![256, w.n]⟩ (part w x d) w.spreads)))
    (mulf (broadcastTo ⟨2, ![256, w.n]⟩ (part w x d) w.spreads) x)
end Norm

/-- Eight heads side by side, of a tile and of a chunk. -/
def cat (x : Fin 8 → FVec F S256x128 .f32) : FVec F S256x1024 .f32 :=
  concatenate S256x1024 1 [⟨S256x128, x 0⟩, ⟨S256x128, x 1⟩, ⟨S256x128, x 2⟩, ⟨S256x128, x 3⟩, ⟨S256x128, x 4⟩, ⟨S256x128, x 5⟩,
    ⟨S256x128, x 6⟩, ⟨S256x128, x 7⟩] concatenates_S256x128_S256x128_S256x128_S256x128_S256x128_S256x128_S256x128_S256x128_S256x1024_d1
def catC (x : Fin 8 → FVec F S128x128 .f32) : FVec F S128x1024 .f32 :=
  concatenate S128x1024 1 [⟨S128x128, x 0⟩, ⟨S128x128, x 1⟩, ⟨S128x128, x 2⟩, ⟨S128x128, x 3⟩, ⟨S128x128, x 4⟩, ⟨S128x128, x 5⟩,
    ⟨S128x128, x 6⟩, ⟨S128x128, x 7⟩] concatenates_S128x128_S128x128_S128x128_S128x128_S128x128_S128x128_S128x128_S128x128_S128x1024_d1

/-- Zeros of some width. -/
def zeros (n : Nat) : FVec F ⟨2, ![256, n]⟩ .f32 := broadcast _ (Scalar.ofBits .f32 0x00000000#32)

/-- A head in its place among zeros: the first head, the last head, and a head between `a` and `c` columns of zeros. -/
def padFirst (v : FVec F S256x128 .f32) : FVec F S256x1024 .f32 :=
  concatenate S256x1024 1 [⟨S256x128, v⟩, ⟨S256x896, zeros 896⟩] concatenates_S256x128_S256x896_S256x1024_d1
def padLast (v : FVec F S256x128 .f32) : FVec F S256x1024 .f32 :=
  concatenate S256x1024 1 [⟨S256x896, zeros 896⟩, ⟨S256x128, v⟩] concatenates_S256x896_S256x128_S256x1024_d1
def padMid (a b c : Nat) (h₁ : Shape.Concatenates [⟨2, ![256, a]⟩, S256x128] ⟨2, ![256, b]⟩ 1)
    (h₂ : Shape.Concatenates [⟨2, ![256, b]⟩, ⟨2, ![256, c]⟩] S256x1024 1) (v : FVec F S256x128 .f32) : FVec F S256x1024 .f32 :=
  concatenate S256x1024 1 [⟨⟨2, ![256, b]⟩, concatenate ⟨2, ![256, b]⟩ 1 [⟨⟨2, ![256, a]⟩, zeros a⟩, ⟨S256x128, v⟩] h₁⟩,
    ⟨⟨2, ![256, c]⟩, zeros c⟩] h₂

/-- The heads added up, each in its place, the last first. -/
def padSum (v : Fin 8 → FVec F S256x128 .f32) : FVec F S256x1024 .f32 :=
  addf (addf (addf (addf (addf (addf (addf (padLast (v 7))
      (padMid 768 896 128 concatenates_S256x768_S256x128_S256x896_d1 concatenates_S256x896_S256x128_S256x1024_d1 (v 6)))
      (padMid 640 768 256 concatenates_S256x640_S256x128_S256x768_d1 concatenates_S256x768_S256x256_S256x1024_d1 (v 5)))
      (padMid 512 640 384 concatenates_S256x512_S256x128_S256x640_d1 concatenates_S256x640_S256x384_S256x1024_d1 (v 4)))
      (padMid 384 512 512 concatenates_S256x384_S256x128_S256x512_d1 concatenates_S256x512_S256x512_S256x1024_d1 (v 3)))
      (padMid 256 384 640 concatenates_S256x256_S256x128_S256x384_d1 concatenates_S256x384_S256x640_S256x1024_d1 (v 2)))
      (padMid 128 256 768 concatenates_S256x128_S256x128_S256x256_d1 concatenates_S256x256_S256x768_S256x1024_d1 (v 1)))
    (padFirst (v 0))

/-- The products of a tile with a matrix, and with its transpose. -/
def times (x : FVec F S256x1024 .bf16) (m : FVec F S1024x1024 .bf16) : FVec F S256x1024 .f32 :=
  matmul dot_S256x1024_S1024x1024_S256x1024_1_0_0_1_n_n none x m (constant S256x1024 .f32 0x00000000#32)
def timesT (x : FVec F S256x1024 .bf16) (m : FVec F S1024x1024 .bf16) : FVec F S256x1024 .f32 :=
  matmul dot_S256x1024_S1024x1024_S256x1024_1_1_0_0_n_n none x m (constant S256x1024 .f32 0x00000000#32)
/-- The three products of a chunk's blocks. -/
def blockNT (x y : FVec F S128x128 .bf16) : FVec F S128x128 .f32 :=
  matmul dot_S128x128_S128x128_S128x128_1_1_0_0_n_n none x y (constant S128x128 .f32 0x00000000#32)
def blockNN (x y : FVec F S128x128 .bf16) : FVec F S128x128 .f32 :=
  matmul dot_S128x128_S128x128_S128x128_1_0_0_1_n_n none x y (constant S128x128 .f32 0x00000000#32)
def blockTN (x y : FVec F S128x128 .bf16) : FVec F S128x128 .f32 :=
  matmul dot_S128x128_S128x128_S128x128_0_0_1_1_n_n none x y (constant S128x128 .f32 0x00000000#32)

def narrow {s : Shape} (x : FVec F s .f32) : FVec F s .bf16 := truncf .bf16 x bitsLt_bf16_f32
def wide (x : FVec F S1x1024 .f32) : FVec F S256x1024 .f32 := broadcastTo S256x1024 x broadcasts_S1x1024_S256x1024
/-- The sums down the columns, as a row. -/
def colSum (x : FVec F S256x1024 .f32) : FVec F S1x1024 .f32 :=
  shapeCast S1x1024 (multiReduction .add [0] S1024 x 0x00000000#32 reduces_S256x1024_S1024 (.inl rfl) rfl) shapeCasts_S1024_S1x1024
/-- A chunk's state, narrowed. -/
def state (s : Vec F S1x128x1024 .f32) : FVec F S128x1024 .bf16 := narrow (shapeCast S128x1024 s shapeCasts_S1x128x1024_S128x1024)

variable (X : In F)

theorem o_eq : o X = addf (concatenate S256x1024 0
    [⟨S128x1024, catC fun h => blockNT (block X.qe 0 h) (stHead (state (stA X)) h)⟩,
     ⟨S128x1024, catC fun h => blockNT (block X.qe 1 h) (stHead (state (stB X)) h)⟩] concatenates_S128x1024_S128x1024_S256x1024_d0) X.intra := by
  sl_kernel_rfl
theorem att_eq : att X = mulf (mulf (cat fun h => norm w128 (head (o X) h)) (wide X.hg)) (mulf X.og (logistic X.og)) := by
  sl_kernel_rfl
theorem ya_eq : ya X = times (narrow (att X)) X.wa := by sl_kernel_rfl
theorem yb_eq : yb X = times X.act X.wb := by sl_kernel_rfl
theorem merged_eq : mergedW X = narrow (addf (mulf (logistic X.ga) (ya X)) (mulf (logistic X.gb) (yb X))) := by sl_kernel_rfl
theorem attW_eq : attW X = narrow (att X) := by sl_kernel_rfl
theorem y_eq : y X = times (mergedW X) X.wo := by sl_kernel_rfl
/-- The incoming cotangent as the body reads it. -/
def dxIn : FVec F S256x1024 .f32 := shapeCast S256x1024 X.dx shapeCasts_S256x1024_S256x1024
theorem cot_eq : cot X = mulf (mulf (wide X.g1) (dxIn X)) (wide X.post) := by sl_kernel_rfl
theorem dgateTile_eq : dgateTile X = colSum (mulf (dxIn X) (mulf (norm w1024 (y X)) (wide X.post))) := by sl_kernel_rfl
theorem dpostTile_eq : dpostTile X = colSum (mulf (norm w1024 (y X)) (mulf (wide X.g1) (dxIn X))) := by sl_kernel_rfl
theorem dyW_eq : dyW X = narrow (normBack w1024 (y X) (cot X)) := by sl_kernel_rfl
/-- Cotangent of the merge. -/
def dm : FVec F S256x1024 .f32 := timesT (dyW X) X.wo
/-- A sigmoid's derivative, from the sigmoid. -/
def slope (x : FVec F S256x1024 .f32) : FVec F S256x1024 .f32 :=
  mulf (logistic x) (subf (broadcast S256x1024 (Scalar.ofBits .f32 0x3F800000#32)) (logistic x))
theorem dga_eq : dga X = mulf (mulf (dm X) (ya X)) (slope X.ga) := by sl_kernel_rfl
theorem dgb_eq : dgb X = mulf (mulf (dm X) (yb X)) (slope X.gb) := by sl_kernel_rfl
theorem dgaW_eq : dgaW X = narrow (dga X) := by sl_kernel_rfl
theorem dgbW_eq : dgbW X = narrow (dgb X) := by sl_kernel_rfl
theorem dya_eq : dya X = narrow (mulf (logistic X.ga) (dm X)) := by sl_kernel_rfl
theorem dyb_eq : dyb X = mulf (logistic X.gb) (dm X) := by sl_kernel_rfl
theorem dybW_eq : dybW X = narrow (dyb X) := by sl_kernel_rfl
theorem dact_eq : dact X = timesT (dybW X) X.wb := by sl_kernel_rfl
theorem da_eq : da X = timesT (dya X) X.wa := by sl_kernel_rfl
theorem heads_eq : heads X = cat fun h => norm w128 (head (o X) h) := by sl_kernel_rfl
theorem dog_eq : dog X = addf (mulf (mulf (mulf (heads X) (wide X.hg)) (da X)) (logistic X.og))
    (mulf (mulf X.og (mulf (mulf (heads X) (wide X.hg)) (da X))) (slope X.og)) := by sl_kernel_rfl
theorem dogW_eq : dogW X = narrow (dog X) := by sl_kernel_rfl
theorem dgainTile_eq : dgainTile X = colSum (mulf (heads X) (mulf (da X) (mulf X.og (logistic X.og)))) := by sl_kernel_rfl
/-- Cotangent of the normed heads. -/
def dheads : FVec F S256x1024 .f32 := mulf (mulf (da X) (mulf X.og (logistic X.og))) (wide X.hg)
theorem dout_eq : dout X = padSum fun h => normBack w128 (head (o X) h) (head (dheads X) h) := by sl_kernel_rfl
theorem dob_eq : dob X = narrow (dout X) := by sl_kernel_rfl
theorem dq0_eq : dq0 X = catC fun h => blockNN (block (dob X) 0 h) (stHead (state (stA X)) h) := by sl_kernel_rfl
theorem dq1_eq : dq1 X = catC fun h => blockNN (block (dob X) 1 h) (stHead (state (stB X)) h) := by sl_kernel_rfl
/-- What a chunk adds to the gradient of the state it finds. -/
def upd (r : Fin 2) : FVec F S128x1024 .f32 := catC fun h => blockTN (block (dob X) r h) (block X.qe r h)
/-- A chunk's decays, of each state row the same. -/
def decRow (d : Vec F S1x1x1024 .f32) : FVec F S128x1024 .f32 :=
  broadcastTo S128x1024 (shapeCast S1x1024 d shapeCasts_S1x1x1024_S1x1024) broadcasts_S1x1024_S128x1024
theorem st1_eq (G : FVec F S128x1024 .f32) : st1 X G = shapeCast S128x1024 (addf (mulf (decRow (decB X)) G) (upd X 1)) shapeCasts_S128x1024_S128x1024 := by
  sl_kernel_rfl
theorem st0_eq (G : FVec F S128x1024 .f32) : st0 X G = shapeCast S128x1024 (addf (mulf (decRow (decA X)) (st1 X G)) (upd X 0)) shapeCasts_S128x1024_S128x1024 := by
  sl_kernel_rfl

end Cert.KernelIdeal.Mix

end
-- ==== Proof.Spec.lean ====
/- The mathematics of one token's row in the gradient of the gated merge, over the extended reals: the forward
   stages (what the row reads of its chunk's state, the head norm and output gate, the gated merge, the residual's
   norm), their derivatives in the order the chain rule takes them, and the two sums that run over rows. Both
   programs are read down to these functions. -/
module

public import Idealize.ShloMosaic.PureOps.Ideal
public import Idealize.ShloMosaic.PureOps.Ideal.Laws

@[expose] public section

noncomputable section

namespace Cert.Mix

open Idealize.ShloMosaic
open scoped BigOperators

/-- A row of 1024 features. -/
abbrev Row := Fin 1024 → EReal

/-- The column of lane `k` of head `h`. -/
def col (h : Fin 8) (k : Fin 128) : Fin 1024 := ⟨128 * h.val + k.val, by omega⟩
/-- The head of a column. -/
def headOf (j : Fin 1024) : Fin 8 := ⟨j.val / 128, by omega⟩
/-- The lane of a column inside its head. -/
def laneOf (j : Fin 1024) : Fin 128 := ⟨j.val % 128, by omega⟩

@[simp] theorem col_headOf_laneOf (j : Fin 1024) : col (headOf j) (laneOf j) = j :=
  Fin.ext (Nat.div_add_mod j.val 128)
@[simp] theorem headOf_col (h : Fin 8) (k : Fin 128) : headOf (col h k) = h :=
  Fin.ext (by show (128 * h.val + k.val) / 128 = h.val; omega)
@[simp] theorem laneOf_col (h : Fin 8) (k : Fin 128) : laneOf (col h k) = k :=
  Fin.ext (by show (128 * h.val + k.val) % 128 = k.val; omega)

/-- The constants, as the values of the programs' float words: 1e-6, 128, 1024, -1/2 and 1. -/
abbrev eps : EReal := Ideal.ofBits .f32 0x358637BD#32
abbrev c128 : EReal := Ideal.ofBits .f32 0x43000000#32
abbrev c1024 : EReal := Ideal.ofBits .f32 0x44800000#32
abbrev mhalf : EReal := Ideal.ofBits .f32 0xBF000000#32
abbrev one : EReal := Ideal.ofBits .f32 0x3F800000#32

/-- The mean square of `n` numbers (`N` is their count as a float) plus the norm's constant. -/
def msq (N : EReal) {n : Nat} (x : Fin n → EReal) : EReal := Ideal.div (∑ k, x k * x k) N + eps
/-- The norm's factor, the reciprocal root. -/
def inv (N : EReal) {n : Nat} (x : Fin n → EReal) : EReal := Ideal.rsqrt (msq N x)
/-- The derivative of the factor by the mean square. -/
def dinv (N : EReal) {n : Nat} (x : Fin n → EReal) : EReal := mhalf * Ideal.div (inv N x) (msq N x)
/-- What each element's square gets of the cotangent `d` of the normed vector. -/
def share (N : EReal) {n : Nat} (x d : Fin n → EReal) : EReal := Ideal.div ((∑ k, x k * d k) * dinv N x) N
/-- The derivative of `x ↦ x * inv x`, applied to the cotangent `d`. -/
def back (N : EReal) {n : Nat} (x d : Fin n → EReal) (k : Fin n) : EReal :=
  d k * inv N x + x k * share N x d + share N x d * x k

/-- The lanes of head `h` of a row. -/
def lanes (x : Row) (h : Fin 8) : Fin 128 → EReal := fun k => x (col h k)

def sig (x : EReal) : EReal := Ideal.logistic x
def silu (x : EReal) : EReal := x * sig x
/-- The derivative of the sigmoid, from the sigmoid. -/
def dsig (x : EReal) : EReal := sig x * (one - sig x)

/-- Row times matrix, and row times the matrix transposed. -/
def mul (x : Row) (w : Fin 1024 → Row) : Row := fun j => ∑ k, x k * w k j
def mulT (x : Row) (w : Fin 1024 → Row) : Row := fun j => ∑ k, x k * w j k

/-- What a decayed query reads of its chunk's incoming state, plus the chunk's own part. -/
def out (q : Row) (s : Fin 128 → Row) (intra : Row) : Row :=
  fun j => (∑ k, q (col (headOf j) k) * s (laneOf j) (col (headOf j) k)) + intra j
/-- The heads' norm. -/
def heads (o : Row) : Row := fun j => o j * inv c128 (lanes o (headOf j))
/-- The head norm's gain and the output gate. -/
def gated (o og hg : Row) : Row := fun j => heads o j * hg j * silu (og j)
/-- The gated merge of the two branches. -/
def merged (ga gb ya yb : Row) : Row := fun j => sig (ga j) * ya j + sig (gb j) * yb j
/-- The residual branch's norm. -/
def normed (y : Row) : Row := fun j => y j * inv c1024 y

/-- The residual's derivative: by the gate, by the norm's gain, by the mixer's output. -/
def dgate (y post dx : Row) : Row := fun j => dx j * (normed y j * post j)
def dpost (y g dx : Row) : Row := fun j => normed y j * (g j * dx j)
def dy (y g post dx : Row) : Row := fun j => back c1024 y (fun k => g k * dx k * post k) j
/-- The merge's derivative by a gate and by a branch, from the cotangent of the merge. -/
def dgateBranch (g y dm : Row) : Row := fun j => dm j * y j * dsig (g j)
def dbranch (g dm : Row) : Row := fun j => sig (g j) * dm j
/-- The gated head norm's derivative: by the output gate, by the gain, by the heads. -/
def dog (o og hg da : Row) : Row :=
  fun j => heads o j * hg j * da j * sig (og j) + og j * (heads o j * hg j * da j) * dsig (og j)
def dgain (o og da : Row) : Row := fun j => heads o j * (da j * silu (og j))
def dout (o og hg da : Row) : Row :=
  fun j => back c128 (lanes o (headOf j)) (lanes (fun c => da c * silu (og c) * hg c) (headOf j)) (laneOf j)
/-- The derivative by the query. -/
def dquery (d : Row) (s : Fin 128 → Row) : Row := fun j => ∑ v, d (col (headOf j) v) * s v j
/-- The derivative by the chunk's incoming state, from the chunk's 128 rows. -/
def dstate (d q : Fin 128 → Row) : Fin 128 → Row := fun v j => ∑ i, d i (col (headOf j) v) * q i j

/-- What one row of the step gets: everything the calls' results hold of it. -/
structure RowData where
  q : Row
  s : Fin 128 → Row
  intra : Row
  og : Row
  ga : Row
  gb : Row
  act : Row
  dx : Row

/-- The weights and gains, the same for each row. -/
structure Weights where
  wa : Fin 1024 → Row
  wb : Fin 1024 → Row
  wo : Fin 1024 → Row
  hg : Row
  g1 : Row
  post : Row

variable (W : Weights) (r : RowData)

def rO : Row := out r.q r.s r.intra
def rA : Row := gated (rO r) r.og W.hg
def rYa : Row := mul (rA W r) W.wa
def rYb : Row := mul r.act W.wb
def rM : Row := merged r.ga r.gb (rYa W r) (rYb W r)
def rY : Row := mul (rM W r) W.wo
def rDy : Row := dy (rY W r) W.g1 W.post r.dx
def rDm : Row := mulT (rDy W r) W.wo
def rDga : Row := dgateBranch r.ga (rYa W r) (rDm W r)
def rDgb : Row := dgateBranch r.gb (rYb W r) (rDm W r)
def rDya : Row := dbranch r.ga (rDm W r)
def rDyb : Row := dbranch r.gb (rDm W r)
def rDact : Row := mulT (rDyb W r) W.wb
def rDa : Row := mulT (rDya W r) W.wa
def rDog : Row := dog (rO r) r.og W.hg (rDa W r)
def rDo : Row := dout (rO r) r.og W.hg (rDa W r)
def rDq : Row := dquery (rDo W r) r.s
def rDgain : Row := dgain (rO r) r.og (rDa W r)
def rDgate : Row := dgate (rY W r) W.post r.dx
def rDpost : Row := dpost (rY W r) W.g1 r.dx

end Cert.Mix

end
-- ==== Proof.Reads.lean ====
/- The programs' operations read at an index, at the shapes this proof meets: slices of columns, a broadcast of a
   column or of a row, sums along a row or down a column, the three matrix products, eight heads side by side. -/
module

public import Idealize.ShloMosaic.Lib.Pipeline.Value
public import Idealize.ShloMosaic.Lib.MatmulPlain
public import Idealize.ShloMosaic.Lib.Pointwise.Reduce
public import Idealize.ShloMosaic.Lib.ValueIdx
public import proofs.«01_k».proof.Proof.Spec

@[expose] public section

noncomputable section

namespace Cert.Mix

open Idealize.ShloMosaic hiding ix1 ix2 ix3 ix4
open Idealize.ShloMosaic.ValueIdx
open scoped BigOperators

theorem slice_apply {α : Type} {m n m' n' : Nat} {r c : Nat} (x : (⟨2, ![m, n]⟩ : Shape).Idx → α)
    (hp : (⟨2, ![m, n]⟩ : Shape).Slices ![r, c] ⟨2, ![m', n']⟩) (i : Fin m') (j : Fin n') (i' : Fin m) (j' : Fin n)
    (hi : i'.val = r + i.val) (hj : j'.val = c + j.val) :
    extractStridedSlice ⟨2, ![m', n']⟩ ![r, c] x hp (ix2 i j) = x (ix2 i' j') :=
  extractStridedSlice_apply _ x hp _ _ fun a => by
    match a with
    | ⟨0, _⟩ => exact hi
    | ⟨1, _⟩ => exact hj

/-- A column broadcast along the rows' features. -/
theorem bcastCol_apply {α : Type} {m n : Nat} (x : (⟨2, ![m, 1]⟩ : Shape).Idx → α)
    (hp : (⟨2, ![m, 1]⟩ : Shape).Broadcasts ⟨2, ![m, n]⟩) (hm : m ≠ 1) (i : Fin m) (j : Fin n) :
    broadcastTo ⟨2, ![m, n]⟩ x hp (ix2 i j) = x (ix2 i 0) :=
  broadcastTo_apply x hp _ _ fun a => by
    match a with
    | ⟨0, _⟩ => exact (if_neg hm).symm
    | ⟨1, _⟩ => rfl

/-- A row broadcast down the rows. -/
theorem bcastRow_apply {α : Type} {m n : Nat} (x : (⟨2, ![1, n]⟩ : Shape).Idx → α)
    (hp : (⟨2, ![1, n]⟩ : Shape).Broadcasts ⟨2, ![m, n]⟩) (hn : n ≠ 1) (i : Fin m) (j : Fin n) :
    broadcastTo ⟨2, ![m, n]⟩ x hp (ix2 i j) = x (ix2 0 j) :=
  broadcastTo_apply x hp _ _ fun a => by
    match a with
    | ⟨0, _⟩ => rfl
    | ⟨1, _⟩ => exact (if_neg hn).symm

theorem castCol_apply {α : Type} {m : Nat} (x : (⟨1, ![m]⟩ : Shape).Idx → α)
    (hp : (⟨1, ![m]⟩ : Shape).ShapeCasts ⟨2, ![m, 1]⟩) (i : Fin m) (z : Fin 1) :
    shapeCast ⟨2, ![m, 1]⟩ x hp (ix2 i z) = x (ix1 i) :=
  shapeCast_apply x hp _ _ (by
    rw [Shape.rowMajor_val_one, Shape.rowMajor_val_two]
    show i.val = i.val * 1 + z.val
    omega)

theorem castRow_apply {α : Type} {n : Nat} (x : (⟨1, ![n]⟩ : Shape).Idx → α)
    (hp : (⟨1, ![n]⟩ : Shape).ShapeCasts ⟨2, ![1, n]⟩) (j : Fin n) (z : Fin 1) :
    shapeCast ⟨2, ![1, n]⟩ x hp (ix2 z j) = x (ix1 j) :=
  shapeCast_apply x hp _ _ (by
    rw [Shape.rowMajor_val_one, Shape.rowMajor_val_two]
    show j.val = z.val * n + j.val
    have : z.val = 0 := by omega
    rw [this]; omega)

theorem sumRow_apply {m n : Nat} (x : FVec Ideal ⟨2, ![m, n]⟩ .f32) (b : BitVec 32)
    (hp : (⟨2, ![m, n]⟩ : Shape).Reduces [1] ⟨1, ![m]⟩) (hf) (hb) (i : Fin m) :
    multiReduction .add [1] ⟨1, ![m]⟩ x b hp hf hb (ix1 i) = ∑ k, x (ix2 i k) :=
  Ideal.reduceAdd_r2_a1 hp x (ix1 i)

theorem sumCol_apply {m n : Nat} (x : FVec Ideal ⟨2, ![m, n]⟩ .f32) (b : BitVec 32)
    (hp : (⟨2, ![m, n]⟩ : Shape).Reduces [0] ⟨1, ![n]⟩) (hf) (hb) (j : Fin n) :
    multiReduction .add [0] ⟨1, ![n]⟩ x b hp hf hb (ix1 j) = ∑ k, x (ix2 k j) :=
  Ideal.reduceAdd_r2_a0 hp x (ix1 j)

/-- Eight heads of 128 lanes side by side: the column's head at the column's lane. -/
theorem concat8_apply {α : Type} {m : Nat} (x : Fin 8 → (⟨2, ![m, 128]⟩ : Shape).Idx → α)
    (hp) (i : Fin m) (j : Fin 1024) :
    concatenate ⟨2, ![m, 1024]⟩ 1 [⟨⟨2, ![m, 128]⟩, x 0⟩, ⟨⟨2, ![m, 128]⟩, x 1⟩, ⟨⟨2, ![m, 128]⟩, x 2⟩, ⟨⟨2, ![m, 128]⟩, x 3⟩,
      ⟨⟨2, ![m, 128]⟩, x 4⟩, ⟨⟨2, ![m, 128]⟩, x 5⟩, ⟨⟨2, ![m, 128]⟩, x 6⟩, ⟨⟨2, ![m, 128]⟩, x 7⟩] hp (ix2 i j)
      = x (headOf j) (ix2 i (laneOf j)) := by
  refine concatenate_ofFn_apply (t := ⟨2, ![m, 1024]⟩) (s₁ := ⟨2, ![m, 128]⟩) 1 (N := 8) x hp rfl 128 rfl (ix2 i j) (headOf j) rfl
    (ix2 i (laneOf j)) rfl ?_
  intro b hb
  match b with
  | ⟨0, _⟩ => rfl
  | ⟨1, _⟩ => exact absurd rfl hb

end Cert.Mix

end
-- ==== Proof.PlainRead.lean ====
/-
  The tile's values over the extended reals, read at an element: each is the row's mathematics of Spec.lean.
-/
module

public import proofs.«01_k».proof.Proof.Plain
public import proofs.«01_k».proof.Proof.Spec
public import proofs.«01_k».proof.Proof.Reads

@[expose] public section

set_option maxRecDepth 16384
set_option maxHeartbeats 1000000

noncomputable section

namespace Cert.KernelIdeal.Mix

open Idealize.ShloMosaic hiding ix1 ix2 ix3 ix4
open Idealize.ShloMosaic.ValueIdx Idealize.ShloMosaic.Tactic Cert.KernelIdeal.Gen Cert.Mix
open scoped BigOperators

/-- The chunk of a tile's row, and its row inside the chunk. -/
def chunkOf (i : Fin 256) : Fin 2 := ⟨i.val / 128, by omega⟩
def inChunk (i : Fin 256) : Fin 128 := ⟨i.val % 128, by omega⟩
/-- Row `k` of chunk `r` of a tile. -/
def at2 (r : Fin 2) (k : Fin 128) : Fin 256 := ⟨128 * r.val + k.val, by omega⟩
@[simp] theorem at2_chunk (i : Fin 256) : at2 (chunkOf i) (inChunk i) = i := Fin.ext (Nat.div_add_mod i.val 128)
@[simp] theorem chunkOf_at2 (r : Fin 2) (k : Fin 128) : chunkOf (at2 r k) = r :=
  Fin.ext (by show (128 * r.val + k.val) / 128 = r.val; omega)
@[simp] theorem inChunk_at2 (r : Fin 2) (k : Fin 128) : inChunk (at2 r k) = k :=
  Fin.ext (by show (128 * r.val + k.val) % 128 = k.val; omega)

/-- A row of a tile. -/
def rowAt {n : Nat} (x : FVec Ideal ⟨2, ![256, n]⟩ .f32) (i : Fin 256) : Fin n → EReal := fun k => x (ix2 i k)

theorem head_apply (x : FVec Ideal S256x1024 .f32) (h : Fin 8) (i : Fin 256) (k : Fin 128) :
    head x h (ix2 i k) = x (ix2 i (col h k)) :=
  slice_apply x _ i k i (col h k) (Nat.zero_add _).symm rfl
theorem block_apply {φ : FTy} (x : FVec Ideal S256x1024 φ) (r : Fin 2) (h : Fin 8) (i k : Fin 128) :
    block x r h (ix2 i k) = x (ix2 (at2 r i) (col h k)) :=
  slice_apply x _ i k (at2 r i) (col h k) rfl rfl
theorem stHead_apply {φ : FTy} (s : FVec Ideal S128x1024 φ) (h : Fin 8) (v k : Fin 128) :
    stHead s h (ix2 v k) = s (ix2 v (col h k)) :=
  slice_apply s _ v k v (col h k) (Nat.zero_add _).symm rfl

theorem rowSum_apply {n : Nat} (hr : (⟨2, ![256, n]⟩ : Shape).Reduces [1] S256) (x : FVec Ideal ⟨2, ![256, n]⟩ .f32) (i : Fin 256)
    (z : Fin 1) : rowSum hr x (ix2 i z) = ∑ k, x (ix2 i k) :=
  (castCol_apply _ _ i z).trans (sumRow_apply x _ hr _ _ i)

section Norm
variable (w : Width) (x d : FVec Ideal ⟨2, ![256, w.n]⟩ .f32) (i : Fin 256)

theorem meanSq_apply (z : Fin 1) : meanSq w x (ix2 i z) = msq (Ideal.ofBits .f32 w.word) (rowAt x i) :=
  congrArg (fun s => Ideal.div s (Ideal.ofBits .f32 w.word) + eps) (rowSum_apply w.sums (mulf x x) i z)
theorem fac_apply (z : Fin 1) : fac w x (ix2 i z) = inv (Ideal.ofBits .f32 w.word) (rowAt x i) :=
  congrArg Ideal.rsqrt (meanSq_apply w x i z)
theorem dfac_apply (z : Fin 1) : dfac w x (ix2 i z) = dinv (Ideal.ofBits .f32 w.word) (rowAt x i) :=
  congrArg₂ (fun a b => mhalf * Ideal.div a b) (fac_apply w x i z) (meanSq_apply w x i z)
theorem norm_apply (k : Fin w.n) :
    norm w x (ix2 i k) = x (ix2 i k) * inv (Ideal.ofBits .f32 w.word) (rowAt x i) :=
  congrArg (x (ix2 i k) * ·) ((bcastCol_apply _ w.spreads (by decide) i k).trans (fac_apply w x i 0))
theorem part_apply : part w x d (ix2 i 0) = share (Ideal.ofBits .f32 w.word) (rowAt x i) (rowAt d i) := by
  refine (rowSum_apply _ _ i 0).trans ((Fin.sum_univ_one _).trans ?_)
  exact congrArg₂ (fun a b => Ideal.div (a * b) (Ideal.ofBits .f32 w.word)) (rowSum_apply w.sums (mulf x d) i 0) (dfac_apply w x i 0)
theorem normBack_apply (k : Fin w.n) :
    normBack w x d (ix2 i k) = back (Ideal.ofBits .f32 w.word) (rowAt x i) (rowAt d i) k := by
  have h₁ := (bcastCol_apply (fac w x) w.spreads (by decide) i k).trans (fac_apply w x i 0)
  have h₂ := (bcastCol_apply (part w x d) w.spreads (by decide) i k).trans (part_apply w x d i)
  exact congrArg₂ (fun a b => d (ix2 i k) * a + x (ix2 i k) * b + b * x (ix2 i k)) h₁ h₂
end Norm

theorem cat_apply (x : Fin 8 → FVec Ideal S256x128 .f32) (i : Fin 256) (j : Fin 1024) :
    cat x (ix2 i j) = x (headOf j) (ix2 i (laneOf j)) := concat8_apply x _ i j
theorem catC_apply (x : Fin 8 → FVec Ideal S128x128 .f32) (i : Fin 128) (j : Fin 1024) :
    catC x (ix2 i j) = x (headOf j) (ix2 i (laneOf j)) := concat8_apply x _ i j

theorem zeros_apply (n : Nat) (i : Fin 256) (j : Fin n) : zeros (F := Ideal) n (ix2 i j) = 0 := Ideal.ofBits_zero_f32

/-- Two blocks side by side. -/
theorem pair_left {a b c : Nat} (x : (⟨2, ![256, a]⟩ : Shape).Idx → EReal) (y : (⟨2, ![256, b]⟩ : Shape).Idx → EReal)
    (hp) (i : Fin 256) (j : Fin c) (hj : j.val < a) :
    concatenate ⟨2, ![256, c]⟩ 1 [⟨⟨2, ![256, a]⟩, x⟩, ⟨⟨2, ![256, b]⟩, y⟩] hp (ix2 i j) = x (ix2 i ⟨j.val, hj⟩) :=
  concatenate_pair_apply_left _ x y hp _ rfl _ fun b => by
    match b with
    | ⟨0, _⟩ => rfl
    | ⟨1, _⟩ => rfl
theorem pair_right {a b c : Nat} (x : (⟨2, ![256, a]⟩ : Shape).Idx → EReal) (y : (⟨2, ![256, b]⟩ : Shape).Idx → EReal)
    (hp) (i : Fin 256) (j : Fin c) (k : Fin b) (hk : k.val + a = j.val) :
    concatenate ⟨2, ![256, c]⟩ 1 [⟨⟨2, ![256, a]⟩, x⟩, ⟨⟨2, ![256, b]⟩, y⟩] hp (ix2 i j) = y (ix2 i k) :=
  concatenate_pair_apply_right _ x y hp _ rfl rfl _ (fun b hb => by
    match b with
    | ⟨0, _⟩ => rfl
    | ⟨1, _⟩ => exact absurd rfl hb) hk

/-- The column's value if it lies in head `h`, else zero. -/
def only (v : FVec Ideal S256x128 .f32) (h : Fin 8) (i : Fin 256) (j : Fin 1024) : EReal :=
  if headOf j = h then v (ix2 i (laneOf j)) else 0

theorem headOf_eq_iff (j : Fin 1024) (h : Fin 8) : headOf j = h ↔ 128 * h.val ≤ j.val ∧ j.val < 128 * h.val + 128 := by
  rw [Fin.ext_iff]; show j.val / 128 = h.val ↔ _; omega

theorem lane_add (j : Fin 1024) (h : Fin 8) (e : headOf j = h) : (laneOf j).val + 128 * h.val = j.val := by
  subst e; exact Nat.mod_add_div j.val 128

theorem padFirst_apply (v : FVec Ideal S256x128 .f32) (i : Fin 256) (j : Fin 1024) : padFirst v (ix2 i j) = only v 0 i j := by
  unfold only
  split
  · rename_i e
    have hj := ((headOf_eq_iff j 0).1 e).2
    refine (pair_left v _ _ i j (by simpa using hj)).trans (congrArg (fun k => v (ix2 i k)) (Fin.ext ?_))
    exact (lane_add j 0 e).symm
  · rename_i e
    have hj : 128 ≤ j.val := by by_contra hn; exact e ((headOf_eq_iff j 0).2 ⟨by simp, by simpa using hn⟩)
    exact (pair_right v _ _ i j ⟨j.val - 128, by omega⟩ (by show j.val - 128 + 128 = j.val; omega)).trans (zeros_apply _ _ _)
theorem padLast_apply (v : FVec Ideal S256x128 .f32) (i : Fin 256) (j : Fin 1024) : padLast v (ix2 i j) = only v 7 i j := by
  unfold only
  split
  · rename_i e
    exact pair_right _ v _ i j (laneOf j) (lane_add j 7 e)
  · rename_i e
    have hj : j.val < 896 := by
      by_contra hn
      exact e ((headOf_eq_iff j 7).2 ⟨by show 896 ≤ j.val; omega, by show j.val < 1024; omega⟩)
    exact (pair_left _ v _ i j hj).trans (zeros_apply _ _ _)
theorem padMid_apply (a b c : Nat) (h₁) (h₂) (h : Fin 8) (ha : 128 * h.val = a) (hb : a + 128 = b) (hc : b + c = 1024)
    (v : FVec Ideal S256x128 .f32) (i : Fin 256) (j : Fin 1024) : padMid a b c h₁ h₂ v (ix2 i j) = only v h i j := by
  unfold only
  split
  · rename_i e
    have hj := (headOf_eq_iff j h).1 e
    refine (pair_left _ _ _ i j (by omega)).trans (pair_right _ v _ i _ (laneOf j) ?_)
    show (laneOf j).val + a = j.val
    rw [← ha]; exact lane_add j h e
  · rename_i e
    by_cases hj : j.val < a
    · have hb' : j.val < b := by omega
      exact (pair_left _ _ _ i j hb').trans ((pair_left (zeros (F := Ideal) a) v h₁ i (⟨j.val, hb'⟩ : Fin b) hj).trans (zeros_apply _ _ _))
    · have : b ≤ j.val := by
        by_contra hn
        exact e ((headOf_eq_iff j h).2 ⟨by omega, by omega⟩)
      exact (pair_right _ _ _ i j ⟨j.val - b, by omega⟩ (by show j.val - b + b = j.val; omega)).trans (zeros_apply _ _ _)

theorem padSum_apply (v : Fin 8 → FVec Ideal S256x128 .f32) (i : Fin 256) (j : Fin 1024) :
    padSum v (ix2 i j) = v (headOf j) (ix2 i (laneOf j)) := by
  have e : padSum v (ix2 i j) = only (v 7) 7 i j + only (v 6) 6 i j + only (v 5) 5 i j + only (v 4) 4 i j + only (v 3) 3 i j
      + only (v 2) 2 i j + only (v 1) 1 i j + only (v 0) 0 i j := by
    rw [← padLast_apply, ← padFirst_apply,
      ← padMid_apply 768 896 128 concatenates_S256x768_S256x128_S256x896_d1 concatenates_S256x896_S256x128_S256x1024_d1 6 rfl rfl rfl,
      ← padMid_apply 640 768 256 concatenates_S256x640_S256x128_S256x768_d1 concatenates_S256x768_S256x256_S256x1024_d1 5 rfl rfl rfl,
      ← padMid_apply 512 640 384 concatenates_S256x512_S256x128_S256x640_d1 concatenates_S256x640_S256x384_S256x1024_d1 4 rfl rfl rfl,
      ← padMid_apply 384 512 512 concatenates_S256x384_S256x128_S256x512_d1 concatenates_S256x512_S256x512_S256x1024_d1 3 rfl rfl rfl,
      ← padMid_apply 256 384 640 concatenates_S256x256_S256x128_S256x384_d1 concatenates_S256x384_S256x640_S256x1024_d1 2 rfl rfl rfl,
      ← padMid_apply 128 256 768 concatenates_S256x128_S256x128_S256x256_d1 concatenates_S256x256_S256x768_S256x1024_d1 1 rfl rfl rfl]
    rfl
  rw [e]
  unfold only
  generalize headOf j = h
  generalize laneOf j = k
  fin_cases h <;> simp

theorem times_apply (x : FVec Ideal S256x1024 .bf16) (m : FVec Ideal S1024x1024 .bf16) (i : Fin 256) (j : Fin 1024) :
    times x m (ix2 i j) = ∑ k, x (ix2 i k) * m (ix2 k j) :=
  (Ideal.matmul_plain_apply none x m _ i j).trans ((congrArg (· + _) Ideal.ofBits_zero_f32).trans (zero_add _))
theorem timesT_apply (x : FVec Ideal S256x1024 .bf16) (m : FVec Ideal S1024x1024 .bf16) (i : Fin 256) (j : Fin 1024) :
    timesT x m (ix2 i j) = ∑ k, x (ix2 i k) * m (ix2 j k) :=
  (Ideal.matmul_transposedRhs_apply none x m _ i j).trans ((congrArg (· + _) Ideal.ofBits_zero_f32).trans (zero_add _))
theorem blockNN_apply (x y : FVec Ideal S128x128 .bf16) (i j : Fin 128) :
    blockNN x y (ix2 i j) = ∑ k, x (ix2 i k) * y (ix2 k j) :=
  (Ideal.matmul_plain_apply none x y _ i j).trans ((congrArg (· + _) Ideal.ofBits_zero_f32).trans (zero_add _))
theorem blockNT_apply (x y : FVec Ideal S128x128 .bf16) (i j : Fin 128) :
    blockNT x y (ix2 i j) = ∑ k, x (ix2 i k) * y (ix2 j k) :=
  (Ideal.matmul_transposedRhs_apply none x y _ i j).trans ((congrArg (· + _) Ideal.ofBits_zero_f32).trans (zero_add _))
theorem blockTN_apply (x y : FVec Ideal S128x128 .bf16) (i j : Fin 128) :
    blockTN x y (ix2 i j) = ∑ k, x (ix2 k i) * y (ix2 k j) := by
  let D := dot_S128x128_S128x128_S128x128_0_0_1_1_n_n
  let E := contrEquiv1 D 128 rfl rfl
  refine (Ideal.matmul_constant_zero_apply D none x y (ix2 i j)).trans ?_
  rw [← Equiv.sum_comp E.symm]
  refine Finset.sum_congr rfl fun k _ => ?_
  have hk := contrEquiv1_symm_val D 128 rfl rfl k
  have el : D.lhsIdx (ix2 i j) (E.symm k) = ix2 k i := by
    funext a; apply Fin.ext
    match a with
    | ⟨0, _⟩ => exact hk
    | ⟨1, _⟩ => rfl
  have er : D.rhsIdx (ix2 i j) (E.symm k) = ix2 k j := by
    funext a; apply Fin.ext
    match a with
    | ⟨0, _⟩ => exact hk
    | ⟨1, _⟩ => rfl
  rw [el, er]

theorem wide_apply (x : FVec Ideal S1x1024 .f32) (i : Fin 256) (j : Fin 1024) : wide x (ix2 i j) = x (ix2 0 j) :=
  bcastRow_apply x _ (by decide) i j
theorem colSum_apply (x : FVec Ideal S256x1024 .f32) (z : Fin 1) (j : Fin 1024) : colSum x (ix2 z j) = ∑ i, x (ix2 i j) :=
  (castRow_apply _ _ j z).trans (sumCol_apply x _ _ _ _ j)

end Cert.KernelIdeal.Mix

end
-- ==== Proof.TileRead.lean ====
/-
  What the body computes of a tile, read at an element: the row's result of Spec.lean, or a sum of them.
-/
module

public import proofs.«01_k».proof.Proof.PlainRead

@[expose] public section

set_option maxRecDepth 16384
set_option maxHeartbeats 1000000

noncomputable section

namespace Cert.KernelIdeal.Mix

open Idealize.ShloMosaic hiding ix1 ix2 ix3 ix4
open Idealize.ShloMosaic.ValueIdx Idealize.ShloMosaic.Tactic Cert.KernelIdeal.Gen Cert.Mix
open scoped BigOperators

variable (X : In Ideal)

/-- The weights of a tile, and its rows. -/
def weights : Weights where
  wa := fun k j => X.wa (ix2 k j)
  wb := fun k j => X.wb (ix2 k j)
  wo := fun k j => X.wo (ix2 k j)
  hg := fun j => X.hg (ix2 0 j)
  g1 := fun j => X.g1 (ix2 0 j)
  post := fun j => X.post (ix2 0 j)
def rowOf (i : Fin 256) : RowData where
  q := fun k => X.qe (ix2 i k)
  s := fun v j => X.st (ix3 (chunkOf i) v j)
  intra := fun j => X.intra (ix2 i j)
  og := fun j => X.og (ix2 i j)
  ga := fun j => X.ga (ix2 i j)
  gb := fun j => X.gb (ix2 i j)
  act := fun j => X.act (ix2 i j)
  dx := fun j => X.dx (ix2 i j)

/-- The incoming state of a chunk of the tile, and its decays. -/
def stOf (r : Fin 2) : Vec Ideal S1x128x1024 .f32 := ![stA X, stB X] r
def decOf (r : Fin 2) : Vec Ideal S1x1x1024 .f32 := ![decA X, decB X] r

theorem castState_apply {α : Type} (x : S1x128x1024.Idx → α) (v : Fin 128) (j : Fin 1024) :
    shapeCast S128x1024 x shapeCasts_S1x128x1024_S128x1024 (ix2 v j) = x (ix3 0 v j) :=
  shapeCast_apply x _ _ _ (by
    rw [Shape.rowMajor_val_three, Shape.rowMajor_val_two]
    show (0 * 128 + v.val) * 1024 + j.val = v.val * 1024 + j.val
    omega)
theorem castDec_apply {α : Type} (x : S1x1x1024.Idx → α) (j : Fin 1024) :
    shapeCast S1x1024 x shapeCasts_S1x1x1024_S1x1024 (ix2 0 j) = x (ix3 0 0 j) :=
  shapeCast_apply x _ _ _ (by
    rw [Shape.rowMajor_val_three, Shape.rowMajor_val_two]
    show (0 * 1 + 0) * 1024 + j.val = 0 * 1024 + j.val
    omega)

theorem stOf_apply (r : Fin 2) (v : Fin 128) (j : Fin 1024) : stOf X r (ix3 0 v j) = X.st (ix3 r v j) := by
  match r with
  | ⟨0, _⟩ =>
    refine congrArg X.st (funext fun a => Fin.ext ?_)
    match a with
    | ⟨0, _⟩ => rfl
    | ⟨1, _⟩ => exact (Nat.zero_add _).trans (Nat.one_mul _)
    | ⟨2, _⟩ => exact (Nat.zero_add _).trans (Nat.one_mul _)
  | ⟨1, _⟩ =>
    refine congrArg X.st (funext fun a => Fin.ext ?_)
    match a with
    | ⟨0, _⟩ => rfl
    | ⟨1, _⟩ => exact (Nat.zero_add _).trans (Nat.one_mul _)
    | ⟨2, _⟩ => exact (Nat.zero_add _).trans (Nat.one_mul _)
theorem decOf_apply (r : Fin 2) (j : Fin 1024) : decOf X r (ix3 0 0 j) = X.dec (ix3 r 0 j) := by
  match r with
  | ⟨0, _⟩ =>
    refine congrArg X.dec (funext fun a => Fin.ext ?_)
    match a with
    | ⟨0, _⟩ => rfl
    | ⟨1, _⟩ => rfl
    | ⟨2, _⟩ => exact (Nat.zero_add _).trans (Nat.one_mul _)
  | ⟨1, _⟩ =>
    refine congrArg X.dec (funext fun a => Fin.ext ?_)
    match a with
    | ⟨0, _⟩ => rfl
    | ⟨1, _⟩ => rfl
    | ⟨2, _⟩ => exact (Nat.zero_add _).trans (Nat.one_mul _)

theorem state_apply (r : Fin 2) (v : Fin 128) (j : Fin 1024) : state (stOf X r) (ix2 v j) = X.st (ix3 r v j) :=
  (castState_apply (stOf X r) v j).trans (stOf_apply X r v j)
theorem decRow_apply (r : Fin 2) (v : Fin 128) (j : Fin 1024) : decRow (decOf X r) (ix2 v j) = X.dec (ix3 r 0 j) :=
  (bcastRow_apply _ _ (by decide) v j).trans ((castDec_apply (decOf X r) j).trans (decOf_apply X r j))

/-- Two chunks, one below the other. -/
theorem chunks_apply (x : Fin 2 → FVec Ideal S128x1024 .f32) (hp) (i : Fin 256) (j : Fin 1024) :
    concatenate S256x1024 0 [⟨S128x1024, x 0⟩, ⟨S128x1024, x 1⟩] hp (ix2 i j) = x (chunkOf i) (ix2 (inChunk i) j) := by
  refine concatenate_ofFn_apply (t := S256x1024) (s₁ := S128x1024) 0 (N := 2) x hp rfl 128 rfl (ix2 i j) (chunkOf i) rfl
    (ix2 (inChunk i) j) rfl ?_
  intro b hb
  match b with
  | ⟨0, _⟩ => exact absurd rfl hb
  | ⟨1, _⟩ => rfl

/-- The query's product with the incoming state, of one chunk. -/
def reads (r : Fin 2) : FVec Ideal S128x1024 .f32 := catC fun h => blockNT (block X.qe r h) (stHead (state (stOf X r)) h)
theorem reads_apply (r : Fin 2) (i : Fin 128) (j : Fin 1024) :
    reads X r (ix2 i j) = ∑ k, X.qe (ix2 (at2 r i) (col (headOf j) k)) * X.st (ix3 r (laneOf j) (col (headOf j) k)) := by
  refine (catC_apply _ i j).trans ((blockNT_apply _ _ i (laneOf j)).trans (Finset.sum_congr rfl fun k _ => ?_))
  rw [block_apply, stHead_apply, state_apply]

theorem o_apply (i : Fin 256) (j : Fin 1024) : o X (ix2 i j) = rO (rowOf X i) j := by
  rw [o_eq]
  refine congrArg (· + X.intra (ix2 i j)) ((chunks_apply (reads X) _ i j).trans ((reads_apply X _ _ j).trans ?_))
  rw [at2_chunk]; rfl
theorem o_row (i : Fin 256) : rowAt (o X) i = rO (rowOf X i) := funext (o_apply X i)

theorem head_row (x : FVec Ideal S256x1024 .f32) (h : Fin 8) (i : Fin 256) : rowAt (head x h) i = lanes (rowAt x i) h :=
  funext (head_apply x h i)

theorem heads_apply (i : Fin 256) (j : Fin 1024) : heads X (ix2 i j) = Cert.Mix.heads (rO (rowOf X i)) j := by
  rw [heads_eq]
  refine (cat_apply _ i j).trans ((norm_apply w128 _ i (laneOf j)).trans ?_)
  refine congrArg₂ (fun a b => a * inv c128 b) ?_ ?_
  · exact (head_apply _ _ i _).trans ((o_apply X i _).trans (congrArg (rO (rowOf X i)) (col_headOf_laneOf j)))
  · rw [← o_row]; exact head_row _ _ _

theorem att_apply (i : Fin 256) (j : Fin 1024) : att X (ix2 i j) = rA (weights X) (rowOf X i) j := by
  rw [att_eq, ← heads_eq]
  exact congrArg₂ (fun a b => a * b * silu (X.og (ix2 i j))) (heads_apply X i j) (wide_apply X.hg i j)
theorem attW_apply (i : Fin 256) (j : Fin 1024) : attW X (ix2 i j) = rA (weights X) (rowOf X i) j := by
  rw [attW_eq]; exact att_apply X i j
theorem ya_apply (i : Fin 256) (j : Fin 1024) : ya X (ix2 i j) = rYa (weights X) (rowOf X i) j := by
  rw [ya_eq]
  exact (times_apply _ _ i j).trans (Finset.sum_congr rfl fun k _ => congrArg (· * X.wa (ix2 k j)) (att_apply X i k))
theorem yb_apply (i : Fin 256) (j : Fin 1024) : yb X (ix2 i j) = rYb (weights X) (rowOf X i) j := by
  rw [yb_eq]; exact times_apply _ _ i j
theorem merged_apply (i : Fin 256) (j : Fin 1024) : mergedW X (ix2 i j) = rM (weights X) (rowOf X i) j := by
  rw [merged_eq]
  exact congrArg₂ (fun a b => Cert.Mix.sig (X.ga (ix2 i j)) * a + Cert.Mix.sig (X.gb (ix2 i j)) * b) (ya_apply X i j) (yb_apply X i j)
theorem y_apply (i : Fin 256) (j : Fin 1024) : y X (ix2 i j) = rY (weights X) (rowOf X i) j := by
  rw [y_eq]
  exact (times_apply _ _ i j).trans (Finset.sum_congr rfl fun k _ => congrArg (· * X.wo (ix2 k j)) (merged_apply X i k))
theorem y_row (i : Fin 256) : rowAt (y X) i = rY (weights X) (rowOf X i) := funext (y_apply X i)

theorem dxIn_apply (i : Fin 256) (j : Fin 1024) : dxIn X (ix2 i j) = X.dx (ix2 i j) := by
  unfold dxIn; rw [shapeCast_self]
theorem cot_apply (i : Fin 256) (j : Fin 1024) :
    cot X (ix2 i j) = (weights X).g1 j * (rowOf X i).dx j * (weights X).post j := by
  rw [cot_eq]
  exact congrArg₂ (· * ·) (congrArg₂ (· * ·) (wide_apply X.g1 i j) (dxIn_apply X i j)) (wide_apply X.post i j)
theorem normed_apply (i : Fin 256) (j : Fin 1024) :
    norm w1024 (y X) (ix2 i j) = normed (rY (weights X) (rowOf X i)) j := by
  refine (norm_apply w1024 (y X) i j).trans ?_
  refine congrArg₂ (fun a b => a * inv c1024 b) (y_apply X i j) (y_row X i)
theorem dyW_apply (i : Fin 256) (j : Fin 1024) : dyW X (ix2 i j) = rDy (weights X) (rowOf X i) j := by
  rw [dyW_eq]
  refine (normBack_apply w1024 (y X) (cot X) i j).trans ?_
  exact congrArg₂ (fun a b => back c1024 a b j) (y_row X i) (funext (cot_apply X i))
theorem dm_apply (i : Fin 256) (j : Fin 1024) : dm X (ix2 i j) = rDm (weights X) (rowOf X i) j :=
  (timesT_apply _ _ i j).trans (Finset.sum_congr rfl fun k _ => congrArg (· * X.wo (ix2 j k)) (dyW_apply X i k))
theorem dga_apply (i : Fin 256) (j : Fin 1024) : dga X (ix2 i j) = rDga (weights X) (rowOf X i) j := by
  rw [dga_eq]
  exact congrArg₂ (fun a b => a * b * dsig (X.ga (ix2 i j))) (dm_apply X i j) (ya_apply X i j)
theorem dgb_apply (i : Fin 256) (j : Fin 1024) : dgb X (ix2 i j) = rDgb (weights X) (rowOf X i) j := by
  rw [dgb_eq]
  exact congrArg₂ (fun a b => a * b * dsig (X.gb (ix2 i j))) (dm_apply X i j) (yb_apply X i j)
theorem dgaW_apply (i : Fin 256) (j : Fin 1024) : dgaW X (ix2 i j) = rDga (weights X) (rowOf X i) j := by
  rw [dgaW_eq]; exact dga_apply X i j
theorem dgbW_apply (i : Fin 256) (j : Fin 1024) : dgbW X (ix2 i j) = rDgb (weights X) (rowOf X i) j := by
  rw [dgbW_eq]; exact dgb_apply X i j
theorem dya_apply (i : Fin 256) (j : Fin 1024) : dya X (ix2 i j) = rDya (weights X) (rowOf X i) j := by
  rw [dya_eq]; exact congrArg (Cert.Mix.sig (X.ga (ix2 i j)) * ·) (dm_apply X i j)
theorem dybW_apply (i : Fin 256) (j : Fin 1024) : dybW X (ix2 i j) = rDyb (weights X) (rowOf X i) j := by
  rw [dybW_eq, dyb_eq]; exact congrArg (Cert.Mix.sig (X.gb (ix2 i j)) * ·) (dm_apply X i j)
theorem dact_apply (i : Fin 256) (j : Fin 1024) : dact X (ix2 i j) = rDact (weights X) (rowOf X i) j := by
  rw [dact_eq]
  exact (timesT_apply _ _ i j).trans (Finset.sum_congr rfl fun k _ => congrArg (· * X.wb (ix2 j k)) (dybW_apply X i k))
theorem da_apply (i : Fin 256) (j : Fin 1024) : da X (ix2 i j) = rDa (weights X) (rowOf X i) j := by
  rw [da_eq]
  exact (timesT_apply _ _ i j).trans (Finset.sum_congr rfl fun k _ => congrArg (· * X.wa (ix2 j k)) (dya_apply X i k))
theorem dog_apply (i : Fin 256) (j : Fin 1024) : dog X (ix2 i j) = rDog (weights X) (rowOf X i) j := by
  have h : mulf (mulf (heads X) (wide X.hg)) (da X) (ix2 i j)
      = Cert.Mix.heads (rO (rowOf X i)) j * (weights X).hg j * rDa (weights X) (rowOf X i) j :=
    congrArg₂ (· * ·) (congrArg₂ (· * ·) (heads_apply X i j) (wide_apply X.hg i j)) (da_apply X i j)
  rw [dog_eq]
  exact congrArg (fun a => a * Cert.Mix.sig (X.og (ix2 i j)) + X.og (ix2 i j) * a * dsig (X.og (ix2 i j))) h
theorem dogW_apply (i : Fin 256) (j : Fin 1024) : dogW X (ix2 i j) = rDog (weights X) (rowOf X i) j := by
  rw [dogW_eq]; exact dog_apply X i j
theorem dheads_apply (i : Fin 256) (j : Fin 1024) :
    dheads X (ix2 i j) = rDa (weights X) (rowOf X i) j * silu ((rowOf X i).og j) * (weights X).hg j :=
  congrArg₂ (fun a b => a * silu (X.og (ix2 i j)) * b) (da_apply X i j) (wide_apply X.hg i j)
theorem dout_apply (i : Fin 256) (j : Fin 1024) : dout X (ix2 i j) = rDo (weights X) (rowOf X i) j := by
  rw [dout_eq]
  refine (padSum_apply _ i j).trans ((normBack_apply w128 _ _ i (laneOf j)).trans ?_)
  refine congrArg₂ (fun a b => back c128 a b (laneOf j)) ?_ ?_
  · rw [← o_row]; exact head_row _ _ _
  · refine (head_row _ _ _).trans (congrArg (fun a => lanes a (headOf j)) (funext (dheads_apply X i)))
theorem dob_apply (i : Fin 256) (j : Fin 1024) : dob X (ix2 i j) = rDo (weights X) (rowOf X i) j := by
  rw [dob_eq]; exact dout_apply X i j

/-- The query gradients of one chunk. -/
def dqOf (r : Fin 2) : FVec Ideal S128x1024 .f32 := catC fun h => blockNN (block (dob X) r h) (stHead (state (stOf X r)) h)
theorem dqOf_apply (r : Fin 2) (i : Fin 128) (j : Fin 1024) :
    dqOf X r (ix2 i j) = rDq (weights X) (rowOf X (at2 r i)) j := by
  refine (catC_apply _ i j).trans ((blockNN_apply _ _ i (laneOf j)).trans ?_)
  show _ = ∑ k, rDo (weights X) (rowOf X (at2 r i)) (col (headOf j) k) * X.st (ix3 (chunkOf (at2 r i)) k j)
  refine Finset.sum_congr rfl fun k _ => ?_
  rw [block_apply, stHead_apply, state_apply, dob_apply, col_headOf_laneOf]
  rw [chunkOf_at2]

theorem upd_apply (r : Fin 2) (v : Fin 128) (j : Fin 1024) :
    upd X r (ix2 v j) = dstate (fun i => rDo (weights X) (rowOf X (at2 r i))) (fun i => (rowOf X (at2 r i)).q) v j := by
  refine (catC_apply _ v j).trans ((blockTN_apply _ _ v (laneOf j)).trans (Finset.sum_congr rfl fun k _ => ?_))
  rw [block_apply, block_apply, dob_apply, col_headOf_laneOf]
  rfl

/-- One chunk's step of the state gradient. -/
theorem st1_apply (G : FVec Ideal S128x1024 .f32) (v : Fin 128) (j : Fin 1024) :
    st1 X G (ix2 v j) = X.dec (ix3 1 0 j) * G (ix2 v j)
      + dstate (fun i => rDo (weights X) (rowOf X (at2 1 i))) (fun i => (rowOf X (at2 1 i)).q) v j := by
  rw [st1_eq, shapeCast_self]
  exact congrArg₂ (fun a b => a * G (ix2 v j) + b) (decRow_apply X 1 v j) (upd_apply X 1 v j)
theorem st0_apply (G : FVec Ideal S128x1024 .f32) (v : Fin 128) (j : Fin 1024) :
    st0 X G (ix2 v j) = X.dec (ix3 0 0 j) * st1 X G (ix2 v j)
      + dstate (fun i => rDo (weights X) (rowOf X (at2 0 i))) (fun i => (rowOf X (at2 0 i)).q) v j := by
  rw [st0_eq, shapeCast_self]
  exact congrArg₂ (fun a b => a * st1 X G (ix2 v j) + b) (decRow_apply X 0 v j) (upd_apply X 0 v j)

theorem dgateTile_apply (j : Fin 1024) : dgateTile X (ix2 0 j) = ∑ i, rDgate (weights X) (rowOf X i) j := by
  rw [dgateTile_eq]
  refine (colSum_apply _ 0 j).trans (Finset.sum_congr rfl fun i _ => ?_)
  exact congrArg₂ (· * ·) (dxIn_apply X i j) (congrArg₂ (· * ·) (normed_apply X i j) (wide_apply X.post i j))
theorem dpostTile_apply (j : Fin 1024) : dpostTile X (ix2 0 j) = ∑ i, rDpost (weights X) (rowOf X i) j := by
  rw [dpostTile_eq]
  refine (colSum_apply _ 0 j).trans (Finset.sum_congr rfl fun i _ => ?_)
  exact congrArg₂ (· * ·) (normed_apply X i j) (congrArg₂ (· * ·) (wide_apply X.g1 i j) (dxIn_apply X i j))
theorem dgainTile_apply (j : Fin 1024) : dgainTile X (ix2 0 j) = ∑ i, rDgain (weights X) (rowOf X i) j := by
  rw [dgainTile_eq]
  refine (colSum_apply _ 0 j).trans (Finset.sum_congr rfl fun i _ => ?_)
  exact congrArg₂ (fun a b => a * (b * silu (X.og (ix2 i j)))) (heads_apply X i j) (da_apply X i j)

/-- The column sums' rows: what a tile adds to each. -/
theorem acc0_eq (A : FVec Ideal S8x1024 .f32) : acc0 X A = addf (shapeCast S1x1024 (v689 A) (by decide)) (dgateTile X) := by sl_kernel_rfl
theorem acc1_eq (A : FVec Ideal S8x1024 .f32) : acc1 X A = addf (shapeCast S1x1024 (v693 A) (by decide)) (dpostTile X) := by sl_kernel_rfl
theorem acc2_eq (A : FVec Ideal S8x1024 .f32) : acc2 X A = addf (shapeCast S1x1024 (v697 A) (by decide)) (dgainTile X) := by sl_kernel_rfl
theorem acc3_eq (A : FVec Ideal S8x1024 .f32) : acc3 X A = addf (shapeCast S1x1024 (v701 A) (by decide)) (colSum (dog X)) := by sl_kernel_rfl
theorem acc4_eq (A : FVec Ideal S8x1024 .f32) : acc4 X A = addf (shapeCast S1x1024 (v707 A) (by decide)) (colSum (dga X)) := by sl_kernel_rfl
theorem acc5_eq (A : FVec Ideal S8x1024 .f32) : acc5 X A = addf (shapeCast S1x1024 (v713 A) (by decide)) (colSum (dgb X)) := by sl_kernel_rfl

end Cert.KernelIdeal.Mix

end
-- ==== Proof.Call.lean ====
/-
  The whole call, from its argument arrays: each row's data, each chunk's decays, and the results as the rows' results,
  their sums, and the state gradient run back through the chunks.
-/
module

public import proofs.«01_k».proof.Proof.Spec
public import Idealize.ShloMosaic.Lib.Pipeline.Value
public import Idealize.ShloMosaic.Lib.MatmulPlain
public import Idealize.ShloMosaic.Lib.Pointwise.Reduce
public import Idealize.ShloMosaic.Lib.ValueIdx

@[expose] public section

set_option maxRecDepth 16384

noncomputable section

namespace Cert.Mix

open Idealize.ShloMosaic hiding ix1 ix2 ix3 ix4
open Idealize.ShloMosaic.ValueIdx
open scoped BigOperators

abbrev Mat (m n : Nat) := (⟨2, ![m, n]⟩ : Shape).Idx → EReal
abbrev Cube (l m n : Nat) := (⟨3, ![l, m, n]⟩ : Shape).Idx → EReal

/-- Row `i` of chunk `c`, and a row's chunk. -/
def rowIn (c : Fin 32) (i : Fin 128) : Fin 4096 := ⟨128 * c.val + i.val, by omega⟩
def chunk (r : Fin 4096) : Fin 32 := ⟨r.val / 128, by omega⟩
/-- A row's place in its chunk. -/
def place (r : Fin 4096) : Fin 128 := ⟨r.val % 128, by omega⟩
@[simp] theorem rowIn_chunk_place (r : Fin 4096) : rowIn (chunk r) (place r) = r := Fin.ext (Nat.div_add_mod r.val 128)
@[simp] theorem chunk_rowIn (c : Fin 32) (i : Fin 128) : chunk (rowIn c i) = c :=
  Fin.ext (by show (128 * c.val + i.val) / 128 = c.val; omega)
@[simp] theorem place_rowIn (c : Fin 32) (i : Fin 128) : place (rowIn c i) = i :=
  Fin.ext (by show (128 * c.val + i.val) % 128 = i.val; omega)

structure Call where
  W : Weights
  R : Fin 4096 → RowData
  dec : Fin 32 → Row

/-- The call's data from its arguments. -/
def Call.of (p : Mat 4096 8192) (qe intra : Mat 4096 1024) (st : Cube 32 128 1024) (act : Mat 4096 1024)
    (wa wb wo : Mat 1024 1024) (hg g1 post : Mat 1 1024) (dx : Mat 4096 1024) (dec : Cube 32 1 1024) : Call where
  W := { wa := fun k j => wa (ix2 k j), wb := fun k j => wb (ix2 k j), wo := fun k j => wo (ix2 k j),
         hg := fun j => hg (ix2 0 j), g1 := fun j => g1 (ix2 0 j), post := fun j => post (ix2 0 j) }
  R r := { q := fun j => qe (ix2 r j), s := fun v j => st (ix3 (chunk r) v j), intra := fun j => intra (ix2 r j),
           og := fun j => p (ix2 r ⟨3072 + j.val, by omega⟩), ga := fun j => p (ix2 r ⟨6144 + j.val, by omega⟩),
           gb := fun j => p (ix2 r ⟨7168 + j.val, by omega⟩), act := fun j => act (ix2 r j), dx := fun j => dx (ix2 r j) }
  dec c j := dec (ix3 c 0 j)

variable (C : Call)

/-- What a chunk adds to the gradient of the state it finds. -/
def Call.add (c : Fin 32) : Fin 128 → Row :=
  dstate (fun i => rDo C.W (C.R (rowIn c i))) (fun i => (C.R (rowIn c i)).q)
/-- The chunk `n` places before the end. -/
def fromEnd (n : Nat) : Fin 32 := ⟨31 - n, by omega⟩
/-- The state gradient when the last `n` chunks are done. -/
def Call.after : Nat → Fin 128 → Row
  | 0 => fun _ _ => 0
  | n + 1 => fun v j => C.dec (fromEnd n) j * Call.after n v j + C.add (fromEnd n) v j

/-- The results. -/
def Call.dp : Mat 4096 8192 := fun i =>
  if h₁ : (i 1).val < 1024 then rDog C.W (C.R (i 0)) ⟨(i 1).val, h₁⟩
  else if h₂ : (i 1).val - 1024 < 1024 then rDga C.W (C.R (i 0)) ⟨(i 1).val - 1024, h₂⟩
  else if h₃ : (i 1).val - 2048 < 1024 then rDgb C.W (C.R (i 0)) ⟨(i 1).val - 2048, h₃⟩
  else 0
/-- A result whose rows are the rows' results. -/
def Call.rows (f : Weights → RowData → Row) : Mat 4096 1024 := fun i => f C.W (C.R (i 0)) (i 1)
def Call.gt : Cube 32 128 1024 := fun i => C.after (31 - (i 0).val) (i 1) (i 2)
/-- What each row of the column sums adds up. -/
def summand : Fin 8 → Option (Weights → RowData → Row) :=
  ![some rDgate, some rDpost, some rDgain, some rDog, some rDga, some rDgb, none, none]
def Call.acc : Mat 8 1024 := fun i => match summand (i 0) with
  | some f => ∑ r, f C.W (C.R r) (i 1)
  | none => 0

end Cert.Mix

end
-- ==== Proof.Arrays.lean ====
/-
  The launch's arrays over the extended reals: each tile's rows are rows of the arguments, and each result array is the
  call's result.
-/
module

public import proofs.«01_k».proof.Proof.Carry
public import proofs.«01_k».proof.Proof.TileRead
public import proofs.«01_k».proof.Proof.Call
public import Idealize.ShloMosaic.Lib.Pipeline.ValueKit.Geometry

@[expose] public section

set_option maxRecDepth 16384
set_option maxHeartbeats 1000000

noncomputable section

namespace Cert.KernelIdeal.Mix

open Idealize.ShloMosaic hiding ix1 ix2 ix3 ix4
open Idealize.ShloMosaic.ValueIdx Idealize.ShloMosaic.Tactic Idealize.ShloMosaic.TcCoe Cert.KernelIdeal.Gen Cert.Mix
open Idealize.ShloMosaic.Pipeline (Dat)
open scoped BigOperators

/-! ## Where each block lies -/

theorem lies1 : ∀ t : Fin cfg0.N, win0_1.index t (0 : Fin 2) = 15 - t.val ∧ win0_1.index t (1 : Fin 2) = 3 :=
  (by decide +kernel : ∀ t : Fin grid0.N, _)
theorem lies2 : ∀ t : Fin cfg0.N, win0_2.index t (0 : Fin 2) = 15 - t.val ∧ win0_2.index t (1 : Fin 2) = 6 :=
  (by decide +kernel : ∀ t : Fin grid0.N, _)
theorem lies3 : ∀ t : Fin cfg0.N, win0_3.index t (0 : Fin 2) = 15 - t.val ∧ win0_3.index t (1 : Fin 2) = 7 :=
  (by decide +kernel : ∀ t : Fin grid0.N, _)
theorem lies4 : ∀ t : Fin cfg0.N, win0_4.index t (0 : Fin 2) = 15 - t.val ∧ win0_4.index t (1 : Fin 2) = 0 :=
  (by decide +kernel : ∀ t : Fin grid0.N, _)
theorem lies5 : ∀ t : Fin cfg0.N, win0_5.index t (0 : Fin 2) = 15 - t.val ∧ win0_5.index t (1 : Fin 2) = 0 :=
  (by decide +kernel : ∀ t : Fin grid0.N, _)
theorem lies7 : ∀ t : Fin cfg0.N, win0_7.index t (0 : Fin 2) = 15 - t.val ∧ win0_7.index t (1 : Fin 2) = 0 :=
  (by decide +kernel : ∀ t : Fin grid0.N, _)
theorem lies14 : ∀ t : Fin cfg0.N, win0_14.index t (0 : Fin 2) = 15 - t.val ∧ win0_14.index t (1 : Fin 2) = 0 :=
  (by decide +kernel : ∀ t : Fin grid0.N, _)
theorem lies16 : ∀ t : Fin cfg0.N, win0_16.index t (0 : Fin 2) = 15 - t.val ∧ win0_16.index t (1 : Fin 2) = 0 :=
  (by decide +kernel : ∀ t : Fin grid0.N, _)
theorem lies17 : ∀ t : Fin cfg0.N, win0_17.index t (0 : Fin 2) = 15 - t.val ∧ win0_17.index t (1 : Fin 2) = 0 :=
  (by decide +kernel : ∀ t : Fin grid0.N, _)
theorem lies18 : ∀ t : Fin cfg0.N, win0_18.index t (0 : Fin 2) = 15 - t.val ∧ win0_18.index t (1 : Fin 2) = 0 :=
  (by decide +kernel : ∀ t : Fin grid0.N, _)
theorem lies20 : ∀ t : Fin cfg0.N, win0_20.index t (0 : Fin 2) = 15 - t.val ∧ win0_20.index t (1 : Fin 2) = 0 :=
  (by decide +kernel : ∀ t : Fin grid0.N, _)
theorem lies21 : ∀ t : Fin cfg0.N, win0_21.index t (0 : Fin 2) = 15 - t.val ∧ win0_21.index t (1 : Fin 2) = 0 :=
  (by decide +kernel : ∀ t : Fin grid0.N, _)
theorem lies22 : ∀ t : Fin cfg0.N, win0_22.index t (0 : Fin 2) = 15 - t.val ∧ win0_22.index t (1 : Fin 2) = 0 :=
  (by decide +kernel : ∀ t : Fin grid0.N, _)
theorem lies23 : ∀ t : Fin cfg0.N, win0_23.index t (0 : Fin 2) = 15 - t.val ∧ win0_23.index t (1 : Fin 2) = 0 :=
  (by decide +kernel : ∀ t : Fin grid0.N, _)
theorem lies24 : ∀ t : Fin cfg0.N, win0_24.index t (0 : Fin 2) = 15 - t.val ∧ win0_24.index t (1 : Fin 2) = 0 :=
  (by decide +kernel : ∀ t : Fin grid0.N, _)
theorem lies25 : ∀ t : Fin cfg0.N, win0_25.index t (0 : Fin 2) = 15 - t.val ∧ win0_25.index t (1 : Fin 2) = 0 :=
  (by decide +kernel : ∀ t : Fin grid0.N, _)
theorem lies8 : ∀ t : Fin cfg0.N, win0_8.index t (0 : Fin 2) = 0 ∧ win0_8.index t (1 : Fin 2) = 0 :=
  (by decide +kernel : ∀ t : Fin grid0.N, _)
theorem lies9 : ∀ t : Fin cfg0.N, win0_9.index t (0 : Fin 2) = 0 ∧ win0_9.index t (1 : Fin 2) = 0 :=
  (by decide +kernel : ∀ t : Fin grid0.N, _)
theorem lies10 : ∀ t : Fin cfg0.N, win0_10.index t (0 : Fin 2) = 0 ∧ win0_10.index t (1 : Fin 2) = 0 :=
  (by decide +kernel : ∀ t : Fin grid0.N, _)
theorem lies11 : ∀ t : Fin cfg0.N, win0_11.index t (0 : Fin 2) = 0 ∧ win0_11.index t (1 : Fin 2) = 0 :=
  (by decide +kernel : ∀ t : Fin grid0.N, _)
theorem lies12 : ∀ t : Fin cfg0.N, win0_12.index t (0 : Fin 2) = 0 ∧ win0_12.index t (1 : Fin 2) = 0 :=
  (by decide +kernel : ∀ t : Fin grid0.N, _)
theorem lies13 : ∀ t : Fin cfg0.N, win0_13.index t (0 : Fin 2) = 0 ∧ win0_13.index t (1 : Fin 2) = 0 :=
  (by decide +kernel : ∀ t : Fin grid0.N, _)
theorem lies26 : ∀ t : Fin cfg0.N, win0_26.index t (0 : Fin 2) = 0 ∧ win0_26.index t (1 : Fin 2) = 0 :=
  (by decide +kernel : ∀ t : Fin grid0.N, _)
theorem lies6 : ∀ t : Fin cfg0.N, win0_6.index t (0 : Fin 3) = 15 - t.val ∧ win0_6.index t (1 : Fin 3) = 0
    ∧ win0_6.index t (2 : Fin 3) = 0 := (by decide +kernel : ∀ t : Fin grid0.N, _)
theorem lies15 : ∀ t : Fin cfg0.N, win0_15.index t (0 : Fin 3) = 15 - t.val ∧ win0_15.index t (1 : Fin 3) = 0
    ∧ win0_15.index t (2 : Fin 3) = 0 := (by decide +kernel : ∀ t : Fin grid0.N, _)
theorem lies19 : ∀ t : Fin cfg0.N, win0_19.index t (0 : Fin 3) = 15 - t.val ∧ win0_19.index t (1 : Fin 3) = 0
    ∧ win0_19.index t (2 : Fin 3) = 0 := (by decide +kernel : ∀ t : Fin grid0.N, _)

theorem tile_lt (t : Fin cfg0.N) : t.val < 16 := Nat.lt_of_lt_of_eq t.isLt N_0
/-- The array's row that is row `i` of tile `t`: the tiles go from the last rows to the first. -/
def rowOfTile (t : Fin cfg0.N) (i : Fin 256) : Fin 4096 := ⟨256 * (15 - t.val) + i.val, by omega⟩
/-- The chunk that is chunk `r` of tile `t`. -/
def chunkOfTile (t : Fin cfg0.N) (r : Fin 2) : Fin 32 := ⟨2 * (15 - t.val) + r.val, by omega⟩
theorem chunk_rowOfTile (t : Fin cfg0.N) (i : Fin 256) : chunk (rowOfTile t i) = chunkOfTile t (chunkOf i) :=
  Fin.ext (by show (256 * (15 - t.val) + i.val) / 128 = 2 * (15 - t.val) + i.val / 128; omega)
theorem rowOfTile_at2 (t : Fin cfg0.N) (r : Fin 2) (i : Fin 128) : rowOfTile t (at2 r i) = rowIn (chunkOfTile t r) i :=
  Fin.ext (by show 256 * (15 - t.val) + (128 * r.val + i.val) = 128 * (2 * (15 - t.val) + r.val) + i.val; omega)

variable (m : (ℓ : Loc nD τ sig) → Buf (Elt Ideal) ℓ)

/-- The call's data, from the memory at launch. -/
def call (c : Dev nD) : Call := Call.of
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13))

/-! ## The input blocks -/

theorem read1 (c : Dev nD) (t : Fin cfg0.N) (i : Fin 256) (j : Fin 1024) :
    iblk m c 1 t (ix2 i j) = m ((c : Thread nD τ).loc main_arg1) (ix2 (rowOfTile t i) (⟨3072 + j.val, by omega⟩ : Fin 8192)) := by
  obtain ⟨e0, e1⟩ := lies1 t
  show V m c main_arg1 (((cfg0.win 1).blk t).view.emb (ix2 i j)) = V m c main_arg1 (ix2 (rowOfTile t i) (⟨3072 + j.val, by omega⟩ : Fin 8192))
  refine congrArg (V m c main_arg1) (funext fun a => Fin.ext ?_)
  match a with
  | ⟨0, _⟩ => show win0_1.index t (0 : Fin 2) * 256 + 1 * i.val = 256 * (15 - t.val) + i.val; omega
  | ⟨1, _⟩ => show win0_1.index t (1 : Fin 2) * 1024 + 1 * j.val = 3072 + j.val; omega
theorem read2 (c : Dev nD) (t : Fin cfg0.N) (i : Fin 256) (j : Fin 1024) :
    iblk m c 2 t (ix2 i j) = m ((c : Thread nD τ).loc main_arg1) (ix2 (rowOfTile t i) (⟨6144 + j.val, by omega⟩ : Fin 8192)) := by
  obtain ⟨e0, e1⟩ := lies2 t
  show V m c main_arg1 (((cfg0.win 2).blk t).view.emb (ix2 i j)) = V m c main_arg1 (ix2 (rowOfTile t i) (⟨6144 + j.val, by omega⟩ : Fin 8192))
  refine congrArg (V m c main_arg1) (funext fun a => Fin.ext ?_)
  match a with
  | ⟨0, _⟩ => show win0_2.index t (0 : Fin 2) * 256 + 1 * i.val = 256 * (15 - t.val) + i.val; omega
  | ⟨1, _⟩ => show win0_2.index t (1 : Fin 2) * 1024 + 1 * j.val = 6144 + j.val; omega
theorem read3 (c : Dev nD) (t : Fin cfg0.N) (i : Fin 256) (j : Fin 1024) :
    iblk m c 3 t (ix2 i j) = m ((c : Thread nD τ).loc main_arg1) (ix2 (rowOfTile t i) (⟨7168 + j.val, by omega⟩ : Fin 8192)) := by
  obtain ⟨e0, e1⟩ := lies3 t
  show V m c main_arg1 (((cfg0.win 3).blk t).view.emb (ix2 i j)) = V m c main_arg1 (ix2 (rowOfTile t i) (⟨7168 + j.val, by omega⟩ : Fin 8192))
  refine congrArg (V m c main_arg1) (funext fun a => Fin.ext ?_)
  match a with
  | ⟨0, _⟩ => show win0_3.index t (0 : Fin 2) * 256 + 1 * i.val = 256 * (15 - t.val) + i.val; omega
  | ⟨1, _⟩ => show win0_3.index t (1 : Fin 2) * 1024 + 1 * j.val = 7168 + j.val; omega
theorem read4 (c : Dev nD) (t : Fin cfg0.N) (i : Fin 256) (j : Fin 1024) :
    iblk m c 4 t (ix2 i j) = m ((c : Thread nD τ).loc main_arg2) (ix2 (rowOfTile t i) j) := by
  obtain ⟨e0, e1⟩ := lies4 t
  show V m c main_arg2 (((cfg0.win 4).blk t).view.emb (ix2 i j)) = V m c main_arg2 (ix2 (rowOfTile t i) j)
  refine congrArg (V m c main_arg2) (funext fun a => Fin.ext ?_)
  match a with
  | ⟨0, _⟩ => show win0_4.index t (0 : Fin 2) * 256 + 1 * i.val = 256 * (15 - t.val) + i.val; omega
  | ⟨1, _⟩ => show win0_4.index t (1 : Fin 2) * 1024 + 1 * j.val = j.val; omega
theorem read5 (c : Dev nD) (t : Fin cfg0.N) (i : Fin 256) (j : Fin 1024) :
    iblk m c 5 t (ix2 i j) = m ((c : Thread nD τ).loc main_arg3) (ix2 (rowOfTile t i) j) := by
  obtain ⟨e0, e1⟩ := lies5 t
  show V m c main_arg3 (((cfg0.win 5).blk t).view.emb (ix2 i j)) = V m c main_arg3 (ix2 (rowOfTile t i) j)
  refine congrArg (V m c main_arg3) (funext fun a => Fin.ext ?_)
  match a with
  | ⟨0, _⟩ => show win0_5.index t (0 : Fin 2) * 256 + 1 * i.val = 256 * (15 - t.val) + i.val; omega
  | ⟨1, _⟩ => show win0_5.index t (1 : Fin 2) * 1024 + 1 * j.val = j.val; omega
theorem read7 (c : Dev nD) (t : Fin cfg0.N) (i : Fin 256) (j : Fin 1024) :
    iblk m c 7 t (ix2 i j) = m ((c : Thread nD τ).loc main_arg5) (ix2 (rowOfTile t i) j) := by
  obtain ⟨e0, e1⟩ := lies7 t
  show V m c main_arg5 (((cfg0.win 7).blk t).view.emb (ix2 i j)) = V m c main_arg5 (ix2 (rowOfTile t i) j)
  refine congrArg (V m c main_arg5) (funext fun a => Fin.ext ?_)
  match a with
  | ⟨0, _⟩ => show win0_7.index t (0 : Fin 2) * 256 + 1 * i.val = 256 * (15 - t.val) + i.val; omega
  | ⟨1, _⟩ => show win0_7.index t (1 : Fin 2) * 1024 + 1 * j.val = j.val; omega
theorem read14 (c : Dev nD) (t : Fin cfg0.N) (i : Fin 256) (j : Fin 1024) :
    iblk m c 14 t (ix2 i j) = m ((c : Thread nD τ).loc main_arg12) (ix2 (rowOfTile t i) j) := by
  obtain ⟨e0, e1⟩ := lies14 t
  show V m c main_arg12 (((cfg0.win 14).blk t).view.emb (ix2 i j)) = V m c main_arg12 (ix2 (rowOfTile t i) j)
  refine congrArg (V m c main_arg12) (funext fun a => Fin.ext ?_)
  match a with
  | ⟨0, _⟩ => show win0_14.index t (0 : Fin 2) * 256 + 1 * i.val = 256 * (15 - t.val) + i.val; omega
  | ⟨1, _⟩ => show win0_14.index t (1 : Fin 2) * 1024 + 1 * j.val = j.val; omega
theorem read8 (c : Dev nD) (t : Fin cfg0.N) (i j : Fin 1024) :
    iblk m c 8 t (ix2 i j) = m ((c : Thread nD τ).loc main_arg6) (ix2 i j) := by
  obtain ⟨e0, e1⟩ := lies8 t
  show V m c main_arg6 (((cfg0.win 8).blk t).view.emb (ix2 i j)) = V m c main_arg6 (ix2 i j)
  refine congrArg (V m c main_arg6) (funext fun a => Fin.ext ?_)
  match a with
  | ⟨0, _⟩ => show win0_8.index t (0 : Fin 2) * 1024 + 1 * i.val = i.val; omega
  | ⟨1, _⟩ => show win0_8.index t (1 : Fin 2) * 1024 + 1 * j.val = j.val; omega
theorem read9 (c : Dev nD) (t : Fin cfg0.N) (i j : Fin 1024) :
    iblk m c 9 t (ix2 i j) = m ((c : Thread nD τ).loc main_arg7) (ix2 i j) := by
  obtain ⟨e0, e1⟩ := lies9 t
  show V m c main_arg7 (((cfg0.win 9).blk t).view.emb (ix2 i j)) = V m c main_arg7 (ix2 i j)
  refine congrArg (V m c main_arg7) (funext fun a => Fin.ext ?_)
  match a with
  | ⟨0, _⟩ => show win0_9.index t (0 : Fin 2) * 1024 + 1 * i.val = i.val; omega
  | ⟨1, _⟩ => show win0_9.index t (1 : Fin 2) * 1024 + 1 * j.val = j.val; omega
theorem read10 (c : Dev nD) (t : Fin cfg0.N) (i j : Fin 1024) :
    iblk m c 10 t (ix2 i j) = m ((c : Thread nD τ).loc main_arg8) (ix2 i j) := by
  obtain ⟨e0, e1⟩ := lies10 t
  show V m c main_arg8 (((cfg0.win 10).blk t).view.emb (ix2 i j)) = V m c main_arg8 (ix2 i j)
  refine congrArg (V m c main_arg8) (funext fun a => Fin.ext ?_)
  match a with
  | ⟨0, _⟩ => show win0_10.index t (0 : Fin 2) * 1024 + 1 * i.val = i.val; omega
  | ⟨1, _⟩ => show win0_10.index t (1 : Fin 2) * 1024 + 1 * j.val = j.val; omega
theorem read11 (c : Dev nD) (t : Fin cfg0.N) (j : Fin 1024) :
    iblk m c 11 t (ix2 (0 : Fin 1) j) = m ((c : Thread nD τ).loc main_arg9) (ix2 (0 : Fin 1) j) := by
  obtain ⟨e0, e1⟩ := lies11 t
  show V m c main_arg9 (((cfg0.win 11).blk t).view.emb (ix2 (0 : Fin 1) j)) = V m c main_arg9 (ix2 (0 : Fin 1) j)
  refine congrArg (V m c main_arg9) (funext fun a => Fin.ext ?_)
  match a with
  | ⟨0, _⟩ => show win0_11.index t (0 : Fin 2) * 1 + 1 * 0 = 0; omega
  | ⟨1, _⟩ => show win0_11.index t (1 : Fin 2) * 1024 + 1 * j.val = j.val; omega
theorem read12 (c : Dev nD) (t : Fin cfg0.N) (j : Fin 1024) :
    iblk m c 12 t (ix2 (0 : Fin 1) j) = m ((c : Thread nD τ).loc main_arg10) (ix2 (0 : Fin 1) j) := by
  obtain ⟨e0, e1⟩ := lies12 t
  show V m c main_arg10 (((cfg0.win 12).blk t).view.emb (ix2 (0 : Fin 1) j)) = V m c main_arg10 (ix2 (0 : Fin 1) j)
  refine congrArg (V m c main_arg10) (funext fun a => Fin.ext ?_)
  match a with
  | ⟨0, _⟩ => show win0_12.index t (0 : Fin 2) * 1 + 1 * 0 = 0; omega
  | ⟨1, _⟩ => show win0_12.index t (1 : Fin 2) * 1024 + 1 * j.val = j.val; omega
theorem read13 (c : Dev nD) (t : Fin cfg0.N) (j : Fin 1024) :
    iblk m c 13 t (ix2 (0 : Fin 1) j) = m ((c : Thread nD τ).loc main_arg11) (ix2 (0 : Fin 1) j) := by
  obtain ⟨e0, e1⟩ := lies13 t
  show V m c main_arg11 (((cfg0.win 13).blk t).view.emb (ix2 (0 : Fin 1) j)) = V m c main_arg11 (ix2 (0 : Fin 1) j)
  refine congrArg (V m c main_arg11) (funext fun a => Fin.ext ?_)
  match a with
  | ⟨0, _⟩ => show win0_13.index t (0 : Fin 2) * 1 + 1 * 0 = 0; omega
  | ⟨1, _⟩ => show win0_13.index t (1 : Fin 2) * 1024 + 1 * j.val = j.val; omega
theorem read6 (c : Dev nD) (t : Fin cfg0.N) (r : Fin 2) (v : Fin 128) (j : Fin 1024) :
    iblk m c 6 t (ix3 r v j) = m ((c : Thread nD τ).loc main_arg4) (ix3 (chunkOfTile t r) v j) := by
  obtain ⟨e0, e1, e2⟩ := lies6 t
  show V m c main_arg4 (((cfg0.win 6).blk t).view.emb (ix3 r v j)) = V m c main_arg4 (ix3 (chunkOfTile t r) v j)
  refine congrArg (V m c main_arg4) (funext fun a => Fin.ext ?_)
  match a with
  | ⟨0, _⟩ => show win0_6.index t (0 : Fin 3) * 2 + 1 * r.val = 2 * (15 - t.val) + r.val; omega
  | ⟨1, _⟩ => show win0_6.index t (1 : Fin 3) * 128 + 1 * v.val = v.val; omega
  | ⟨2, _⟩ => show win0_6.index t (2 : Fin 3) * 1024 + 1 * j.val = j.val; omega
theorem read15 (c : Dev nD) (t : Fin cfg0.N) (r : Fin 2) (j : Fin 1024) :
    iblk m c 15 t (ix3 r (0 : Fin 1) j) = m ((c : Thread nD τ).loc main_arg13) (ix3 (chunkOfTile t r) (0 : Fin 1) j) := by
  obtain ⟨e0, e1, e2⟩ := lies15 t
  show V m c main_arg13 (((cfg0.win 15).blk t).view.emb (ix3 r (0 : Fin 1) j)) = V m c main_arg13 (ix3 (chunkOfTile t r) (0 : Fin 1) j)
  refine congrArg (V m c main_arg13) (funext fun a => Fin.ext ?_)
  match a with
  | ⟨0, _⟩ => show win0_15.index t (0 : Fin 3) * 2 + 1 * r.val = 2 * (15 - t.val) + r.val; omega
  | ⟨1, _⟩ => show win0_15.index t (1 : Fin 3) * 1 + 1 * 0 = 0; omega
  | ⟨2, _⟩ => show win0_15.index t (2 : Fin 3) * 1024 + 1 * j.val = j.val; omega

theorem tile_row (c : Dev nD) (t : Fin cfg0.N) (i : Fin 256) : rowOf (tile m c t) i = (call m c).R (rowOfTile t i) := by
  unfold rowOf call Call.of
  dsimp only
  rw [chunk_rowOfTile]
  congr 1
  · exact funext fun j => read4 m c t i j
  · exact funext fun v => funext fun j => read6 m c t (chunkOf i) v j
  · exact funext fun j => read5 m c t i j
  · exact funext fun j => read1 m c t i j
  · exact funext fun j => read2 m c t i j
  · exact funext fun j => read3 m c t i j
  · exact funext fun j => read7 m c t i j
  · exact funext fun j => read14 m c t i j
theorem tile_weights (c : Dev nD) (t : Fin cfg0.N) : weights (tile m c t) = (call m c).W := by
  unfold weights call Call.of
  dsimp only
  congr 1
  · exact funext fun k => funext fun j => read8 m c t k j
  · exact funext fun k => funext fun j => read9 m c t k j
  · exact funext fun k => funext fun j => read10 m c t k j
  · exact funext fun j => read11 m c t j
  · exact funext fun j => read12 m c t j
  · exact funext fun j => read13 m c t j
theorem tile_dec (c : Dev nD) (t : Fin cfg0.N) (r : Fin 2) (j : Fin 1024) :
    (tile m c t).dec (ix3 r 0 j) = (call m c).dec (chunkOfTile t r) j := read15 m c t r j

end Cert.KernelIdeal.Mix

end
-- ==== Proof.Outs.lean ====
/-
  A tile's stored blocks that are put together of several stores, read at an element; and the two things carried from tile
  to tile, read at an element.
-/
module

public import proofs.«01_k».proof.Proof.Arrays

@[expose] public section

set_option maxRecDepth 16384
set_option maxHeartbeats 1000000

noncomputable section

namespace Cert.KernelIdeal.Mix

open Idealize.ShloMosaic hiding ix1 ix2 ix3 ix4 eq_ix2 eq_ix3
open Idealize.ShloMosaic.ValueIdx Idealize.ShloMosaic.Tactic Idealize.ShloMosaic.TcCoe Cert.KernelIdeal.Gen Cert.Mix
open Idealize.ShloMosaic.Pipeline (Dat)
open scoped BigOperators

variable (X : In Ideal)

/-! ## Blocks of several stores -/

theorem dq_apply (i : Fin 256) (j : Fin 1024) : dq X (ix2 i j) = rDq (weights X) (rowOf X i) j := by
  unfold dq
  refine View.canon_apply_of_pieces (Val := Elt Ideal) (S := S256x1024) (e := .f32) (fun y => rDq (weights X) (rowOf X (y 0)) (y 1)) _ ?_ (ix2 i j) ?_
  · intro p hp x
    simp only [List.mem_cons, List.mem_nil_iff, or_false] at hp
    rcases hp with rfl | rfl
    · obtain ⟨k, l, rfl⟩ : ∃ (k : Fin 128) (l : Fin 1024), x = (ix2 k l : S128x1024.Idx) := ⟨x 0, x 1, eq_ix2 x⟩
      rw [dq0_eq]
      refine (dqOf_apply X 0 k l).trans (congrArg₂ (fun a b => rDq (weights X) (rowOf X a) b) (Fin.ext ?_) (Fin.ext ?_))
      · show 128 * 0 + k.val = 0 + 1 * k.val; omega
      · show l.val = 0 + 1 * l.val; omega
    · obtain ⟨k, l, rfl⟩ : ∃ (k : Fin 128) (l : Fin 1024), x = (ix2 k l : S128x1024.Idx) := ⟨x 0, x 1, eq_ix2 x⟩
      rw [dq1_eq]
      refine (dqOf_apply X 1 k l).trans (congrArg₂ (fun a b => rDq (weights X) (rowOf X a) b) (Fin.ext ?_) (Fin.ext ?_))
      · show 128 * 1 + k.val = 128 + 1 * k.val; omega
      · show l.val = 0 + 1 * l.val; omega
  · by_cases h : i.val < 128
    · refine ⟨_, List.mem_cons_self, ?_⟩
      refine (Rect.mem_set_unit (inb := inb_S256x1024_S128x1024_0_0)).2 fun a => ?_
      match a with
      | ⟨0, _⟩ => exact ⟨Nat.zero_le _, by show i.val < 0 + 128; omega⟩
      | ⟨1, _⟩ => exact ⟨Nat.zero_le _, by show j.val < 0 + 1024; omega⟩
    · refine ⟨_, List.mem_cons_of_mem _ List.mem_cons_self, ?_⟩
      refine (Rect.mem_set_unit (inb := inb_S256x1024_S128x1024_128_0)).2 fun a => ?_
      match a with
      | ⟨0, _⟩ => exact ⟨by show 128 ≤ i.val; omega, by show i.val < 128 + 128; omega⟩
      | ⟨1, _⟩ => exact ⟨Nat.zero_le _, by show j.val < 0 + 1024; omega⟩

/-- Three gates' gradients side by side, of a row. -/
def gates (W : Weights) (r : RowData) (j : Fin 3072) : EReal :=
  if h₁ : j.val < 1024 then rDog W r ⟨j.val, h₁⟩
  else if h₂ : j.val - 1024 < 1024 then rDga W r ⟨j.val - 1024, h₂⟩
  else rDgb W r ⟨j.val - 2048, by omega⟩

theorem dp_apply (i : Fin 256) (j : Fin 3072) : dp X (ix2 i j) = gates (weights X) (rowOf X i) j := by
  unfold dp
  refine View.canon_apply_of_pieces (Val := Elt Ideal) (S := S256x3072) (e := .bf16) (fun y => gates (weights X) (rowOf X (y 0)) (y 1)) _ ?_ (ix2 i j) ?_
  · intro p hp x
    simp only [List.mem_cons, List.mem_nil_iff, or_false] at hp
    rcases hp with rfl | rfl | rfl
    · obtain ⟨k, l, rfl⟩ : ∃ (k : Fin 256) (l : Fin 1024), x = (ix2 k l : S256x1024.Idx) := ⟨x 0, x 1, eq_ix2 x⟩
      refine (dogW_apply X k l).trans ?_
      have e : (Rect.unit (s := S256x3072) ![0, 0] S256x1024.size inb_S256x3072_S256x1024_0_0).emb (ix2 k l)
          = ix2 k (⟨l.val, by omega⟩ : Fin 3072) := funext fun a => Fin.ext (by
        match a with
        | ⟨0, _⟩ => show 0 + 1 * k.val = k.val; omega
        | ⟨1, _⟩ => show 0 + 1 * l.val = l.val; omega)
      rw [e]
      show _ = gates (weights X) (rowOf X k) ⟨l.val, _⟩
      unfold gates; rw [dif_pos l.isLt]
    · obtain ⟨k, l, rfl⟩ : ∃ (k : Fin 256) (l : Fin 1024), x = (ix2 k l : S256x1024.Idx) := ⟨x 0, x 1, eq_ix2 x⟩
      refine (dgbW_apply X k l).trans ?_
      have e : (Rect.unit (s := S256x3072) ![0, 2048] S256x1024.size inb_S256x3072_S256x1024_0_2048).emb (ix2 k l)
          = ix2 k (⟨2048 + l.val, by omega⟩ : Fin 3072) := funext fun a => Fin.ext (by
        match a with
        | ⟨0, _⟩ => show 0 + 1 * k.val = k.val; omega
        | ⟨1, _⟩ => show 2048 + 1 * l.val = 2048 + l.val; omega)
      rw [e]
      show _ = gates (weights X) (rowOf X k) ⟨2048 + l.val, _⟩
      unfold gates; dsimp only
      rw [dif_neg (by omega), dif_neg (by omega)]
      exact congrArg _ (Fin.ext (by show l.val = 2048 + l.val - 2048; omega))
    · obtain ⟨k, l, rfl⟩ : ∃ (k : Fin 256) (l : Fin 1024), x = (ix2 k l : S256x1024.Idx) := ⟨x 0, x 1, eq_ix2 x⟩
      refine (dgaW_apply X k l).trans ?_
      have e : (Rect.unit (s := S256x3072) ![0, 1024] S256x1024.size inb_S256x3072_S256x1024_0_1024).emb (ix2 k l)
          = ix2 k (⟨1024 + l.val, by omega⟩ : Fin 3072) := funext fun a => Fin.ext (by
        match a with
        | ⟨0, _⟩ => show 0 + 1 * k.val = k.val; omega
        | ⟨1, _⟩ => show 1024 + 1 * l.val = 1024 + l.val; omega)
      rw [e]
      show _ = gates (weights X) (rowOf X k) ⟨1024 + l.val, _⟩
      unfold gates; dsimp only
      rw [dif_neg (by omega), dif_pos (by omega)]
      exact congrArg _ (Fin.ext (by show l.val = 1024 + l.val - 1024; omega))
  · by_cases h₁ : j.val < 1024
    · refine ⟨_, List.mem_cons_self, ?_⟩
      refine (Rect.mem_set_unit (inb := inb_S256x3072_S256x1024_0_0)).2 fun a => ?_
      match a with
      | ⟨0, _⟩ => exact ⟨Nat.zero_le _, by show i.val < 0 + 256; omega⟩
      | ⟨1, _⟩ => exact ⟨Nat.zero_le _, by show j.val < 0 + 1024; omega⟩
    · by_cases h₂ : j.val < 2048
      · refine ⟨_, List.mem_cons_of_mem _ (List.mem_cons_of_mem _ List.mem_cons_self), ?_⟩
        refine (Rect.mem_set_unit (inb := inb_S256x3072_S256x1024_0_1024)).2 fun a => ?_
        match a with
        | ⟨0, _⟩ => exact ⟨Nat.zero_le _, by show i.val < 0 + 256; omega⟩
        | ⟨1, _⟩ => exact ⟨by show 1024 ≤ j.val; omega, by show j.val < 1024 + 1024; omega⟩
      · refine ⟨_, List.mem_cons_of_mem _ List.mem_cons_self, ?_⟩
        refine (Rect.mem_set_unit (inb := inb_S256x3072_S256x1024_0_2048)).2 fun a => ?_
        match a with
        | ⟨0, _⟩ => exact ⟨Nat.zero_le _, by show i.val < 0 + 256; omega⟩
        | ⟨1, _⟩ => exact ⟨by show 2048 ≤ j.val; omega, by show j.val < 2048 + 1024; omega⟩

theorem addState_apply {α : Type} (x : S128x1024.Idx → α) (hp) (z : Fin 1) (v : Fin 128) (j : Fin 1024) :
    shapeCast S1x128x1024 x hp (ix3 z v j) = x (ix2 v j) :=
  shapeCast_apply x _ _ _ (by
    rw [Shape.rowMajor_val_three, Shape.rowMajor_val_two]
    show v.val * 1024 + j.val = (z.val * 128 + v.val) * 1024 + j.val
    have : z.val = 0 := by omega
    omega)
theorem gt1_eq (G : FVec Ideal S128x1024 .f32) : gt1 X G = shapeCast S1x128x1024 G (by decide) := by sl_kernel_rfl
theorem gt0_eq (G : FVec Ideal S128x1024 .f32) : gt0 X G = shapeCast S1x128x1024 (st1 X G) (by decide) := by sl_kernel_rfl

theorem gt_apply (G : FVec Ideal S128x1024 .f32) (r : Fin 2) (v : Fin 128) (j : Fin 1024) :
    gt X G (ix3 r v j) = (![st1 X G, G] r : FVec Ideal S128x1024 .f32) (ix2 v j) := by
  unfold gt
  refine View.canon_apply_of_pieces (Val := Elt Ideal) (S := S2x128x1024) (e := .f32) (fun y => (![st1 X G, G] (y 0) : FVec Ideal S128x1024 .f32) (ix2 (y 1) (y 2))) _ ?_ (ix3 r v j) ?_
  · intro p hp x
    simp only [List.mem_cons, List.mem_nil_iff, or_false] at hp
    rcases hp with rfl | rfl
    · obtain ⟨z, k, l, rfl⟩ : ∃ (z : Fin 1) (k : Fin 128) (l : Fin 1024), x = (ix3 z k l : S1x128x1024.Idx) := ⟨x 0, x 1, x 2, eq_ix3 x⟩
      rw [gt0_eq]
      show shapeCast S1x128x1024 (st1 X G) _ (ix3 z k l) = _
      refine (addState_apply _ _ z k l).trans ?_
      have e : (Rect.unit (s := S2x128x1024) ![0, 0, 0] S1x128x1024.size inb_S2x128x1024_S1x128x1024_0_0_0).emb (ix3 z k l)
          = ix3 (0 : Fin 2) k l := funext fun a => Fin.ext (by
        match a with
        | ⟨0, _⟩ => show 0 + 1 * z.val = 0; omega
        | ⟨1, _⟩ => show 0 + 1 * k.val = k.val; omega
        | ⟨2, _⟩ => show 0 + 1 * l.val = l.val; omega)
      rw [e]; rfl
    · obtain ⟨z, k, l, rfl⟩ : ∃ (z : Fin 1) (k : Fin 128) (l : Fin 1024), x = (ix3 z k l : S1x128x1024.Idx) := ⟨x 0, x 1, x 2, eq_ix3 x⟩
      rw [gt1_eq]
      show shapeCast S1x128x1024 G _ (ix3 z k l) = _
      refine (addState_apply _ _ z k l).trans ?_
      have e : (Rect.unit (s := S2x128x1024) ![1, 0, 0] S1x128x1024.size inb_S2x128x1024_S1x128x1024_1_0_0).emb (ix3 z k l)
          = ix3 (1 : Fin 2) k l := funext fun a => Fin.ext (by
        match a with
        | ⟨0, _⟩ => show 1 + 1 * z.val = 1; omega
        | ⟨1, _⟩ => show 0 + 1 * k.val = k.val; omega
        | ⟨2, _⟩ => show 0 + 1 * l.val = l.val; omega)
      rw [e]; rfl
  · by_cases h : r.val = 0
    · refine ⟨_, List.mem_cons_self, ?_⟩
      refine (Rect.mem_set_unit (inb := inb_S2x128x1024_S1x128x1024_0_0_0)).2 fun a => ?_
      match a with
      | ⟨0, _⟩ => exact ⟨Nat.zero_le _, by show r.val < 0 + 1; omega⟩
      | ⟨1, _⟩ => exact ⟨Nat.zero_le _, by show v.val < 0 + 128; omega⟩
      | ⟨2, _⟩ => exact ⟨Nat.zero_le _, by show j.val < 0 + 1024; omega⟩
    · refine ⟨_, List.mem_cons_of_mem _ List.mem_cons_self, ?_⟩
      refine (Rect.mem_set_unit (inb := inb_S2x128x1024_S1x128x1024_1_0_0)).2 fun a => ?_
      match a with
      | ⟨0, _⟩ => exact ⟨by show 1 ≤ r.val; omega, by show r.val < 1 + 1; omega⟩
      | ⟨1, _⟩ => exact ⟨Nat.zero_le _, by show v.val < 0 + 128; omega⟩
      | ⟨2, _⟩ => exact ⟨Nat.zero_le _, by show j.val < 0 + 1024; omega⟩

/-! ## The column sums -/

/-- What a tile adds to a row of the column sums. -/
def share8 (k : Fin 8) (j : Fin 1024) : EReal := match summand k with
  | some f => ∑ i, f (weights X) (rowOf X i) j
  | none => 0

theorem rowRead (A : FVec Ideal S8x1024 .f32) (k : Nat) (hk : k < 8) (inb) (z : Fin 1) (j : Fin 1024) :
    (View.ld A (Rect.unit (s := S8x1024) ![k, 0] S1x1024.size inb) : Vec Ideal S1x1024 .f32) (ix2 z j) = A (ix2 (⟨k, hk⟩ : Fin 8) j) :=
  congrArg A (funext fun a => Fin.ext (by
    match a with
    | ⟨0, _⟩ => show k + 1 * z.val = k; omega
    | ⟨1, _⟩ => show 0 + 1 * j.val = j.val; omega))

theorem acc0_apply (A : FVec Ideal S8x1024 .f32) (j : Fin 1024) : acc0 X A (ix2 0 j) = A (ix2 (⟨0, by decide⟩ : Fin 8) j) + share8 X ⟨0, by decide⟩ j := by
  rw [acc0_eq, shapeCast_self]
  exact congrArg₂ (· + ·) (rowRead A 0 (by decide) _ 0 j) (dgateTile_apply X j)
theorem acc1_apply (A : FVec Ideal S8x1024 .f32) (j : Fin 1024) : acc1 X A (ix2 0 j) = A (ix2 (⟨1, by decide⟩ : Fin 8) j) + share8 X ⟨1, by decide⟩ j := by
  rw [acc1_eq, shapeCast_self]
  exact congrArg₂ (· + ·) (rowRead A 1 (by decide) _ 0 j) (dpostTile_apply X j)
theorem acc2_apply (A : FVec Ideal S8x1024 .f32) (j : Fin 1024) : acc2 X A (ix2 0 j) = A (ix2 (⟨2, by decide⟩ : Fin 8) j) + share8 X ⟨2, by decide⟩ j := by
  rw [acc2_eq, shapeCast_self]
  exact congrArg₂ (· + ·) (rowRead A 2 (by decide) _ 0 j) (dgainTile_apply X j)
theorem acc3_apply (A : FVec Ideal S8x1024 .f32) (j : Fin 1024) : acc3 X A (ix2 0 j) = A (ix2 (⟨3, by decide⟩ : Fin 8) j) + share8 X ⟨3, by decide⟩ j := by
  rw [acc3_eq, shapeCast_self]
  exact congrArg₂ (· + ·) (rowRead A 3 (by decide) _ 0 j) ((colSum_apply _ 0 j).trans (Finset.sum_congr rfl fun i _ => dog_apply X i j))
theorem acc4_apply (A : FVec Ideal S8x1024 .f32) (j : Fin 1024) : acc4 X A (ix2 0 j) = A (ix2 (⟨4, by decide⟩ : Fin 8) j) + share8 X ⟨4, by decide⟩ j := by
  rw [acc4_eq, shapeCast_self]
  exact congrArg₂ (· + ·) (rowRead A 4 (by decide) _ 0 j) ((colSum_apply _ 0 j).trans (Finset.sum_congr rfl fun i _ => dga_apply X i j))
theorem acc5_apply (A : FVec Ideal S8x1024 .f32) (j : Fin 1024) : acc5 X A (ix2 0 j) = A (ix2 (⟨5, by decide⟩ : Fin 8) j) + share8 X ⟨5, by decide⟩ j := by
  rw [acc5_eq, shapeCast_self]
  exact congrArg₂ (· + ·) (rowRead A 5 (by decide) _ 0 j) ((colSum_apply _ 0 j).trans (Finset.sum_congr rfl fun i _ => dgb_apply X i j))

/-- The store of another row, read at row `k`. -/
theorem skip_row (k k' : Nat) (hk : k < 8) (hne : k < k' ∨ k' < k) (inb) (w : FVec Ideal S1x1024 .f32)
    (L : List (View.Piece (Elt Ideal) S8x1024 .f32)) (j : Fin 1024) :
    View.canon (⟨Rect.unit (s := S8x1024) ![k', 0] S1x1024.size inb, w⟩ :: L) (ix2 (⟨k, hk⟩ : Fin 8) j)
      = View.canon L (ix2 (⟨k, hk⟩ : Fin 8) j) := by
  have h : ix2 (⟨k, hk⟩ : Fin 8) j ∉ (Rect.unit (s := S8x1024) ![k', 0] S1x1024.size inb).set := fun h => by
    have h0 := Rect.mem_set_unit.1 h 0
    have h1 : k' ≤ k := h0.1
    have h2 : k < k' + 1 := h0.2
    omega
  exact View.canon_cons_of_not_mem (Val := Elt Ideal) ⟨Rect.unit (s := S8x1024) ![k', 0] S1x1024.size inb, w⟩ L h
/-- The store of row `k`, read there. -/
theorem row_store (k : Nat) (hk : k < 8) (inb) (w : FVec Ideal S1x1024 .f32) (L : List (View.Piece (Elt Ideal) S8x1024 .f32)) (j : Fin 1024) :
    View.canon (⟨Rect.unit (s := S8x1024) ![k, 0] S1x1024.size inb, w⟩ :: L) (ix2 (⟨k, hk⟩ : Fin 8) j) = w (ix2 0 j) := by
  have e : ix2 (⟨k, hk⟩ : Fin 8) j = (Rect.unit (s := S8x1024) ![k, 0] S1x1024.size inb).emb (ix2 (0 : Fin 1) j) :=
    funext fun a => Fin.ext (by
      match a with
      | ⟨0, _⟩ => show k = k + 1 * 0; omega
      | ⟨1, _⟩ => show j.val = 0 + 1 * j.val; omega)
  rw [e]
  exact View.canon_cons_emb (Val := Elt Ideal) (Rect.unit (s := S8x1024) ![k, 0] S1x1024.size inb) w L (ix2 (0 : Fin 1) j)

/-- The six stores over the whole block, read at a row. -/
theorem six_rows (w0 w1 w2 w3 w4 w5 : FVec Ideal S1x1024 .f32) (A : FVec Ideal S8x1024 .f32) (i0 i1 i2 i3 i4 i5 iw) (k : Fin 8) (j : Fin 1024) :
    View.canon (Val := Elt Ideal) (e := .f32) [
      ⟨Rect.unit (s := S8x1024) ![5, 0] S1x1024.size i5, w5⟩, ⟨Rect.unit (s := S8x1024) ![4, 0] S1x1024.size i4, w4⟩,
      ⟨Rect.unit (s := S8x1024) ![3, 0] S1x1024.size i3, w3⟩, ⟨Rect.unit (s := S8x1024) ![2, 0] S1x1024.size i2, w2⟩,
      ⟨Rect.unit (s := S8x1024) ![1, 0] S1x1024.size i1, w1⟩, ⟨Rect.unit (s := S8x1024) ![0, 0] S1x1024.size i0, w0⟩,
      ⟨Rect.unit (s := S8x1024) ![0, 0] S8x1024.size iw, A⟩] (ix2 k j)
    = (match k with
      | ⟨0, _⟩ => w0 (ix2 0 j) | ⟨1, _⟩ => w1 (ix2 0 j) | ⟨2, _⟩ => w2 (ix2 0 j) | ⟨3, _⟩ => w3 (ix2 0 j)
      | ⟨4, _⟩ => w4 (ix2 0 j) | ⟨5, _⟩ => w5 (ix2 0 j) | ⟨6, h⟩ => A (ix2 ⟨6, h⟩ j) | ⟨7, h⟩ => A (ix2 ⟨7, h⟩ j)) := by
  match k with
  | ⟨0, hk⟩ =>
    refine (skip_row 0 5 hk (by decide) i5 w5 _ j).trans ?_
    refine (skip_row 0 4 hk (by decide) i4 w4 _ j).trans ?_
    refine (skip_row 0 3 hk (by decide) i3 w3 _ j).trans ?_
    refine (skip_row 0 2 hk (by decide) i2 w2 _ j).trans ?_
    refine (skip_row 0 1 hk (by decide) i1 w1 _ j).trans ?_
    exact row_store 0 hk i0 w0 _ j
  | ⟨1, hk⟩ =>
    refine (skip_row 1 5 hk (by decide) i5 w5 _ j).trans ?_
    refine (skip_row 1 4 hk (by decide) i4 w4 _ j).trans ?_
    refine (skip_row 1 3 hk (by decide) i3 w3 _ j).trans ?_
    refine (skip_row 1 2 hk (by decide) i2 w2 _ j).trans ?_
    exact row_store 1 hk i1 w1 _ j
  | ⟨2, hk⟩ =>
    refine (skip_row 2 5 hk (by decide) i5 w5 _ j).trans ?_
    refine (skip_row 2 4 hk (by decide) i4 w4 _ j).trans ?_
    refine (skip_row 2 3 hk (by decide) i3 w3 _ j).trans ?_
    exact row_store 2 hk i2 w2 _ j
  | ⟨3, hk⟩ =>
    refine (skip_row 3 5 hk (by decide) i5 w5 _ j).trans ?_
    refine (skip_row 3 4 hk (by decide) i4 w4 _ j).trans ?_
    exact row_store 3 hk i3 w3 _ j
  | ⟨4, hk⟩ =>
    refine (skip_row 4 5 hk (by decide) i5 w5 _ j).trans ?_
    exact row_store 4 hk i4 w4 _ j
  | ⟨5, hk⟩ =>
    exact row_store 5 hk i5 w5 _ j
  | ⟨6, hk⟩ =>
    refine (skip_row 6 5 hk (by decide) i5 w5 _ j).trans ?_
    refine (skip_row 6 4 hk (by decide) i4 w4 _ j).trans ?_
    refine (skip_row 6 3 hk (by decide) i3 w3 _ j).trans ?_
    refine (skip_row 6 2 hk (by decide) i2 w2 _ j).trans ?_
    refine (skip_row 6 1 hk (by decide) i1 w1 _ j).trans ?_
    refine (skip_row 6 0 hk (by decide) i0 w0 _ j).trans ?_
    exact congrFun (View.canon_cons_unit_zero (Val := Elt Ideal) (S := S8x1024) (e := .f32) zero2 iw A []) (ix2 _ j)
  | ⟨7, hk⟩ =>
    refine (skip_row 7 5 hk (by decide) i5 w5 _ j).trans ?_
    refine (skip_row 7 4 hk (by decide) i4 w4 _ j).trans ?_
    refine (skip_row 7 3 hk (by decide) i3 w3 _ j).trans ?_
    refine (skip_row 7 2 hk (by decide) i2 w2 _ j).trans ?_
    refine (skip_row 7 1 hk (by decide) i1 w1 _ j).trans ?_
    refine (skip_row 7 0 hk (by decide) i0 w0 _ j).trans ?_
    exact congrFun (View.canon_cons_unit_zero (Val := Elt Ideal) (S := S8x1024) (e := .f32) zero2 iw A []) (ix2 _ j)

theorem acc_apply (A : FVec Ideal S8x1024 .f32) (k : Fin 8) (j : Fin 1024) :
    acc X A (ix2 k j) = A (ix2 k j) + share8 X k j := by
  unfold acc
  refine (six_rows _ _ _ _ _ _ A _ _ _ _ _ _ _ k j).trans ?_
  match k with
  | ⟨0, hk⟩ => exact acc0_apply X A j
  | ⟨1, hk⟩ => exact acc1_apply X A j
  | ⟨2, hk⟩ => exact acc2_apply X A j
  | ⟨3, hk⟩ => exact acc3_apply X A j
  | ⟨4, hk⟩ => exact acc4_apply X A j
  | ⟨5, hk⟩ => exact acc5_apply X A j
  | ⟨6, hk⟩ => exact (add_zero _).symm
  | ⟨7, hk⟩ => exact (add_zero _).symm

/-! ## What is carried -/

variable (m : (ℓ : Loc nD τ sig) → Buf (Elt Ideal) ℓ)

theorem pay2_apply (i : S8x1024.Idx) : (k0_pay2 : FVec Ideal S8x1024 .f32) i = 0 := Ideal.ofBits_zero_f32
theorem pay3_apply (v : Fin 128) (j : Fin 1024) : (k0_pay3 : FVec Ideal S128x1024 .f32) (ix2 v j) = 0 := by
  have e : (k0_pay3 : FVec Ideal S128x1024 .f32) = shapeCast S128x1024 (broadcast S128x1024 (Scalar.ofBits .f32 0x00000000#32)) (by decide) := by
    sl_kernel_rfl
  rw [e, shapeCast_self]; exact Ideal.ofBits_zero_f32

theorem dstate_congr {W W' : Weights} {R R' : Fin 128 → RowData} (hW : W = W') (hR : R = R') :
    dstate (fun i => rDo W (R i)) (fun i => (R i).q) = dstate (fun i => rDo W' (R' i)) (fun i => (R' i).q) := by
  subst hW; subst hR; rfl
theorem add_tile (c : Dev nD) (t : Fin cfg0.N) (r : Fin 2) :
    dstate (fun i => rDo (weights (tile m c t)) (rowOf (tile m c t) (at2 r i))) (fun i => (rowOf (tile m c t) (at2 r i)).q)
      = (call m c).add (chunkOfTile t r) := by
  exact dstate_congr (R := fun i => rowOf (tile m c t) (at2 r i)) (R' := fun i => (call m c).R (rowIn (chunkOfTile t r) i))
    (tile_weights m c t) (funext fun i => (tile_row m c t (at2 r i)).trans (congrArg (call m c).R (rowOfTile_at2 t r i)))

theorem fromEnd_even (t : Fin cfg0.N) : fromEnd (2 * t.val) = chunkOfTile t 1 :=
  Fin.ext (by have := tile_lt t; show 31 - 2 * t.val = 2 * (15 - t.val) + 1; omega)
theorem fromEnd_odd (t : Fin cfg0.N) : fromEnd (2 * t.val + 1) = chunkOfTile t 0 :=
  Fin.ext (by have := tile_lt t; show 31 - (2 * t.val + 1) = 2 * (15 - t.val) + 0; omega)

theorem st1_of (G : FVec Ideal S128x1024 .f32) (v : Fin 128) (j : Fin 1024) {d g a : EReal} (hd : X.dec (ix3 1 0 j) = d)
    (hG : G (ix2 v j) = g)
    (ha : dstate (fun i => rDo (weights X) (rowOf X (at2 1 i))) (fun i => (rowOf X (at2 1 i)).q) v j = a) :
    st1 X G (ix2 v j) = d * g + a := by
  rw [st1_apply, hd, hG, ha]
theorem st0_of (G : FVec Ideal S128x1024 .f32) (v : Fin 128) (j : Fin 1024) {d g a : EReal} (hd : X.dec (ix3 0 0 j) = d)
    (hG : st1 X G (ix2 v j) = g)
    (ha : dstate (fun i => rDo (weights X) (rowOf X (at2 0 i))) (fun i => (rowOf X (at2 0 i)).q) v j = a) :
    st0 X G (ix2 v j) = d * g + a := by
  rw [st0_apply, hd, hG, ha]
theorem after_succ (C : Call) (n : Nat) (v : Fin 128) (j : Fin 1024) :
    C.dec (fromEnd n) j * C.after n v j + C.add (fromEnd n) v j = C.after (n + 1) v j := by rw [Call.after]

/-- The second chunk's step, and then the first's. -/
theorem step1 (c : Dev nD) (t : Fin cfg0.N) (G : FVec Ideal S128x1024 .f32)
    (hG : ∀ v j, G (ix2 v j) = (call m c).after (2 * t.val) v j) (v : Fin 128) (j : Fin 1024) :
    st1 (tile m c t) G (ix2 v j) = (call m c).after (2 * t.val + 1) v j := by
  rw [← after_succ, fromEnd_even]
  exact st1_of (tile m c t) G v j (tile_dec m c t 1 j) (hG v j) (congrFun (congrFun (add_tile m c t 1) v) j)
theorem step0 (c : Dev nD) (t : Fin cfg0.N) (G : FVec Ideal S128x1024 .f32)
    (hG : ∀ v j, G (ix2 v j) = (call m c).after (2 * t.val) v j) (v : Fin 128) (j : Fin 1024) :
    st0 (tile m c t) G (ix2 v j) = (call m c).after (2 * t.val + 1 + 1) v j := by
  rw [← after_succ, fromEnd_odd]
  exact st0_of (tile m c t) G v j (tile_dec m c t 0 j) (step1 m c t G hG v j) (congrFun (congrFun (add_tile m c t 0) v) j)

theorem carried_state (c : Dev nD) : ∀ (n : ℕ) (h : n ≤ cfg0.N) (v : Fin 128) (j : Fin 1024),
    (carried m c n h).2 (ix2 v j) = (call m c).after (2 * n) v j
  | 0, h, v, j => by
    rw [carried]; exact pay3_apply v j
  | n + 1, h, v, j => by
    rw [carried_succ]
    exact step0 m c ⟨n, h⟩ _ (carried_state c n (Nat.le_of_succ_le h)) v j

/-- A tile's share of a column sum, in the call's rows. -/
def shareOf (C : Call) (k : Fin 8) (j : Fin 1024) (t : ℕ) : EReal := match summand k with
  | some f => ∑ i : Fin 256, f C.W (C.R ⟨256 * (15 - t) + i.val, by omega⟩) j
  | none => 0
theorem share_tile (c : Dev nD) (t : Fin cfg0.N) (k : Fin 8) (j : Fin 1024) :
    share8 (tile m c t) k j = shareOf (call m c) k j t.val := by
  unfold share8 shareOf
  cases summand k with
  | none => rfl
  | some f =>
    dsimp only
    rw [tile_weights]
    exact Finset.sum_congr rfl fun i _ => by rw [tile_row]; rfl

theorem carried_sums (c : Dev nD) : ∀ (n : ℕ) (h : n ≤ cfg0.N) (k : Fin 8) (j : Fin 1024),
    (carried m c n h).1 (ix2 k j) = ∑ t ∈ Finset.range n, shareOf (call m c) k j t
  | 0, h, k, j => by
    rw [carried]; exact pay2_apply (ix2 k j)
  | n + 1, h, k, j => by
    rw [carried_succ, Finset.sum_range_succ, ← carried_sums c n (Nat.le_of_succ_le h) k j, ← share_tile m c ⟨n, h⟩ k j]
    exact acc_apply (tile m c ⟨n, h⟩) (carried m c n (Nat.le_of_succ_le h)).1 k j

/-- A sum over the rows, tile by tile from the last. -/
theorem sum_tiles (f : Fin 4096 → EReal) :
    ∑ t ∈ Finset.range 16, ∑ i : Fin 256, f ⟨256 * (15 - t) + i.val, by omega⟩ = ∑ r, f r := by
  refine Eq.trans ?_ ((Finset.sum_range_reflect (fun t => ∑ i : Fin 256, f ⟨256 * (t ⊓ 15) + i.val, by omega⟩) 16).trans ?_)
  · refine Finset.sum_congr rfl fun t ht => Finset.sum_congr rfl fun i _ => congrArg f (Fin.ext ?_)
    have := Finset.mem_range.1 ht
    show 256 * (15 - t) + i.val = 256 * ((16 - 1 - t) ⊓ 15) + i.val
    omega
  · rw [Finset.sum_range, ← Equiv.sum_comp (finProdFinEquiv (m := 16) (n := 256)) f, Fintype.sum_prod_type]
    refine Finset.sum_congr rfl fun t _ => Finset.sum_congr rfl fun i _ => congrArg f (Fin.ext ?_)
    show 256 * (t.val ⊓ 15) + i.val = i.val + 256 * t.val
    omega

theorem sums (C : Call) (k : Fin 8) (j : Fin 1024) :
    ∑ t ∈ Finset.range 16, shareOf C k j t = C.acc (ix2 k j) := by
  show _ = match summand k with
    | some f => ∑ r, f C.W (C.R r) j
    | none => 0
  unfold shareOf
  cases summand k with
  | none => exact Finset.sum_const_zero
  | some f => exact sum_tiles fun r => f C.W (C.R r) j

end Cert.KernelIdeal.Mix

end
-- ==== Proof.Finals.lean ====
/-
  What each result array holds when all the tiles are done: the call's results.
-/
module

public import proofs.«01_k».proof.Proof.Outs

@[expose] public section

set_option maxRecDepth 16384
set_option maxHeartbeats 1000000

noncomputable section

namespace Cert.KernelIdeal.Mix

open Idealize.ShloMosaic hiding ix1 ix2 ix3 ix4 eq_ix2 eq_ix3
open Idealize.ShloMosaic.ValueIdx Idealize.ShloMosaic.Tactic Idealize.ShloMosaic.TcCoe Cert.KernelIdeal.Gen Cert.Mix
open Idealize.ShloMosaic.Pipeline (Dat Window)
open scoped BigOperators

variable (m : (ℓ : Loc nD τ sig) → Buf (Elt Ideal) ℓ)

theorem emb17 (t : Fin cfg0.N) (i : Fin 256) (j : Fin 1024) :
    ((cfg0.win 17).blk t).view.emb (ix2 i j) = (ix2 (rowOfTile t i) j : S4096x1024.Idx) := by
  obtain ⟨e0, e1⟩ := lies17 t
  refine funext fun a => Fin.ext ?_
  match a with
  | ⟨0, _⟩ => show win0_17.index t (0 : Fin 2) * 256 + 1 * i.val = 256 * (15 - t.val) + i.val; omega
  | ⟨1, _⟩ => show win0_17.index t (1 : Fin 2) * 1024 + 1 * j.val = j.val; omega
theorem final17 (c : Dev nD) : (dats m 0 c).arrAt 17 cfg0.N = (call m c).rows rDo := by
  refine (dats m 0 c).arrAt_eq_of_covers 17 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rDo) (emb17 t i j)).symm
  show (dats m 0 c).after 17 t (ix2 i j) = rDo (call m c).W ((call m c).R (rowOfTile t i)) j
  rw [after17, ← tile_weights m c t, ← tile_row m c t i]
  exact dout_apply (tile m c t) i j

theorem emb18 (t : Fin cfg0.N) (i : Fin 256) (j : Fin 1024) :
    ((cfg0.win 18).blk t).view.emb (ix2 i j) = (ix2 (rowOfTile t i) j : S4096x1024.Idx) := by
  obtain ⟨e0, e1⟩ := lies18 t
  refine funext fun a => Fin.ext ?_
  match a with
  | ⟨0, _⟩ => show win0_18.index t (0 : Fin 2) * 256 + 1 * i.val = 256 * (15 - t.val) + i.val; omega
  | ⟨1, _⟩ => show win0_18.index t (1 : Fin 2) * 1024 + 1 * j.val = j.val; omega
theorem final18 (c : Dev nD) : (dats m 0 c).arrAt 18 cfg0.N = (call m c).rows rDq := by
  refine (dats m 0 c).arrAt_eq_of_covers 18 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rDq) (emb18 t i j)).symm
  show (dats m 0 c).after 18 t (ix2 i j) = rDq (call m c).W ((call m c).R (rowOfTile t i)) j
  rw [after18, ← tile_weights m c t, ← tile_row m c t i]
  exact dq_apply (tile m c t) i j

theorem emb20 (t : Fin cfg0.N) (i : Fin 256) (j : Fin 1024) :
    ((cfg0.win 20).blk t).view.emb (ix2 i j) = (ix2 (rowOfTile t i) j : S4096x1024.Idx) := by
  obtain ⟨e0, e1⟩ := lies20 t
  refine funext fun a => Fin.ext ?_
  match a with
  | ⟨0, _⟩ => show win0_20.index t (0 : Fin 2) * 256 + 1 * i.val = 256 * (15 - t.val) + i.val; omega
  | ⟨1, _⟩ => show win0_20.index t (1 : Fin 2) * 1024 + 1 * j.val = j.val; omega
theorem final20 (c : Dev nD) : (dats m 0 c).arrAt 20 cfg0.N = (call m c).rows rDact := by
  refine (dats m 0 c).arrAt_eq_of_covers 20 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rDact) (emb20 t i j)).symm
  show (dats m 0 c).after 20 t (ix2 i j) = rDact (call m c).W ((call m c).R (rowOfTile t i)) j
  rw [after20, ← tile_weights m c t, ← tile_row m c t i]
  exact dact_apply (tile m c t) i j

theorem emb21 (t : Fin cfg0.N) (i : Fin 256) (j : Fin 1024) :
    ((cfg0.win 21).blk t).view.emb (ix2 i j) = (ix2 (rowOfTile t i) j : S4096x1024.Idx) := by
  obtain ⟨e0, e1⟩ := lies21 t
  refine funext fun a => Fin.ext ?_
  match a with
  | ⟨0, _⟩ => show win0_21.index t (0 : Fin 2) * 256 + 1 * i.val = 256 * (15 - t.val) + i.val; omega
  | ⟨1, _⟩ => show win0_21.index t (1 : Fin 2) * 1024 + 1 * j.val = j.val; omega
theorem final21 (c : Dev nD) : (dats m 0 c).arrAt 21 cfg0.N = (call m c).rows rA := by
  refine (dats m 0 c).arrAt_eq_of_covers 21 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rA) (emb21 t i j)).symm
  show (dats m 0 c).after 21 t (ix2 i j) = rA (call m c).W ((call m c).R (rowOfTile t i)) j
  rw [after21, ← tile_weights m c t, ← tile_row m c t i]
  exact attW_apply (tile m c t) i j

theorem emb22 (t : Fin cfg0.N) (i : Fin 256) (j : Fin 1024) :
    ((cfg0.win 22).blk t).view.emb (ix2 i j) = (ix2 (rowOfTile t i) j : S4096x1024.Idx) := by
  obtain ⟨e0, e1⟩ := lies22 t
  refine funext fun a => Fin.ext ?_
  match a with
  | ⟨0, _⟩ => show win0_22.index t (0 : Fin 2) * 256 + 1 * i.val = 256 * (15 - t.val) + i.val; omega
  | ⟨1, _⟩ => show win0_22.index t (1 : Fin 2) * 1024 + 1 * j.val = j.val; omega
theorem final22 (c : Dev nD) : (dats m 0 c).arrAt 22 cfg0.N = (call m c).rows rM := by
  refine (dats m 0 c).arrAt_eq_of_covers 22 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rM) (emb22 t i j)).symm
  show (dats m 0 c).after 22 t (ix2 i j) = rM (call m c).W ((call m c).R (rowOfTile t i)) j
  rw [after22, ← tile_weights m c t, ← tile_row m c t i]
  exact merged_apply (tile m c t) i j

theorem emb23 (t : Fin cfg0.N) (i : Fin 256) (j : Fin 1024) :
    ((cfg0.win 23).blk t).view.emb (ix2 i j) = (ix2 (rowOfTile t i) j : S4096x1024.Idx) := by
  obtain ⟨e0, e1⟩ := lies23 t
  refine funext fun a => Fin.ext ?_
  match a with
  | ⟨0, _⟩ => show win0_23.index t (0 : Fin 2) * 256 + 1 * i.val = 256 * (15 - t.val) + i.val; omega
  | ⟨1, _⟩ => show win0_23.index t (1 : Fin 2) * 1024 + 1 * j.val = j.val; omega
theorem final23 (c : Dev nD) : (dats m 0 c).arrAt 23 cfg0.N = (call m c).rows rDya := by
  refine (dats m 0 c).arrAt_eq_of_covers 23 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rDya) (emb23 t i j)).symm
  show (dats m 0 c).after 23 t (ix2 i j) = rDya (call m c).W ((call m c).R (rowOfTile t i)) j
  rw [after23, ← tile_weights m c t, ← tile_row m c t i]
  exact dya_apply (tile m c t) i j

theorem emb24 (t : Fin cfg0.N) (i : Fin 256) (j : Fin 1024) :
    ((cfg0.win 24).blk t).view.emb (ix2 i j) = (ix2 (rowOfTile t i) j : S4096x1024.Idx) := by
  obtain ⟨e0, e1⟩ := lies24 t
  refine funext fun a => Fin.ext ?_
  match a with
  | ⟨0, _⟩ => show win0_24.index t (0 : Fin 2) * 256 + 1 * i.val = 256 * (15 - t.val) + i.val; omega
  | ⟨1, _⟩ => show win0_24.index t (1 : Fin 2) * 1024 + 1 * j.val = j.val; omega
theorem final24 (c : Dev nD) : (dats m 0 c).arrAt 24 cfg0.N = (call m c).rows rDyb := by
  refine (dats m 0 c).arrAt_eq_of_covers 24 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rDyb) (emb24 t i j)).symm
  show (dats m 0 c).after 24 t (ix2 i j) = rDyb (call m c).W ((call m c).R (rowOfTile t i)) j
  rw [after24, ← tile_weights m c t, ← tile_row m c t i]
  exact dybW_apply (tile m c t) i j

theorem emb25 (t : Fin cfg0.N) (i : Fin 256) (j : Fin 1024) :
    ((cfg0.win 25).blk t).view.emb (ix2 i j) = (ix2 (rowOfTile t i) j : S4096x1024.Idx) := by
  obtain ⟨e0, e1⟩ := lies25 t
  refine funext fun a => Fin.ext ?_
  match a with
  | ⟨0, _⟩ => show win0_25.index t (0 : Fin 2) * 256 + 1 * i.val = 256 * (15 - t.val) + i.val; omega
  | ⟨1, _⟩ => show win0_25.index t (1 : Fin 2) * 1024 + 1 * j.val = j.val; omega
theorem final25 (c : Dev nD) : (dats m 0 c).arrAt 25 cfg0.N = (call m c).rows rDy := by
  refine (dats m 0 c).arrAt_eq_of_covers 25 _ (by decide +kernel) fun t _ y => ?_
  obtain ⟨i, j, rfl⟩ : ∃ (i : Fin 256) (j : Fin 1024), y = (ix2 i j : S256x1024.Idx) := ⟨y 0, y 1, eq_ix2 y⟩
  refine Eq.trans ?_ (congrArg ((call m c).rows rDy) (emb25 t i j)).symm
  show (dats m 0 c).after 25 t (ix2 i j) = rDy (call m c).W ((call m c).R (rowOfTile t i)) j
  rw [after25, ← tile_weights m c t, ← tile_row m c t i]
  exact dyW_apply (tile m c t) i j

theorem emb19 (t : Fin cfg0.N) (r : Fin 2) (v : Fin 128) (j : Fin 1024) :
    ((cfg0.win 19).blk t).view.emb (ix3 r v j) = (ix3 (chunkOfTile t r) v j : S32x128x1024.Idx) := by
  obtain ⟨e0, e1, e2⟩ := lies19 t
  refine funext fun a => Fin.ext ?_
  match a with
  | ⟨0, _⟩ => show win0_19.index t (0 : Fin 3) * 2 + 1 * r.val = 2 * (15 - t.val) + r.val; omega
  | ⟨1, _⟩ => show win0_19.index t (1 : Fin 3) * 128 + 1 * v.val = v.val; omega
  | ⟨2, _⟩ => show win0_19.index t (2 : Fin 3) * 1024 + 1 * j.val = j.val; omega
theorem gt_tile (c : Dev nD) (t : Fin cfg0.N) (G : FVec Ideal S128x1024 .f32)
    (hG : ∀ v j, G (ix2 v j) = (call m c).after (2 * t.val) v j) (r : Fin 2) (v : Fin 128) (j : Fin 1024) :
    gt (tile m c t) G (ix3 r v j) = (call m c).after (31 - (chunkOfTile t r).val) v j := by
  have ht := tile_lt t
  rw [gt_apply]
  match r with
  | ⟨0, _⟩ =>
    refine (step1 m c t G hG v j).trans (congrArg (fun n => (call m c).after n v j) ?_)
    show 2 * t.val + 1 = 31 - (2 * (15 - t.val) + 0); omega
  | ⟨1, _⟩ =>
    refine (hG v j).trans (congrArg (fun n => (call m c).after n v j) ?_)
    show 2 * t.val = 31 - (2 * (15 - t.val) + 1); omega
theorem final19 (c : Dev nD) : (dats m 0 c).arrAt 19 cfg0.N = (call m c).gt := by
  refine (dats m 0 c).arrAt_eq_of_covers 19 _ (by decide +kernel) fun t _ y => ?_
  obtain ⟨r, v, j, rfl⟩ : ∃ (r : Fin 2) (v : Fin 128) (j : Fin 1024), y = (ix3 r v j : S2x128x1024.Idx) :=
    ⟨y 0, y 1, y 2, eq_ix3 y⟩
  refine Eq.trans ?_ (congrArg ((call m c).gt) (emb19 t r v j)).symm
  show (dats m 0 c).after 19 t (ix3 r v j) = (call m c).after (31 - (chunkOfTile t r).val) v j
  rw [after19]
  exact gt_tile m c t _ (carried_state m c t.val (Nat.le_of_lt t.isLt)) r v j

theorem emb26 (k : Fin 8) (j : Fin 1024) : (cfg0.win 26).arr.view.emb (ix2 k j) = (ix2 k j : S8x1024.Idx) := by
  refine funext fun a => Fin.ext ?_
  match a with
  | ⟨0, _⟩ => rfl
  | ⟨1, _⟩ => rfl
theorem final26 (c : Dev nD) : (dats m 0 c).arrAt 26 cfg0.N = (call m c).acc := by
  refine (dats m 0 c).arrAt_eq_of_after_last 26 (⟨15, by decide⟩ : Fin cfg0.N) (by decide) _ fun y => ?_
  obtain ⟨k, j, rfl⟩ : ∃ (k : Fin 8) (j : Fin 1024), y = (ix2 k j : S8x1024.Idx) := ⟨y 0, y 1, eq_ix2 y⟩
  refine Eq.trans ?_ (congrArg ((call m c).acc) (emb26 k j)).symm
  show (dats m 0 c).after 26 (⟨15, by decide⟩ : Fin cfg0.N) (ix2 k j) = (call m c).acc (ix2 k j)
  rw [after26, ← sums, ← carried_sums m c 16 (by decide) k j, carried_succ]
  rfl

theorem whole16 : ∀ t : Fin cfg0.N, ((cfg0.win 16).xblock (cfg0.grid.coords t)).size (0 : Fin 2) = 256
    ∧ ((cfg0.win 16).xblock (cfg0.grid.coords t)).size (1 : Fin 2) = 3072 := by decide +kernel
/-- Row `i` and column `j` of tile `t`'s block. -/
def at16 (t : Fin cfg0.N) (i : Fin 256) (j : Fin 3072) : ((cfg0.win 16).xblock (cfg0.grid.coords t)).Idx := fun a =>
  match a with
  | ⟨0, _⟩ => ⟨i.val, Nat.lt_of_lt_of_eq i.isLt (whole16 t).1.symm⟩
  | ⟨1, _⟩ => ⟨j.val, Nat.lt_of_lt_of_eq j.isLt (whole16 t).2.symm⟩
theorem emb16 (t : Fin cfg0.N) (i : Fin 256) (j : Fin 3072) :
    ((cfg0.win 16).blk t).view.emb (at16 t i j) = (ix2 (rowOfTile t i) (⟨j.val, by omega⟩ : Fin 8192) : S4096x8192.Idx) := by
  obtain ⟨e0, e1⟩ := lies16 t
  refine funext fun a => Fin.ext ?_
  match a with
  | ⟨0, _⟩ => show win0_16.index t (0 : Fin 2) * 256 + 1 * i.val = 256 * (15 - t.val) + i.val; omega
  | ⟨1, _⟩ => show win0_16.index t (1 : Fin 2) * 3072 + 1 * j.val = j.val; omega
theorem xinj16 (t : Fin cfg0.N) (i : Fin 256) (j : Fin 3072) :
    (cfg0.win 16).xinj (cfg0.grid.coords t) (at16 t i j) = (ix2 i j : S256x3072.Idx) := by
  refine funext fun a => Fin.ext ?_
  match a with
  | ⟨0, _⟩ => rfl
  | ⟨1, _⟩ => rfl
theorem apart16 : ∀ t t' : Fin cfg0.N, (cfg0.win 16).flush t = true → (cfg0.win 16).flush t' = true → t ≠ t' →
    Disjoint ((cfg0.win 16).blk t).view.set ((cfg0.win 16).blk t').view.set :=
  Window.hdisj_of_index_inj (cfg0.win 16) fun t t' _ _ h => Fin.ext (by
    have e := congrFun h (0 : Fin 2)
    have e0 := (lies16 t).1
    have e1 := (lies16 t').1
    have := tile_lt t
    have := tile_lt t'
    have : 15 - t.val = 15 - t'.val := e0.symm.trans (e.trans e1)
    omega)
/-- Row `i` and column `j` of what tile `t` writes back. -/
theorem flushed16 (c : Dev nD) (t : Fin cfg0.N) (i : Fin 256) (j : Fin 3072) :
    ((dats m 0 c).arrAt 16 cfg0.N : Mat 4096 8192) (ix2 (rowOfTile t i) (⟨j.val, by omega⟩ : Fin 8192))
      = gates (call m c).W ((call m c).R (rowOfTile t i)) j := by
  refine ((congrArg ((dats m 0 c).arrAt 16 cfg0.N : Mat 4096 8192) (emb16 t i j)).symm.trans
    ((dats m 0 c).arrAt_emb_eq_flushed 16 apart16 t (flush0_16 t) (at16 t i j))).trans ?_
  show (dats m 0 c).after 16 t ((cfg0.win 16).xinj (cfg0.grid.coords t) (at16 t i j)) = _
  rw [xinj16, after16]
  refine (dp_apply _ _ _).trans ?_
  rw [tile_weights, tile_row]
/-- Side by side or placed in the projection's columns, the gates' gradients are the same. -/
theorem gates_dp (C : Call) (r : Fin 4096) (j : Fin 8192) (hj : j.val < 3072) :
    gates C.W (C.R r) ⟨j.val, hj⟩ = C.dp (ix2 r j) := by
  show (if h₁ : j.val < 1024 then rDog C.W (C.R r) ⟨j.val, h₁⟩
      else if h₂ : j.val - 1024 < 1024 then rDga C.W (C.R r) ⟨j.val - 1024, h₂⟩
      else rDgb C.W (C.R r) ⟨j.val - 2048, by omega⟩)
    = (if h₁ : j.val < 1024 then rDog C.W (C.R r) ⟨j.val, h₁⟩
      else if h₂ : j.val - 1024 < 1024 then rDga C.W (C.R r) ⟨j.val - 1024, h₂⟩
      else if h₃ : j.val - 2048 < 1024 then rDgb C.W (C.R r) ⟨j.val - 2048, h₃⟩
      else 0)
  have h₃ : j.val - 2048 < 1024 := by omega
  by_cases h₁ : j.val < 1024
  · rw [dif_pos h₁, dif_pos h₁]
  · rw [dif_neg h₁, dif_neg h₁]
    by_cases h₂ : j.val - 1024 < 1024
    · rw [dif_pos h₂, dif_pos h₂]
    · rw [dif_neg h₂, dif_neg h₂, dif_pos h₃]
/-- The three gates' columns of the gradient by the projection; the call leaves the columns right of them as they were. -/
theorem final16 (c : Dev nD) (r : Fin 4096) (j : Fin 8192) (hj : j.val < 3072) :
    ((dats m 0 c).arrAt 16 cfg0.N : Mat 4096 8192) (ix2 r j) = (call m c).dp (ix2 r j) := by
  have hN : 15 - r.val / 256 < cfg0.N := Nat.lt_of_lt_of_eq (by omega) N_0.symm
  have h := flushed16 m c ⟨15 - r.val / 256, hN⟩ (⟨r.val % 256, by omega⟩ : Fin 256) (⟨j.val, hj⟩ : Fin 3072)
  have er : rowOfTile ⟨15 - r.val / 256, hN⟩ (⟨r.val % 256, by omega⟩ : Fin 256) = r :=
    Fin.ext (by show 256 * (15 - (15 - r.val / 256)) + r.val % 256 = r.val; omega)
  rw [er] at h
  refine h.trans (gates_dp (call m c) r j hj)

end Cert.KernelIdeal.Mix

end
-- ==== Proof.RefRead.lean ====
/-
  The reference's operations read at an element: the rows' results, their column sums, and what each chunk adds to the
  gradient of the state it finds.
-/
module

public import proofs.«01_k».proof.Proof.Gen.ReferenceIdeal.Read
public import proofs.«01_k».proof.Proof.Call

@[expose] public section

set_option maxRecDepth 16384
set_option maxHeartbeats 1000000

noncomputable section

namespace Cert.ReferenceIdeal.Mix

open Idealize.ShloMosaic hiding ix1 ix2 ix3 ix4 eq_ix2 eq_ix3
open Idealize.ShloMosaic.ValueIdx Idealize.ShloMosaic.Tactic Cert.ReferenceIdeal Cert.ReferenceIdeal.Gen Cert.ReferenceIdeal.Read Cert.Mix
open scoped BigOperators

/-- The reference's arguments. -/
structure Args where
  x0 : (⟨S4096x1024, .f32⟩ : BufTy).Contents (Elt Ideal)
  x1 : (⟨S4096x8192, .f32⟩ : BufTy).Contents (Elt Ideal)
  x2 : (⟨S4096x1024, .bf16⟩ : BufTy).Contents (Elt Ideal)
  x3 : (⟨S4096x1024, .f32⟩ : BufTy).Contents (Elt Ideal)
  x4 : (⟨S32x128x1024, .f32⟩ : BufTy).Contents (Elt Ideal)
  x5 : (⟨S4096x1024, .bf16⟩ : BufTy).Contents (Elt Ideal)
  x6 : (⟨S1024x1024, .bf16⟩ : BufTy).Contents (Elt Ideal)
  x7 : (⟨S1024x1024, .bf16⟩ : BufTy).Contents (Elt Ideal)
  x8 : (⟨S1024x1024, .bf16⟩ : BufTy).Contents (Elt Ideal)
  x9 : (⟨S1x1024, .f32⟩ : BufTy).Contents (Elt Ideal)
  x10 : (⟨S1x1024, .f32⟩ : BufTy).Contents (Elt Ideal)
  x11 : (⟨S1x1024, .f32⟩ : BufTy).Contents (Elt Ideal)
  x12 : (⟨S4096x1024, .f32⟩ : BufTy).Contents (Elt Ideal)
  x13 : (⟨S32x1x1024, .f32⟩ : BufTy).Contents (Elt Ideal)
/-- The call's data from them. -/
def Args.call (A : Args) : Call := Call.of A.x1 A.x2 A.x3 A.x4 A.x5 A.x6 A.x7 A.x8 A.x9 A.x10 A.x11 A.x12 A.x13

theorem zadd (x : EReal) : (FloatOps.ofBits (F := Ideal) .f32 0x00000000#32 : EReal) + x = x := by
  show Ideal.ofBits .f32 0x00000000#32 + x = x
  rw [Ideal.ofBits_zero_f32, zero_add]
theorem one_eq : one = 1 := by
  unfold one
  simp [Ideal.ofBits, Ideal.ieee, -EReal.coe_mul]; norm_num
theorem sig_eq (x : EReal) : Ideal.div one (one + Ideal.exp (-x)) = Cert.Mix.sig x := by
  unfold Cert.Mix.sig Ideal.logistic; rw [one_eq]

/-! ## Where each layout operation reads -/

theorem i8 (c : Fin 32) (i : Fin 128) (h : Fin 8) (k : Fin 128) : idx_main_v8 (ix4 c i h k) = ix2 (rowIn c i) (col h k) := by
  refine funext fun a => Fin.ext ?_
  match a with
  | ⟨0, _⟩ => show (((c.val * 128 + i.val) * 8 + h.val) * 128 + k.val) / 1024 = 128 * c.val + i.val; omega
  | ⟨1, _⟩ => show (((c.val * 128 + i.val) * 8 + h.val) * 128 + k.val) % 1024 = 128 * h.val + k.val; omega
theorem i9 (c : Fin 32) (v : Fin 128) (h : Fin 8) (k : Fin 128) : idx_main_v9 (ix4 c v h k) = ix3 c v (col h k) := by
  refine funext fun a => Fin.ext ?_
  match a with
  | ⟨0, _⟩ => show (((c.val * 128 + v.val) * 8 + h.val) * 128 + k.val) / 131072 = c.val; omega
  | ⟨1, _⟩ => show (((c.val * 128 + v.val) * 8 + h.val) * 128 + k.val) / 1024 % 128 = v.val; omega
  | ⟨2, _⟩ => show (((c.val * 128 + v.val) * 8 + h.val) * 128 + k.val) % 1024 = 128 * h.val + k.val; omega
theorem l10 (c : Fin 32) (h : Fin 8) (v : Fin 128) (i : Fin 128) (l : Fin 128) : lidx_main_v10 (ix4 c h v i) l = ix4 c v h l := by
  refine funext fun a => Fin.ext ?_
  match a with
  | ⟨0, _⟩ => show c.val = c.val; omega
  | ⟨1, _⟩ => show v.val = v.val; omega
  | ⟨2, _⟩ => show h.val = h.val; omega
  | ⟨3, _⟩ => show l.val = l.val; omega
theorem r10 (c : Fin 32) (h : Fin 8) (v : Fin 128) (i : Fin 128) (l : Fin 128) : ridx_main_v10 (ix4 c h v i) l = ix4 c i h l := by
  refine funext fun a => Fin.ext ?_
  match a with
  | ⟨0, _⟩ => show c.val = c.val; omega
  | ⟨1, _⟩ => show i.val = i.val; omega
  | ⟨2, _⟩ => show h.val = h.val; omega
  | ⟨3, _⟩ => show l.val = l.val; omega
theorem i11 (c : Fin 32) (i : Fin 128) (h : Fin 8) (v : Fin 128) : idx_main_v11 (ix4 c i h v) = ix4 c h v i := by
  refine funext fun a => Fin.ext ?_
  match a with
  | ⟨0, _⟩ => show c.val = c.val; omega
  | ⟨1, _⟩ => show h.val = h.val; omega
  | ⟨2, _⟩ => show v.val = v.val; omega
  | ⟨3, _⟩ => show i.val = i.val; omega
theorem i12 (r : Fin 4096) (j : Fin 1024) : idx_main_v12 (ix2 r j) = ix4 (chunk r) (place r) (headOf j) (laneOf j) := by
  refine funext fun a => Fin.ext ?_
  match a with
  | ⟨0, _⟩ => show (r.val * 1024 + j.val) / 131072 = r.val / 128; omega
  | ⟨1, _⟩ => show (r.val * 1024 + j.val) / 1024 % 128 = r.val % 128; omega
  | ⟨2, _⟩ => show (r.val * 1024 + j.val) / 128 % 8 = j.val / 128; omega
  | ⟨3, _⟩ => show (r.val * 1024 + j.val) % 128 = j.val % 128; omega
theorem i14 (r : Fin 4096) (h : Fin 8) (k : Fin 128) : idx_main_v14 (ix3 r h k) = ix2 r (col h k) := by
  refine funext fun a => Fin.ext ?_
  match a with
  | ⟨0, _⟩ => show ((r.val * 8 + h.val) * 128 + k.val) / 1024 = r.val; omega
  | ⟨1, _⟩ => show ((r.val * 8 + h.val) * 128 + k.val) % 1024 = 128 * h.val + k.val; omega
theorem i15 (h : Fin 8) (k : Fin 128) : idx_main_v15 (ix2 h k) = ix2 (0 : Fin 1) (col h k) := by
  refine funext fun a => Fin.ext ?_
  match a with
  | ⟨0, _⟩ => show 0 = 0; omega
  | ⟨1, _⟩ => show (h.val * 128 + k.val) % 1024 = 128 * h.val + k.val; omega
theorem i17 (r : Fin 4096) (h : Fin 8) (l : Fin 128) : idx_main_v17 (ix2 r h) l = ix3 r h l := by
  refine funext fun a => Fin.ext ?_
  match a with
  | ⟨0, _⟩ => show r.val = r.val; omega
  | ⟨1, _⟩ => show h.val = h.val; omega
  | ⟨2, _⟩ => show l.val = l.val; omega
theorem i18 (r : Fin 4096) (h : Fin 8) : idx_main_v18 (ix3 r h (0 : Fin 1)) = ix2 r h := by
  refine funext fun a => Fin.ext ?_
  match a with
  | ⟨0, _⟩ => show r.val = r.val; omega
  | ⟨1, _⟩ => show h.val = h.val; omega
theorem i27 (r : Fin 4096) (h : Fin 8) (k : Fin 128) : idx_main_v27 (ix3 r h k) = ix3 r h (0 : Fin 1) := by
  refine funext fun a => Fin.ext ?_
  match a with
  | ⟨0, _⟩ => show r.val = r.val; omega
  | ⟨1, _⟩ => show h.val = h.val; omega
  | ⟨2, _⟩ => show 0 = 0; omega
theorem i29 (h : Fin 8) (k : Fin 128) : idx_main_v29 (ix3 (0 : Fin 1) h k) = ix2 h k := by
  refine funext fun a => Fin.ext ?_
  match a with
  | ⟨0, _⟩ => show h.val = h.val; omega
  | ⟨1, _⟩ => show k.val = k.val; omega
theorem i30 (r : Fin 4096) (h : Fin 8) (k : Fin 128) : idx_main_v30 (ix3 r h k) = ix3 (0 : Fin 1) h k := by
  refine funext fun a => Fin.ext ?_
  match a with
  | ⟨0, _⟩ => show 0 = 0; omega
  | ⟨1, _⟩ => show h.val = h.val; omega
  | ⟨2, _⟩ => show k.val = k.val; omega
theorem i32 (r : Fin 4096) (j : Fin 1024) : idx_main_v32 (ix2 r j) = ix3 r (headOf j) (laneOf j) := by
  refine funext fun a => Fin.ext ?_
  match a with
  | ⟨0, _⟩ => show (r.val * 1024 + j.val) / 1024 = r.val; omega
  | ⟨1, _⟩ => show (r.val * 1024 + j.val) / 128 % 8 = j.val / 128; omega
  | ⟨2, _⟩ => show (r.val * 1024 + j.val) % 128 = j.val % 128; omega
theorem i5 (r : Fin 4096) (j : Fin 1024) : idx_main_v5 (ix2 r j) = ix2 r (⟨3072 + j.val, by omega⟩ : Fin 8192) := by
  refine funext fun a => Fin.ext ?_
  match a with
  | ⟨0, _⟩ => show r.val = r.val; omega
  | ⟨1, _⟩ => show 3072 + j.val = 3072 + j.val; omega
theorem i6 (r : Fin 4096) (j : Fin 1024) : idx_main_v6 (ix2 r j) = ix2 r (⟨6144 + j.val, by omega⟩ : Fin 8192) := by
  refine funext fun a => Fin.ext ?_
  match a with
  | ⟨0, _⟩ => show r.val = r.val; omega
  | ⟨1, _⟩ => show 6144 + j.val = 6144 + j.val; omega
theorem i7 (r : Fin 4096) (j : Fin 1024) : idx_main_v7 (ix2 r j) = ix2 r (⟨7168 + j.val, by omega⟩ : Fin 8192) := by
  refine funext fun a => Fin.ext ?_
  match a with
  | ⟨0, _⟩ => show r.val = r.val; omega
  | ⟨1, _⟩ => show 7168 + j.val = 7168 + j.val; omega
theorem l35 (r : Fin 4096) (j : Fin 1024) (l : Fin 1024) : lidx_main_v35 (ix2 r j) l = ix2 r l := by
  refine funext fun a => Fin.ext ?_
  match a with
  | ⟨0, _⟩ => show r.val = r.val; omega
  | ⟨1, _⟩ => show l.val = l.val; omega
theorem r35 (r : Fin 4096) (j : Fin 1024) (l : Fin 1024) : ridx_main_v35 (ix2 r j) l = ix2 l j := by
  refine funext fun a => Fin.ext ?_
  match a with
  | ⟨0, _⟩ => show l.val = l.val; omega
  | ⟨1, _⟩ => show j.val = j.val; omega
theorem l36 (r : Fin 4096) (j : Fin 1024) (l : Fin 1024) : lidx_main_v36 (ix2 r j) l = ix2 r l := by
  refine funext fun a => Fin.ext ?_
  match a with
  | ⟨0, _⟩ => show r.val = r.val; omega
  | ⟨1, _⟩ => show l.val = l.val; omega
theorem r36 (r : Fin 4096) (j : Fin 1024) (l : Fin 1024) : ridx_main_v36 (ix2 r j) l = ix2 l j := by
  refine funext fun a => Fin.ext ?_
  match a with
  | ⟨0, _⟩ => show l.val = l.val; omega
  | ⟨1, _⟩ => show j.val = j.val; omega
theorem l58 (r : Fin 4096) (j : Fin 1024) (l : Fin 1024) : lidx_main_v58 (ix2 r j) l = ix2 r l := by
  refine funext fun a => Fin.ext ?_
  match a with
  | ⟨0, _⟩ => show r.val = r.val; omega
  | ⟨1, _⟩ => show l.val = l.val; omega
theorem r58 (r : Fin 4096) (j : Fin 1024) (l : Fin 1024) : ridx_main_v58 (ix2 r j) l = ix2 l j := by
  refine funext fun a => Fin.ext ?_
  match a with
  | ⟨0, _⟩ => show l.val = l.val; omega
  | ⟨1, _⟩ => show j.val = j.val; omega
theorem l102 (r : Fin 4096) (j : Fin 1024) (l : Fin 1024) : lidx_main_v102 (ix2 r j) l = ix2 r l := by
  refine funext fun a => Fin.ext ?_
  match a with
  | ⟨0, _⟩ => show r.val = r.val; omega
  | ⟨1, _⟩ => show l.val = l.val; omega
theorem r102 (r : Fin 4096) (j : Fin 1024) (l : Fin 1024) : ridx_main_v102 (ix2 r j) l = ix2 j l := by
  refine funext fun a => Fin.ext ?_
  match a with
  | ⟨0, _⟩ => show j.val = j.val; omega
  | ⟨1, _⟩ => show l.val = l.val; omega
theorem l109 (r : Fin 4096) (j : Fin 1024) (l : Fin 1024) : lidx_main_v109 (ix2 r j) l = ix2 r l := by
  refine funext fun a => Fin.ext ?_
  match a with
  | ⟨0, _⟩ => show r.val = r.val; omega
  | ⟨1, _⟩ => show l.val = l.val; omega
theorem r109 (r : Fin 4096) (j : Fin 1024) (l : Fin 1024) : ridx_main_v109 (ix2 r j) l = ix2 j l := by
  refine funext fun a => Fin.ext ?_
  match a with
  | ⟨0, _⟩ => show j.val = j.val; omega
  | ⟨1, _⟩ => show l.val = l.val; omega
theorem l110 (r : Fin 4096) (j : Fin 1024) (l : Fin 1024) : lidx_main_v110 (ix2 r j) l = ix2 r l := by
  refine funext fun a => Fin.ext ?_
  match a with
  | ⟨0, _⟩ => show r.val = r.val; omega
  | ⟨1, _⟩ => show l.val = l.val; omega
theorem r110 (r : Fin 4096) (j : Fin 1024) (l : Fin 1024) : ridx_main_v110 (ix2 r j) l = ix2 j l := by
  refine funext fun a => Fin.ext ?_
  match a with
  | ⟨0, _⟩ => show j.val = j.val; omega
  | ⟨1, _⟩ => show l.val = l.val; omega
theorem i60 (r : Fin 4096) (l : Fin 1024) : idx_main_v60 (ix1 r) l = ix2 r l := by
  refine funext fun a => Fin.ext ?_
  match a with
  | ⟨0, _⟩ => show r.val = r.val; omega
  | ⟨1, _⟩ => show l.val = l.val; omega
theorem i61 (r : Fin 4096) : idx_main_v61 (ix2 r (0 : Fin 1)) = ix1 r := by
  refine funext fun a => Fin.ext ?_
  match a with
  | ⟨0, _⟩ => show r.val = r.val; omega
theorem i70 (r : Fin 4096) (j : Fin 1024) : idx_main_v70 (ix2 r j) = ix2 r (0 : Fin 1) := by
  refine funext fun a => Fin.ext ?_
  match a with
  | ⟨0, _⟩ => show r.val = r.val; omega
  | ⟨1, _⟩ => show 0 = 0; omega
theorem i72 (r : Fin 4096) (j : Fin 1024) : idx_main_v72 (ix2 r j) = ix2 (0 : Fin 1) j := by
  refine funext fun a => Fin.ext ?_
  match a with
  | ⟨0, _⟩ => show 0 = 0; omega
  | ⟨1, _⟩ => show j.val = j.val; omega
theorem i74 (r : Fin 4096) (j : Fin 1024) : idx_main_v74 (ix2 r j) = ix2 (0 : Fin 1) j := by
  refine funext fun a => Fin.ext ?_
  match a with
  | ⟨0, _⟩ => show 0 = 0; omega
  | ⟨1, _⟩ => show j.val = j.val; omega
theorem i78 (r : Fin 4096) (j : Fin 1024) : idx_main_v78 (ix2 r j) = ix2 (0 : Fin 1) j := by
  refine funext fun a => Fin.ext ?_
  match a with
  | ⟨0, _⟩ => show 0 = 0; omega
  | ⟨1, _⟩ => show j.val = j.val; omega
theorem i86 (r : Fin 4096) (j : Fin 1024) : idx_main_v86 (ix2 r j) = ix2 (0 : Fin 1) j := by
  refine funext fun a => Fin.ext ?_
  match a with
  | ⟨0, _⟩ => show 0 = 0; omega
  | ⟨1, _⟩ => show j.val = j.val; omega
theorem i77 (r : Fin 4096) (j : Fin 1024) : idx_main_v77 (ix2 r j) = ix2 r j := by
  refine funext fun a => Fin.ext ?_
  match a with
  | ⟨0, _⟩ => show (r.val * 1024 + j.val) / 1024 = r.val; omega
  | ⟨1, _⟩ => show (r.val * 1024 + j.val) % 1024 = j.val; omega
theorem i81 (j : Fin 1024) (l : Fin 4096) : idx_main_v81 (ix1 j) l = ix2 l j := by
  refine funext fun a => Fin.ext ?_
  match a with
  | ⟨0, _⟩ => show l.val = l.val; omega
  | ⟨1, _⟩ => show j.val = j.val; omega
theorem i84 (j : Fin 1024) (l : Fin 4096) : idx_main_v84 (ix1 j) l = ix2 l j := by
  refine funext fun a => Fin.ext ?_
  match a with
  | ⟨0, _⟩ => show l.val = l.val; omega
  | ⟨1, _⟩ => show j.val = j.val; omega
theorem i82 (j : Fin 1024) : idx_main_v82 (ix2 (0 : Fin 1) j) = ix1 j := by
  refine funext fun a => Fin.ext ?_
  match a with
  | ⟨0, _⟩ => show 0 * 1024 + j.val = j.val; omega
theorem i85 (j : Fin 1024) : idx_main_v85 (ix2 (0 : Fin 1) j) = ix1 j := by
  refine funext fun a => Fin.ext ?_
  match a with
  | ⟨0, _⟩ => show 0 * 1024 + j.val = j.val; omega
theorem i89 (r : Fin 4096) (l : Fin 1024) : idx_main_v89 (ix1 r) l = ix2 r l := by
  refine funext fun a => Fin.ext ?_
  match a with
  | ⟨0, _⟩ => show r.val = r.val; omega
  | ⟨1, _⟩ => show l.val = l.val; omega
theorem i90 (r : Fin 4096) : idx_main_v90 (ix2 r (0 : Fin 1)) = ix1 r := by
  refine funext fun a => Fin.ext ?_
  match a with
  | ⟨0, _⟩ => show r.val * 1 + 0 = r.val; omega
theorem i91 (r : Fin 4096) (j : Fin 1024) : idx_main_v91 (ix2 r j) = ix2 r (0 : Fin 1) := by
  refine funext fun a => Fin.ext ?_
  match a with
  | ⟨0, _⟩ => show r.val = r.val; omega
  | ⟨1, _⟩ => show 0 = 0; omega
theorem i96 (r : Fin 4096) (l : Fin 1) : idx_main_v96 (ix1 r) l = ix2 r l := by
  refine funext fun a => Fin.ext ?_
  match a with
  | ⟨0, _⟩ => show r.val = r.val; omega
  | ⟨1, _⟩ => show l.val = l.val; omega
theorem i97 (r : Fin 4096) (j : Fin 1024) : idx_main_v97 (ix2 r j) = ix1 r := by
  refine funext fun a => Fin.ext ?_
  match a with
  | ⟨0, _⟩ => show r.val = r.val; omega
theorem i114 (r : Fin 4096) (h : Fin 8) (k : Fin 128) : idx_main_v114 (ix3 r h k) = ix2 r (col h k) := by
  refine funext fun a => Fin.ext ?_
  match a with
  | ⟨0, _⟩ => show ((r.val * 8 + h.val) * 128 + k.val) / 1024 = r.val; omega
  | ⟨1, _⟩ => show ((r.val * 8 + h.val) * 128 + k.val) % 1024 = 128 * h.val + k.val; omega
theorem i116 (h : Fin 8) (k : Fin 128) (l : Fin 4096) : idx_main_v116 (ix2 h k) l = ix3 l h k := by
  refine funext fun a => Fin.ext ?_
  match a with
  | ⟨0, _⟩ => show l.val = l.val; omega
  | ⟨1, _⟩ => show h.val = h.val; omega
  | ⟨2, _⟩ => show k.val = k.val; omega
theorem i117 (h : Fin 8) (k : Fin 128) : idx_main_v117 (ix3 (0 : Fin 1) h k) = ix2 h k := by
  refine funext fun a => Fin.ext ?_
  match a with
  | ⟨0, _⟩ => show ((0 * 8 + h.val) * 128 + k.val) / 128 = h.val; omega
  | ⟨1, _⟩ => show ((0 * 8 + h.val) * 128 + k.val) % 128 = k.val; omega
theorem i118 (r : Fin 4096) (h : Fin 8) (k : Fin 128) : idx_main_v118 (ix3 r h k) = ix3 (0 : Fin 1) h k := by
  refine funext fun a => Fin.ext ?_
  match a with
  | ⟨0, _⟩ => show 0 = 0; omega
  | ⟨1, _⟩ => show h.val = h.val; omega
  | ⟨2, _⟩ => show k.val = k.val; omega
theorem i120 (h : Fin 8) (k : Fin 128) (l : Fin 1) : idx_main_v120 (ix2 h k) l = ix3 l h k := by
  refine funext fun a => Fin.ext ?_
  match a with
  | ⟨0, _⟩ => show l.val = l.val; omega
  | ⟨1, _⟩ => show h.val = h.val; omega
  | ⟨2, _⟩ => show k.val = k.val; omega
theorem i122 (r : Fin 4096) (h : Fin 8) (l : Fin 128) : idx_main_v122 (ix2 r h) l = ix3 r h l := by
  refine funext fun a => Fin.ext ?_
  match a with
  | ⟨0, _⟩ => show r.val = r.val; omega
  | ⟨1, _⟩ => show h.val = h.val; omega
  | ⟨2, _⟩ => show l.val = l.val; omega
theorem i123 (r : Fin 4096) (h : Fin 8) : idx_main_v123 (ix3 r h (0 : Fin 1)) = ix2 r h := by
  refine funext fun a => Fin.ext ?_
  match a with
  | ⟨0, _⟩ => show ((r.val * 8 + h.val) * 1 + 0) / 8 = r.val; omega
  | ⟨1, _⟩ => show ((r.val * 8 + h.val) * 1 + 0) % 8 = h.val; omega
theorem i124 (r : Fin 4096) (h : Fin 8) (k : Fin 128) : idx_main_v124 (ix3 r h k) = ix3 r h (0 : Fin 1) := by
  refine funext fun a => Fin.ext ?_
  match a with
  | ⟨0, _⟩ => show r.val = r.val; omega
  | ⟨1, _⟩ => show h.val = h.val; omega
  | ⟨2, _⟩ => show 0 = 0; omega
theorem i129 (r : Fin 4096) (h : Fin 8) (l : Fin 1) : idx_main_v129 (ix2 r h) l = ix3 r h l := by
  refine funext fun a => Fin.ext ?_
  match a with
  | ⟨0, _⟩ => show r.val = r.val; omega
  | ⟨1, _⟩ => show h.val = h.val; omega
  | ⟨2, _⟩ => show l.val = l.val; omega
theorem i130 (r : Fin 4096) (h : Fin 8) (k : Fin 128) : idx_main_v130 (ix3 r h k) = ix2 r h := by
  refine funext fun a => Fin.ext ?_
  match a with
  | ⟨0, _⟩ => show r.val = r.val; omega
  | ⟨1, _⟩ => show h.val = h.val; omega
theorem i135 (j : Fin 1024) : idx_main_v135 (ix2 (0 : Fin 1) j) = ix2 (headOf j) (laneOf j) := by
  refine funext fun a => Fin.ext ?_
  match a with
  | ⟨0, _⟩ => show (0 * 1024 + j.val) / 128 = j.val / 128; omega
  | ⟨1, _⟩ => show (0 * 1024 + j.val) % 128 = j.val % 128; omega
theorem i136 (r : Fin 4096) (j : Fin 1024) : idx_main_v136 (ix2 r j) = ix3 r (headOf j) (laneOf j) := by
  refine funext fun a => Fin.ext ?_
  match a with
  | ⟨0, _⟩ => show (r.val * 1024 + j.val) / 1024 = r.val; omega
  | ⟨1, _⟩ => show (r.val * 1024 + j.val) / 128 % 8 = j.val / 128; omega
  | ⟨2, _⟩ => show (r.val * 1024 + j.val) % 128 = j.val % 128; omega
theorem i137 (c : Fin 32) (i : Fin 128) (h : Fin 8) (v : Fin 128) : idx_main_v137 (ix4 c i h v) = ix2 (rowIn c i) (col h v) := by
  refine funext fun a => Fin.ext ?_
  match a with
  | ⟨0, _⟩ => show (((c.val * 128 + i.val) * 8 + h.val) * 128 + v.val) / 1024 = 128 * c.val + i.val; omega
  | ⟨1, _⟩ => show (((c.val * 128 + i.val) * 8 + h.val) * 128 + v.val) % 1024 = 128 * h.val + v.val; omega
theorem i138 (c : Fin 32) (h : Fin 8) (v : Fin 128) (i : Fin 128) : idx_main_v138 (ix4 c h v i) = ix4 c i h v := by
  refine funext fun a => Fin.ext ?_
  match a with
  | ⟨0, _⟩ => show c.val = c.val; omega
  | ⟨1, _⟩ => show i.val = i.val; omega
  | ⟨2, _⟩ => show h.val = h.val; omega
  | ⟨3, _⟩ => show v.val = v.val; omega
theorem l139 (c : Fin 32) (h : Fin 8) (i : Fin 128) (k : Fin 128) (l : Fin 128) : lidx_main_v139 (ix4 c h i k) l = ix4 c h l i := by
  refine funext fun a => Fin.ext ?_
  match a with
  | ⟨0, _⟩ => show c.val = c.val; omega
  | ⟨1, _⟩ => show h.val = h.val; omega
  | ⟨2, _⟩ => show l.val = l.val; omega
  | ⟨3, _⟩ => show i.val = i.val; omega
theorem r139 (c : Fin 32) (h : Fin 8) (i : Fin 128) (k : Fin 128) (l : Fin 128) : ridx_main_v139 (ix4 c h i k) l = ix4 c l h k := by
  refine funext fun a => Fin.ext ?_
  match a with
  | ⟨0, _⟩ => show c.val = c.val; omega
  | ⟨1, _⟩ => show l.val = l.val; omega
  | ⟨2, _⟩ => show h.val = h.val; omega
  | ⟨3, _⟩ => show k.val = k.val; omega
theorem i140 (c : Fin 32) (i : Fin 128) (h : Fin 8) (k : Fin 128) : idx_main_v140 (ix4 c i h k) = ix4 c h i k := by
  refine funext fun a => Fin.ext ?_
  match a with
  | ⟨0, _⟩ => show c.val = c.val; omega
  | ⟨1, _⟩ => show h.val = h.val; omega
  | ⟨2, _⟩ => show i.val = i.val; omega
  | ⟨3, _⟩ => show k.val = k.val; omega
theorem l141 (c : Fin 32) (h : Fin 8) (v : Fin 128) (k : Fin 128) (l : Fin 128) : lidx_main_v141 (ix4 c h v k) l = ix4 c h v l := by
  refine funext fun a => Fin.ext ?_
  match a with
  | ⟨0, _⟩ => show c.val = c.val; omega
  | ⟨1, _⟩ => show h.val = h.val; omega
  | ⟨2, _⟩ => show v.val = v.val; omega
  | ⟨3, _⟩ => show l.val = l.val; omega
theorem r141 (c : Fin 32) (h : Fin 8) (v : Fin 128) (k : Fin 128) (l : Fin 128) : ridx_main_v141 (ix4 c h v k) l = ix4 c l h k := by
  refine funext fun a => Fin.ext ?_
  match a with
  | ⟨0, _⟩ => show c.val = c.val; omega
  | ⟨1, _⟩ => show l.val = l.val; omega
  | ⟨2, _⟩ => show h.val = h.val; omega
  | ⟨3, _⟩ => show k.val = k.val; omega
theorem i142 (c : Fin 32) (v : Fin 128) (h : Fin 8) (k : Fin 128) : idx_main_v142 (ix4 c v h k) = ix4 c h v k := by
  refine funext fun a => Fin.ext ?_
  match a with
  | ⟨0, _⟩ => show c.val = c.val; omega
  | ⟨1, _⟩ => show h.val = h.val; omega
  | ⟨2, _⟩ => show v.val = v.val; omega
  | ⟨3, _⟩ => show k.val = k.val; omega
theorem i143 (c : Fin 32) (v : Fin 128) (j : Fin 1024) : idx_main_v143 (ix3 c v j) = ix4 c v (headOf j) (laneOf j) := by
  refine funext fun a => Fin.ext ?_
  match a with
  | ⟨0, _⟩ => show ((c.val * 128 + v.val) * 1024 + j.val) / 131072 = c.val; omega
  | ⟨1, _⟩ => show ((c.val * 128 + v.val) * 1024 + j.val) / 1024 % 128 = v.val; omega
  | ⟨2, _⟩ => show ((c.val * 128 + v.val) * 1024 + j.val) / 128 % 8 = j.val / 128; omega
  | ⟨3, _⟩ => show ((c.val * 128 + v.val) * 1024 + j.val) % 128 = j.val % 128; omega
theorem i144 (r : Fin 4096) (j : Fin 1024) : idx_main_v144 (ix2 r j) = ix4 (chunk r) (place r) (headOf j) (laneOf j) := by
  refine funext fun a => Fin.ext ?_
  match a with
  | ⟨0, _⟩ => show (r.val * 1024 + j.val) / 131072 = r.val / 128; omega
  | ⟨1, _⟩ => show (r.val * 1024 + j.val) / 1024 % 128 = r.val % 128; omega
  | ⟨2, _⟩ => show (r.val * 1024 + j.val) / 128 % 8 = j.val / 128; omega
  | ⟨3, _⟩ => show (r.val * 1024 + j.val) % 128 = j.val % 128; omega
theorem i404 (j : Fin 1024) (l : Fin 4096) : idx_main_v404 (ix1 j) l = ix2 l j := by
  refine funext fun a => Fin.ext ?_
  match a with
  | ⟨0, _⟩ => show l.val = l.val; omega
  | ⟨1, _⟩ => show j.val = j.val; omega
theorem i406 (j : Fin 1024) (l : Fin 4096) : idx_main_v406 (ix1 j) l = ix2 l j := by
  refine funext fun a => Fin.ext ?_
  match a with
  | ⟨0, _⟩ => show l.val = l.val; omega
  | ⟨1, _⟩ => show j.val = j.val; omega
theorem i408 (j : Fin 1024) (l : Fin 4096) : idx_main_v408 (ix1 j) l = ix2 l j := by
  refine funext fun a => Fin.ext ?_
  match a with
  | ⟨0, _⟩ => show l.val = l.val; omega
  | ⟨1, _⟩ => show j.val = j.val; omega
theorem i405 (j : Fin 1024) : idx_main_v405 (ix2 (0 : Fin 1) j) = ix1 j := by
  refine funext fun a => Fin.ext ?_
  match a with
  | ⟨0, _⟩ => show j.val = j.val; omega
theorem i407 (j : Fin 1024) : idx_main_v407 (ix2 (0 : Fin 1) j) = ix1 j := by
  refine funext fun a => Fin.ext ?_
  match a with
  | ⟨0, _⟩ => show j.val = j.val; omega
theorem i409 (j : Fin 1024) : idx_main_v409 (ix2 (0 : Fin 1) j) = ix1 j := by
  refine funext fun a => Fin.ext ?_
  match a with
  | ⟨0, _⟩ => show j.val = j.val; omega

variable (A : Args)

/-! ## The forward rows -/

theorem at8 (c : Fin 32) (i : Fin 128) (h : Fin 8) (k : Fin 128) : (val_main_v8 (F := Ideal) A.x2) (ix4 c i h k) = (A.call.R (rowIn c i)).q (col h k) := by
  rw [val_main_v8_apply, i8, val_main_v0_apply]
  rfl
theorem at9 (c : Fin 32) (v : Fin 128) (h : Fin 8) (k : Fin 128) : (val_main_v9 (F := Ideal) A.x4) (ix4 c v h k) = A.x4 (ix3 c v (col h k)) := by
  rw [val_main_v9_apply, i9]
theorem at10 (c : Fin 32) (h : Fin 8) (v i : Fin 128) : (val_main_v10 (F := Ideal) A.x2 A.x4) (ix4 c h v i) = ∑ k : Fin 128, A.x4 (ix3 c v (col h k)) * (A.call.R (rowIn c i)).q (col h k) := by
  rw [val_main_v10_apply]
  exact Finset.sum_congr rfl fun k _ => by rw [l10, r10, at9, at8]
theorem at13 (r : Fin 4096) (j : Fin 1024) : (val_main_v13 (F := Ideal) A.x2 A.x3 A.x4) (ix2 r j) = rO (A.call.R r) j := by
  rw [val_main_v13_apply, val_main_v12_apply, i12, val_main_v11_apply, i11, at10, rowIn_chunk_place, Ideal.addf_def]
  exact congrArg (· + A.x3 (ix2 r j)) (Finset.sum_congr rfl fun k _ => mul_comm _ _)
theorem at14 (r : Fin 4096) (h : Fin 8) (k : Fin 128) : (val_main_v14 (F := Ideal) A.x2 A.x3 A.x4) (ix3 r h k) = rO (A.call.R r) (col h k) := by
  rw [val_main_v14_apply, i14, at13]
theorem at22 (r : Fin 4096) (h : Fin 8) : (val_main_v22 (F := Ideal) A.x2 A.x3 A.x4) (ix3 r h (0 : Fin 1)) = msq c128 (lanes (rO (A.call.R r)) h) := by
  rw [val_main_v22_apply, val_main_v20_apply, val_main_v18_apply, i18, val_main_v17_apply, val_main_v19_apply, val_main_v21_apply]
  refine congrArg (fun s => Ideal.div s c128 + eps) ((zadd _).trans (Finset.sum_congr rfl fun k _ => ?_))
  rw [i17, val_main_v16_apply, at14]
  rfl
theorem at23 (r : Fin 4096) (h : Fin 8) : (val_main_v23 (F := Ideal) A.x2 A.x3 A.x4) (ix3 r h (0 : Fin 1)) = inv c128 (lanes (rO (A.call.R r)) h) := by
  rw [val_main_v23_apply, at22]
  rfl
theorem at26 (r : Fin 4096) (h : Fin 8) : (val_main_v26 (F := Ideal) A.x2 A.x3 A.x4) (ix3 r h (0 : Fin 1)) = dinv c128 (lanes (rO (A.call.R r)) h) := by
  rw [val_main_v26_apply, val_main_v24_apply, val_main_v25_apply, at23, at22]
  rfl
theorem at28 (r : Fin 4096) (h : Fin 8) (k : Fin 128) : (val_main_v28 (F := Ideal) A.x2 A.x3 A.x4) (ix3 r h k) = rO (A.call.R r) (col h k) * inv c128 (lanes (rO (A.call.R r)) h) := by
  rw [val_main_v28_apply, val_main_v27_apply, i27, at14, at23]
  rfl
theorem at29 (h : Fin 8) (k : Fin 128) : (val_main_v29 (F := Ideal) A.x9) (ix3 (0 : Fin 1) h k) = A.call.W.hg (col h k) := by
  rw [val_main_v29_apply, i29, val_main_v15_apply, i15]
  rfl
theorem at32 (r : Fin 4096) (j : Fin 1024) : (val_main_v32 (F := Ideal) A.x2 A.x3 A.x4 A.x9) (ix2 r j) = Cert.Mix.heads (rO (A.call.R r)) j * A.call.W.hg j := by
  rw [val_main_v32_apply, i32, val_main_v31_apply, at28, val_main_v30_apply, i30, at29, col_headOf_laneOf]
  rfl
theorem at33_2 (r : Fin 4096) (j : Fin 1024) : (val_main_v33_2 (F := Ideal) A.x1) (ix2 r j) = Cert.Mix.sig ((A.call.R r).og j) := by
  rw [val_main_v33_2_apply, val_main_call0_v4_apply, val_main_call0_v3_apply, val_main_call0_v2_apply, val_main_call0_v1_apply, val_main_call0_v0_apply, val_main_v5_apply, i5]
  exact sig_eq _
theorem at33_1 (r : Fin 4096) (j : Fin 1024) : (val_main_v33_1 (F := Ideal) A.x1) (ix2 r j) = dsig ((A.call.R r).og j) := by
  rw [val_main_v33_1_apply, val_main_call0_v7_apply, val_main_call0_v6_apply, at33_2]
  rfl
theorem at33_0 (r : Fin 4096) (j : Fin 1024) : (val_main_v33_0 (F := Ideal) A.x1) (ix2 r j) = silu ((A.call.R r).og j) := by
  rw [val_main_v33_0_apply, at33_2, val_main_v5_apply, i5]
  rfl
theorem at34 (r : Fin 4096) (j : Fin 1024) : (val_main_v34 (F := Ideal) A.x1 A.x2 A.x3 A.x4 A.x9) (ix2 r j) = rA A.call.W (A.call.R r) j := by
  rw [val_main_v34_apply, at32, at33_0]
  rfl
theorem at35 (r : Fin 4096) (j : Fin 1024) : (val_main_v35 (F := Ideal) A.x1 A.x2 A.x3 A.x4 A.x6 A.x9) (ix2 r j) = rYa A.call.W (A.call.R r) j := by
  rw [val_main_v35_apply]
  refine Eq.trans (b := ∑ k : Fin 1024, rA A.call.W (A.call.R r) k * A.call.W.wa k j) (Finset.sum_congr rfl fun k _ => ?_) rfl
  rw [l35, r35, at34, val_main_v2_apply]; rfl
theorem at36 (r : Fin 4096) (j : Fin 1024) : (val_main_v36 (F := Ideal) A.x5 A.x7) (ix2 r j) = rYb A.call.W (A.call.R r) j := by
  rw [val_main_v36_apply]
  refine Eq.trans (b := ∑ k : Fin 1024, (A.call.R r).act k * A.call.W.wb k j) (Finset.sum_congr rfl fun k _ => ?_) rfl
  rw [l36, r36, val_main_v1_apply, val_main_v3_apply]; rfl
theorem at42 (r : Fin 4096) (j : Fin 1024) : (val_main_v42 (F := Ideal) A.x1) (ix2 r j) = Cert.Mix.sig ((A.call.R r).ga j) := by
  rw [val_main_v42_apply, val_main_v41_apply, val_main_v40_apply, val_main_v39_apply, val_main_v38_apply, val_main_v37_apply, val_main_v6_apply, i6]
  exact sig_eq _
theorem at45 (r : Fin 4096) (j : Fin 1024) : (val_main_v45 (F := Ideal) A.x1) (ix2 r j) = dsig ((A.call.R r).ga j) := by
  rw [val_main_v45_apply, val_main_v44_apply, val_main_v43_apply, at42]
  rfl
theorem at52 (r : Fin 4096) (j : Fin 1024) : (val_main_v52 (F := Ideal) A.x1) (ix2 r j) = Cert.Mix.sig ((A.call.R r).gb j) := by
  rw [val_main_v52_apply, val_main_v51_apply, val_main_v50_apply, val_main_v49_apply, val_main_v48_apply, val_main_v47_apply, val_main_v7_apply, i7]
  exact sig_eq _
theorem at55 (r : Fin 4096) (j : Fin 1024) : (val_main_v55 (F := Ideal) A.x1) (ix2 r j) = dsig ((A.call.R r).gb j) := by
  rw [val_main_v55_apply, val_main_v54_apply, val_main_v53_apply, at52]
  rfl
theorem at57 (r : Fin 4096) (j : Fin 1024) : (val_main_v57 (F := Ideal) A.x1 A.x2 A.x3 A.x4 A.x5 A.x6 A.x7 A.x9) (ix2 r j) = rM A.call.W (A.call.R r) j := by
  rw [val_main_v57_apply, val_main_v46_apply, val_main_v56_apply, at42, at52, at35, at36]
  rfl
theorem at58 (r : Fin 4096) (j : Fin 1024) : (val_main_v58 (F := Ideal) A.x1 A.x2 A.x3 A.x4 A.x5 A.x6 A.x7 A.x8 A.x9) (ix2 r j) = rY A.call.W (A.call.R r) j := by
  rw [val_main_v58_apply]
  refine Eq.trans (b := ∑ k : Fin 1024, rM A.call.W (A.call.R r) k * A.call.W.wo k j) (Finset.sum_congr rfl fun k _ => ?_) rfl
  rw [l58, r58, at57, val_main_v4_apply]; rfl
theorem at65 (r : Fin 4096) : (val_main_v65 (F := Ideal) A.x1 A.x2 A.x3 A.x4 A.x5 A.x6 A.x7 A.x8 A.x9) (ix2 r (0 : Fin 1)) = msq c1024 (rY A.call.W (A.call.R r)) := by
  rw [val_main_v65_apply, val_main_v63_apply, val_main_v61_apply, i61, val_main_v60_apply, val_main_v62_apply, val_main_v64_apply]
  refine congrArg (fun s => Ideal.div s c1024 + eps) ((zadd _).trans (Finset.sum_congr rfl fun k _ => ?_))
  rw [i60, val_main_v59_apply, at58]
  rfl
theorem at66 (r : Fin 4096) : (val_main_v66 (F := Ideal) A.x1 A.x2 A.x3 A.x4 A.x5 A.x6 A.x7 A.x8 A.x9) (ix2 r (0 : Fin 1)) = inv c1024 (rY A.call.W (A.call.R r)) := by
  rw [val_main_v66_apply, at65]
  rfl
theorem at69 (r : Fin 4096) : (val_main_v69 (F := Ideal) A.x1 A.x2 A.x3 A.x4 A.x5 A.x6 A.x7 A.x8 A.x9) (ix2 r (0 : Fin 1)) = dinv c1024 (rY A.call.W (A.call.R r)) := by
  rw [val_main_v69_apply, val_main_v67_apply, val_main_v68_apply, at66, at65]
  rfl
theorem at71 (r : Fin 4096) (j : Fin 1024) : (val_main_v71 (F := Ideal) A.x1 A.x2 A.x3 A.x4 A.x5 A.x6 A.x7 A.x8 A.x9) (ix2 r j) = normed (rY A.call.W (A.call.R r)) j := by
  rw [val_main_v71_apply, val_main_v70_apply, i70, at58, at66]
  rfl
theorem at73 (r : Fin 4096) (j : Fin 1024) : (val_main_v73 (F := Ideal) A.x1 A.x2 A.x3 A.x4 A.x5 A.x6 A.x7 A.x8 A.x9 A.x11) (ix2 r j) = normed (rY A.call.W (A.call.R r)) j * A.call.W.post j := by
  rw [val_main_v73_apply, at71, val_main_v72_apply, i72]
  rfl

/-! ## The backward rows -/

theorem at77 (r : Fin 4096) (j : Fin 1024) : (val_main_v77 (F := Ideal) A.x12) (ix2 r j) = (A.call.R r).dx j := by
  rw [val_main_v77_apply, i77]
  rfl
theorem at79 (r : Fin 4096) (j : Fin 1024) : (val_main_v79 (F := Ideal) A.x10 A.x12) (ix2 r j) = A.call.W.g1 j * (A.call.R r).dx j := by
  rw [val_main_v79_apply, val_main_v78_apply, i78, at77]
  rfl
theorem at82 (j : Fin 1024) : (val_main_v82 (F := Ideal) A.x1 A.x2 A.x3 A.x4 A.x5 A.x6 A.x7 A.x8 A.x9 A.x11 A.x12) (ix2 (0 : Fin 1) j) = ∑ r, rDgate A.call.W (A.call.R r) j := by
  rw [val_main_v82_apply, i82, val_main_v81_apply]
  refine (zadd _).trans (Finset.sum_congr rfl fun r _ => ?_)
  rw [i81, val_main_v80_apply, at77, at73]
  rfl
theorem at85 (j : Fin 1024) : (val_main_v85 (F := Ideal) A.x1 A.x2 A.x3 A.x4 A.x5 A.x6 A.x7 A.x8 A.x9 A.x10 A.x12) (ix2 (0 : Fin 1) j) = ∑ r, rDpost A.call.W (A.call.R r) j := by
  rw [val_main_v85_apply, i85, val_main_v84_apply]
  refine (zadd _).trans (Finset.sum_congr rfl fun r _ => ?_)
  rw [i84, val_main_v83_apply, at71, at79]
  rfl
theorem at87 (r : Fin 4096) (j : Fin 1024) : (val_main_v87 (F := Ideal) A.x10 A.x11 A.x12) (ix2 r j) = A.call.W.g1 j * (A.call.R r).dx j * A.call.W.post j := by
  rw [val_main_v87_apply, at79, val_main_v86_apply, i86]
  rfl
theorem at96 (r : Fin 4096) : (val_main_v96 (F := Ideal) A.x1 A.x2 A.x3 A.x4 A.x5 A.x6 A.x7 A.x8 A.x9 A.x10 A.x11 A.x12) (ix1 r) = share c1024 (rY A.call.W (A.call.R r)) (fun k => A.call.W.g1 k * (A.call.R r).dx k * A.call.W.post k) := by
  rw [val_main_v96_apply]
  refine (zadd _).trans ((Fin.sum_univ_one _).trans ?_)
  rw [i96, val_main_v95_apply, val_main_v93_apply, val_main_v90_apply, i90, val_main_v89_apply, val_main_v94_apply, at69]
  refine congrArg (fun s => Ideal.div (s * dinv c1024 (rY A.call.W (A.call.R r))) c1024) ((zadd _).trans (Finset.sum_congr rfl fun k _ => ?_))
  rw [i89, val_main_v88_apply, at58, at87]
  rfl
theorem at101 (r : Fin 4096) (j : Fin 1024) : (val_main_v101 (F := Ideal) A.x1 A.x2 A.x3 A.x4 A.x5 A.x6 A.x7 A.x8 A.x9 A.x10 A.x11 A.x12) (ix2 r j) = rDy A.call.W (A.call.R r) j := by
  rw [val_main_v101_apply, val_main_v99_apply, val_main_v92_apply, val_main_v98_apply, val_main_v100_apply, val_main_v97_apply, i97, val_main_v91_apply, i91, at58, at87, at96, at66]
  rfl
theorem at102 (r : Fin 4096) (j : Fin 1024) : (val_main_v102 (F := Ideal) A.x1 A.x2 A.x3 A.x4 A.x5 A.x6 A.x7 A.x8 A.x9 A.x10 A.x11 A.x12) (ix2 r j) = rDm A.call.W (A.call.R r) j := by
  rw [val_main_v102_apply]
  refine Eq.trans (b := ∑ k : Fin 1024, rDy A.call.W (A.call.R r) k * A.call.W.wo j k) (Finset.sum_congr rfl fun k _ => ?_) rfl
  rw [l102, r102, at101, val_main_v4_apply]; rfl
theorem at103 (r : Fin 4096) (j : Fin 1024) : (val_main_v103 (F := Ideal) A.x1 A.x2 A.x3 A.x4 A.x5 A.x6 A.x7 A.x8 A.x9 A.x10 A.x11 A.x12) (ix2 r j) = rDyb A.call.W (A.call.R r) j := by
  rw [val_main_v103_apply, at52, at102]
  rfl
theorem at105 (r : Fin 4096) (j : Fin 1024) : (val_main_v105 (F := Ideal) A.x1 A.x2 A.x3 A.x4 A.x5 A.x6 A.x7 A.x8 A.x9 A.x10 A.x11 A.x12) (ix2 r j) = rDgb A.call.W (A.call.R r) j := by
  rw [val_main_v105_apply, val_main_v104_apply, at102, at36, at55]
  rfl
theorem at106 (r : Fin 4096) (j : Fin 1024) : (val_main_v106 (F := Ideal) A.x1 A.x2 A.x3 A.x4 A.x5 A.x6 A.x7 A.x8 A.x9 A.x10 A.x11 A.x12) (ix2 r j) = rDya A.call.W (A.call.R r) j := by
  rw [val_main_v106_apply, at42, at102]
  rfl
theorem at108 (r : Fin 4096) (j : Fin 1024) : (val_main_v108 (F := Ideal) A.x1 A.x2 A.x3 A.x4 A.x5 A.x6 A.x7 A.x8 A.x9 A.x10 A.x11 A.x12) (ix2 r j) = rDga A.call.W (A.call.R r) j := by
  rw [val_main_v108_apply, val_main_v107_apply, at102, at35, at45]
  rfl
theorem at109 (r : Fin 4096) (j : Fin 1024) : (val_main_v109 (F := Ideal) A.x1 A.x2 A.x3 A.x4 A.x5 A.x6 A.x7 A.x8 A.x9 A.x10 A.x11 A.x12) (ix2 r j) = rDact A.call.W (A.call.R r) j := by
  rw [val_main_v109_apply]
  refine Eq.trans (b := ∑ k : Fin 1024, rDyb A.call.W (A.call.R r) k * A.call.W.wb j k) (Finset.sum_congr rfl fun k _ => ?_) rfl
  rw [l109, r109, at103, val_main_v3_apply]; rfl
theorem at110 (r : Fin 4096) (j : Fin 1024) : (val_main_v110 (F := Ideal) A.x1 A.x2 A.x3 A.x4 A.x5 A.x6 A.x7 A.x8 A.x9 A.x10 A.x11 A.x12) (ix2 r j) = rDa A.call.W (A.call.R r) j := by
  rw [val_main_v110_apply]
  refine Eq.trans (b := ∑ k : Fin 1024, rDya A.call.W (A.call.R r) k * A.call.W.wa j k) (Finset.sum_congr rfl fun k _ => ?_) rfl
  rw [l110, r110, at106, val_main_v2_apply]; rfl
theorem at111 (r : Fin 4096) (j : Fin 1024) : (val_main_v111 (F := Ideal) A.x1 A.x2 A.x3 A.x4 A.x5 A.x6 A.x7 A.x8 A.x9 A.x10 A.x11 A.x12) (ix2 r j) = Cert.Mix.heads (rO (A.call.R r)) j * A.call.W.hg j * rDa A.call.W (A.call.R r) j := by
  rw [val_main_v111_apply, at32, at110]
  rfl
theorem at113 (r : Fin 4096) (j : Fin 1024) : (val_main_v113 (F := Ideal) A.x1 A.x2 A.x3 A.x4 A.x5 A.x6 A.x7 A.x8 A.x9 A.x10 A.x11 A.x12) (ix2 r j) = rDog A.call.W (A.call.R r) j := by
  rw [val_main_v113_apply, val_main_call1_v1_apply, val_main_call1_v2_apply, val_main_call1_v0_apply, at111, at33_2, at33_1, val_main_v5_apply, i5]
  rfl
theorem at114 (r : Fin 4096) (h : Fin 8) (k : Fin 128) : (val_main_v114 (F := Ideal) A.x1 A.x2 A.x3 A.x4 A.x5 A.x6 A.x7 A.x8 A.x9 A.x10 A.x11 A.x12) (ix3 r h k) = rDa A.call.W (A.call.R r) (col h k) * silu ((A.call.R r).og (col h k)) := by
  rw [val_main_v114_apply, i114, val_main_v112_apply, at110, at33_0]
  rfl
theorem at135 (j : Fin 1024) : (val_main_v135 (F := Ideal) A.x1 A.x2 A.x3 A.x4 A.x5 A.x6 A.x7 A.x8 A.x9 A.x10 A.x11 A.x12) (ix2 (0 : Fin 1) j) = ∑ r, rDgain A.call.W (A.call.R r) j := by
  rw [val_main_v135_apply, i135, val_main_v120_apply]
  refine (zadd _).trans ((Fin.sum_univ_one _).trans ?_)
  rw [i120, val_main_v117_apply, i117, val_main_v116_apply]
  refine (zadd _).trans (Finset.sum_congr rfl fun r _ => ?_)
  rw [i116, val_main_v115_apply, at28, at114, col_headOf_laneOf]
  rfl
theorem at119 (r : Fin 4096) (h : Fin 8) (k : Fin 128) : (val_main_v119 (F := Ideal) A.x1 A.x2 A.x3 A.x4 A.x5 A.x6 A.x7 A.x8 A.x9 A.x10 A.x11 A.x12) (ix3 r h k) = (lanes (fun c => rDa A.call.W (A.call.R r) c * silu ((A.call.R r).og c) * A.call.W.hg c) h) k := by
  rw [val_main_v119_apply, at114, val_main_v118_apply, i118, at29]
  rfl
theorem at129 (r : Fin 4096) (h : Fin 8) : (val_main_v129 (F := Ideal) A.x1 A.x2 A.x3 A.x4 A.x5 A.x6 A.x7 A.x8 A.x9 A.x10 A.x11 A.x12) (ix2 r h) = share c128 (lanes (rO (A.call.R r)) h) (lanes (fun c => rDa A.call.W (A.call.R r) c * silu ((A.call.R r).og c) * A.call.W.hg c) h) := by
  rw [val_main_v129_apply]
  refine (zadd _).trans ((Fin.sum_univ_one _).trans ?_)
  rw [i129, val_main_v128_apply, val_main_v126_apply, val_main_v123_apply, i123, val_main_v122_apply, val_main_v127_apply, at26]
  refine congrArg (fun s => Ideal.div (s * dinv c128 (lanes (rO (A.call.R r)) h)) c128) ((zadd _).trans (Finset.sum_congr rfl fun k _ => ?_))
  rw [i122, val_main_v121_apply, at14, at119]
  rfl
theorem at134 (r : Fin 4096) (h : Fin 8) (k : Fin 128) : (val_main_v134 (F := Ideal) A.x1 A.x2 A.x3 A.x4 A.x5 A.x6 A.x7 A.x8 A.x9 A.x10 A.x11 A.x12) (ix3 r h k) = back c128 (lanes (rO (A.call.R r)) h) (lanes (fun c => rDa A.call.W (A.call.R r) c * silu ((A.call.R r).og c) * A.call.W.hg c) h) k := by
  rw [val_main_v134_apply, val_main_v132_apply, val_main_v125_apply, val_main_v131_apply, val_main_v133_apply, val_main_v130_apply, i130, val_main_v124_apply, i124, at14, at119, at129, at23]
  rfl
theorem at136 (r : Fin 4096) (j : Fin 1024) : (val_main_v136 (F := Ideal) A.x1 A.x2 A.x3 A.x4 A.x5 A.x6 A.x7 A.x8 A.x9 A.x10 A.x11 A.x12) (ix2 r j) = rDo A.call.W (A.call.R r) j := by
  rw [val_main_v136_apply, i136, at134]
  rfl
theorem at138 (c : Fin 32) (h : Fin 8) (v i : Fin 128) : (val_main_v138 (F := Ideal) A.x1 A.x2 A.x3 A.x4 A.x5 A.x6 A.x7 A.x8 A.x9 A.x10 A.x11 A.x12) (ix4 c h v i) = rDo A.call.W (A.call.R (rowIn c i)) (col h v) := by
  rw [val_main_v138_apply, i138, val_main_v137_apply, i137, at136]
theorem at139 (c : Fin 32) (h : Fin 8) (i k : Fin 128) : (val_main_v139 (F := Ideal) A.x1 A.x2 A.x3 A.x4 A.x5 A.x6 A.x7 A.x8 A.x9 A.x10 A.x11 A.x12) (ix4 c h i k) = ∑ v : Fin 128, rDo A.call.W (A.call.R (rowIn c i)) (col h v) * A.x4 (ix3 c v (col h k)) := by
  rw [val_main_v139_apply]
  exact Finset.sum_congr rfl fun v _ => by rw [l139, r139, at138, at9]
theorem at144 (r : Fin 4096) (j : Fin 1024) : (val_main_v144 (F := Ideal) A.x1 A.x2 A.x3 A.x4 A.x5 A.x6 A.x7 A.x8 A.x9 A.x10 A.x11 A.x12) (ix2 r j) = rDq A.call.W (A.call.R r) j := by
  rw [val_main_v144_apply, i144, val_main_v140_apply, i140, at139, rowIn_chunk_place, col_headOf_laneOf]
  rfl
theorem at141 (c : Fin 32) (h : Fin 8) (v k : Fin 128) : (val_main_v141 (F := Ideal) A.x1 A.x2 A.x3 A.x4 A.x5 A.x6 A.x7 A.x8 A.x9 A.x10 A.x11 A.x12) (ix4 c h v k) = ∑ i : Fin 128, rDo A.call.W (A.call.R (rowIn c i)) (col h v) * (A.call.R (rowIn c i)).q (col h k) := by
  rw [val_main_v141_apply]
  exact Finset.sum_congr rfl fun i _ => by rw [l141, r141, at138, at8]
theorem at143 (c : Fin 32) (v : Fin 128) (j : Fin 1024) : (val_main_v143 (F := Ideal) A.x1 A.x2 A.x3 A.x4 A.x5 A.x6 A.x7 A.x8 A.x9 A.x10 A.x11 A.x12) (ix3 c v j) = A.call.add c v j := by
  rw [val_main_v143_apply, i143, val_main_v142_apply, i142, at141, col_headOf_laneOf]
  rfl
theorem at405 (j : Fin 1024) : (val_main_v405 (F := Ideal) A.x1 A.x2 A.x3 A.x4 A.x5 A.x6 A.x7 A.x8 A.x9 A.x10 A.x11 A.x12) (ix2 (0 : Fin 1) j) = ∑ r, rDog A.call.W (A.call.R r) j := by
  rw [val_main_v405_apply, i405, val_main_v404_apply]
  refine (zadd _).trans (Finset.sum_congr rfl fun r _ => ?_)
  rw [i404, at113]
theorem at407 (j : Fin 1024) : (val_main_v407 (F := Ideal) A.x1 A.x2 A.x3 A.x4 A.x5 A.x6 A.x7 A.x8 A.x9 A.x10 A.x11 A.x12) (ix2 (0 : Fin 1) j) = ∑ r, rDga A.call.W (A.call.R r) j := by
  rw [val_main_v407_apply, i407, val_main_v406_apply]
  refine (zadd _).trans (Finset.sum_congr rfl fun r _ => ?_)
  rw [i406, at108]
theorem at409 (j : Fin 1024) : (val_main_v409 (F := Ideal) A.x1 A.x2 A.x3 A.x4 A.x5 A.x6 A.x7 A.x8 A.x9 A.x10 A.x11 A.x12) (ix2 (0 : Fin 1) j) = ∑ r, rDgb A.call.W (A.call.R r) j := by
  rw [val_main_v409_apply, i409, val_main_v408_apply]
  refine (zadd _).trans (Finset.sum_congr rfl fun r _ => ?_)
  rw [i408, at105]

end Cert.ReferenceIdeal.Mix

end
-- ==== Proof.RefState.lean ====
/-
  The reference's state gradient, run back through the chunks, and the pieces joined: each of the reference's results is the
  call's.
-/
module

public import proofs.«01_k».proof.Proof.RefRead
public import Idealize.ShloMosaic.Lib.Pipeline.ValueKit.Tiles

@[expose] public section

set_option maxRecDepth 16384
set_option maxHeartbeats 1000000

noncomputable section

namespace Cert.ReferenceIdeal.Mix

open Idealize.ShloMosaic hiding ix1 ix2 ix3 ix4 eq_ix2 eq_ix3
open Idealize.ShloMosaic.ValueIdx Idealize.ShloMosaic.Tactic Cert.ReferenceIdeal Cert.ReferenceIdeal.Gen Cert.ReferenceIdeal.Read Cert.Mix
open scoped BigOperators

variable (A : Args)

/-! ## The chunks' decays and additions, sliced -/

theorem dec1 (j : Fin 1024) : (val_main_v148 (F := Ideal) A.x13) (ix2 (0 : Fin 1) j) = A.call.dec (⟨1, by decide⟩ : Fin 32) j := by
  rw [val_main_v148_apply, val_main_v147_apply]
  refine congrArg A.x13 (funext fun a => Fin.ext ?_)
  match a with
  | ⟨0, _⟩ => show 1 + 0 = 1; omega
  | ⟨1, _⟩ => show 0 = 0; rfl
  | ⟨2, _⟩ => show (0 * 1024 + j.val) % 1024 = j.val; omega
theorem dec2 (j : Fin 1024) : (val_main_v150 (F := Ideal) A.x13) (ix2 (0 : Fin 1) j) = A.call.dec (⟨2, by decide⟩ : Fin 32) j := by
  rw [val_main_v150_apply, val_main_v149_apply]
  refine congrArg A.x13 (funext fun a => Fin.ext ?_)
  match a with
  | ⟨0, _⟩ => show 2 + 0 = 2; omega
  | ⟨1, _⟩ => show 0 = 0; rfl
  | ⟨2, _⟩ => show (0 * 1024 + j.val) % 1024 = j.val; omega
theorem dec3 (j : Fin 1024) : (val_main_v152 (F := Ideal) A.x13) (ix2 (0 : Fin 1) j) = A.call.dec (⟨3, by decide⟩ : Fin 32) j := by
  rw [val_main_v152_apply, val_main_v151_apply]
  refine congrArg A.x13 (funext fun a => Fin.ext ?_)
  match a with
  | ⟨0, _⟩ => show 3 + 0 = 3; omega
  | ⟨1, _⟩ => show 0 = 0; rfl
  | ⟨2, _⟩ => show (0 * 1024 + j.val) % 1024 = j.val; omega
theorem dec4 (j : Fin 1024) : (val_main_v154 (F := Ideal) A.x13) (ix2 (0 : Fin 1) j) = A.call.dec (⟨4, by decide⟩ : Fin 32) j := by
  rw [val_main_v154_apply, val_main_v153_apply]
  refine congrArg A.x13 (funext fun a => Fin.ext ?_)
  match a with
  | ⟨0, _⟩ => show 4 + 0 = 4; omega
  | ⟨1, _⟩ => show 0 = 0; rfl
  | ⟨2, _⟩ => show (0 * 1024 + j.val) % 1024 = j.val; omega
theorem dec5 (j : Fin 1024) : (val_main_v156 (F := Ideal) A.x13) (ix2 (0 : Fin 1) j) = A.call.dec (⟨5, by decide⟩ : Fin 32) j := by
  rw [val_main_v156_apply, val_main_v155_apply]
  refine congrArg A.x13 (funext fun a => Fin.ext ?_)
  match a with
  | ⟨0, _⟩ => show 5 + 0 = 5; omega
  | ⟨1, _⟩ => show 0 = 0; rfl
  | ⟨2, _⟩ => show (0 * 1024 + j.val) % 1024 = j.val; omega
theorem dec6 (j : Fin 1024) : (val_main_v158 (F := Ideal) A.x13) (ix2 (0 : Fin 1) j) = A.call.dec (⟨6, by decide⟩ : Fin 32) j := by
  rw [val_main_v158_apply, val_main_v157_apply]
  refine congrArg A.x13 (funext fun a => Fin.ext ?_)
  match a with
  | ⟨0, _⟩ => show 6 + 0 = 6; omega
  | ⟨1, _⟩ => show 0 = 0; rfl
  | ⟨2, _⟩ => show (0 * 1024 + j.val) % 1024 = j.val; omega
theorem dec7 (j : Fin 1024) : (val_main_v160 (F := Ideal) A.x13) (ix2 (0 : Fin 1) j) = A.call.dec (⟨7, by decide⟩ : Fin 32) j := by
  rw [val_main_v160_apply, val_main_v159_apply]
  refine congrArg A.x13 (funext fun a => Fin.ext ?_)
  match a with
  | ⟨0, _⟩ => show 7 + 0 = 7; omega
  | ⟨1, _⟩ => show 0 = 0; rfl
  | ⟨2, _⟩ => show (0 * 1024 + j.val) % 1024 = j.val; omega
theorem dec8 (j : Fin 1024) : (val_main_v162 (F := Ideal) A.x13) (ix2 (0 : Fin 1) j) = A.call.dec (⟨8, by decide⟩ : Fin 32) j := by
  rw [val_main_v162_apply, val_main_v161_apply]
  refine congrArg A.x13 (funext fun a => Fin.ext ?_)
  match a with
  | ⟨0, _⟩ => show 8 + 0 = 8; omega
  | ⟨1, _⟩ => show 0 = 0; rfl
  | ⟨2, _⟩ => show (0 * 1024 + j.val) % 1024 = j.val; omega
theorem dec9 (j : Fin 1024) : (val_main_v164 (F := Ideal) A.x13) (ix2 (0 : Fin 1) j) = A.call.dec (⟨9, by decide⟩ : Fin 32) j := by
  rw [val_main_v164_apply, val_main_v163_apply]
  refine congrArg A.x13 (funext fun a => Fin.ext ?_)
  match a with
  | ⟨0, _⟩ => show 9 + 0 = 9; omega
  | ⟨1, _⟩ => show 0 = 0; rfl
  | ⟨2, _⟩ => show (0 * 1024 + j.val) % 1024 = j.val; omega
theorem dec10 (j : Fin 1024) : (val_main_v166 (F := Ideal) A.x13) (ix2 (0 : Fin 1) j) = A.call.dec (⟨10, by decide⟩ : Fin 32) j := by
  rw [val_main_v166_apply, val_main_v165_apply]
  refine congrArg A.x13 (funext fun a => Fin.ext ?_)
  match a with
  | ⟨0, _⟩ => show 10 + 0 = 10; omega
  | ⟨1, _⟩ => show 0 = 0; rfl
  | ⟨2, _⟩ => show (0 * 1024 + j.val) % 1024 = j.val; omega
theorem dec11 (j : Fin 1024) : (val_main_v168 (F := Ideal) A.x13) (ix2 (0 : Fin 1) j) = A.call.dec (⟨11, by decide⟩ : Fin 32) j := by
  rw [val_main_v168_apply, val_main_v167_apply]
  refine congrArg A.x13 (funext fun a => Fin.ext ?_)
  match a with
  | ⟨0, _⟩ => show 11 + 0 = 11; omega
  | ⟨1, _⟩ => show 0 = 0; rfl
  | ⟨2, _⟩ => show (0 * 1024 + j.val) % 1024 = j.val; omega
theorem dec12 (j : Fin 1024) : (val_main_v170 (F := Ideal) A.x13) (ix2 (0 : Fin 1) j) = A.call.dec (⟨12, by decide⟩ : Fin 32) j := by
  rw [val_main_v170_apply, val_main_v169_apply]
  refine congrArg A.x13 (funext fun a => Fin.ext ?_)
  match a with
  | ⟨0, _⟩ => show 12 + 0 = 12; omega
  | ⟨1, _⟩ => show 0 = 0; rfl
  | ⟨2, _⟩ => show (0 * 1024 + j.val) % 1024 = j.val; omega
theorem dec13 (j : Fin 1024) : (val_main_v172 (F := Ideal) A.x13) (ix2 (0 : Fin 1) j) = A.call.dec (⟨13, by decide⟩ : Fin 32) j := by
  rw [val_main_v172_apply, val_main_v171_apply]
  refine congrArg A.x13 (funext fun a => Fin.ext ?_)
  match a with
  | ⟨0, _⟩ => show 13 + 0 = 13; omega
  | ⟨1, _⟩ => show 0 = 0; rfl
  | ⟨2, _⟩ => show (0 * 1024 + j.val) % 1024 = j.val; omega
theorem dec14 (j : Fin 1024) : (val_main_v174 (F := Ideal) A.x13) (ix2 (0 : Fin 1) j) = A.call.dec (⟨14, by decide⟩ : Fin 32) j := by
  rw [val_main_v174_apply, val_main_v173_apply]
  refine congrArg A.x13 (funext fun a => Fin.ext ?_)
  match a with
  | ⟨0, _⟩ => show 14 + 0 = 14; omega
  | ⟨1, _⟩ => show 0 = 0; rfl
  | ⟨2, _⟩ => show (0 * 1024 + j.val) % 1024 = j.val; omega
theorem dec15 (j : Fin 1024) : (val_main_v176 (F := Ideal) A.x13) (ix2 (0 : Fin 1) j) = A.call.dec (⟨15, by decide⟩ : Fin 32) j := by
  rw [val_main_v176_apply, val_main_v175_apply]
  refine congrArg A.x13 (funext fun a => Fin.ext ?_)
  match a with
  | ⟨0, _⟩ => show 15 + 0 = 15; omega
  | ⟨1, _⟩ => show 0 = 0; rfl
  | ⟨2, _⟩ => show (0 * 1024 + j.val) % 1024 = j.val; omega
theorem dec16 (j : Fin 1024) : (val_main_v178 (F := Ideal) A.x13) (ix2 (0 : Fin 1) j) = A.call.dec (⟨16, by decide⟩ : Fin 32) j := by
  rw [val_main_v178_apply, val_main_v177_apply]
  refine congrArg A.x13 (funext fun a => Fin.ext ?_)
  match a with
  | ⟨0, _⟩ => show 16 + 0 = 16; omega
  | ⟨1, _⟩ => show 0 = 0; rfl
  | ⟨2, _⟩ => show (0 * 1024 + j.val) % 1024 = j.val; omega
theorem dec17 (j : Fin 1024) : (val_main_v180 (F := Ideal) A.x13) (ix2 (0 : Fin 1) j) = A.call.dec (⟨17, by decide⟩ : Fin 32) j := by
  rw [val_main_v180_apply, val_main_v179_apply]
  refine congrArg A.x13 (funext fun a => Fin.ext ?_)
  match a with
  | ⟨0, _⟩ => show 17 + 0 = 17; omega
  | ⟨1, _⟩ => show 0 = 0; rfl
  | ⟨2, _⟩ => show (0 * 1024 + j.val) % 1024 = j.val; omega
theorem dec18 (j : Fin 1024) : (val_main_v182 (F := Ideal) A.x13) (ix2 (0 : Fin 1) j) = A.call.dec (⟨18, by decide⟩ : Fin 32) j := by
  rw [val_main_v182_apply, val_main_v181_apply]
  refine congrArg A.x13 (funext fun a => Fin.ext ?_)
  match a with
  | ⟨0, _⟩ => show 18 + 0 = 18; omega
  | ⟨1, _⟩ => show 0 = 0; rfl
  | ⟨2, _⟩ => show (0 * 1024 + j.val) % 1024 = j.val; omega
theorem dec19 (j : Fin 1024) : (val_main_v184 (F := Ideal) A.x13) (ix2 (0 : Fin 1) j) = A.call.dec (⟨19, by decide⟩ : Fin 32) j := by
  rw [val_main_v184_apply, val_main_v183_apply]
  refine congrArg A.x13 (funext fun a => Fin.ext ?_)
  match a with
  | ⟨0, _⟩ => show 19 + 0 = 19; omega
  | ⟨1, _⟩ => show 0 = 0; rfl
  | ⟨2, _⟩ => show (0 * 1024 + j.val) % 1024 = j.val; omega
theorem dec20 (j : Fin 1024) : (val_main_v186 (F := Ideal) A.x13) (ix2 (0 : Fin 1) j) = A.call.dec (⟨20, by decide⟩ : Fin 32) j := by
  rw [val_main_v186_apply, val_main_v185_apply]
  refine congrArg A.x13 (funext fun a => Fin.ext ?_)
  match a with
  | ⟨0, _⟩ => show 20 + 0 = 20; omega
  | ⟨1, _⟩ => show 0 = 0; rfl
  | ⟨2, _⟩ => show (0 * 1024 + j.val) % 1024 = j.val; omega
theorem dec21 (j : Fin 1024) : (val_main_v188 (F := Ideal) A.x13) (ix2 (0 : Fin 1) j) = A.call.dec (⟨21, by decide⟩ : Fin 32) j := by
  rw [val_main_v188_apply, val_main_v187_apply]
  refine congrArg A.x13 (funext fun a => Fin.ext ?_)
  match a with
  | ⟨0, _⟩ => show 21 + 0 = 21; omega
  | ⟨1, _⟩ => show 0 = 0; rfl
  | ⟨2, _⟩ => show (0 * 1024 + j.val) % 1024 = j.val; omega
theorem dec22 (j : Fin 1024) : (val_main_v190 (F := Ideal) A.x13) (ix2 (0 : Fin 1) j) = A.call.dec (⟨22, by decide⟩ : Fin 32) j := by
  rw [val_main_v190_apply, val_main_v189_apply]
  refine congrArg A.x13 (funext fun a => Fin.ext ?_)
  match a with
  | ⟨0, _⟩ => show 22 + 0 = 22; omega
  | ⟨1, _⟩ => show 0 = 0; rfl
  | ⟨2, _⟩ => show (0 * 1024 + j.val) % 1024 = j.val; omega
theorem dec23 (j : Fin 1024) : (val_main_v192 (F := Ideal) A.x13) (ix2 (0 : Fin 1) j) = A.call.dec (⟨23, by decide⟩ : Fin 32) j := by
  rw [val_main_v192_apply, val_main_v191_apply]
  refine congrArg A.x13 (funext fun a => Fin.ext ?_)
  match a with
  | ⟨0, _⟩ => show 23 + 0 = 23; omega
  | ⟨1, _⟩ => show 0 = 0; rfl
  | ⟨2, _⟩ => show (0 * 1024 + j.val) % 1024 = j.val; omega
theorem dec24 (j : Fin 1024) : (val_main_v194 (F := Ideal) A.x13) (ix2 (0 : Fin 1) j) = A.call.dec (⟨24, by decide⟩ : Fin 32) j := by
  rw [val_main_v194_apply, val_main_v193_apply]
  refine congrArg A.x13 (funext fun a => Fin.ext ?_)
  match a with
  | ⟨0, _⟩ => show 24 + 0 = 24; omega
  | ⟨1, _⟩ => show 0 = 0; rfl
  | ⟨2, _⟩ => show (0 * 1024 + j.val) % 1024 = j.val; omega
theorem dec25 (j : Fin 1024) : (val_main_v196 (F := Ideal) A.x13) (ix2 (0 : Fin 1) j) = A.call.dec (⟨25, by decide⟩ : Fin 32) j := by
  rw [val_main_v196_apply, val_main_v195_apply]
  refine congrArg A.x13 (funext fun a => Fin.ext ?_)
  match a with
  | ⟨0, _⟩ => show 25 + 0 = 25; omega
  | ⟨1, _⟩ => show 0 = 0; rfl
  | ⟨2, _⟩ => show (0 * 1024 + j.val) % 1024 = j.val; omega
theorem dec26 (j : Fin 1024) : (val_main_v198 (F := Ideal) A.x13) (ix2 (0 : Fin 1) j) = A.call.dec (⟨26, by decide⟩ : Fin 32) j := by
  rw [val_main_v198_apply, val_main_v197_apply]
  refine congrArg A.x13 (funext fun a => Fin.ext ?_)
  match a with
  | ⟨0, _⟩ => show 26 + 0 = 26; omega
  | ⟨1, _⟩ => show 0 = 0; rfl
  | ⟨2, _⟩ => show (0 * 1024 + j.val) % 1024 = j.val; omega
theorem dec27 (j : Fin 1024) : (val_main_v200 (F := Ideal) A.x13) (ix2 (0 : Fin 1) j) = A.call.dec (⟨27, by decide⟩ : Fin 32) j := by
  rw [val_main_v200_apply, val_main_v199_apply]
  refine congrArg A.x13 (funext fun a => Fin.ext ?_)
  match a with
  | ⟨0, _⟩ => show 27 + 0 = 27; omega
  | ⟨1, _⟩ => show 0 = 0; rfl
  | ⟨2, _⟩ => show (0 * 1024 + j.val) % 1024 = j.val; omega
theorem dec28 (j : Fin 1024) : (val_main_v202 (F := Ideal) A.x13) (ix2 (0 : Fin 1) j) = A.call.dec (⟨28, by decide⟩ : Fin 32) j := by
  rw [val_main_v202_apply, val_main_v201_apply]
  refine congrArg A.x13 (funext fun a => Fin.ext ?_)
  match a with
  | ⟨0, _⟩ => show 28 + 0 = 28; omega
  | ⟨1, _⟩ => show 0 = 0; rfl
  | ⟨2, _⟩ => show (0 * 1024 + j.val) % 1024 = j.val; omega
theorem dec29 (j : Fin 1024) : (val_main_v204 (F := Ideal) A.x13) (ix2 (0 : Fin 1) j) = A.call.dec (⟨29, by decide⟩ : Fin 32) j := by
  rw [val_main_v204_apply, val_main_v203_apply]
  refine congrArg A.x13 (funext fun a => Fin.ext ?_)
  match a with
  | ⟨0, _⟩ => show 29 + 0 = 29; omega
  | ⟨1, _⟩ => show 0 = 0; rfl
  | ⟨2, _⟩ => show (0 * 1024 + j.val) % 1024 = j.val; omega
theorem dec30 (j : Fin 1024) : (val_main_v206 (F := Ideal) A.x13) (ix2 (0 : Fin 1) j) = A.call.dec (⟨30, by decide⟩ : Fin 32) j := by
  rw [val_main_v206_apply, val_main_v205_apply]
  refine congrArg A.x13 (funext fun a => Fin.ext ?_)
  match a with
  | ⟨0, _⟩ => show 30 + 0 = 30; omega
  | ⟨1, _⟩ => show 0 = 0; rfl
  | ⟨2, _⟩ => show (0 * 1024 + j.val) % 1024 = j.val; omega
theorem add1 (v : Fin 128) (j : Fin 1024) : (val_main_v215 (F := Ideal) A.x1 A.x2 A.x3 A.x4 A.x5 A.x6 A.x7 A.x8 A.x9 A.x10 A.x11 A.x12) (ix2 v j) = A.call.add (⟨1, by decide⟩ : Fin 32) v j := by
  rw [val_main_v215_apply, val_main_v214_apply]
  refine (congrArg (val_main_v143 (F := Ideal) A.x1 A.x2 A.x3 A.x4 A.x5 A.x6 A.x7 A.x8 A.x9 A.x10 A.x11 A.x12) (funext fun a => Fin.ext ?_)).trans (at143 A (⟨1, by decide⟩ : Fin 32) v j)
  match a with
  | ⟨0, _⟩ => show 1 + 0 = 1; rfl
  | ⟨1, _⟩ => show (v.val * 1024 + j.val) / 1024 % 128 = v.val; omega
  | ⟨2, _⟩ => show (v.val * 1024 + j.val) % 1024 = j.val; omega
theorem add2 (v : Fin 128) (j : Fin 1024) : (val_main_v217 (F := Ideal) A.x1 A.x2 A.x3 A.x4 A.x5 A.x6 A.x7 A.x8 A.x9 A.x10 A.x11 A.x12) (ix2 v j) = A.call.add (⟨2, by decide⟩ : Fin 32) v j := by
  rw [val_main_v217_apply, val_main_v216_apply]
  refine (congrArg (val_main_v143 (F := Ideal) A.x1 A.x2 A.x3 A.x4 A.x5 A.x6 A.x7 A.x8 A.x9 A.x10 A.x11 A.x12) (funext fun a => Fin.ext ?_)).trans (at143 A (⟨2, by decide⟩ : Fin 32) v j)
  match a with
  | ⟨0, _⟩ => show 2 + 0 = 2; rfl
  | ⟨1, _⟩ => show (v.val * 1024 + j.val) / 1024 % 128 = v.val; omega
  | ⟨2, _⟩ => show (v.val * 1024 + j.val) % 1024 = j.val; omega
theorem add3 (v : Fin 128) (j : Fin 1024) : (val_main_v219 (F := Ideal) A.x1 A.x2 A.x3 A.x4 A.x5 A.x6 A.x7 A.x8 A.x9 A.x10 A.x11 A.x12) (ix2 v j) = A.call.add (⟨3, by decide⟩ : Fin 32) v j := by
  rw [val_main_v219_apply, val_main_v218_apply]
  refine (congrArg (val_main_v143 (F := Ideal) A.x1 A.x2 A.x3 A.x4 A.x5 A.x6 A.x7 A.x8 A.x9 A.x10 A.x11 A.x12) (funext fun a => Fin.ext ?_)).trans (at143 A (⟨3, by decide⟩ : Fin 32) v j)
  match a with
  | ⟨0, _⟩ => show 3 + 0 = 3; rfl
  | ⟨1, _⟩ => show (v.val * 1024 + j.val) / 1024 % 128 = v.val; omega
  | ⟨2, _⟩ => show (v.val * 1024 + j.val) % 1024 = j.val; omega
theorem add4 (v : Fin 128) (j : Fin 1024) : (val_main_v221 (F := Ideal) A.x1 A.x2 A.x3 A.x4 A.x5 A.x6 A.x7 A.x8 A.x9 A.x10 A.x11 A.x12) (ix2 v j) = A.call.add (⟨4, by decide⟩ : Fin 32) v j := by
  rw [val_main_v221_apply, val_main_v220_apply]
  refine (congrArg (val_main_v143 (F := Ideal) A.x1 A.x2 A.x3 A.x4 A.x5 A.x6 A.x7 A.x8 A.x9 A.x10 A.x11 A.x12) (funext fun a => Fin.ext ?_)).trans (at143 A (⟨4, by decide⟩ : Fin 32) v j)
  match a with
  | ⟨0, _⟩ => show 4 + 0 = 4; rfl
  | ⟨1, _⟩ => show (v.val * 1024 + j.val) / 1024 % 128 = v.val; omega
  | ⟨2, _⟩ => show (v.val * 1024 + j.val) % 1024 = j.val; omega
theorem add5 (v : Fin 128) (j : Fin 1024) : (val_main_v223 (F := Ideal) A.x1 A.x2 A.x3 A.x4 A.x5 A.x6 A.x7 A.x8 A.x9 A.x10 A.x11 A.x12) (ix2 v j) = A.call.add (⟨5, by decide⟩ : Fin 32) v j := by
  rw [val_main_v223_apply, val_main_v222_apply]
  refine (congrArg (val_main_v143 (F := Ideal) A.x1 A.x2 A.x3 A.x4 A.x5 A.x6 A.x7 A.x8 A.x9 A.x10 A.x11 A.x12) (funext fun a => Fin.ext ?_)).trans (at143 A (⟨5, by decide⟩ : Fin 32) v j)
  match a with
  | ⟨0, _⟩ => show 5 + 0 = 5; rfl
  | ⟨1, _⟩ => show (v.val * 1024 + j.val) / 1024 % 128 = v.val; omega
  | ⟨2, _⟩ => show (v.val * 1024 + j.val) % 1024 = j.val; omega
theorem add6 (v : Fin 128) (j : Fin 1024) : (val_main_v225 (F := Ideal) A.x1 A.x2 A.x3 A.x4 A.x5 A.x6 A.x7 A.x8 A.x9 A.x10 A.x11 A.x12) (ix2 v j) = A.call.add (⟨6, by decide⟩ : Fin 32) v j := by
  rw [val_main_v225_apply, val_main_v224_apply]
  refine (congrArg (val_main_v143 (F := Ideal) A.x1 A.x2 A.x3 A.x4 A.x5 A.x6 A.x7 A.x8 A.x9 A.x10 A.x11 A.x12) (funext fun a => Fin.ext ?_)).trans (at143 A (⟨6, by decide⟩ : Fin 32) v j)
  match a with
  | ⟨0, _⟩ => show 6 + 0 = 6; rfl
  | ⟨1, _⟩ => show (v.val * 1024 + j.val) / 1024 % 128 = v.val; omega
  | ⟨2, _⟩ => show (v.val * 1024 + j.val) % 1024 = j.val; omega
theorem add7 (v : Fin 128) (j : Fin 1024) : (val_main_v227 (F := Ideal) A.x1 A.x2 A.x3 A.x4 A.x5 A.x6 A.x7 A.x8 A.x9 A.x10 A.x11 A.x12) (ix2 v j) = A.call.add (⟨7, by decide⟩ : Fin 32) v j := by
  rw [val_main_v227_apply, val_main_v226_apply]
  refine (congrArg (val_main_v143 (F := Ideal) A.x1 A.x2 A.x3 A.x4 A.x5 A.x6 A.x7 A.x8 A.x9 A.x10 A.x11 A.x12) (funext fun a => Fin.ext ?_)).trans (at143 A (⟨7, by decide⟩ : Fin 32) v j)
  match a with
  | ⟨0, _⟩ => show 7 + 0 = 7; rfl
  | ⟨1, _⟩ => show (v.val * 1024 + j.val) / 1024 % 128 = v.val; omega
  | ⟨2, _⟩ => show (v.val * 1024 + j.val) % 1024 = j.val; omega
theorem add8 (v : Fin 128) (j : Fin 1024) : (val_main_v229 (F := Ideal) A.x1 A.x2 A.x3 A.x4 A.x5 A.x6 A.x7 A.x8 A.x9 A.x10 A.x11 A.x12) (ix2 v j) = A.call.add (⟨8, by decide⟩ : Fin 32) v j := by
  rw [val_main_v229_apply, val_main_v228_apply]
  refine (congrArg (val_main_v143 (F := Ideal) A.x1 A.x2 A.x3 A.x4 A.x5 A.x6 A.x7 A.x8 A.x9 A.x10 A.x11 A.x12) (funext fun a => Fin.ext ?_)).trans (at143 A (⟨8, by decide⟩ : Fin 32) v j)
  match a with
  | ⟨0, _⟩ => show 8 + 0 = 8; rfl
  | ⟨1, _⟩ => show (v.val * 1024 + j.val) / 1024 % 128 = v.val; omega
  | ⟨2, _⟩ => show (v.val * 1024 + j.val) % 1024 = j.val; omega
theorem add9 (v : Fin 128) (j : Fin 1024) : (val_main_v231 (F := Ideal) A.x1 A.x2 A.x3 A.x4 A.x5 A.x6 A.x7 A.x8 A.x9 A.x10 A.x11 A.x12) (ix2 v j) = A.call.add (⟨9, by decide⟩ : Fin 32) v j := by
  rw [val_main_v231_apply, val_main_v230_apply]
  refine (congrArg (val_main_v143 (F := Ideal) A.x1 A.x2 A.x3 A.x4 A.x5 A.x6 A.x7 A.x8 A.x9 A.x10 A.x11 A.x12) (funext fun a => Fin.ext ?_)).trans (at143 A (⟨9, by decide⟩ : Fin 32) v j)
  match a with
  | ⟨0, _⟩ => show 9 + 0 = 9; rfl
  | ⟨1, _⟩ => show (v.val * 1024 + j.val) / 1024 % 128 = v.val; omega
  | ⟨2, _⟩ => show (v.val * 1024 + j.val) % 1024 = j.val; omega
theorem add10 (v : Fin 128) (j : Fin 1024) : (val_main_v233 (F := Ideal) A.x1 A.x2 A.x3 A.x4 A.x5 A.x6 A.x7 A.x8 A.x9 A.x10 A.x11 A.x12) (ix2 v j) = A.call.add (⟨10, by decide⟩ : Fin 32) v j := by
  rw [val_main_v233_apply, val_main_v232_apply]
  refine (congrArg (val_main_v143 (F := Ideal) A.x1 A.x2 A.x3 A.x4 A.x5 A.x6 A.x7 A.x8 A.x9 A.x10 A.x11 A.x12) (funext fun a => Fin.ext ?_)).trans (at143 A (⟨10, by decide⟩ : Fin 32) v j)
  match a with
  | ⟨0, _⟩ => show 10 + 0 = 10; rfl
  | ⟨1, _⟩ => show (v.val * 1024 + j.val) / 1024 % 128 = v.val; omega
  | ⟨2, _⟩ => show (v.val * 1024 + j.val) % 1024 = j.val; omega
theorem add11 (v : Fin 128) (j : Fin 1024) : (val_main_v235 (F := Ideal) A.x1 A.x2 A.x3 A.x4 A.x5 A.x6 A.x7 A.x8 A.x9 A.x10 A.x11 A.x12) (ix2 v j) = A.call.add (⟨11, by decide⟩ : Fin 32) v j := by
  rw [val_main_v235_apply, val_main_v234_apply]
  refine (congrArg (val_main_v143 (F := Ideal) A.x1 A.x2 A.x3 A.x4 A.x5 A.x6 A.x7 A.x8 A.x9 A.x10 A.x11 A.x12) (funext fun a => Fin.ext ?_)).trans (at143 A (⟨11, by decide⟩ : Fin 32) v j)
  match a with
  | ⟨0, _⟩ => show 11 + 0 = 11; rfl
  | ⟨1, _⟩ => show (v.val * 1024 + j.val) / 1024 % 128 = v.val; omega
  | ⟨2, _⟩ => show (v.val * 1024 + j.val) % 1024 = j.val; omega
theorem add12 (v : Fin 128) (j : Fin 1024) : (val_main_v237 (F := Ideal) A.x1 A.x2 A.x3 A.x4 A.x5 A.x6 A.x7 A.x8 A.x9 A.x10 A.x11 A.x12) (ix2 v j) = A.call.add (⟨12, by decide⟩ : Fin 32) v j := by
  rw [val_main_v237_apply, val_main_v236_apply]
  refine (congrArg (val_main_v143 (F := Ideal) A.x1 A.x2 A.x3 A.x4 A.x5 A.x6 A.x7 A.x8 A.x9 A.x10 A.x11 A.x12) (funext fun a => Fin.ext ?_)).trans (at143 A (⟨12, by decide⟩ : Fin 32) v j)
  match a with
  | ⟨0, _⟩ => show 12 + 0 = 12; rfl
  | ⟨1, _⟩ => show (v.val * 1024 + j.val) / 1024 % 128 = v.val; omega
  | ⟨2, _⟩ => show (v.val * 1024 + j.val) % 1024 = j.val; omega
theorem add13 (v : Fin 128) (j : Fin 1024) : (val_main_v239 (F := Ideal) A.x1 A.x2 A.x3 A.x4 A.x5 A.x6 A.x7 A.x8 A.x9 A.x10 A.x11 A.x12) (ix2 v j) = A.call.add (⟨13, by decide⟩ : Fin 32) v j := by
  rw [val_main_v239_apply, val_main_v238_apply]
  refine (congrArg (val_main_v143 (F := Ideal) A.x1 A.x2 A.x3 A.x4 A.x5 A.x6 A.x7 A.x8 A.x9 A.x10 A.x11 A.x12) (funext fun a => Fin.ext ?_)).trans (at143 A (⟨13, by decide⟩ : Fin 32) v j)
  match a with
  | ⟨0, _⟩ => show 13 + 0 = 13; rfl
  | ⟨1, _⟩ => show (v.val * 1024 + j.val) / 1024 % 128 = v.val; omega
  | ⟨2, _⟩ => show (v.val * 1024 + j.val) % 1024 = j.val; omega
theorem add14 (v : Fin 128) (j : Fin 1024) : (val_main_v241 (F := Ideal) A.x1 A.x2 A.x3 A.x4 A.x5 A.x6 A.x7 A.x8 A.x9 A.x10 A.x11 A.x12) (ix2 v j) = A.call.add (⟨14, by decide⟩ : Fin 32) v j := by
  rw [val_main_v241_apply, val_main_v240_apply]
  refine (congrArg (val_main_v143 (F := Ideal) A.x1 A.x2 A.x3 A.x4 A.x5 A.x6 A.x7 A.x8 A.x9 A.x10 A.x11 A.x12) (funext fun a => Fin.ext ?_)).trans (at143 A (⟨14, by decide⟩ : Fin 32) v j)
  match a with
  | ⟨0, _⟩ => show 14 + 0 = 14; rfl
  | ⟨1, _⟩ => show (v.val * 1024 + j.val) / 1024 % 128 = v.val; omega
  | ⟨2, _⟩ => show (v.val * 1024 + j.val) % 1024 = j.val; omega
theorem add15 (v : Fin 128) (j : Fin 1024) : (val_main_v243 (F := Ideal) A.x1 A.x2 A.x3 A.x4 A.x5 A.x6 A.x7 A.x8 A.x9 A.x10 A.x11 A.x12) (ix2 v j) = A.call.add (⟨15, by decide⟩ : Fin 32) v j := by
  rw [val_main_v243_apply, val_main_v242_apply]
  refine (congrArg (val_main_v143 (F := Ideal) A.x1 A.x2 A.x3 A.x4 A.x5 A.x6 A.x7 A.x8 A.x9 A.x10 A.x11 A.x12) (funext fun a => Fin.ext ?_)).trans (at143 A (⟨15, by decide⟩ : Fin 32) v j)
  match a with
  | ⟨0, _⟩ => show 15 + 0 = 15; rfl
  | ⟨1, _⟩ => show (v.val * 1024 + j.val) / 1024 % 128 = v.val; omega
  | ⟨2, _⟩ => show (v.val * 1024 + j.val) % 1024 = j.val; omega
theorem add16 (v : Fin 128) (j : Fin 1024) : (val_main_v245 (F := Ideal) A.x1 A.x2 A.x3 A.x4 A.x5 A.x6 A.x7 A.x8 A.x9 A.x10 A.x11 A.x12) (ix2 v j) = A.call.add (⟨16, by decide⟩ : Fin 32) v j := by
  rw [val_main_v245_apply, val_main_v244_apply]
  refine (congrArg (val_main_v143 (F := Ideal) A.x1 A.x2 A.x3 A.x4 A.x5 A.x6 A.x7 A.x8 A.x9 A.x10 A.x11 A.x12) (funext fun a => Fin.ext ?_)).trans (at143 A (⟨16, by decide⟩ : Fin 32) v j)
  match a with
  | ⟨0, _⟩ => show 16 + 0 = 16; rfl
  | ⟨1, _⟩ => show (v.val * 1024 + j.val) / 1024 % 128 = v.val; omega
  | ⟨2, _⟩ => show (v.val * 1024 + j.val) % 1024 = j.val; omega
theorem add17 (v : Fin 128) (j : Fin 1024) : (val_main_v247 (F := Ideal) A.x1 A.x2 A.x3 A.x4 A.x5 A.x6 A.x7 A.x8 A.x9 A.x10 A.x11 A.x12) (ix2 v j) = A.call.add (⟨17, by decide⟩ : Fin 32) v j := by
  rw [val_main_v247_apply, val_main_v246_apply]
  refine (congrArg (val_main_v143 (F := Ideal) A.x1 A.x2 A.x3 A.x4 A.x5 A.x6 A.x7 A.x8 A.x9 A.x10 A.x11 A.x12) (funext fun a => Fin.ext ?_)).trans (at143 A (⟨17, by decide⟩ : Fin 32) v j)
  match a with
  | ⟨0, _⟩ => show 17 + 0 = 17; rfl
  | ⟨1, _⟩ => show (v.val * 1024 + j.val) / 1024 % 128 = v.val; omega
  | ⟨2, _⟩ => show (v.val * 1024 + j.val) % 1024 = j.val; omega
theorem add18 (v : Fin 128) (j : Fin 1024) : (val_main_v249 (F := Ideal) A.x1 A.x2 A.x3 A.x4 A.x5 A.x6 A.x7 A.x8 A.x9 A.x10 A.x11 A.x12) (ix2 v j) = A.call.add (⟨18, by decide⟩ : Fin 32) v j := by
  rw [val_main_v249_apply, val_main_v248_apply]
  refine (congrArg (val_main_v143 (F := Ideal) A.x1 A.x2 A.x3 A.x4 A.x5 A.x6 A.x7 A.x8 A.x9 A.x10 A.x11 A.x12) (funext fun a => Fin.ext ?_)).trans (at143 A (⟨18, by decide⟩ : Fin 32) v j)
  match a with
  | ⟨0, _⟩ => show 18 + 0 = 18; rfl
  | ⟨1, _⟩ => show (v.val * 1024 + j.val) / 1024 % 128 = v.val; omega
  | ⟨2, _⟩ => show (v.val * 1024 + j.val) % 1024 = j.val; omega
theorem add19 (v : Fin 128) (j : Fin 1024) : (val_main_v251 (F := Ideal) A.x1 A.x2 A.x3 A.x4 A.x5 A.x6 A.x7 A.x8 A.x9 A.x10 A.x11 A.x12) (ix2 v j) = A.call.add (⟨19, by decide⟩ : Fin 32) v j := by
  rw [val_main_v251_apply, val_main_v250_apply]
  refine (congrArg (val_main_v143 (F := Ideal) A.x1 A.x2 A.x3 A.x4 A.x5 A.x6 A.x7 A.x8 A.x9 A.x10 A.x11 A.x12) (funext fun a => Fin.ext ?_)).trans (at143 A (⟨19, by decide⟩ : Fin 32) v j)
  match a with
  | ⟨0, _⟩ => show 19 + 0 = 19; rfl
  | ⟨1, _⟩ => show (v.val * 1024 + j.val) / 1024 % 128 = v.val; omega
  | ⟨2, _⟩ => show (v.val * 1024 + j.val) % 1024 = j.val; omega
theorem add20 (v : Fin 128) (j : Fin 1024) : (val_main_v253 (F := Ideal) A.x1 A.x2 A.x3 A.x4 A.x5 A.x6 A.x7 A.x8 A.x9 A.x10 A.x11 A.x12) (ix2 v j) = A.call.add (⟨20, by decide⟩ : Fin 32) v j := by
  rw [val_main_v253_apply, val_main_v252_apply]
  refine (congrArg (val_main_v143 (F := Ideal) A.x1 A.x2 A.x3 A.x4 A.x5 A.x6 A.x7 A.x8 A.x9 A.x10 A.x11 A.x12) (funext fun a => Fin.ext ?_)).trans (at143 A (⟨20, by decide⟩ : Fin 32) v j)
  match a with
  | ⟨0, _⟩ => show 20 + 0 = 20; rfl
  | ⟨1, _⟩ => show (v.val * 1024 + j.val) / 1024 % 128 = v.val; omega
  | ⟨2, _⟩ => show (v.val * 1024 + j.val) % 1024 = j.val; omega
theorem add21 (v : Fin 128) (j : Fin 1024) : (val_main_v255 (F := Ideal) A.x1 A.x2 A.x3 A.x4 A.x5 A.x6 A.x7 A.x8 A.x9 A.x10 A.x11 A.x12) (ix2 v j) = A.call.add (⟨21, by decide⟩ : Fin 32) v j := by
  rw [val_main_v255_apply, val_main_v254_apply]
  refine (congrArg (val_main_v143 (F := Ideal) A.x1 A.x2 A.x3 A.x4 A.x5 A.x6 A.x7 A.x8 A.x9 A.x10 A.x11 A.x12) (funext fun a => Fin.ext ?_)).trans (at143 A (⟨21, by decide⟩ : Fin 32) v j)
  match a with
  | ⟨0, _⟩ => show 21 + 0 = 21; rfl
  | ⟨1, _⟩ => show (v.val * 1024 + j.val) / 1024 % 128 = v.val; omega
  | ⟨2, _⟩ => show (v.val * 1024 + j.val) % 1024 = j.val; omega
theorem add22 (v : Fin 128) (j : Fin 1024) : (val_main_v257 (F := Ideal) A.x1 A.x2 A.x3 A.x4 A.x5 A.x6 A.x7 A.x8 A.x9 A.x10 A.x11 A.x12) (ix2 v j) = A.call.add (⟨22, by decide⟩ : Fin 32) v j := by
  rw [val_main_v257_apply, val_main_v256_apply]
  refine (congrArg (val_main_v143 (F := Ideal) A.x1 A.x2 A.x3 A.x4 A.x5 A.x6 A.x7 A.x8 A.x9 A.x10 A.x11 A.x12) (funext fun a => Fin.ext ?_)).trans (at143 A (⟨22, by decide⟩ : Fin 32) v j)
  match a with
  | ⟨0, _⟩ => show 22 + 0 = 22; rfl
  | ⟨1, _⟩ => show (v.val * 1024 + j.val) / 1024 % 128 = v.val; omega
  | ⟨2, _⟩ => show (v.val * 1024 + j.val) % 1024 = j.val; omega
theorem add23 (v : Fin 128) (j : Fin 1024) : (val_main_v259 (F := Ideal) A.x1 A.x2 A.x3 A.x4 A.x5 A.x6 A.x7 A.x8 A.x9 A.x10 A.x11 A.x12) (ix2 v j) = A.call.add (⟨23, by decide⟩ : Fin 32) v j := by
  rw [val_main_v259_apply, val_main_v258_apply]
  refine (congrArg (val_main_v143 (F := Ideal) A.x1 A.x2 A.x3 A.x4 A.x5 A.x6 A.x7 A.x8 A.x9 A.x10 A.x11 A.x12) (funext fun a => Fin.ext ?_)).trans (at143 A (⟨23, by decide⟩ : Fin 32) v j)
  match a with
  | ⟨0, _⟩ => show 23 + 0 = 23; rfl
  | ⟨1, _⟩ => show (v.val * 1024 + j.val) / 1024 % 128 = v.val; omega
  | ⟨2, _⟩ => show (v.val * 1024 + j.val) % 1024 = j.val; omega
theorem add24 (v : Fin 128) (j : Fin 1024) : (val_main_v261 (F := Ideal) A.x1 A.x2 A.x3 A.x4 A.x5 A.x6 A.x7 A.x8 A.x9 A.x10 A.x11 A.x12) (ix2 v j) = A.call.add (⟨24, by decide⟩ : Fin 32) v j := by
  rw [val_main_v261_apply, val_main_v260_apply]
  refine (congrArg (val_main_v143 (F := Ideal) A.x1 A.x2 A.x3 A.x4 A.x5 A.x6 A.x7 A.x8 A.x9 A.x10 A.x11 A.x12) (funext fun a => Fin.ext ?_)).trans (at143 A (⟨24, by decide⟩ : Fin 32) v j)
  match a with
  | ⟨0, _⟩ => show 24 + 0 = 24; rfl
  | ⟨1, _⟩ => show (v.val * 1024 + j.val) / 1024 % 128 = v.val; omega
  | ⟨2, _⟩ => show (v.val * 1024 + j.val) % 1024 = j.val; omega
theorem add25 (v : Fin 128) (j : Fin 1024) : (val_main_v263 (F := Ideal) A.x1 A.x2 A.x3 A.x4 A.x5 A.x6 A.x7 A.x8 A.x9 A.x10 A.x11 A.x12) (ix2 v j) = A.call.add (⟨25, by decide⟩ : Fin 32) v j := by
  rw [val_main_v263_apply, val_main_v262_apply]
  refine (congrArg (val_main_v143 (F := Ideal) A.x1 A.x2 A.x3 A.x4 A.x5 A.x6 A.x7 A.x8 A.x9 A.x10 A.x11 A.x12) (funext fun a => Fin.ext ?_)).trans (at143 A (⟨25, by decide⟩ : Fin 32) v j)
  match a with
  | ⟨0, _⟩ => show 25 + 0 = 25; rfl
  | ⟨1, _⟩ => show (v.val * 1024 + j.val) / 1024 % 128 = v.val; omega
  | ⟨2, _⟩ => show (v.val * 1024 + j.val) % 1024 = j.val; omega
theorem add26 (v : Fin 128) (j : Fin 1024) : (val_main_v265 (F := Ideal) A.x1 A.x2 A.x3 A.x4 A.x5 A.x6 A.x7 A.x8 A.x9 A.x10 A.x11 A.x12) (ix2 v j) = A.call.add (⟨26, by decide⟩ : Fin 32) v j := by
  rw [val_main_v265_apply, val_main_v264_apply]
  refine (congrArg (val_main_v143 (F := Ideal) A.x1 A.x2 A.x3 A.x4 A.x5 A.x6 A.x7 A.x8 A.x9 A.x10 A.x11 A.x12) (funext fun a => Fin.ext ?_)).trans (at143 A (⟨26, by decide⟩ : Fin 32) v j)
  match a with
  | ⟨0, _⟩ => show 26 + 0 = 26; rfl
  | ⟨1, _⟩ => show (v.val * 1024 + j.val) / 1024 % 128 = v.val; omega
  | ⟨2, _⟩ => show (v.val * 1024 + j.val) % 1024 = j.val; omega
theorem add27 (v : Fin 128) (j : Fin 1024) : (val_main_v267 (F := Ideal) A.x1 A.x2 A.x3 A.x4 A.x5 A.x6 A.x7 A.x8 A.x9 A.x10 A.x11 A.x12) (ix2 v j) = A.call.add (⟨27, by decide⟩ : Fin 32) v j := by
  rw [val_main_v267_apply, val_main_v266_apply]
  refine (congrArg (val_main_v143 (F := Ideal) A.x1 A.x2 A.x3 A.x4 A.x5 A.x6 A.x7 A.x8 A.x9 A.x10 A.x11 A.x12) (funext fun a => Fin.ext ?_)).trans (at143 A (⟨27, by decide⟩ : Fin 32) v j)
  match a with
  | ⟨0, _⟩ => show 27 + 0 = 27; rfl
  | ⟨1, _⟩ => show (v.val * 1024 + j.val) / 1024 % 128 = v.val; omega
  | ⟨2, _⟩ => show (v.val * 1024 + j.val) % 1024 = j.val; omega
theorem add28 (v : Fin 128) (j : Fin 1024) : (val_main_v269 (F := Ideal) A.x1 A.x2 A.x3 A.x4 A.x5 A.x6 A.x7 A.x8 A.x9 A.x10 A.x11 A.x12) (ix2 v j) = A.call.add (⟨28, by decide⟩ : Fin 32) v j := by
  rw [val_main_v269_apply, val_main_v268_apply]
  refine (congrArg (val_main_v143 (F := Ideal) A.x1 A.x2 A.x3 A.x4 A.x5 A.x6 A.x7 A.x8 A.x9 A.x10 A.x11 A.x12) (funext fun a => Fin.ext ?_)).trans (at143 A (⟨28, by decide⟩ : Fin 32) v j)
  match a with
  | ⟨0, _⟩ => show 28 + 0 = 28; rfl
  | ⟨1, _⟩ => show (v.val * 1024 + j.val) / 1024 % 128 = v.val; omega
  | ⟨2, _⟩ => show (v.val * 1024 + j.val) % 1024 = j.val; omega
theorem add29 (v : Fin 128) (j : Fin 1024) : (val_main_v271 (F := Ideal) A.x1 A.x2 A.x3 A.x4 A.x5 A.x6 A.x7 A.x8 A.x9 A.x10 A.x11 A.x12) (ix2 v j) = A.call.add (⟨29, by decide⟩ : Fin 32) v j := by
  rw [val_main_v271_apply, val_main_v270_apply]
  refine (congrArg (val_main_v143 (F := Ideal) A.x1 A.x2 A.x3 A.x4 A.x5 A.x6 A.x7 A.x8 A.x9 A.x10 A.x11 A.x12) (funext fun a => Fin.ext ?_)).trans (at143 A (⟨29, by decide⟩ : Fin 32) v j)
  match a with
  | ⟨0, _⟩ => show 29 + 0 = 29; rfl
  | ⟨1, _⟩ => show (v.val * 1024 + j.val) / 1024 % 128 = v.val; omega
  | ⟨2, _⟩ => show (v.val * 1024 + j.val) % 1024 = j.val; omega
theorem add30 (v : Fin 128) (j : Fin 1024) : (val_main_v273 (F := Ideal) A.x1 A.x2 A.x3 A.x4 A.x5 A.x6 A.x7 A.x8 A.x9 A.x10 A.x11 A.x12) (ix2 v j) = A.call.add (⟨30, by decide⟩ : Fin 32) v j := by
  rw [val_main_v273_apply, val_main_v272_apply]
  refine (congrArg (val_main_v143 (F := Ideal) A.x1 A.x2 A.x3 A.x4 A.x5 A.x6 A.x7 A.x8 A.x9 A.x10 A.x11 A.x12) (funext fun a => Fin.ext ?_)).trans (at143 A (⟨30, by decide⟩ : Fin 32) v j)
  match a with
  | ⟨0, _⟩ => show 30 + 0 = 30; rfl
  | ⟨1, _⟩ => show (v.val * 1024 + j.val) / 1024 % 128 = v.val; omega
  | ⟨2, _⟩ => show (v.val * 1024 + j.val) % 1024 = j.val; omega
theorem add31 (v : Fin 128) (j : Fin 1024) : (val_main_v275 (F := Ideal) A.x1 A.x2 A.x3 A.x4 A.x5 A.x6 A.x7 A.x8 A.x9 A.x10 A.x11 A.x12) (ix2 v j) = A.call.add (⟨31, by decide⟩ : Fin 32) v j := by
  rw [val_main_v275_apply, val_main_v274_apply]
  refine (congrArg (val_main_v143 (F := Ideal) A.x1 A.x2 A.x3 A.x4 A.x5 A.x6 A.x7 A.x8 A.x9 A.x10 A.x11 A.x12) (funext fun a => Fin.ext ?_)).trans (at143 A (⟨31, by decide⟩ : Fin 32) v j)
  match a with
  | ⟨0, _⟩ => show 31 + 0 = 31; rfl
  | ⟨1, _⟩ => show (v.val * 1024 + j.val) / 1024 % 128 = v.val; omega
  | ⟨2, _⟩ => show (v.val * 1024 + j.val) % 1024 = j.val; omega

/-! ## The state gradient, chunk by chunk from the end -/

theorem grow (C : Call) (n : Nat) (c : Fin 32) (hc : fromEnd n = c) (v : Fin 128) (j : Fin 1024) :
    C.add c v j + C.dec c j * C.after n v j = C.after (n + 1) v j := by
  subst hc
  exact add_comm _ _
theorem grow_first (C : Call) (v : Fin 128) (j : Fin 1024) : C.add (⟨31, by decide⟩ : Fin 32) v j = C.after 1 v j := by
  refine Eq.trans ?_ (grow C 0 (⟨31, by decide⟩ : Fin 32) rfl v j)
  show _ = _ + _ * (0 : EReal)
  rw [mul_zero, add_zero]

theorem after1 (v : Fin 128) (j : Fin 1024) : (val_main_v275 (F := Ideal) A.x1 A.x2 A.x3 A.x4 A.x5 A.x6 A.x7 A.x8 A.x9 A.x10 A.x11 A.x12) (ix2 v j) = A.call.after 1 v j := (add31 A v j).trans (grow_first A.call v j)
theorem after2 (v : Fin 128) (j : Fin 1024) : (val_main_v278 (F := Ideal) A.x1 A.x2 A.x3 A.x4 A.x5 A.x6 A.x7 A.x8 A.x9 A.x10 A.x11 A.x12 A.x13) (ix2 v j) = A.call.after 2 v j := by
  have hi : idx_main_v276 (ix2 v j) = (ix2 (0 : Fin 1) j : S1x1024.Idx) := by
    refine funext fun a => Fin.ext ?_
    match a with
    | ⟨0, _⟩ => rfl
    | ⟨1, _⟩ => rfl
  rw [val_main_v278_apply, val_main_v277_apply, val_main_v276_apply, hi, add30, dec30, after1]
  exact grow A.call 1 (⟨30, by decide⟩ : Fin 32) rfl v j
theorem after3 (v : Fin 128) (j : Fin 1024) : (val_main_v281 (F := Ideal) A.x1 A.x2 A.x3 A.x4 A.x5 A.x6 A.x7 A.x8 A.x9 A.x10 A.x11 A.x12 A.x13) (ix2 v j) = A.call.after 3 v j := by
  have hi : idx_main_v279 (ix2 v j) = (ix2 (0 : Fin 1) j : S1x1024.Idx) := by
    refine funext fun a => Fin.ext ?_
    match a with
    | ⟨0, _⟩ => rfl
    | ⟨1, _⟩ => rfl
  rw [val_main_v281_apply, val_main_v280_apply, val_main_v279_apply, hi, add29, dec29, after2]
  exact grow A.call 2 (⟨29, by decide⟩ : Fin 32) rfl v j
theorem after4 (v : Fin 128) (j : Fin 1024) : (val_main_v284 (F := Ideal) A.x1 A.x2 A.x3 A.x4 A.x5 A.x6 A.x7 A.x8 A.x9 A.x10 A.x11 A.x12 A.x13) (ix2 v j) = A.call.after 4 v j := by
  have hi : idx_main_v282 (ix2 v j) = (ix2 (0 : Fin 1) j : S1x1024.Idx) := by
    refine funext fun a => Fin.ext ?_
    match a with
    | ⟨0, _⟩ => rfl
    | ⟨1, _⟩ => rfl
  rw [val_main_v284_apply, val_main_v283_apply, val_main_v282_apply, hi, add28, dec28, after3]
  exact grow A.call 3 (⟨28, by decide⟩ : Fin 32) rfl v j
theorem after5 (v : Fin 128) (j : Fin 1024) : (val_main_v287 (F := Ideal) A.x1 A.x2 A.x3 A.x4 A.x5 A.x6 A.x7 A.x8 A.x9 A.x10 A.x11 A.x12 A.x13) (ix2 v j) = A.call.after 5 v j := by
  have hi : idx_main_v285 (ix2 v j) = (ix2 (0 : Fin 1) j : S1x1024.Idx) := by
    refine funext fun a => Fin.ext ?_
    match a with
    | ⟨0, _⟩ => rfl
    | ⟨1, _⟩ => rfl
  rw [val_main_v287_apply, val_main_v286_apply, val_main_v285_apply, hi, add27, dec27, after4]
  exact grow A.call 4 (⟨27, by decide⟩ : Fin 32) rfl v j
theorem after6 (v : Fin 128) (j : Fin 1024) : (val_main_v290 (F := Ideal) A.x1 A.x2 A.x3 A.x4 A.x5 A.x6 A.x7 A.x8 A.x9 A.x10 A.x11 A.x12 A.x13) (ix2 v j) = A.call.after 6 v j := by
  have hi : idx_main_v288 (ix2 v j) = (ix2 (0 : Fin 1) j : S1x1024.Idx) := by
    refine funext fun a => Fin.ext ?_
    match a with
    | ⟨0, _⟩ => rfl
    | ⟨1, _⟩ => rfl
  rw [val_main_v290_apply, val_main_v289_apply, val_main_v288_apply, hi, add26, dec26, after5]
  exact grow A.call 5 (⟨26, by decide⟩ : Fin 32) rfl v j
theorem after7 (v : Fin 128) (j : Fin 1024) : (val_main_v293 (F := Ideal) A.x1 A.x2 A.x3 A.x4 A.x5 A.x6 A.x7 A.x8 A.x9 A.x10 A.x11 A.x12 A.x13) (ix2 v j) = A.call.after 7 v j := by
  have hi : idx_main_v291 (ix2 v j) = (ix2 (0 : Fin 1) j : S1x1024.Idx) := by
    refine funext fun a => Fin.ext ?_
    match a with
    | ⟨0, _⟩ => rfl
    | ⟨1, _⟩ => rfl
  rw [val_main_v293_apply, val_main_v292_apply, val_main_v291_apply, hi, add25, dec25, after6]
  exact grow A.call 6 (⟨25, by decide⟩ : Fin 32) rfl v j
theorem after8 (v : Fin 128) (j : Fin 1024) : (val_main_v296 (F := Ideal) A.x1 A.x2 A.x3 A.x4 A.x5 A.x6 A.x7 A.x8 A.x9 A.x10 A.x11 A.x12 A.x13) (ix2 v j) = A.call.after 8 v j := by
  have hi : idx_main_v294 (ix2 v j) = (ix2 (0 : Fin 1) j : S1x1024.Idx) := by
    refine funext fun a => Fin.ext ?_
    match a with
    | ⟨0, _⟩ => rfl
    | ⟨1, _⟩ => rfl
  rw [val_main_v296_apply, val_main_v295_apply, val_main_v294_apply, hi, add24, dec24, after7]
  exact grow A.call 7 (⟨24, by decide⟩ : Fin 32) rfl v j
theorem after9 (v : Fin 128) (j : Fin 1024) : (val_main_v299 (F := Ideal) A.x1 A.x2 A.x3 A.x4 A.x5 A.x6 A.x7 A.x8 A.x9 A.x10 A.x11 A.x12 A.x13) (ix2 v j) = A.call.after 9 v j := by
  have hi : idx_main_v297 (ix2 v j) = (ix2 (0 : Fin 1) j : S1x1024.Idx) := by
    refine funext fun a => Fin.ext ?_
    match a with
    | ⟨0, _⟩ => rfl
    | ⟨1, _⟩ => rfl
  rw [val_main_v299_apply, val_main_v298_apply, val_main_v297_apply, hi, add23, dec23, after8]
  exact grow A.call 8 (⟨23, by decide⟩ : Fin 32) rfl v j
theorem after10 (v : Fin 128) (j : Fin 1024) : (val_main_v302 (F := Ideal) A.x1 A.x2 A.x3 A.x4 A.x5 A.x6 A.x7 A.x8 A.x9 A.x10 A.x11 A.x12 A.x13) (ix2 v j) = A.call.after 10 v j := by
  have hi : idx_main_v300 (ix2 v j) = (ix2 (0 : Fin 1) j : S1x1024.Idx) := by
    refine funext fun a => Fin.ext ?_
    match a with
    | ⟨0, _⟩ => rfl
    | ⟨1, _⟩ => rfl
  rw [val_main_v302_apply, val_main_v301_apply, val_main_v300_apply, hi, add22, dec22, after9]
  exact grow A.call 9 (⟨22, by decide⟩ : Fin 32) rfl v j
theorem after11 (v : Fin 128) (j : Fin 1024) : (val_main_v305 (F := Ideal) A.x1 A.x2 A.x3 A.x4 A.x5 A.x6 A.x7 A.x8 A.x9 A.x10 A.x11 A.x12 A.x13) (ix2 v j) = A.call.after 11 v j := by
  have hi : idx_main_v303 (ix2 v j) = (ix2 (0 : Fin 1) j : S1x1024.Idx) := by
    refine funext fun a => Fin.ext ?_
    match a with
    | ⟨0, _⟩ => rfl
    | ⟨1, _⟩ => rfl
  rw [val_main_v305_apply, val_main_v304_apply, val_main_v303_apply, hi, add21, dec21, after10]
  exact grow A.call 10 (⟨21, by decide⟩ : Fin 32) rfl v j
theorem after12 (v : Fin 128) (j : Fin 1024) : (val_main_v308 (F := Ideal) A.x1 A.x2 A.x3 A.x4 A.x5 A.x6 A.x7 A.x8 A.x9 A.x10 A.x11 A.x12 A.x13) (ix2 v j) = A.call.after 12 v j := by
  have hi : idx_main_v306 (ix2 v j) = (ix2 (0 : Fin 1) j : S1x1024.Idx) := by
    refine funext fun a => Fin.ext ?_
    match a with
    | ⟨0, _⟩ => rfl
    | ⟨1, _⟩ => rfl
  rw [val_main_v308_apply, val_main_v307_apply, val_main_v306_apply, hi, add20, dec20, after11]
  exact grow A.call 11 (⟨20, by decide⟩ : Fin 32) rfl v j
theorem after13 (v : Fin 128) (j : Fin 1024) : (val_main_v311 (F := Ideal) A.x1 A.x2 A.x3 A.x4 A.x5 A.x6 A.x7 A.x8 A.x9 A.x10 A.x11 A.x12 A.x13) (ix2 v j) = A.call.after 13 v j := by
  have hi : idx_main_v309 (ix2 v j) = (ix2 (0 : Fin 1) j : S1x1024.Idx) := by
    refine funext fun a => Fin.ext ?_
    match a with
    | ⟨0, _⟩ => rfl
    | ⟨1, _⟩ => rfl
  rw [val_main_v311_apply, val_main_v310_apply, val_main_v309_apply, hi, add19, dec19, after12]
  exact grow A.call 12 (⟨19, by decide⟩ : Fin 32) rfl v j
theorem after14 (v : Fin 128) (j : Fin 1024) : (val_main_v314 (F := Ideal) A.x1 A.x2 A.x3 A.x4 A.x5 A.x6 A.x7 A.x8 A.x9 A.x10 A.x11 A.x12 A.x13) (ix2 v j) = A.call.after 14 v j := by
  have hi : idx_main_v312 (ix2 v j) = (ix2 (0 : Fin 1) j : S1x1024.Idx) := by
    refine funext fun a => Fin.ext ?_
    match a with
    | ⟨0, _⟩ => rfl
    | ⟨1, _⟩ => rfl
  rw [val_main_v314_apply, val_main_v313_apply, val_main_v312_apply, hi, add18, dec18, after13]
  exact grow A.call 13 (⟨18, by decide⟩ : Fin 32) rfl v j
theorem after15 (v : Fin 128) (j : Fin 1024) : (val_main_v317 (F := Ideal) A.x1 A.x2 A.x3 A.x4 A.x5 A.x6 A.x7 A.x8 A.x9 A.x10 A.x11 A.x12 A.x13) (ix2 v j) = A.call.after 15 v j := by
  have hi : idx_main_v315 (ix2 v j) = (ix2 (0 : Fin 1) j : S1x1024.Idx) := by
    refine funext fun a => Fin.ext ?_
    match a with
    | ⟨0, _⟩ => rfl
    | ⟨1, _⟩ => rfl
  rw [val_main_v317_apply, val_main_v316_apply, val_main_v315_apply, hi, add17, dec17, after14]
  exact grow A.call 14 (⟨17, by decide⟩ : Fin 32) rfl v j
theorem after16 (v : Fin 128) (j : Fin 1024) : (val_main_v320 (F := Ideal) A.x1 A.x2 A.x3 A.x4 A.x5 A.x6 A.x7 A.x8 A.x9 A.x10 A.x11 A.x12 A.x13) (ix2 v j) = A.call.after 16 v j := by
  have hi : idx_main_v318 (ix2 v j) = (ix2 (0 : Fin 1) j : S1x1024.Idx) := by
    refine funext fun a => Fin.ext ?_
    match a with
    | ⟨0, _⟩ => rfl
    | ⟨1, _⟩ => rfl
  rw [val_main_v320_apply, val_main_v319_apply, val_main_v318_apply, hi, add16, dec16, after15]
  exact grow A.call 15 (⟨16, by decide⟩ : Fin 32) rfl v j
theorem after17 (v : Fin 128) (j : Fin 1024) : (val_main_v323 (F := Ideal) A.x1 A.x2 A.x3 A.x4 A.x5 A.x6 A.x7 A.x8 A.x9 A.x10 A.x11 A.x12 A.x13) (ix2 v j) = A.call.after 17 v j := by
  have hi : idx_main_v321 (ix2 v j) = (ix2 (0 : Fin 1) j : S1x1024.Idx) := by
    refine funext fun a => Fin.ext ?_
    match a with
    | ⟨0, _⟩ => rfl
    | ⟨1, _⟩ => rfl
  rw [val_main_v323_apply, val_main_v322_apply, val_main_v321_apply, hi, add15, dec15, after16]
  exact grow A.call 16 (⟨15, by decide⟩ : Fin 32) rfl v j
theorem after18 (v : Fin 128) (j : Fin 1024) : (val_main_v326 (F := Ideal) A.x1 A.x2 A.x3 A.x4 A.x5 A.x6 A.x7 A.x8 A.x9 A.x10 A.x11 A.x12 A.x13) (ix2 v j) = A.call.after 18 v j := by
  have hi : idx_main_v324 (ix2 v j) = (ix2 (0 : Fin 1) j : S1x1024.Idx) := by
    refine funext fun a => Fin.ext ?_
    match a with
    | ⟨0, _⟩ => rfl
    | ⟨1, _⟩ => rfl
  rw [val_main_v326_apply, val_main_v325_apply, val_main_v324_apply, hi, add14, dec14, after17]
  exact grow A.call 17 (⟨14, by decide⟩ : Fin 32) rfl v j
theorem after19 (v : Fin 128) (j : Fin 1024) : (val_main_v329 (F := Ideal) A.x1 A.x2 A.x3 A.x4 A.x5 A.x6 A.x7 A.x8 A.x9 A.x10 A.x11 A.x12 A.x13) (ix2 v j) = A.call.after 19 v j := by
  have hi : idx_main_v327 (ix2 v j) = (ix2 (0 : Fin 1) j : S1x1024.Idx) := by
    refine funext fun a => Fin.ext ?_
    match a with
    | ⟨0, _⟩ => rfl
    | ⟨1, _⟩ => rfl
  rw [val_main_v329_apply, val_main_v328_apply, val_main_v327_apply, hi, add13, dec13, after18]
  exact grow A.call 18 (⟨13, by decide⟩ : Fin 32) rfl v j
theorem after20 (v : Fin 128) (j : Fin 1024) : (val_main_v332 (F := Ideal) A.x1 A.x2 A.x3 A.x4 A.x5 A.x6 A.x7 A.x8 A.x9 A.x10 A.x11 A.x12 A.x13) (ix2 v j) = A.call.after 20 v j := by
  have hi : idx_main_v330 (ix2 v j) = (ix2 (0 : Fin 1) j : S1x1024.Idx) := by
    refine funext fun a => Fin.ext ?_
    match a with
    | ⟨0, _⟩ => rfl
    | ⟨1, _⟩ => rfl
  rw [val_main_v332_apply, val_main_v331_apply, val_main_v330_apply, hi, add12, dec12, after19]
  exact grow A.call 19 (⟨12, by decide⟩ : Fin 32) rfl v j
theorem after21 (v : Fin 128) (j : Fin 1024) : (val_main_v335 (F := Ideal) A.x1 A.x2 A.x3 A.x4 A.x5 A.x6 A.x7 A.x8 A.x9 A.x10 A.x11 A.x12 A.x13) (ix2 v j) = A.call.after 21 v j := by
  have hi : idx_main_v333 (ix2 v j) = (ix2 (0 : Fin 1) j : S1x1024.Idx) := by
    refine funext fun a => Fin.ext ?_
    match a with
    | ⟨0, _⟩ => rfl
    | ⟨1, _⟩ => rfl
  rw [val_main_v335_apply, val_main_v334_apply, val_main_v333_apply, hi, add11, dec11, after20]
  exact grow A.call 20 (⟨11, by decide⟩ : Fin 32) rfl v j
theorem after22 (v : Fin 128) (j : Fin 1024) : (val_main_v338 (F := Ideal) A.x1 A.x2 A.x3 A.x4 A.x5 A.x6 A.x7 A.x8 A.x9 A.x10 A.x11 A.x12 A.x13) (ix2 v j) = A.call.after 22 v j := by
  have hi : idx_main_v336 (ix2 v j) = (ix2 (0 : Fin 1) j : S1x1024.Idx) := by
    refine funext fun a => Fin.ext ?_
    match a with
    | ⟨0, _⟩ => rfl
    | ⟨1, _⟩ => rfl
  rw [val_main_v338_apply, val_main_v337_apply, val_main_v336_apply, hi, add10, dec10, after21]
  exact grow A.call 21 (⟨10, by decide⟩ : Fin 32) rfl v j
theorem after23 (v : Fin 128) (j : Fin 1024) : (val_main_v341 (F := Ideal) A.x1 A.x2 A.x3 A.x4 A.x5 A.x6 A.x7 A.x8 A.x9 A.x10 A.x11 A.x12 A.x13) (ix2 v j) = A.call.after 23 v j := by
  have hi : idx_main_v339 (ix2 v j) = (ix2 (0 : Fin 1) j : S1x1024.Idx) := by
    refine funext fun a => Fin.ext ?_
    match a with
    | ⟨0, _⟩ => rfl
    | ⟨1, _⟩ => rfl
  rw [val_main_v341_apply, val_main_v340_apply, val_main_v339_apply, hi, add9, dec9, after22]
  exact grow A.call 22 (⟨9, by decide⟩ : Fin 32) rfl v j
theorem after24 (v : Fin 128) (j : Fin 1024) : (val_main_v344 (F := Ideal) A.x1 A.x2 A.x3 A.x4 A.x5 A.x6 A.x7 A.x8 A.x9 A.x10 A.x11 A.x12 A.x13) (ix2 v j) = A.call.after 24 v j := by
  have hi : idx_main_v342 (ix2 v j) = (ix2 (0 : Fin 1) j : S1x1024.Idx) := by
    refine funext fun a => Fin.ext ?_
    match a with
    | ⟨0, _⟩ => rfl
    | ⟨1, _⟩ => rfl
  rw [val_main_v344_apply, val_main_v343_apply, val_main_v342_apply, hi, add8, dec8, after23]
  exact grow A.call 23 (⟨8, by decide⟩ : Fin 32) rfl v j
theorem after25 (v : Fin 128) (j : Fin 1024) : (val_main_v347 (F := Ideal) A.x1 A.x2 A.x3 A.x4 A.x5 A.x6 A.x7 A.x8 A.x9 A.x10 A.x11 A.x12 A.x13) (ix2 v j) = A.call.after 25 v j := by
  have hi : idx_main_v345 (ix2 v j) = (ix2 (0 : Fin 1) j : S1x1024.Idx) := by
    refine funext fun a => Fin.ext ?_
    match a with
    | ⟨0, _⟩ => rfl
    | ⟨1, _⟩ => rfl
  rw [val_main_v347_apply, val_main_v346_apply, val_main_v345_apply, hi, add7, dec7, after24]
  exact grow A.call 24 (⟨7, by decide⟩ : Fin 32) rfl v j
theorem after26 (v : Fin 128) (j : Fin 1024) : (val_main_v350 (F := Ideal) A.x1 A.x2 A.x3 A.x4 A.x5 A.x6 A.x7 A.x8 A.x9 A.x10 A.x11 A.x12 A.x13) (ix2 v j) = A.call.after 26 v j := by
  have hi : idx_main_v348 (ix2 v j) = (ix2 (0 : Fin 1) j : S1x1024.Idx) := by
    refine funext fun a => Fin.ext ?_
    match a with
    | ⟨0, _⟩ => rfl
    | ⟨1, _⟩ => rfl
  rw [val_main_v350_apply, val_main_v349_apply, val_main_v348_apply, hi, add6, dec6, after25]
  exact grow A.call 25 (⟨6, by decide⟩ : Fin 32) rfl v j
theorem after27 (v : Fin 128) (j : Fin 1024) : (val_main_v353 (F := Ideal) A.x1 A.x2 A.x3 A.x4 A.x5 A.x6 A.x7 A.x8 A.x9 A.x10 A.x11 A.x12 A.x13) (ix2 v j) = A.call.after 27 v j := by
  have hi : idx_main_v351 (ix2 v j) = (ix2 (0 : Fin 1) j : S1x1024.Idx) := by
    refine funext fun a => Fin.ext ?_
    match a with
    | ⟨0, _⟩ => rfl
    | ⟨1, _⟩ => rfl
  rw [val_main_v353_apply, val_main_v352_apply, val_main_v351_apply, hi, add5, dec5, after26]
  exact grow A.call 26 (⟨5, by decide⟩ : Fin 32) rfl v j
theorem after28 (v : Fin 128) (j : Fin 1024) : (val_main_v356 (F := Ideal) A.x1 A.x2 A.x3 A.x4 A.x5 A.x6 A.x7 A.x8 A.x9 A.x10 A.x11 A.x12 A.x13) (ix2 v j) = A.call.after 28 v j := by
  have hi : idx_main_v354 (ix2 v j) = (ix2 (0 : Fin 1) j : S1x1024.Idx) := by
    refine funext fun a => Fin.ext ?_
    match a with
    | ⟨0, _⟩ => rfl
    | ⟨1, _⟩ => rfl
  rw [val_main_v356_apply, val_main_v355_apply, val_main_v354_apply, hi, add4, dec4, after27]
  exact grow A.call 27 (⟨4, by decide⟩ : Fin 32) rfl v j
theorem after29 (v : Fin 128) (j : Fin 1024) : (val_main_v359 (F := Ideal) A.x1 A.x2 A.x3 A.x4 A.x5 A.x6 A.x7 A.x8 A.x9 A.x10 A.x11 A.x12 A.x13) (ix2 v j) = A.call.after 29 v j := by
  have hi : idx_main_v357 (ix2 v j) = (ix2 (0 : Fin 1) j : S1x1024.Idx) := by
    refine funext fun a => Fin.ext ?_
    match a with
    | ⟨0, _⟩ => rfl
    | ⟨1, _⟩ => rfl
  rw [val_main_v359_apply, val_main_v358_apply, val_main_v357_apply, hi, add3, dec3, after28]
  exact grow A.call 28 (⟨3, by decide⟩ : Fin 32) rfl v j
theorem after30 (v : Fin 128) (j : Fin 1024) : (val_main_v362 (F := Ideal) A.x1 A.x2 A.x3 A.x4 A.x5 A.x6 A.x7 A.x8 A.x9 A.x10 A.x11 A.x12 A.x13) (ix2 v j) = A.call.after 30 v j := by
  have hi : idx_main_v360 (ix2 v j) = (ix2 (0 : Fin 1) j : S1x1024.Idx) := by
    refine funext fun a => Fin.ext ?_
    match a with
    | ⟨0, _⟩ => rfl
    | ⟨1, _⟩ => rfl
  rw [val_main_v362_apply, val_main_v361_apply, val_main_v360_apply, hi, add2, dec2, after29]
  exact grow A.call 29 (⟨2, by decide⟩ : Fin 32) rfl v j
theorem after31 (v : Fin 128) (j : Fin 1024) : (val_main_v365 (F := Ideal) A.x1 A.x2 A.x3 A.x4 A.x5 A.x6 A.x7 A.x8 A.x9 A.x10 A.x11 A.x12 A.x13) (ix2 v j) = A.call.after 31 v j := by
  have hi : idx_main_v363 (ix2 v j) = (ix2 (0 : Fin 1) j : S1x1024.Idx) := by
    refine funext fun a => Fin.ext ?_
    match a with
    | ⟨0, _⟩ => rfl
    | ⟨1, _⟩ => rfl
  rw [val_main_v365_apply, val_main_v364_apply, val_main_v363_apply, hi, add1, dec1, after30]
  exact grow A.call 30 (⟨1, by decide⟩ : Fin 32) rfl v j

/-! ## Pieces joined -/

/-- One of sixteen layers joined: the call's state gradient after its chunk, if it is that. -/
theorem layer_at (x : S1x128x1024.Idx → EReal) (C : Call) (s : Nat) (n : Fin 16) (k : Nat) (v : Fin 128) (j : Fin 1024)
    (hx : x (ix3 (0 : Fin 1) v j) = C.after (31 - (s + k)) v j) :
    PieceAt (t := S16x128x1024) 0 (ix3 n v j) (C.after (31 - (s + n.val)) v j) S1x128x1024 x k := fun hk hr i h0 hi => by
  have hk' : n.val = k := hk
  have e : i = (ix3 (0 : Fin 1) v j : S1x128x1024.Idx) := by
    refine funext fun a => Fin.ext ?_
    match a with
    | ⟨0, _⟩ => exact h0
    | ⟨1, _⟩ => exact hi (1 : Fin 3) (by decide)
    | ⟨2, _⟩ => exact hi (2 : Fin 3) (by decide)
  rw [e, hx, hk']
theorem layer {α : Type} (x : S128x1024.Idx → α) (f : S1x128x1024.Idx → S128x1024.Idx)
    (hf : ∀ i, f i = fun a => match a with
      | ⟨0, _⟩ => ⟨(i 1).val, (i 1).isLt⟩
      | ⟨1, _⟩ => ⟨(i 2).val, (i 2).isLt⟩) (v : Fin 128) (j : Fin 1024) :
    x (f (ix3 (0 : Fin 1) v j)) = x (ix2 v j) := by
  rw [hf]
  refine congrArg x (funext fun a => ?_)
  match a with
  | ⟨0, _⟩ => rfl
  | ⟨1, _⟩ => rfl
theorem at399 (n : Fin 16) (v : Fin 128) (j : Fin 1024) : (val_main_v399 (F := Ideal) A.x1 A.x2 A.x3 A.x4 A.x5 A.x6 A.x7 A.x8 A.x9 A.x10 A.x11 A.x12 A.x13) (ix3 n v j) = A.call.after (31 - (0 + n.val)) v j := by
  unfold val_main_v399
  refine concatenate_unit_eq (t := S16x128x1024) 0 _ _ (ix3 n v j) _ rfl ⟨layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, trivial⟩
  · exact ((val_main_v367_apply ..).trans (layer (val_main_v365 (F := Ideal) A.x1 A.x2 A.x3 A.x4 A.x5 A.x6 A.x7 A.x8 A.x9 A.x10 A.x11 A.x12 A.x13) idx_main_v367 (fun _ => rfl) v j)).trans (after31 A v j)
  · exact ((val_main_v368_apply ..).trans (layer (val_main_v362 (F := Ideal) A.x1 A.x2 A.x3 A.x4 A.x5 A.x6 A.x7 A.x8 A.x9 A.x10 A.x11 A.x12 A.x13) idx_main_v368 (fun _ => rfl) v j)).trans (after30 A v j)
  · exact ((val_main_v369_apply ..).trans (layer (val_main_v359 (F := Ideal) A.x1 A.x2 A.x3 A.x4 A.x5 A.x6 A.x7 A.x8 A.x9 A.x10 A.x11 A.x12 A.x13) idx_main_v369 (fun _ => rfl) v j)).trans (after29 A v j)
  · exact ((val_main_v370_apply ..).trans (layer (val_main_v356 (F := Ideal) A.x1 A.x2 A.x3 A.x4 A.x5 A.x6 A.x7 A.x8 A.x9 A.x10 A.x11 A.x12 A.x13) idx_main_v370 (fun _ => rfl) v j)).trans (after28 A v j)
  · exact ((val_main_v371_apply ..).trans (layer (val_main_v353 (F := Ideal) A.x1 A.x2 A.x3 A.x4 A.x5 A.x6 A.x7 A.x8 A.x9 A.x10 A.x11 A.x12 A.x13) idx_main_v371 (fun _ => rfl) v j)).trans (after27 A v j)
  · exact ((val_main_v372_apply ..).trans (layer (val_main_v350 (F := Ideal) A.x1 A.x2 A.x3 A.x4 A.x5 A.x6 A.x7 A.x8 A.x9 A.x10 A.x11 A.x12 A.x13) idx_main_v372 (fun _ => rfl) v j)).trans (after26 A v j)
  · exact ((val_main_v373_apply ..).trans (layer (val_main_v347 (F := Ideal) A.x1 A.x2 A.x3 A.x4 A.x5 A.x6 A.x7 A.x8 A.x9 A.x10 A.x11 A.x12 A.x13) idx_main_v373 (fun _ => rfl) v j)).trans (after25 A v j)
  · exact ((val_main_v374_apply ..).trans (layer (val_main_v344 (F := Ideal) A.x1 A.x2 A.x3 A.x4 A.x5 A.x6 A.x7 A.x8 A.x9 A.x10 A.x11 A.x12 A.x13) idx_main_v374 (fun _ => rfl) v j)).trans (after24 A v j)
  · exact ((val_main_v375_apply ..).trans (layer (val_main_v341 (F := Ideal) A.x1 A.x2 A.x3 A.x4 A.x5 A.x6 A.x7 A.x8 A.x9 A.x10 A.x11 A.x12 A.x13) idx_main_v375 (fun _ => rfl) v j)).trans (after23 A v j)
  · exact ((val_main_v376_apply ..).trans (layer (val_main_v338 (F := Ideal) A.x1 A.x2 A.x3 A.x4 A.x5 A.x6 A.x7 A.x8 A.x9 A.x10 A.x11 A.x12 A.x13) idx_main_v376 (fun _ => rfl) v j)).trans (after22 A v j)
  · exact ((val_main_v377_apply ..).trans (layer (val_main_v335 (F := Ideal) A.x1 A.x2 A.x3 A.x4 A.x5 A.x6 A.x7 A.x8 A.x9 A.x10 A.x11 A.x12 A.x13) idx_main_v377 (fun _ => rfl) v j)).trans (after21 A v j)
  · exact ((val_main_v378_apply ..).trans (layer (val_main_v332 (F := Ideal) A.x1 A.x2 A.x3 A.x4 A.x5 A.x6 A.x7 A.x8 A.x9 A.x10 A.x11 A.x12 A.x13) idx_main_v378 (fun _ => rfl) v j)).trans (after20 A v j)
  · exact ((val_main_v379_apply ..).trans (layer (val_main_v329 (F := Ideal) A.x1 A.x2 A.x3 A.x4 A.x5 A.x6 A.x7 A.x8 A.x9 A.x10 A.x11 A.x12 A.x13) idx_main_v379 (fun _ => rfl) v j)).trans (after19 A v j)
  · exact ((val_main_v380_apply ..).trans (layer (val_main_v326 (F := Ideal) A.x1 A.x2 A.x3 A.x4 A.x5 A.x6 A.x7 A.x8 A.x9 A.x10 A.x11 A.x12 A.x13) idx_main_v380 (fun _ => rfl) v j)).trans (after18 A v j)
  · exact ((val_main_v381_apply ..).trans (layer (val_main_v323 (F := Ideal) A.x1 A.x2 A.x3 A.x4 A.x5 A.x6 A.x7 A.x8 A.x9 A.x10 A.x11 A.x12 A.x13) idx_main_v381 (fun _ => rfl) v j)).trans (after17 A v j)
  · exact ((val_main_v382_apply ..).trans (layer (val_main_v320 (F := Ideal) A.x1 A.x2 A.x3 A.x4 A.x5 A.x6 A.x7 A.x8 A.x9 A.x10 A.x11 A.x12 A.x13) idx_main_v382 (fun _ => rfl) v j)).trans (after16 A v j)
theorem at400 (n : Fin 16) (v : Fin 128) (j : Fin 1024) : (val_main_v400 (F := Ideal) A.x1 A.x2 A.x3 A.x4 A.x5 A.x6 A.x7 A.x8 A.x9 A.x10 A.x11 A.x12 A.x13) (ix3 n v j) = A.call.after (31 - (16 + n.val)) v j := by
  unfold val_main_v400
  refine concatenate_unit_eq (t := S16x128x1024) 0 _ _ (ix3 n v j) _ rfl ⟨layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, layer_at _ _ _ _ _ _ _ ?_, trivial⟩
  · exact ((val_main_v383_apply ..).trans (layer (val_main_v317 (F := Ideal) A.x1 A.x2 A.x3 A.x4 A.x5 A.x6 A.x7 A.x8 A.x9 A.x10 A.x11 A.x12 A.x13) idx_main_v383 (fun _ => rfl) v j)).trans (after15 A v j)
  · exact ((val_main_v384_apply ..).trans (layer (val_main_v314 (F := Ideal) A.x1 A.x2 A.x3 A.x4 A.x5 A.x6 A.x7 A.x8 A.x9 A.x10 A.x11 A.x12 A.x13) idx_main_v384 (fun _ => rfl) v j)).trans (after14 A v j)
  · exact ((val_main_v385_apply ..).trans (layer (val_main_v311 (F := Ideal) A.x1 A.x2 A.x3 A.x4 A.x5 A.x6 A.x7 A.x8 A.x9 A.x10 A.x11 A.x12 A.x13) idx_main_v385 (fun _ => rfl) v j)).trans (after13 A v j)
  · exact ((val_main_v386_apply ..).trans (layer (val_main_v308 (F := Ideal) A.x1 A.x2 A.x3 A.x4 A.x5 A.x6 A.x7 A.x8 A.x9 A.x10 A.x11 A.x12 A.x13) idx_main_v386 (fun _ => rfl) v j)).trans (after12 A v j)
  · exact ((val_main_v387_apply ..).trans (layer (val_main_v305 (F := Ideal) A.x1 A.x2 A.x3 A.x4 A.x5 A.x6 A.x7 A.x8 A.x9 A.x10 A.x11 A.x12 A.x13) idx_main_v387 (fun _ => rfl) v j)).trans (after11 A v j)
  · exact ((val_main_v388_apply ..).trans (layer (val_main_v302 (F := Ideal) A.x1 A.x2 A.x3 A.x4 A.x5 A.x6 A.x7 A.x8 A.x9 A.x10 A.x11 A.x12 A.x13) idx_main_v388 (fun _ => rfl) v j)).trans (after10 A v j)
  · exact ((val_main_v389_apply ..).trans (layer (val_main_v299 (F := Ideal) A.x1 A.x2 A.x3 A.x4 A.x5 A.x6 A.x7 A.x8 A.x9 A.x10 A.x11 A.x12 A.x13) idx_main_v389 (fun _ => rfl) v j)).trans (after9 A v j)
  · exact ((val_main_v390_apply ..).trans (layer (val_main_v296 (F := Ideal) A.x1 A.x2 A.x3 A.x4 A.x5 A.x6 A.x7 A.x8 A.x9 A.x10 A.x11 A.x12 A.x13) idx_main_v390 (fun _ => rfl) v j)).trans (after8 A v j)
  · exact ((val_main_v391_apply ..).trans (layer (val_main_v293 (F := Ideal) A.x1 A.x2 A.x3 A.x4 A.x5 A.x6 A.x7 A.x8 A.x9 A.x10 A.x11 A.x12 A.x13) idx_main_v391 (fun _ => rfl) v j)).trans (after7 A v j)
  · exact ((val_main_v392_apply ..).trans (layer (val_main_v290 (F := Ideal) A.x1 A.x2 A.x3 A.x4 A.x5 A.x6 A.x7 A.x8 A.x9 A.x10 A.x11 A.x12 A.x13) idx_main_v392 (fun _ => rfl) v j)).trans (after6 A v j)
  · exact ((val_main_v393_apply ..).trans (layer (val_main_v287 (F := Ideal) A.x1 A.x2 A.x3 A.x4 A.x5 A.x6 A.x7 A.x8 A.x9 A.x10 A.x11 A.x12 A.x13) idx_main_v393 (fun _ => rfl) v j)).trans (after5 A v j)
  · exact ((val_main_v394_apply ..).trans (layer (val_main_v284 (F := Ideal) A.x1 A.x2 A.x3 A.x4 A.x5 A.x6 A.x7 A.x8 A.x9 A.x10 A.x11 A.x12 A.x13) idx_main_v394 (fun _ => rfl) v j)).trans (after4 A v j)
  · exact ((val_main_v395_apply ..).trans (layer (val_main_v281 (F := Ideal) A.x1 A.x2 A.x3 A.x4 A.x5 A.x6 A.x7 A.x8 A.x9 A.x10 A.x11 A.x12 A.x13) idx_main_v395 (fun _ => rfl) v j)).trans (after3 A v j)
  · exact ((val_main_v396_apply ..).trans (layer (val_main_v278 (F := Ideal) A.x1 A.x2 A.x3 A.x4 A.x5 A.x6 A.x7 A.x8 A.x9 A.x10 A.x11 A.x12 A.x13) idx_main_v396 (fun _ => rfl) v j)).trans (after2 A v j)
  · exact ((val_main_v397_apply ..).trans (layer (val_main_v275 (F := Ideal) A.x1 A.x2 A.x3 A.x4 A.x5 A.x6 A.x7 A.x8 A.x9 A.x10 A.x11 A.x12) idx_main_v397 (fun _ => rfl) v j)).trans (after1 A v j)
  · exact ((val_main_v398_apply (ix3 (0 : Fin 1) v j)).trans (val_main_v366_apply (ix2 v j))).trans Ideal.ofBits_zero_f32
theorem at401 (c : Fin 32) (v : Fin 128) (j : Fin 1024) : (val_main_v401 (F := Ideal) A.x1 A.x2 A.x3 A.x4 A.x5 A.x6 A.x7 A.x8 A.x9 A.x10 A.x11 A.x12 A.x13) (ix3 c v j) = A.call.gt (ix3 c v j) := by
  show _ = A.call.after (31 - c.val) v j
  unfold val_main_v401
  by_cases h : c.val < 16
  · exact (concatenate_pair_apply_left (s₁ := S16x128x1024) (s₂ := S16x128x1024) (t := S32x128x1024) 0 _ _ _ (ix3 c v j) rfl (ix3 (⟨c.val, h⟩ : Fin 16) v j : S16x128x1024.Idx) fun b => by
      match b with
      | ⟨0, _⟩ => rfl
      | ⟨1, _⟩ => rfl
      | ⟨2, _⟩ => rfl).trans ((at399 A (⟨c.val, h⟩ : Fin 16) v j).trans (congrArg (fun n => A.call.after n v j) (by show 31 - (0 + c.val) = 31 - c.val; omega)))
  · refine (concatenate_pair_apply_right (s₁ := S16x128x1024) (s₂ := S16x128x1024) (t := S32x128x1024) 0 _ _ _ (ix3 c v j) rfl rfl (ix3 (⟨c.val - 16, by omega⟩ : Fin 16) v j : S16x128x1024.Idx) (fun b hb => ?_) ?_).trans
      ((at400 A (⟨c.val - 16, by omega⟩ : Fin 16) v j).trans ?_)
    · match b with
      | ⟨0, _⟩ => exact absurd rfl hb
      | ⟨1, _⟩ => rfl
      | ⟨2, _⟩ => rfl
    · show c.val - 16 + 16 = c.val; omega
    · exact congrArg (fun n => A.call.after n v j) (by show 31 - (16 + (c.val - 16)) = 31 - c.val; omega)

/-- Four blocks of columns side by side, and seven blocks of rows under one another. -/
theorem columns4 {α : Type} (x0 x1 x2 : S4096x1024.Idx → α) (x3 : S4096x5120.Idx → α) (hp) (r : Fin 4096) (j : Fin 8192) :
    concatenate S4096x8192 1 [⟨S4096x1024, x0⟩, ⟨S4096x1024, x1⟩, ⟨S4096x1024, x2⟩, ⟨S4096x5120, x3⟩] hp (ix2 r j)
      = if h₁ : j.val < 1024 then x0 (ix2 r ⟨j.val, h₁⟩)
        else if h₂ : j.val - 1024 < 1024 then x1 (ix2 r ⟨j.val - 1024, h₂⟩)
        else if h₃ : j.val - 2048 < 1024 then x2 (ix2 r ⟨j.val - 2048, h₃⟩)
        else x3 (ix2 r ⟨j.val - 3072, by omega⟩) := by
  have off : ∀ (n : Nat) (l : Fin n) (b : Fin 2), b ≠ (1 : Fin 2) →
      ((ix2 r l : (⟨2, ![4096, n]⟩ : Shape).Idx) b).val = ((ix2 r j : S4096x8192.Idx) b).val := fun n l b hb => by
    match b with
    | ⟨0, _⟩ => rfl
    | ⟨1, _⟩ => exact absurd rfl hb
  by_cases h₁ : j.val < 1024
  · rw [dif_pos h₁]
    exact concatenate_apply_piece (t := S4096x8192) 1 _ hp _ 0 (by show 0 < 4; omega) S4096x1024 x0 rfl rfl 0 rfl _ (off _ _) (by show 0 + j.val = j.val; omega)
  rw [dif_neg h₁]
  by_cases h₂ : j.val - 1024 < 1024
  · rw [dif_pos h₂]
    exact concatenate_apply_piece (t := S4096x8192) 1 _ hp _ 1 (by show 1 < 4; omega) S4096x1024 x1 rfl rfl 1024 rfl _ (off _ _) (by show 1024 + (j.val - 1024) = j.val; omega)
  rw [dif_neg h₂]
  by_cases h₃ : j.val - 2048 < 1024
  · rw [dif_pos h₃]
    exact concatenate_apply_piece (t := S4096x8192) 1 _ hp _ 2 (by show 2 < 4; omega) S4096x1024 x2 rfl rfl 2048 rfl _ (off _ _) (by show 2048 + (j.val - 2048) = j.val; omega)
  rw [dif_neg h₃]
  exact concatenate_apply_piece (t := S4096x8192) 1 _ hp _ 3 (by show 3 < 4; omega) S4096x5120 x3 rfl rfl 3072 rfl _ (off _ _) (by show 3072 + (j.val - 3072) = j.val; omega)
theorem rows7 {α : Type} (x0 x1 x2 x3 x4 x5 : S1x1024.Idx → α) (x6 : S2x1024.Idx → α) (hp) (k : Fin 8) (j : Fin 1024) :
    concatenate S8x1024 0 [⟨S1x1024, x0⟩, ⟨S1x1024, x1⟩, ⟨S1x1024, x2⟩, ⟨S1x1024, x3⟩, ⟨S1x1024, x4⟩, ⟨S1x1024, x5⟩, ⟨S2x1024, x6⟩] hp (ix2 k j)
      = ![x0 (ix2 0 j), x1 (ix2 0 j), x2 (ix2 0 j), x3 (ix2 0 j), x4 (ix2 0 j), x5 (ix2 0 j), x6 (ix2 0 j), x6 (ix2 1 j)] k := by
  have off : ∀ (n : Nat) (l : Fin n) (b : Fin 2), b ≠ (0 : Fin 2) →
      ((ix2 l j : (⟨2, ![n, 1024]⟩ : Shape).Idx) b).val = ((ix2 k j : S8x1024.Idx) b).val := fun n l b hb => by
    match b with
    | ⟨0, _⟩ => exact absurd rfl hb
    | ⟨1, _⟩ => rfl
  match k with
  | ⟨0, _⟩ => exact concatenate_apply_piece (t := S8x1024) 0 _ hp _ 0 (by show 0 < 7; omega) S1x1024 x0 rfl rfl 0 rfl _ (off _ _) rfl
  | ⟨1, _⟩ => exact concatenate_apply_piece (t := S8x1024) 0 _ hp _ 1 (by show 1 < 7; omega) S1x1024 x1 rfl rfl 1 rfl _ (off _ _) rfl
  | ⟨2, _⟩ => exact concatenate_apply_piece (t := S8x1024) 0 _ hp _ 2 (by show 2 < 7; omega) S1x1024 x2 rfl rfl 2 rfl _ (off _ _) rfl
  | ⟨3, _⟩ => exact concatenate_apply_piece (t := S8x1024) 0 _ hp _ 3 (by show 3 < 7; omega) S1x1024 x3 rfl rfl 3 rfl _ (off _ _) rfl
  | ⟨4, _⟩ => exact concatenate_apply_piece (t := S8x1024) 0 _ hp _ 4 (by show 4 < 7; omega) S1x1024 x4 rfl rfl 4 rfl _ (off _ _) rfl
  | ⟨5, _⟩ => exact concatenate_apply_piece (t := S8x1024) 0 _ hp _ 5 (by show 5 < 7; omega) S1x1024 x5 rfl rfl 5 rfl _ (off _ _) rfl
  | ⟨6, _⟩ => exact concatenate_apply_piece (t := S8x1024) 0 _ hp _ 6 (by show 6 < 7; omega) S2x1024 x6 rfl rfl 6 rfl _ (off _ _) rfl
  | ⟨7, _⟩ => exact concatenate_apply_piece (t := S8x1024) 0 _ hp _ 6 (by show 6 < 7; omega) S2x1024 x6 rfl rfl 6 rfl _ (off _ _) rfl

theorem at403 (r : Fin 4096) (j : Fin 8192) : (val_main_v403 (F := Ideal) A.x1 A.x2 A.x3 A.x4 A.x5 A.x6 A.x7 A.x8 A.x9 A.x10 A.x11 A.x12) (ix2 r j) = A.call.dp (ix2 r j) := by
  unfold val_main_v403
  refine (columns4 _ _ _ _ _ r j).trans ?_
  show _ = (if h₁ : j.val < 1024 then rDog A.call.W (A.call.R r) ⟨j.val, h₁⟩
      else if h₂ : j.val - 1024 < 1024 then rDga A.call.W (A.call.R r) ⟨j.val - 1024, h₂⟩
      else if h₃ : j.val - 2048 < 1024 then rDgb A.call.W (A.call.R r) ⟨j.val - 2048, h₃⟩
      else 0)
  simp only [at113, at108, at105]
  by_cases h₁ : j.val < 1024
  · rw [dif_pos h₁, dif_pos h₁]
  rw [dif_neg h₁, dif_neg h₁]
  by_cases h₂ : j.val - 1024 < 1024
  · rw [dif_pos h₂, dif_pos h₂]
  rw [dif_neg h₂, dif_neg h₂]
  by_cases h₃ : j.val - 2048 < 1024
  · rw [dif_pos h₃, dif_pos h₃]
  rw [dif_neg h₃, dif_neg h₃]
  exact (val_main_v402_apply ..).trans Ideal.ofBits_zero_f32
theorem at411 (k : Fin 8) (j : Fin 1024) : (val_main_v411 (F := Ideal) A.x1 A.x2 A.x3 A.x4 A.x5 A.x6 A.x7 A.x8 A.x9 A.x10 A.x11 A.x12) (ix2 k j) = A.call.acc (ix2 k j) := by
  unfold val_main_v411
  refine (rows7 _ _ _ _ _ _ _ _ k j).trans ?_
  match k with
  | ⟨0, _⟩ => exact at82 A j
  | ⟨1, _⟩ => exact at85 A j
  | ⟨2, _⟩ => exact at135 A j
  | ⟨3, _⟩ => exact at405 A j
  | ⟨4, _⟩ => exact at407 A j
  | ⟨5, _⟩ => exact at409 A j
  | ⟨6, _⟩ => exact (val_main_v410_apply (ix2 (0 : Fin 2) j)).trans Ideal.ofBits_zero_f32
  | ⟨7, _⟩ => exact (val_main_v410_apply (ix2 (1 : Fin 2) j)).trans Ideal.ofBits_zero_f32

/-! ## The results -/

theorem res_v412 : (val_main_v412 (F := Ideal) A.x1 A.x2 A.x3 A.x4 A.x5 A.x6 A.x7 A.x8 A.x9 A.x10 A.x11 A.x12) = A.call.dp := by
  funext y
  obtain ⟨r, j, rfl⟩ : ∃ (r : Fin 4096) (j : Fin 8192), y = (ix2 r j : S4096x8192.Idx) := ⟨y 0, y 1, eq_ix2 y⟩
  exact (val_main_v412_apply ..).trans (at403 A r j)
theorem res_v136 : (val_main_v136 (F := Ideal) A.x1 A.x2 A.x3 A.x4 A.x5 A.x6 A.x7 A.x8 A.x9 A.x10 A.x11 A.x12) = A.call.rows rDo := by
  funext y
  obtain ⟨r, j, rfl⟩ : ∃ (r : Fin 4096) (j : Fin 1024), y = (ix2 r j : S4096x1024.Idx) := ⟨y 0, y 1, eq_ix2 y⟩
  exact at136 A r j
theorem res_v144 : (val_main_v144 (F := Ideal) A.x1 A.x2 A.x3 A.x4 A.x5 A.x6 A.x7 A.x8 A.x9 A.x10 A.x11 A.x12) = A.call.rows rDq := by
  funext y
  obtain ⟨r, j, rfl⟩ : ∃ (r : Fin 4096) (j : Fin 1024), y = (ix2 r j : S4096x1024.Idx) := ⟨y 0, y 1, eq_ix2 y⟩
  exact at144 A r j
theorem res_v401 : (val_main_v401 (F := Ideal) A.x1 A.x2 A.x3 A.x4 A.x5 A.x6 A.x7 A.x8 A.x9 A.x10 A.x11 A.x12 A.x13) = A.call.gt := by
  funext y
  obtain ⟨c, v, j, rfl⟩ : ∃ (c : Fin 32) (v : Fin 128) (j : Fin 1024), y = (ix3 c v j : S32x128x1024.Idx) := ⟨y 0, y 1, y 2, eq_ix3 y⟩
  exact at401 A c v j
theorem res_v109 : (val_main_v109 (F := Ideal) A.x1 A.x2 A.x3 A.x4 A.x5 A.x6 A.x7 A.x8 A.x9 A.x10 A.x11 A.x12) = A.call.rows rDact := by
  funext y
  obtain ⟨r, j, rfl⟩ : ∃ (r : Fin 4096) (j : Fin 1024), y = (ix2 r j : S4096x1024.Idx) := ⟨y 0, y 1, eq_ix2 y⟩
  exact at109 A r j
theorem res_v413 : (val_main_v413 (F := Ideal) A.x1 A.x2 A.x3 A.x4 A.x9) = A.call.rows rA := by
  funext y
  obtain ⟨r, j, rfl⟩ : ∃ (r : Fin 4096) (j : Fin 1024), y = (ix2 r j : S4096x1024.Idx) := ⟨y 0, y 1, eq_ix2 y⟩
  exact (val_main_v413_apply ..).trans (at34 A r j)
theorem res_v414 : (val_main_v414 (F := Ideal) A.x1 A.x2 A.x3 A.x4 A.x5 A.x6 A.x7 A.x9) = A.call.rows rM := by
  funext y
  obtain ⟨r, j, rfl⟩ : ∃ (r : Fin 4096) (j : Fin 1024), y = (ix2 r j : S4096x1024.Idx) := ⟨y 0, y 1, eq_ix2 y⟩
  exact (val_main_v414_apply ..).trans (at57 A r j)
theorem res_v415 : (val_main_v415 (F := Ideal) A.x1 A.x2 A.x3 A.x4 A.x5 A.x6 A.x7 A.x8 A.x9 A.x10 A.x11 A.x12) = A.call.rows rDya := by
  funext y
  obtain ⟨r, j, rfl⟩ : ∃ (r : Fin 4096) (j : Fin 1024), y = (ix2 r j : S4096x1024.Idx) := ⟨y 0, y 1, eq_ix2 y⟩
  exact (val_main_v415_apply ..).trans (at106 A r j)
theorem res_v416 : (val_main_v416 (F := Ideal) A.x1 A.x2 A.x3 A.x4 A.x5 A.x6 A.x7 A.x8 A.x9 A.x10 A.x11 A.x12) = A.call.rows rDyb := by
  funext y
  obtain ⟨r, j, rfl⟩ : ∃ (r : Fin 4096) (j : Fin 1024), y = (ix2 r j : S4096x1024.Idx) := ⟨y 0, y 1, eq_ix2 y⟩
  exact (val_main_v416_apply ..).trans (at103 A r j)
theorem res_v417 : (val_main_v417 (F := Ideal) A.x1 A.x2 A.x3 A.x4 A.x5 A.x6 A.x7 A.x8 A.x9 A.x10 A.x11 A.x12) = A.call.rows rDy := by
  funext y
  obtain ⟨r, j, rfl⟩ : ∃ (r : Fin 4096) (j : Fin 1024), y = (ix2 r j : S4096x1024.Idx) := ⟨y 0, y 1, eq_ix2 y⟩
  exact (val_main_v417_apply ..).trans (at101 A r j)
theorem res_v411 : (val_main_v411 (F := Ideal) A.x1 A.x2 A.x3 A.x4 A.x5 A.x6 A.x7 A.x8 A.x9 A.x10 A.x11 A.x12) = A.call.acc := by
  funext y
  obtain ⟨r, j, rfl⟩ : ∃ (r : Fin 8) (j : Fin 1024), y = (ix2 r j : S8x1024.Idx) := ⟨y 0, y 1, eq_ix2 y⟩
  exact at411 A r j

end Cert.ReferenceIdeal.Mix

end
-- ==== Proof.Values.lean ====
/-
  The values: the kernel's results and the reference's are the same functions of the arguments.
-/
module

public import proofs.«01_k».proof.Defs
public import proofs.«01_k».proof.Proof.Frames
public import proofs.«01_k».proof.Proof.Finals
public import proofs.«01_k».proof.Proof.RefState
public import proofs.«01_k».proof.Proof.Gen.On_written

@[expose] public section

set_option maxRecDepth 16384
set_option maxHeartbeats 1000000

noncomputable section

namespace Cert.Values

open Idealize.ShloMosaic hiding ix1 ix2 ix3 ix4 eq_ix2 eq_ix3
open Idealize.ShloMosaic.ValueIdx Idealize.ShloMosaic.Tactic Idealize.SL.Sem Cert.Mix
open Idealize.ShloMosaic.StableHlo (launchContents launchContents_devRef)

/-! ## The kernel -/

section Kernel

variable (m : (ℓ : Loc KernelIdeal.nD KernelIdeal.τ KernelIdeal.sig) → Buf (Elt Ideal) ℓ) (g : Dev KernelIdeal.nD → PrngReg)

/-- A run of the kernel leaves the call's results; of the gradient of `p`, the columns it writes. -/
theorem kernel : θ_run (KernelIdeal.defs (F := Ideal)) (onTc (τ := KernelIdeal.τ) (KernelIdeal.main (F := Ideal))) ⟨m, fun _ => 0, g⟩
    (fun r => ∀ c : Dev KernelIdeal.nD,
      (∀ (q : Fin 4096) (j : Fin 8192), j.val < 3072 → (r.2.mem ((c.tc : Thread KernelIdeal.nD KernelIdeal.τ).loc KernelIdeal.main_v0_0) : Mat 4096 8192) (ix2 q j) = (KernelIdeal.Mix.call m c).dp (ix2 q j))
      ∧ r.2.mem ((c.tc : Thread KernelIdeal.nD KernelIdeal.τ).loc KernelIdeal.main_v0_1) = (KernelIdeal.Mix.call m c).rows rDo
      ∧ r.2.mem ((c.tc : Thread KernelIdeal.nD KernelIdeal.τ).loc KernelIdeal.main_v0_2) = (KernelIdeal.Mix.call m c).rows rDq
      ∧ r.2.mem ((c.tc : Thread KernelIdeal.nD KernelIdeal.τ).loc KernelIdeal.main_v0_3) = (KernelIdeal.Mix.call m c).gt
      ∧ r.2.mem ((c.tc : Thread KernelIdeal.nD KernelIdeal.τ).loc KernelIdeal.main_v0_4) = (KernelIdeal.Mix.call m c).rows rDact
      ∧ r.2.mem ((c.tc : Thread KernelIdeal.nD KernelIdeal.τ).loc KernelIdeal.main_v0_5) = (KernelIdeal.Mix.call m c).rows rA
      ∧ r.2.mem ((c.tc : Thread KernelIdeal.nD KernelIdeal.τ).loc KernelIdeal.main_v0_6) = (KernelIdeal.Mix.call m c).rows rM
      ∧ r.2.mem ((c.tc : Thread KernelIdeal.nD KernelIdeal.τ).loc KernelIdeal.main_v0_7) = (KernelIdeal.Mix.call m c).rows rDya
      ∧ r.2.mem ((c.tc : Thread KernelIdeal.nD KernelIdeal.τ).loc KernelIdeal.main_v0_8) = (KernelIdeal.Mix.call m c).rows rDyb
      ∧ r.2.mem ((c.tc : Thread KernelIdeal.nD KernelIdeal.τ).loc KernelIdeal.main_v0_9) = (KernelIdeal.Mix.call m c).rows rDy
      ∧ r.2.mem ((c.tc : Thread KernelIdeal.nD KernelIdeal.τ).loc KernelIdeal.main_v0_10) = (KernelIdeal.Mix.call m c).acc) := by
  refine (θ_run KernelIdeal.defs _ _).mono (fun r h c => ?_) (KernelIdeal.Mix.run m g)
  have h := h.1
  refine ⟨fun q j hj => ?_, ?_, ?_, ?_, ?_, ?_, ?_, ?_, ?_, ?_, ?_⟩
  · exact (congrFun (h.out_eq c 16) (ix2 q j)).trans (KernelIdeal.Mix.final16 m c q j hj)
  · exact (h.out_eq c 17).trans (KernelIdeal.Mix.final17 m c)
  · exact (h.out_eq c 18).trans (KernelIdeal.Mix.final18 m c)
  · exact (h.out_eq c 19).trans (KernelIdeal.Mix.final19 m c)
  · exact (h.out_eq c 20).trans (KernelIdeal.Mix.final20 m c)
  · exact (h.out_eq c 21).trans (KernelIdeal.Mix.final21 m c)
  · exact (h.out_eq c 22).trans (KernelIdeal.Mix.final22 m c)
  · exact (h.out_eq c 23).trans (KernelIdeal.Mix.final23 m c)
  · exact (h.out_eq c 24).trans (KernelIdeal.Mix.final24 m c)
  · exact (h.out_eq c 25).trans (KernelIdeal.Mix.final25 m c)
  · exact (h.out_eq c 26).trans (KernelIdeal.Mix.final26 m c)

end Kernel

/-! ## The reference -/

section Reference

variable (m : (ℓ : Loc ReferenceIdeal.nD ReferenceIdeal.τ ReferenceIdeal.sig) → Buf (Elt Ideal) ℓ) (g : Dev ReferenceIdeal.nD → PrngReg)

/-- The reference's arguments on one device. -/
def args (c : Dev ReferenceIdeal.nD) : ReferenceIdeal.Mix.Args :=
  ⟨m ((c.tc : Thread ReferenceIdeal.nD ReferenceIdeal.τ).loc ReferenceIdeal.main_arg0),
    m ((c.tc : Thread ReferenceIdeal.nD ReferenceIdeal.τ).loc ReferenceIdeal.main_arg1),
    m ((c.tc : Thread ReferenceIdeal.nD ReferenceIdeal.τ).loc ReferenceIdeal.main_arg2),
    m ((c.tc : Thread ReferenceIdeal.nD ReferenceIdeal.τ).loc ReferenceIdeal.main_arg3),
    m ((c.tc : Thread ReferenceIdeal.nD ReferenceIdeal.τ).loc ReferenceIdeal.main_arg4),
    m ((c.tc : Thread ReferenceIdeal.nD ReferenceIdeal.τ).loc ReferenceIdeal.main_arg5),
    m ((c.tc : Thread ReferenceIdeal.nD ReferenceIdeal.τ).loc ReferenceIdeal.main_arg6),
    m ((c.tc : Thread ReferenceIdeal.nD ReferenceIdeal.τ).loc ReferenceIdeal.main_arg7),
    m ((c.tc : Thread ReferenceIdeal.nD ReferenceIdeal.τ).loc ReferenceIdeal.main_arg8),
    m ((c.tc : Thread ReferenceIdeal.nD ReferenceIdeal.τ).loc ReferenceIdeal.main_arg9),
    m ((c.tc : Thread ReferenceIdeal.nD ReferenceIdeal.τ).loc ReferenceIdeal.main_arg10),
    m ((c.tc : Thread ReferenceIdeal.nD ReferenceIdeal.τ).loc ReferenceIdeal.main_arg11),
    m ((c.tc : Thread ReferenceIdeal.nD ReferenceIdeal.τ).loc ReferenceIdeal.main_arg12),
    m ((c.tc : Thread ReferenceIdeal.nD ReferenceIdeal.τ).loc ReferenceIdeal.main_arg13)⟩

/-- A run of the reference leaves the call's results, and its arguments as they were. -/
theorem reference : θ_run (ReferenceIdeal.defs (F := Ideal)) (onTc (τ := ReferenceIdeal.τ) (ReferenceIdeal.main (F := Ideal))) ⟨m, fun _ => 0, g⟩
    (fun r => ∀ c : Dev ReferenceIdeal.nD,
      r.2.mem ((c.tc : Thread ReferenceIdeal.nD ReferenceIdeal.τ).loc ReferenceIdeal.main_v412) = (args m c).call.dp
      ∧ r.2.mem ((c.tc : Thread ReferenceIdeal.nD ReferenceIdeal.τ).loc ReferenceIdeal.main_v136) = (args m c).call.rows rDo
      ∧ r.2.mem ((c.tc : Thread ReferenceIdeal.nD ReferenceIdeal.τ).loc ReferenceIdeal.main_v144) = (args m c).call.rows rDq
      ∧ r.2.mem ((c.tc : Thread ReferenceIdeal.nD ReferenceIdeal.τ).loc ReferenceIdeal.main_v401) = (args m c).call.gt
      ∧ r.2.mem ((c.tc : Thread ReferenceIdeal.nD ReferenceIdeal.τ).loc ReferenceIdeal.main_v109) = (args m c).call.rows rDact
      ∧ r.2.mem ((c.tc : Thread ReferenceIdeal.nD ReferenceIdeal.τ).loc ReferenceIdeal.main_v413) = (args m c).call.rows rA
      ∧ r.2.mem ((c.tc : Thread ReferenceIdeal.nD ReferenceIdeal.τ).loc ReferenceIdeal.main_v414) = (args m c).call.rows rM
      ∧ r.2.mem ((c.tc : Thread ReferenceIdeal.nD ReferenceIdeal.τ).loc ReferenceIdeal.main_v415) = (args m c).call.rows rDya
      ∧ r.2.mem ((c.tc : Thread ReferenceIdeal.nD ReferenceIdeal.τ).loc ReferenceIdeal.main_v416) = (args m c).call.rows rDyb
      ∧ r.2.mem ((c.tc : Thread ReferenceIdeal.nD ReferenceIdeal.τ).loc ReferenceIdeal.main_v417) = (args m c).call.rows rDy
      ∧ r.2.mem ((c.tc : Thread ReferenceIdeal.nD ReferenceIdeal.τ).loc ReferenceIdeal.main_v411) = (args m c).call.acc
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9)
      ∧ r.2.mem ((c.tc : Thread ReferenceIdeal.nD ReferenceIdeal.τ).loc ReferenceIdeal.main_arg10) = m ((c.tc : Thread ReferenceIdeal.nD ReferenceIdeal.τ).loc ReferenceIdeal.main_arg10)
      ∧ r.2.mem ((c.tc : Thread ReferenceIdeal.nD ReferenceIdeal.τ).loc ReferenceIdeal.main_arg11) = m ((c.tc : Thread ReferenceIdeal.nD ReferenceIdeal.τ).loc ReferenceIdeal.main_arg11)
      ∧ r.2.mem ((c.tc : Thread ReferenceIdeal.nD ReferenceIdeal.τ).loc ReferenceIdeal.main_arg12) = m ((c.tc : Thread ReferenceIdeal.nD ReferenceIdeal.τ).loc ReferenceIdeal.main_arg12)
      ∧ r.2.mem ((c.tc : Thread ReferenceIdeal.nD ReferenceIdeal.τ).loc ReferenceIdeal.main_arg13) = m ((c.tc : Thread ReferenceIdeal.nD ReferenceIdeal.τ).loc ReferenceIdeal.main_arg13)) := by
  refine (θ_run ReferenceIdeal.defs _ _).mono (fun r h c => ?_) (ReferenceIdeal.Value.run m g)
  obtain ⟨h0, h1, h2, h3, h4, h5, h6, h7, h8, h9, h10, hk⟩ := h c
  refine ⟨?_, ?_, ?_, ?_, ?_, ?_, ?_, ?_, ?_, ?_, ?_, hk⟩
  · exact (h0.trans (ReferenceIdeal.Read.val_main_v412_eq (launchContents m c))).trans (ReferenceIdeal.Mix.res_v412 (args m c))
  · exact (h1.trans (ReferenceIdeal.Read.val_main_v136_eq (launchContents m c))).trans (ReferenceIdeal.Mix.res_v136 (args m c))
  · exact (h2.trans (ReferenceIdeal.Read.val_main_v144_eq (launchContents m c))).trans (ReferenceIdeal.Mix.res_v144 (args m c))
  · exact (h3.trans (ReferenceIdeal.Read.val_main_v401_eq (launchContents m c))).trans (ReferenceIdeal.Mix.res_v401 (args m c))
  · exact (h4.trans (ReferenceIdeal.Read.val_main_v109_eq (launchContents m c))).trans (ReferenceIdeal.Mix.res_v109 (args m c))
  · exact (h5.trans (ReferenceIdeal.Read.val_main_v413_eq (launchContents m c))).trans (ReferenceIdeal.Mix.res_v413 (args m c))
  · exact (h6.trans (ReferenceIdeal.Read.val_main_v414_eq (launchContents m c))).trans (ReferenceIdeal.Mix.res_v414 (args m c))
  · exact (h7.trans (ReferenceIdeal.Read.val_main_v415_eq (launchContents m c))).trans (ReferenceIdeal.Mix.res_v415 (args m c))
  · exact (h8.trans (ReferenceIdeal.Read.val_main_v416_eq (launchContents m c))).trans (ReferenceIdeal.Mix.res_v416 (args m c))
  · exact (h9.trans (ReferenceIdeal.Read.val_main_v417_eq (launchContents m c))).trans (ReferenceIdeal.Mix.res_v417 (args m c))
  · exact (h10.trans (ReferenceIdeal.Read.val_main_v411_eq (launchContents m c))).trans (ReferenceIdeal.Mix.res_v411 (args m c))

end Reference

/-! ## Together -/

theorem of_eq {p p' : Mat 4096 8192} {qe qe' intra intra' act act' dx dx' : Mat 4096 1024} {st st' : Cube 32 128 1024}
    {wa wa' wb wb' wo wo' : Mat 1024 1024} {hg hg' g1 g1' post post' : Mat 1 1024} {dec dec' : Cube 32 1 1024}
    (h1 : p = p') (h2 : qe = qe') (h3 : intra = intra') (h4 : st = st') (h5 : act = act') (h6 : wa = wa') (h7 : wb = wb')
    (h8 : wo = wo') (h9 : hg = hg') (h10 : g1 = g1') (h11 : post = post') (h12 : dx = dx') (h13 : dec = dec') :
    Call.of p qe intra st act wa wb wo hg g1 post dx dec = Call.of p' qe' intra' st' act' wa' wb' wo' hg' g1' post' dx' dec' := by
  subst h1 h2 h3 h4 h5 h6 h7 h8 h9 h10 h11 h12 h13; rfl

/-- A column the mask marks is one of the first 3072. -/
theorem lt_of_marked (j : Fin 8192) (h : IntOp.cmpi .slt (BitVec.ofNat 32 j.val) 3072#32 = 1#1) : j.val < 3072 := by
  have h' : BitVec.ofBool ((BitVec.ofNat 32 j.val).slt 3072#32) = 1#1 := h
  have hj := j.isLt
  cases e : (BitVec.ofNat 32 j.val).slt 3072#32 with
  | false => rw [e] at h'; exact absurd h' (by decide)
  | true =>
    rw [BitVec.slt_iff_toInt_lt] at e
    rw [BitVec.toInt_eq_toNat_of_lt (by rw [BitVec.toNat_ofNat]; omega), BitVec.toNat_ofNat] at e
    have : (3072#32 : BitVec 32).toInt = 3072 := by decide
    omega

theorem algebraic : Cert.algebraic_KernelIdeal_ReferenceIdeal_on_written (hKernelIdeal := KernelIdeal.Gen.facts)
    (hReferenceIdeal := ReferenceIdeal.Gen.facts) (hOn_written := On_written.Gen.facts) := by
  intro m g m' g' _ same
  have e : ∀ c : Dev KernelIdeal.nD, (args m' c).call = KernelIdeal.Mix.call m c := fun c => by
    obtain ⟨a0, a1, a2, a3, a4, a5, a6, a7, a8, a9, a10, a11, a12, a13⟩ := same c
    exact of_eq a1 a2 a3 a4 a5 a6 a7 a8 a9 a10 a11 a12 a13
  refine ⟨fun c => (KernelIdeal.Mix.call m c).dp, fun c => (KernelIdeal.Mix.call m c).rows rDo, fun c => (KernelIdeal.Mix.call m c).rows rDq, fun c => (KernelIdeal.Mix.call m c).gt, fun c => (KernelIdeal.Mix.call m c).rows rDact, fun c => (KernelIdeal.Mix.call m c).rows rA, fun c => (KernelIdeal.Mix.call m c).rows rM, fun c => (KernelIdeal.Mix.call m c).rows rDya, fun c => (KernelIdeal.Mix.call m c).rows rDyb, fun c => (KernelIdeal.Mix.call m c).rows rDy, fun c => (KernelIdeal.Mix.call m c).acc, ?_, ?_⟩
  · refine (θ_run KernelIdeal.defs _ _).mono (fun r h c => ?_) (θ_run_and (kernel m g) (Frames.kept m g))
    obtain ⟨h0, h1, h2, h3, h4, h5, h6, h7, h8, h9, h10⟩ := h.1 c
    refine ⟨fun i hi => ?_, fun i _ => congrFun h1 i, fun i _ => congrFun h2 i, fun i _ => congrFun h3 i, fun i _ => congrFun h4 i, fun i _ => congrFun h5 i, fun i _ => congrFun h6 i, fun i _ => congrFun h7 i, fun i _ => congrFun h8 i, fun i _ => congrFun h9 i, fun i _ => congrFun h10 i, h.2.1 c⟩
    obtain ⟨q, j, rfl⟩ : ∃ (q : Fin 4096) (j : Fin 8192), i = ix2 q j := ⟨i 0, i 1, eq_ix2 i⟩
    exact h0 q j (lt_of_marked j hi)
  · refine (θ_run ReferenceIdeal.defs _ _).mono (fun r h c => ?_) (reference m' g')
    obtain ⟨h0, h1, h2, h3, h4, h5, h6, h7, h8, h9, h10, hk⟩ := h c
    rw [e c] at h0 h1 h2 h3 h4 h5 h6 h7 h8 h9 h10
    exact ⟨fun i _ => congrFun h0 i, fun i _ => congrFun h1 i, fun i _ => congrFun h2 i, fun i _ => congrFun h3 i, fun i _ => congrFun h4 i, fun i _ => congrFun h5 i, fun i _ => congrFun h6 i, fun i _ => congrFun h7 i, fun i _ => congrFun h8 i, fun i _ => congrFun h9 i, fun i _ => congrFun h10 i, hk⟩

end Cert.Values

end
-- ==== Proof.Products.lean ====
/-
  The mathematics of a weight gradient summed in two halves of its rows: the product of the transposed first matrix with
  the second, as one sum over the 4096 rows, is the sum over the upper 2048 rows and the sum over the lower ones, added to
  zero in that order.
-/
module

public import Idealize.ShloMosaic.Lib.Pipeline.Value
public import Idealize.ShloMosaic.Lib.MatmulPlain
public import Idealize.ShloMosaic.Lib.Pointwise.Reduce
public import Idealize.ShloMosaic.Lib.ValueIdx
public import Idealize.ShloMosaic.PureOps.Ideal.Laws

@[expose] public section

set_option maxRecDepth 16384

noncomputable section

namespace Cert.Grad

open Idealize.ShloMosaic hiding ix1 ix2 ix3 ix4 eq_ix2 eq_ix3
open Idealize.ShloMosaic.ValueIdx

/-- The zero offset of a whole block's store. -/
theorem hz : (![0, 0] : Fin 2 → Nat) = fun _ => 0 := funext fun a => by fin_cases a <;> rfl
theorem hz3 : (![0, 0, 0] : Fin 3 → Nat) = fun _ => 0 := funext fun a => by fin_cases a <;> rfl

/-- Row `k` of half `h` of the 4096 rows. -/
def row (h : Fin 2) (k : Fin 2048) : Fin 4096 := ⟨2048 * h.val + k.val, by omega⟩

/-- A sum over all rows is the sum over the upper half and the sum over the lower half. -/
theorem sum_halves (f : Fin 4096 → EReal) : ∑ k, f k = ∑ k, f (row 0 k) + ∑ k, f (row 1 k) := by
  refine (Fin.sum_univ_add (a := 2048) (b := 2048) f).trans ?_
  congr 1

/-- The gradient of a weight matrix: the transposed input times the output's gradient. -/
def grad {p q : Nat} (a : FVec Ideal (⟨2, ![4096, p]⟩ : Shape) .bf16) (b : FVec Ideal (⟨2, ![4096, q]⟩ : Shape) .bf16)
    (i : Fin p) (j : Fin q) : EReal := ∑ k, a (ix2 k i) * b (ix2 k j)

/-- A product of two blocks of 2048 rows that sums over the rows, read at an element. -/
theorem product_apply {p q : Nat}
    (D : DotDims (⟨2, ![2048, p]⟩ : Shape) (⟨2, ![2048, q]⟩ : Shape) (⟨2, ![p, q]⟩ : Shape))
    (hr : D.contr.rank = 1) (hs : D.contr.size ⟨0, by omega⟩ = 2048)
    (hl : ∀ i j k, D.lhsIdx (ix2 i j) ((contrEquiv1 D 2048 hr hs).symm k) = ix2 k i)
    (hr' : ∀ i j k, D.rhsIdx (ix2 i j) ((contrEquiv1 D 2048 hr hs).symm k) = ix2 k j)
    (x : FVec Ideal (⟨2, ![2048, p]⟩ : Shape) .bf16) (y : FVec Ideal (⟨2, ![2048, q]⟩ : Shape) .bf16) (i : Fin p) (j : Fin q) :
    matmul D none x y (constant (⟨2, ![p, q]⟩ : Shape) .f32 0x00000000#32) (ix2 i j) = ∑ k, x (ix2 k i) * y (ix2 k j) := by
  refine (Ideal.matmul_constant_zero_apply D none x y (ix2 i j)).trans ?_
  rw [← Equiv.sum_comp (contrEquiv1 D 2048 hr hs).symm]
  exact Finset.sum_congr rfl fun k _ => by rw [hl, hr']

/-- The two halves added to zero in turn give the whole gradient. -/
theorem accumulate {p q : Nat} (a : FVec Ideal (⟨2, ![4096, p]⟩ : Shape) .bf16) (b : FVec Ideal (⟨2, ![4096, q]⟩ : Shape) .bf16)
    (i : Fin p) (j : Fin q) (z s t : EReal) (hz : z = 0) (hs : s = ∑ k, a (ix2 (row 0 k) i) * b (ix2 (row 0 k) j))
    (ht : t = ∑ k, a (ix2 (row 1 k) i) * b (ix2 (row 1 k) j)) : (z + s) + t = grad a b i j := by
  rw [hz, hs, ht, zero_add]
  exact (sum_halves fun k => a (ix2 k i) * b (ix2 k j)).symm

end Cert.Grad

end
-- ==== Proof.GradFf1.lean ====
/-
  The second program, the gradient of the first feed-forward weight: what its two results hold after the run, element by
  element.
-/
module

public import proofs.«01_k».proof.Proof.Products
public import proofs.«01_k».proof.Proof.Gen.Kernel2Ideal.Value

@[expose] public section

set_option maxRecDepth 16384
set_option maxHeartbeats 1000000

noncomputable section

namespace Cert.Kernel2Ideal.Grad

open Idealize.ShloMosaic hiding ix1 ix2 ix3 ix4 eq_ix2 eq_ix3
open Idealize.ShloMosaic.ValueIdx Idealize.ShloMosaic.Tactic Idealize.SL.Sem Cert.Grad
open Cert.Kernel2Ideal.Gen Cert.Kernel2Ideal.Value

section Blocks
variable {F : FTy → Type} [FloatOps F]

theorem first (c : Dev nD) (i : grid0.Coords) (a2 : Memref sig .tc .vmem S2048x1024 .bf16) (h2 : a2.IsWhole)
    (a3 : Memref sig .tc .vmem S2048x512 .bf16) (h3 : a3.IsWhole) (a4 : Memref sig .tc .vmem S1x1024x512 .f32) (h4 : a4.IsWhole)
    (a5 : Memref sig .tc .vmem S1x1024x512 .bf16) (h5 : a5.IsWhole) (a6 : Memref sig .tc .vmem S1024x512 .f32) (h6 : a6.IsWhole)
    (e0) (e1) (x : Vec F S2048x1024 .bf16) (y : Vec F S2048x512 .bf16) :
    sout0_A_0 c i a2 h2 a3 h3 a4 h4 a5 h5 a6 h6 e0 e1 x y = k0_pay2 (k0_pay1 (F := F)) x y := by
  unfold sout0_A_0
  rw [View.read_writes_eq_canon _ _ _ (scover0_A_0 c i a2 h2 a3 h3 a4 h4 a5 h5 a6 h6 e0 e1 x y)]
  unfold kernelRun0_A
  dsimp only
  sl_unfold_words
  rw [View.canon_cons_unit_zero (S := S1024x512) hz, View.readCov_unit_zero (S := S1024x512) _ hz]
  simp only [View.readAt_eq_ld, h2.read_unread, h3.read_unread, View.ld_unit_zero (S := S2048x1024) hz, View.ld_unit_zero (S := S2048x512) hz]

theorem second2 (c : Dev nD) (i : grid0.Coords) (a2 : Memref sig .tc .vmem S2048x1024 .bf16) (h2 : a2.IsWhole)
    (a3 : Memref sig .tc .vmem S2048x512 .bf16) (h3 : a3.IsWhole) (a4 : Memref sig .tc .vmem S1x1024x512 .f32) (h4 : a4.IsWhole)
    (a5 : Memref sig .tc .vmem S1x1024x512 .bf16) (h5 : a5.IsWhole) (a6 : Memref sig .tc .vmem S1024x512 .f32) (h6 : a6.IsWhole)
    (e0) (e1) (x : Vec F S2048x1024 .bf16) (y : Vec F S2048x512 .bf16) (s : Vec F S1024x512 .f32) :
    out0_B_2 c i a2 h2 a3 h3 a4 h4 a5 h5 a6 h6 e0 e1 x y s = k0_pay3 (k0_pay2 s x y) := by
  unfold out0_B_2
  rw [View.read_writes_eq_canon _ _ _ (cover0_B_2 c i a2 h2 a3 h3 a4 h4 a5 h5 a6 h6 e0 e1 x y s)]
  unfold kernelRun0_B
  dsimp only
  sl_unfold_words
  rw [View.canon_unit_zero hz3]
  simp only [View.readCov_unit_zero (S := S1024x512) _ hz, View.readAt_eq_ld, h2.read_unread, h3.read_unread, h6.read_unread, View.ld_unit_zero (S := S2048x1024) hz, View.ld_unit_zero (S := S2048x512) hz, View.ld_unit_zero (S := S1024x512) hz]

theorem second3 (c : Dev nD) (i : grid0.Coords) (a2 : Memref sig .tc .vmem S2048x1024 .bf16) (h2 : a2.IsWhole)
    (a3 : Memref sig .tc .vmem S2048x512 .bf16) (h3 : a3.IsWhole) (a4 : Memref sig .tc .vmem S1x1024x512 .f32) (h4 : a4.IsWhole)
    (a5 : Memref sig .tc .vmem S1x1024x512 .bf16) (h5 : a5.IsWhole) (a6 : Memref sig .tc .vmem S1024x512 .f32) (h6 : a6.IsWhole)
    (e0) (e1) (x : Vec F S2048x1024 .bf16) (y : Vec F S2048x512 .bf16) (s : Vec F S1024x512 .f32) :
    out0_B_3 c i a2 h2 a3 h3 a4 h4 a5 h5 a6 h6 e0 e1 x y s = k0_pay4 (k0_pay2 s x y) := by
  unfold out0_B_3
  rw [View.read_writes_eq_canon _ _ _ (cover0_B_3 c i a2 h2 a3 h3 a4 h4 a5 h5 a6 h6 e0 e1 x y s)]
  unfold kernelRun0_B
  dsimp only
  sl_unfold_words
  rw [View.canon_unit_zero hz3]
  simp only [View.readCov_unit_zero (S := S1024x512) _ hz, View.readAt_eq_ld, h2.read_unread, h3.read_unread, h6.read_unread, View.ld_unit_zero (S := S2048x1024) hz, View.ld_unit_zero (S := S2048x512) hz, View.ld_unit_zero (S := S1024x512) hz]

/-- After the second half of block `n`: the results' blocks, over the two halves' input blocks. -/
theorem outs (m : (ℓ : Loc nD τ sig) → Buf (Elt F) ℓ) (c : Dev nD) (t u : Fin cfg0.N) (ht : t.val % 2 = 1) (hu : u.val = t.val - 1) :
    (outsAt0 m c t.val t.isLt).1 = k0_pay3 (k0_pay2 (k0_pay2 (k0_pay1 (F := F)) (iblk m c 0 u) (iblk m c 1 u)) (iblk m c 0 t) (iblk m c 1 t))
    ∧ (outsAt0 m c t.val t.isLt).2.1 = k0_pay4 (k0_pay2 (k0_pay2 (k0_pay1 (F := F)) (iblk m c 0 u) (iblk m c 1 u)) (iblk m c 0 t) (iblk m c 1 t)) := by
  have hs : (outsAt0 m c (t.val - 1) (Nat.lt_of_le_of_lt (Nat.sub_le _ _) t.isLt)).2.2 = k0_pay2 (k0_pay1 (F := F)) (iblk m c 0 u) (iblk m c 1 u) := by
    obtain ⟨n, hn⟩ := u
    dsimp only at hu
    subst hu
    rw [outsAt0_A m c ⟨t.val - 1, hn⟩ (by dsimp only; omega) (by dsimp only; omega)]
    dsimp only
    rw [first]
  rw [outsAt0_B m c t (by omega) ht, hs]
  dsimp only
  rw [second2, second3]
  exact ⟨rfl, rfl⟩

end Blocks

/-! ## Over the extended reals -/

abbrev D0 := dot_S2048x1024_S2048x512_S1024x512_0_0_1_1_n_n

theorem dot_apply (x : FVec Ideal S2048x1024 .bf16) (y : FVec Ideal S2048x512 .bf16) (i : Fin 1024) (j : Fin 512) :
    matmul D0 none x y (constant S1024x512 .f32 0x00000000#32) (ix2 i j) = ∑ k, x (ix2 k i) * y (ix2 k j) :=
  product_apply D0 rfl rfl
    (fun i j k => funext fun a => Fin.ext (match a with
      | ⟨0, _⟩ => contrEquiv1_symm_val D0 2048 rfl rfl k
      | ⟨1, _⟩ => rfl))
    (fun i j k => funext fun a => Fin.ext (match a with
      | ⟨0, _⟩ => contrEquiv1_symm_val D0 2048 rfl rfl k
      | ⟨1, _⟩ => rfl)) x y i j

/-- The accumulator after both halves, at an element. -/
theorem acc_apply (x0 x1 : FVec Ideal S2048x1024 .bf16) (y0 y1 : FVec Ideal S2048x512 .bf16) (i : Fin 1024) (j : Fin 512) :
    (k0_pay2 (F := Ideal) (k0_pay2 (F := Ideal) (k0_pay1 (F := Ideal)) x0 y0) x1 y1) (ix2 i j)
      = ((0 : EReal) + ∑ k, x0 (ix2 k i) * y0 (ix2 k j)) + ∑ k, x1 (ix2 k i) * y1 (ix2 k j) := by
  unfold k0_pay2 k0_pay1
  simp only [shapeCast_self]
  show ((Scalar.ofBits (F := Ideal) .f32 0x00000000#32 : EReal) + matmul D0 none x0 y0 (constant S1024x512 .f32 0x00000000#32) (ix2 i j)) + matmul D0 none x1 y1 (constant S1024x512 .f32 0x00000000#32) (ix2 i j) = _
  rw [dot_apply, dot_apply]
  exact congrArg (fun z : EReal => (z + _) + _) Ideal.ofBits_zero_f32

theorem pay3_apply (v : FVec Ideal S1024x512 .f32) (z : Fin 1) (i : Fin 1024) (j : Fin 512) : @Eq EReal (k0_pay3 (F := Ideal) v (ix3 z i j)) (v (ix2 i j)) := by
  unfold k0_pay3
  exact shapeCast_apply v _ _ _ (by
    rewrite [Shape.rowMajor_val_two, Shape.rowMajor_val_three]
    show i.val * 512 + j.val = (z.val * 1024 + i.val) * 512 + j.val
    omega)
theorem pay4_apply (v : FVec Ideal S1024x512 .f32) (z : Fin 1) (i : Fin 1024) (j : Fin 512) : @Eq EReal (k0_pay4 (F := Ideal) v (ix3 z i j)) (v (ix2 i j)) := by
  unfold k0_pay4
  exact shapeCast_apply (truncf (F := Ideal) .bf16 v bitsLt_bf16_f32) _ _ _ (by
    rewrite [Shape.rowMajor_val_two, Shape.rowMajor_val_three]
    show i.val * 512 + j.val = (z.val * 1024 + i.val) * 512 + j.val
    omega)

variable (m : (ℓ : Loc nD τ sig) → Buf (Elt Ideal) ℓ)

/-- The two arguments. -/
def lhs (c : Dev nD) : FVec Ideal S4096x1024 .bf16 := m (c.tc.loc main_arg0)
def rhs (c : Dev nD) : FVec Ideal S4096x4096 .bf16 := m (c.tc.loc main_arg1)

/-- Column `j` of block `n`. -/
def col (n : Fin 8) (j : Fin 512) : Fin 4096 := ⟨512 * n.val + j.val, by omega⟩
/-- The grid point of half `h` of block `n`. -/
def point (n : Fin 8) (h : Fin 2) : Fin cfg0.N := ⟨2 * n.val + h.val, lt_of_lt_of_eq (by omega) (show 16 = cfg0.N from N_0.symm)⟩

theorem at0 : ∀ (n : Fin 8) (h : Fin 2), win0_0.index (point n h) (0 : Fin 2) = h.val ∧ win0_0.index (point n h) (1 : Fin 2) = 0 := by
  decide +kernel
theorem at1 : ∀ (n : Fin 8) (h : Fin 2), win0_1.index (point n h) (0 : Fin 2) = h.val ∧ win0_1.index (point n h) (1 : Fin 2) = n.val := by
  decide +kernel

theorem read0 (c : Dev nD) (n : Fin 8) (h : Fin 2) (k : Fin 2048) (i : Fin 1024) :
    iblk m c 0 (point n h) (ix2 k i) = lhs m c (ix2 (row h k) i) := by
  refine congrArg (lhs m c) (funext fun a => Fin.ext ?_)
  match a with
  | ⟨0, _⟩ => show win0_0.index (point n h) (0 : Fin 2) * 2048 + 1 * k.val = 2048 * h.val + k.val; rw [(at0 n h).1]; omega
  | ⟨1, _⟩ => show win0_0.index (point n h) (1 : Fin 2) * 1024 + 1 * i.val = i.val; rw [(at0 n h).2]; omega
theorem read1 (c : Dev nD) (n : Fin 8) (h : Fin 2) (k : Fin 2048) (j : Fin 512) :
    iblk m c 1 (point n h) (ix2 k j) = rhs m c (ix2 (row h k) (col n j)) := by
  refine congrArg (rhs m c) (funext fun a => Fin.ext ?_)
  match a with
  | ⟨0, _⟩ => show win0_1.index (point n h) (0 : Fin 2) * 2048 + 1 * k.val = 2048 * h.val + k.val; rw [(at1 n h).1]; omega
  | ⟨1, _⟩ => show win0_1.index (point n h) (1 : Fin 2) * 512 + 1 * j.val = 512 * n.val + j.val; rw [(at1 n h).2]; omega

/-- The accumulator after both halves of block `n` is the gradient's block. -/
theorem acc_eq (c : Dev nD) (n : Fin 8) (i : Fin 1024) (j : Fin 512) :
    k0_pay2 (k0_pay2 (k0_pay1 (F := Ideal)) (iblk m c 0 (point n 0)) (iblk m c 1 (point n 0))) (iblk m c 0 (point n 1)) (iblk m c 1 (point n 1)) (ix2 i j)
      = grad (lhs m c) (rhs m c) i (col n j) :=
  (acc_apply _ _ _ _ i j).trans (accumulate (lhs m c) (rhs m c) i (col n j) _ _ _ rfl
    (Finset.sum_congr rfl fun k _ => congrArg₂ (· * ·) (read0 m c n 0 k i) (read1 m c n 0 k j))
    (Finset.sum_congr rfl fun k _ => congrArg₂ (· * ·) (read0 m c n 1 k i) (read1 m c n 1 k j)))

theorem local2 (n : Fin 8) (i : Fin 1024) (j : Fin 512) : loc2Of (ix3 n i j) = ix3 0 i j :=
  funext fun a => Fin.ext (match a with
    | ⟨0, _⟩ => Nat.mod_one _
    | ⟨1, _⟩ => Nat.mod_eq_of_lt i.isLt
    | ⟨2, _⟩ => Nat.mod_eq_of_lt j.isLt)
theorem place2 (n : Fin 8) (i : Fin 1024) (j : Fin 512) : pt2Of (ix3 n i j) = (point n 1).val := by
  show 2 * (1 * (n.val / 1 - 0) + 1 * (i.val / 1024 - 0) + 1 * (j.val / 512 - 0)) + 1 = 2 * n.val + 1
  omega

/-- The first result, at an element. -/
theorem result2 (c : Dev nD) (n : Fin 8) (i : Fin 1024) (j : Fin 512) : G2 m c (ix3 n i j) = grad (lhs m c) (rhs m c) i (col n j) := by
  unfold G2
  rw [dif_pos (by rw [place2]; exact (point n 1).isLt), local2, fold0_congr m c _ _ _ (by omega) (place2 n i j), ← outsAt0_sweep m c (point n 1).val (point n 1).isLt,
    (outs m c (point n 1) (point n 0) (by show (2 * n.val + 1) % 2 = 1; omega) rfl).1, pay3_apply]
  exact acc_eq m c n i j
/-- The second result, at an element. -/
theorem result3 (c : Dev nD) (n : Fin 8) (i : Fin 1024) (j : Fin 512) : G3 m c (ix3 n i j) = grad (lhs m c) (rhs m c) i (col n j) := by
  unfold G3
  have hl : loc3Of (ix3 n i j) = ix3 0 i j := local2 n i j
  have hp : pt3Of (ix3 n i j) = (point n 1).val := place2 n i j
  rw [dif_pos (by rw [hp]; exact (point n 1).isLt), hl, fold0_congr m c _ _ _ (by omega) hp, ← outsAt0_sweep m c (point n 1).val (point n 1).isLt,
    (outs m c (point n 1) (point n 0) (by show (2 * n.val + 1) % 2 = 1; omega) rfl).2, pay4_apply]
  exact acc_eq m c n i j

/-- Both results as arrays. -/
def result (c : Dev nD) : FVec Ideal S8x1024x512 .f32 := fun i => grad (lhs m c) (rhs m c) (i 1) (col (i 0) (i 2))
theorem G2_eq (c : Dev nD) : G2 m c = result m c := funext fun i => by
  obtain ⟨n, p, q, rfl⟩ : ∃ (n : Fin 8) (p : Fin 1024) (q : Fin 512), i = ix3 n p q := ⟨i 0, i 1, i 2, eq_ix3 i⟩
  exact result2 m c n p q
theorem G3_eq (c : Dev nD) : G3 m c = result m c := funext fun i => by
  obtain ⟨n, p, q, rfl⟩ : ∃ (n : Fin 8) (p : Fin 1024) (q : Fin 512), i = ix3 n p q := ⟨i 0, i 1, i 2, eq_ix3 i⟩
  exact result3 m c n p q

end Cert.Kernel2Ideal.Grad

end
-- ==== Proof.GradFf2.lean ====
/-
  The third program, the gradient of the second feed-forward weight: what its two results hold after the run, element by
  element.
-/
module

public import proofs.«01_k».proof.Proof.Products
public import proofs.«01_k».proof.Proof.Gen.Kernel3Ideal.Value

@[expose] public section

set_option maxRecDepth 16384
set_option maxHeartbeats 1000000

noncomputable section

namespace Cert.Kernel3Ideal.Grad

open Idealize.ShloMosaic hiding ix1 ix2 ix3 ix4 eq_ix2 eq_ix3
open Idealize.ShloMosaic.ValueIdx Idealize.ShloMosaic.Tactic Idealize.SL.Sem Cert.Grad
open Cert.Kernel3Ideal.Gen Cert.Kernel3Ideal.Value

section Blocks
variable {F : FTy → Type} [FloatOps F]

theorem first (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) :
    sout0_A_0 c i a2 h2 a3 h3 a4 h4 a5 h5 a6 h6 e0 e1 x y = k0_pay2 (k0_pay1 (F := F)) x y := by
  unfold sout0_A_0
  rw [View.read_writes_eq_canon _ _ _ (scover0_A_0 c i a2 h2 a3 h3 a4 h4 a5 h5 a6 h6 e0 e1 x y)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S2048x1024) hz]

theorem second2 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_2 c i a2 h2 a3 h3 a4 h4 a5 h5 a6 h6 e0 e1 x y s = k0_pay3 (k0_pay2 s x y) := by
  unfold out0_B_2
  rw [View.read_writes_eq_canon _ _ _ (cover0_B_2 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

theorem second3 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_3 c i a2 h2 a3 h3 a4 h4 a5 h5 a6 h6 e0 e1 x y s = k0_pay4 (k0_pay2 s x y) := by
  unfold out0_B_3
  rw [View.read_writes_eq_canon _ _ _ (cover0_B_3 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

/-- After the second half of block `n`: the results' blocks, over the two halves' input blocks. -/
theorem outs (m : (ℓ : Loc nD τ sig) → Buf (Elt F) ℓ) (c : Dev nD) (t u : Fin cfg0.N) (ht : t.val % 2 = 1) (hu : u.val = t.val - 1) :
    (outsAt0 m c t.val t.isLt).1 = k0_pay3 (k0_pay2 (k0_pay2 (k0_pay1 (F := F)) (iblk m c 0 u) (iblk m c 1 u)) (iblk m c 0 t) (iblk m c 1 t))
    ∧ (outsAt0 m c t.val t.isLt).2.1 = k0_pay4 (k0_pay2 (k0_pay2 (k0_pay1 (F := F)) (iblk m c 0 u) (iblk m c 1 u)) (iblk m c 0 t) (iblk m c 1 t)) := by
  have hs : (outsAt0 m c (t.val - 1) (Nat.lt_of_le_of_lt (Nat.sub_le _ _) t.isLt)).2.2 = k0_pay2 (k0_pay1 (F := F)) (iblk m c 0 u) (iblk m c 1 u) := by
    obtain ⟨n, hn⟩ := u
    dsimp only at hu
    subst hu
    rw [outsAt0_A m c ⟨t.val - 1, hn⟩ (by dsimp only; omega) (by dsimp only; omega)]
    dsimp only
    rw [first]
  rw [outsAt0_B m c t (by omega) ht, hs]
  dsimp only
  rw [second2, second3]
  exact ⟨rfl, rfl⟩

end Blocks

/-! ## Over the extended reals -/

abbrev D0 := dot_S2048x1024_S2048x1024_S1024x1024_0_0_1_1_n_n

theorem dot_apply (x : FVec Ideal S2048x1024 .bf16) (y : FVec Ideal S2048x1024 .bf16) (i : Fin 1024) (j : Fin 1024) :
    matmul D0 none x y (constant S1024x1024 .f32 0x00000000#32) (ix2 i j) = ∑ k, x (ix2 k i) * y (ix2 k j) :=
  product_apply D0 rfl rfl
    (fun i j k => funext fun a => Fin.ext (match a with
      | ⟨0, _⟩ => contrEquiv1_symm_val D0 2048 rfl rfl k
      | ⟨1, _⟩ => rfl))
    (fun i j k => funext fun a => Fin.ext (match a with
      | ⟨0, _⟩ => contrEquiv1_symm_val D0 2048 rfl rfl k
      | ⟨1, _⟩ => rfl)) x y i j

/-- The accumulator after both halves, at an element. -/
theorem acc_apply (x0 x1 : FVec Ideal S2048x1024 .bf16) (y0 y1 : FVec Ideal S2048x1024 .bf16) (i : Fin 1024) (j : Fin 1024) :
    (k0_pay2 (F := Ideal) (k0_pay2 (F := Ideal) (k0_pay1 (F := Ideal)) x0 y0) x1 y1) (ix2 i j)
      = ((0 : EReal) + ∑ k, x0 (ix2 k i) * y0 (ix2 k j)) + ∑ k, x1 (ix2 k i) * y1 (ix2 k j) := by
  unfold k0_pay2 k0_pay1
  simp only [shapeCast_self]
  show ((Scalar.ofBits (F := Ideal) .f32 0x00000000#32 : EReal) + matmul D0 none x0 y0 (constant S1024x1024 .f32 0x00000000#32) (ix2 i j)) + matmul D0 none x1 y1 (constant S1024x1024 .f32 0x00000000#32) (ix2 i j) = _
  rw [dot_apply, dot_apply]
  exact congrArg (fun z : EReal => (z + _) + _) Ideal.ofBits_zero_f32

theorem pay3_apply (v : FVec Ideal S1024x1024 .f32) (z : Fin 1) (i : Fin 1024) (j : Fin 1024) : @Eq EReal (k0_pay3 (F := Ideal) v (ix3 z i j)) (v (ix2 i j)) := by
  unfold k0_pay3
  exact shapeCast_apply v _ _ _ (by
    rewrite [Shape.rowMajor_val_two, Shape.rowMajor_val_three]
    show i.val * 1024 + j.val = (z.val * 1024 + i.val) * 1024 + j.val
    omega)
theorem pay4_apply (v : FVec Ideal S1024x1024 .f32) (z : Fin 1) (i : Fin 1024) (j : Fin 1024) : @Eq EReal (k0_pay4 (F := Ideal) v (ix3 z i j)) (v (ix2 i j)) := by
  unfold k0_pay4
  exact shapeCast_apply (truncf (F := Ideal) .bf16 v bitsLt_bf16_f32) _ _ _ (by
    rewrite [Shape.rowMajor_val_two, Shape.rowMajor_val_three]
    show i.val * 1024 + j.val = (z.val * 1024 + i.val) * 1024 + j.val
    omega)

variable (m : (ℓ : Loc nD τ sig) → Buf (Elt Ideal) ℓ)

/-- The two arguments. -/
def lhs (c : Dev nD) : FVec Ideal S4096x4096 .bf16 := m (c.tc.loc main_arg0)
def rhs (c : Dev nD) : FVec Ideal S4096x1024 .bf16 := m (c.tc.loc main_arg1)

/-- Column `j` of block `n`. -/
def col (n : Fin 4) (j : Fin 1024) : Fin 4096 := ⟨1024 * n.val + j.val, by omega⟩
/-- The grid point of half `h` of block `n`. -/
def point (n : Fin 4) (h : Fin 2) : Fin cfg0.N := ⟨2 * n.val + h.val, lt_of_lt_of_eq (by omega) (show 8 = cfg0.N from N_0.symm)⟩

theorem at0 : ∀ (n : Fin 4) (h : Fin 2), win0_0.index (point n h) (0 : Fin 2) = h.val ∧ win0_0.index (point n h) (1 : Fin 2) = n.val := by
  decide +kernel
theorem at1 : ∀ (n : Fin 4) (h : Fin 2), win0_1.index (point n h) (0 : Fin 2) = h.val ∧ win0_1.index (point n h) (1 : Fin 2) = 0 := by
  decide +kernel

theorem read0 (c : Dev nD) (n : Fin 4) (h : Fin 2) (k : Fin 2048) (i : Fin 1024) :
    iblk m c 0 (point n h) (ix2 k i) = lhs m c (ix2 (row h k) (col n i)) := by
  refine congrArg (lhs m c) (funext fun a => Fin.ext ?_)
  match a with
  | ⟨0, _⟩ => show win0_0.index (point n h) (0 : Fin 2) * 2048 + 1 * k.val = 2048 * h.val + k.val; rw [(at0 n h).1]; omega
  | ⟨1, _⟩ => show win0_0.index (point n h) (1 : Fin 2) * 1024 + 1 * i.val = 1024 * n.val + i.val; rw [(at0 n h).2]; omega
theorem read1 (c : Dev nD) (n : Fin 4) (h : Fin 2) (k : Fin 2048) (j : Fin 1024) :
    iblk m c 1 (point n h) (ix2 k j) = rhs m c (ix2 (row h k) j) := by
  refine congrArg (rhs m c) (funext fun a => Fin.ext ?_)
  match a with
  | ⟨0, _⟩ => show win0_1.index (point n h) (0 : Fin 2) * 2048 + 1 * k.val = 2048 * h.val + k.val; rw [(at1 n h).1]; omega
  | ⟨1, _⟩ => show win0_1.index (point n h) (1 : Fin 2) * 1024 + 1 * j.val = j.val; rw [(at1 n h).2]; omega

/-- The accumulator after both halves of block `n` is the gradient's block. -/
theorem acc_eq (c : Dev nD) (n : Fin 4) (i : Fin 1024) (j : Fin 1024) :
    k0_pay2 (k0_pay2 (k0_pay1 (F := Ideal)) (iblk m c 0 (point n 0)) (iblk m c 1 (point n 0))) (iblk m c 0 (point n 1)) (iblk m c 1 (point n 1)) (ix2 i j)
      = grad (lhs m c) (rhs m c) (col n i) j :=
  (acc_apply _ _ _ _ i j).trans (accumulate (lhs m c) (rhs m c) (col n i) j _ _ _ rfl
    (Finset.sum_congr rfl fun k _ => congrArg₂ (· * ·) (read0 m c n 0 k i) (read1 m c n 0 k j))
    (Finset.sum_congr rfl fun k _ => congrArg₂ (· * ·) (read0 m c n 1 k i) (read1 m c n 1 k j)))

theorem local2 (n : Fin 4) (i : Fin 1024) (j : Fin 1024) : loc2Of (ix3 n i j) = ix3 0 i j :=
  funext fun a => Fin.ext (match a with
    | ⟨0, _⟩ => Nat.mod_one _
    | ⟨1, _⟩ => Nat.mod_eq_of_lt i.isLt
    | ⟨2, _⟩ => Nat.mod_eq_of_lt j.isLt)
theorem place2 (n : Fin 4) (i : Fin 1024) (j : Fin 1024) : pt2Of (ix3 n i j) = (point n 1).val := by
  show 2 * (1 * (n.val / 1 - 0) + 1 * (i.val / 1024 - 0) + 1 * (j.val / 1024 - 0)) + 1 = 2 * n.val + 1
  omega

/-- The first result, at an element. -/
theorem result2 (c : Dev nD) (n : Fin 4) (i : Fin 1024) (j : Fin 1024) : G2 m c (ix3 n i j) = grad (lhs m c) (rhs m c) (col n i) j := by
  unfold G2
  rw [dif_pos (by rw [place2]; exact (point n 1).isLt), local2, fold0_congr m c _ _ _ (by omega) (place2 n i j), ← outsAt0_sweep m c (point n 1).val (point n 1).isLt,
    (outs m c (point n 1) (point n 0) (by show (2 * n.val + 1) % 2 = 1; omega) rfl).1, pay3_apply]
  exact acc_eq m c n i j
/-- The second result, at an element. -/
theorem result3 (c : Dev nD) (n : Fin 4) (i : Fin 1024) (j : Fin 1024) : G3 m c (ix3 n i j) = grad (lhs m c) (rhs m c) (col n i) j := by
  unfold G3
  have hl : loc3Of (ix3 n i j) = ix3 0 i j := local2 n i j
  have hp : pt3Of (ix3 n i j) = (point n 1).val := place2 n i j
  rw [dif_pos (by rw [hp]; exact (point n 1).isLt), hl, fold0_congr m c _ _ _ (by omega) hp, ← outsAt0_sweep m c (point n 1).val (point n 1).isLt,
    (outs m c (point n 1) (point n 0) (by show (2 * n.val + 1) % 2 = 1; omega) rfl).2, pay4_apply]
  exact acc_eq m c n i j

/-- Both results as arrays. -/
def result (c : Dev nD) : FVec Ideal S4x1024x1024 .f32 := fun i => grad (lhs m c) (rhs m c) (col (i 0) (i 1)) (i 2)
theorem G2_eq (c : Dev nD) : G2 m c = result m c := funext fun i => by
  obtain ⟨n, p, q, rfl⟩ : ∃ (n : Fin 4) (p : Fin 1024) (q : Fin 1024), i = ix3 n p q := ⟨i 0, i 1, i 2, eq_ix3 i⟩
  exact result2 m c n p q
theorem G3_eq (c : Dev nD) : G3 m c = result m c := funext fun i => by
  obtain ⟨n, p, q, rfl⟩ : ∃ (n : Fin 4) (p : Fin 1024) (q : Fin 1024), i = ix3 n p q := ⟨i 0, i 1, i 2, eq_ix3 i⟩
  exact result3 m c n p q

end Cert.Kernel3Ideal.Grad

end
-- ==== Proof.GradOut.lean ====
/-
  The fourth program, the gradient of a square weight: what its two results hold after the run, element by
  element.
-/
module

public import proofs.«01_k».proof.Proof.GradFf2
public import proofs.«01_k».proof.Proof.Gen.Kernel4Ideal.Value

@[expose] public section

set_option maxRecDepth 16384
set_option maxHeartbeats 1000000

noncomputable section

namespace Cert.Kernel4Ideal.Grad

open Idealize.ShloMosaic hiding ix1 ix2 ix3 ix4 eq_ix2 eq_ix3
open Idealize.ShloMosaic.ValueIdx Idealize.ShloMosaic.Tactic Idealize.SL.Sem Cert.Grad
open Cert.Kernel4Ideal.Gen Cert.Kernel4Ideal.Value

section Blocks
variable {F : FTy → Type} [FloatOps F]

theorem first (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) :
    sout0_A_0 c i a2 h2 a3 h3 a4 h4 a5 h5 a6 h6 e0 e1 x y = k0_pay2 (k0_pay1 (F := F)) x y := by
  unfold sout0_A_0
  rw [View.read_writes_eq_canon _ _ _ (scover0_A_0 c i a2 h2 a3 h3 a4 h4 a5 h5 a6 h6 e0 e1 x y)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S2048x1024) hz]

theorem second2 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_2 c i a2 h2 a3 h3 a4 h4 a5 h5 a6 h6 e0 e1 x y s = k0_pay3 (k0_pay2 s x y) := by
  unfold out0_B_2
  rw [View.read_writes_eq_canon _ _ _ (cover0_B_2 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

theorem second3 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_3 c i a2 h2 a3 h3 a4 h4 a5 h5 a6 h6 e0 e1 x y s = k0_pay4 (k0_pay2 s x y) := by
  unfold out0_B_3
  rw [View.read_writes_eq_canon _ _ _ (cover0_B_3 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

/-- After the second half of block `n`: the results' blocks, over the two halves' input blocks. -/
theorem outs (m : (ℓ : Loc nD τ sig) → Buf (Elt F) ℓ) (c : Dev nD) (t u : Fin cfg0.N) (ht : t.val % 2 = 1) (hu : u.val = t.val - 1) :
    (outsAt0 m c t.val t.isLt).1 = k0_pay3 (k0_pay2 (k0_pay2 (k0_pay1 (F := F)) (iblk m c 0 u) (iblk m c 1 u)) (iblk m c 0 t) (iblk m c 1 t))
    ∧ (outsAt0 m c t.val t.isLt).2.1 = k0_pay4 (k0_pay2 (k0_pay2 (k0_pay1 (F := F)) (iblk m c 0 u) (iblk m c 1 u)) (iblk m c 0 t) (iblk m c 1 t)) := by
  have hs : (outsAt0 m c (t.val - 1) (Nat.lt_of_le_of_lt (Nat.sub_le _ _) t.isLt)).2.2 = k0_pay2 (k0_pay1 (F := F)) (iblk m c 0 u) (iblk m c 1 u) := by
    obtain ⟨n, hn⟩ := u
    dsimp only at hu
    subst hu
    rw [outsAt0_A m c ⟨t.val - 1, hn⟩ (by dsimp only; omega) (by dsimp only; omega)]
    dsimp only
    rw [first]
  rw [outsAt0_B m c t (by omega) ht, hs]
  dsimp only
  rw [second2, second3]
  exact ⟨rfl, rfl⟩

end Blocks

/-! ## Over the extended reals -/

variable (m : (ℓ : Loc nD τ sig) → Buf (Elt Ideal) ℓ)

/-- The two arguments. -/
def lhs (c : Dev nD) : FVec Ideal S4096x1024 .bf16 := m (c.tc.loc main_arg0)
def rhs (c : Dev nD) : FVec Ideal S4096x1024 .bf16 := m (c.tc.loc main_arg1)

/-- The grid point of half `h` of block `n`. -/
def point (n : Fin 1) (h : Fin 2) : Fin cfg0.N := ⟨2 * n.val + h.val, lt_of_lt_of_eq (by omega) (show 2 = cfg0.N from N_0.symm)⟩

theorem at0 : ∀ (n : Fin 1) (h : Fin 2), win0_0.index (point n h) (0 : Fin 2) = h.val ∧ win0_0.index (point n h) (1 : Fin 2) = 0 := by
  decide +kernel
theorem at1 : ∀ (n : Fin 1) (h : Fin 2), win0_1.index (point n h) (0 : Fin 2) = h.val ∧ win0_1.index (point n h) (1 : Fin 2) = 0 := by
  decide +kernel

theorem read0 (c : Dev nD) (n : Fin 1) (h : Fin 2) (k : Fin 2048) (i : Fin 1024) :
    iblk m c 0 (point n h) (ix2 k i) = lhs m c (ix2 (row h k) i) := by
  refine congrArg (lhs m c) (funext fun a => Fin.ext ?_)
  match a with
  | ⟨0, _⟩ => show win0_0.index (point n h) (0 : Fin 2) * 2048 + 1 * k.val = 2048 * h.val + k.val; rw [(at0 n h).1]; omega
  | ⟨1, _⟩ => show win0_0.index (point n h) (1 : Fin 2) * 1024 + 1 * i.val = i.val; rw [(at0 n h).2]; omega
theorem read1 (c : Dev nD) (n : Fin 1) (h : Fin 2) (k : Fin 2048) (j : Fin 1024) :
    iblk m c 1 (point n h) (ix2 k j) = rhs m c (ix2 (row h k) j) := by
  refine congrArg (rhs m c) (funext fun a => Fin.ext ?_)
  match a with
  | ⟨0, _⟩ => show win0_1.index (point n h) (0 : Fin 2) * 2048 + 1 * k.val = 2048 * h.val + k.val; rw [(at1 n h).1]; omega
  | ⟨1, _⟩ => show win0_1.index (point n h) (1 : Fin 2) * 1024 + 1 * j.val = j.val; rw [(at1 n h).2]; omega

/-- The accumulator after both halves of block `n` is the gradient's block. -/
theorem acc_eq (c : Dev nD) (n : Fin 1) (i : Fin 1024) (j : Fin 1024) :
    k0_pay2 (k0_pay2 (k0_pay1 (F := Ideal)) (iblk m c 0 (point n 0)) (iblk m c 1 (point n 0))) (iblk m c 0 (point n 1)) (iblk m c 1 (point n 1)) (ix2 i j)
      = grad (lhs m c) (rhs m c) i j :=
  (Kernel3Ideal.Grad.acc_apply _ _ _ _ i j).trans (accumulate (lhs m c) (rhs m c) i j _ _ _ rfl
    (Finset.sum_congr rfl fun k _ => congrArg₂ (· * ·) (read0 m c n 0 k i) (read1 m c n 0 k j))
    (Finset.sum_congr rfl fun k _ => congrArg₂ (· * ·) (read0 m c n 1 k i) (read1 m c n 1 k j)))

theorem local2 (n : Fin 1) (i : Fin 1024) (j : Fin 1024) : loc2Of (ix3 n i j) = ix3 0 i j :=
  funext fun a => Fin.ext (match a with
    | ⟨0, _⟩ => Nat.mod_one _
    | ⟨1, _⟩ => Nat.mod_eq_of_lt i.isLt
    | ⟨2, _⟩ => Nat.mod_eq_of_lt j.isLt)
theorem place2 (n : Fin 1) (i : Fin 1024) (j : Fin 1024) : pt2Of (ix3 n i j) = (point n 1).val := by
  show 2 * (1 * (n.val / 1 - 0) + 1 * (i.val / 1024 - 0) + 1 * (j.val / 1024 - 0)) + 1 = 2 * n.val + 1
  omega

/-- The first result, at an element. -/
theorem result2 (c : Dev nD) (n : Fin 1) (i : Fin 1024) (j : Fin 1024) : G2 m c (ix3 n i j) = grad (lhs m c) (rhs m c) i j := by
  unfold G2
  rw [dif_pos (by rw [place2]; exact (point n 1).isLt), local2, fold0_congr m c _ _ _ (by omega) (place2 n i j), ← outsAt0_sweep m c (point n 1).val (point n 1).isLt,
    (outs m c (point n 1) (point n 0) (by show (2 * n.val + 1) % 2 = 1; omega) rfl).1]
  exact (Kernel3Ideal.Grad.pay3_apply _ 0 i j).trans (acc_eq m c n i j)
/-- The second result, at an element. -/
theorem result3 (c : Dev nD) (n : Fin 1) (i : Fin 1024) (j : Fin 1024) : G3 m c (ix3 n i j) = grad (lhs m c) (rhs m c) i j := by
  unfold G3
  have hl : loc3Of (ix3 n i j) = ix3 0 i j := local2 n i j
  have hp : pt3Of (ix3 n i j) = (point n 1).val := place2 n i j
  rw [dif_pos (by rw [hp]; exact (point n 1).isLt), hl, fold0_congr m c _ _ _ (by omega) hp, ← outsAt0_sweep m c (point n 1).val (point n 1).isLt,
    (outs m c (point n 1) (point n 0) (by show (2 * n.val + 1) % 2 = 1; omega) rfl).2]
  exact (Kernel3Ideal.Grad.pay4_apply _ 0 i j).trans (acc_eq m c n i j)

/-- Both results as arrays. -/
def result (c : Dev nD) : FVec Ideal S1x1024x1024 .f32 := fun i => grad (lhs m c) (rhs m c) (i 1) (i 2)
theorem G2_eq (c : Dev nD) : G2 m c = result m c := funext fun i => by
  obtain ⟨n, p, q, rfl⟩ : ∃ (n : Fin 1) (p : Fin 1024) (q : Fin 1024), i = ix3 n p q := ⟨i 0, i 1, i 2, eq_ix3 i⟩
  exact result2 m c n p q
theorem G3_eq (c : Dev nD) : G3 m c = result m c := funext fun i => by
  obtain ⟨n, p, q, rfl⟩ : ∃ (n : Fin 1) (p : Fin 1024) (q : Fin 1024), i = ix3 n p q := ⟨i 0, i 1, i 2, eq_ix3 i⟩
  exact result3 m c n p q

end Cert.Kernel4Ideal.Grad

end
-- ==== Proof.GradInEven.lean ====
/-
  The fifth program, the even parts of the gradient of the input projection: what its two results hold after the run, element by
  element.
-/
module

public import proofs.«01_k».proof.Proof.GradFf2
public import proofs.«01_k».proof.Proof.Gen.Kernel5Ideal.Value

@[expose] public section

set_option maxRecDepth 16384
set_option maxHeartbeats 1000000

noncomputable section

namespace Cert.Kernel5Ideal.Grad

open Idealize.ShloMosaic hiding ix1 ix2 ix3 ix4 eq_ix2 eq_ix3
open Idealize.ShloMosaic.ValueIdx Idealize.ShloMosaic.Tactic Idealize.SL.Sem Cert.Grad
open Cert.Kernel5Ideal.Gen Cert.Kernel5Ideal.Value

section Blocks
variable {F : FTy → Type} [FloatOps F]

theorem first (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) :
    sout0_A_0 c i a2 h2 a3 h3 a4 h4 a5 h5 a6 h6 e0 e1 x y = k0_pay2 (k0_pay1 (F := F)) x y := by
  unfold sout0_A_0
  rw [View.read_writes_eq_canon _ _ _ (scover0_A_0 c i a2 h2 a3 h3 a4 h4 a5 h5 a6 h6 e0 e1 x y)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S2048x1024) hz]

theorem second2 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_2 c i a2 h2 a3 h3 a4 h4 a5 h5 a6 h6 e0 e1 x y s = k0_pay3 (k0_pay2 s x y) := by
  unfold out0_B_2
  rw [View.read_writes_eq_canon _ _ _ (cover0_B_2 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

theorem second3 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_3 c i a2 h2 a3 h3 a4 h4 a5 h5 a6 h6 e0 e1 x y s = k0_pay4 (k0_pay2 s x y) := by
  unfold out0_B_3
  rw [View.read_writes_eq_canon _ _ _ (cover0_B_3 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

/-- After the second half of block `n`: the results' blocks, over the two halves' input blocks. -/
theorem outs (m : (ℓ : Loc nD τ sig) → Buf (Elt F) ℓ) (c : Dev nD) (t u : Fin cfg0.N) (ht : t.val % 2 = 1) (hu : u.val = t.val - 1) :
    (outsAt0 m c t.val t.isLt).1 = k0_pay3 (k0_pay2 (k0_pay2 (k0_pay1 (F := F)) (iblk m c 0 u) (iblk m c 1 u)) (iblk m c 0 t) (iblk m c 1 t))
    ∧ (outsAt0 m c t.val t.isLt).2.1 = k0_pay4 (k0_pay2 (k0_pay2 (k0_pay1 (F := F)) (iblk m c 0 u) (iblk m c 1 u)) (iblk m c 0 t) (iblk m c 1 t)) := by
  have hs : (outsAt0 m c (t.val - 1) (Nat.lt_of_le_of_lt (Nat.sub_le _ _) t.isLt)).2.2 = k0_pay2 (k0_pay1 (F := F)) (iblk m c 0 u) (iblk m c 1 u) := by
    obtain ⟨n, hn⟩ := u
    dsimp only at hu
    subst hu
    rw [outsAt0_A m c ⟨t.val - 1, hn⟩ (by dsimp only; omega) (by dsimp only; omega)]
    dsimp only
    rw [first]
  rw [outsAt0_B m c t (by omega) ht, hs]
  dsimp only
  rw [second2, second3]
  exact ⟨rfl, rfl⟩

end Blocks

/-! ## Over the extended reals -/

variable (m : (ℓ : Loc nD τ sig) → Buf (Elt Ideal) ℓ)

/-- The two arguments. -/
def lhs (c : Dev nD) : FVec Ideal S4096x1024 .bf16 := m (c.tc.loc main_arg0)
def rhs (c : Dev nD) : FVec Ideal S4096x8192 .bf16 := m (c.tc.loc main_arg1)

/-- The eighth of the columns block `n` is the gradient of. -/
def part (n : Fin 4) : Fin 8 := ![3, 5, 6, 1] n
/-- Column `j` of block `n`. -/
def col (n : Fin 4) (j : Fin 1024) : Fin 8192 := ⟨1024 * (part n).val + j.val, by omega⟩
/-- The grid point of half `h` of block `n`. -/
def point (n : Fin 4) (h : Fin 2) : Fin cfg0.N := ⟨2 * n.val + h.val, lt_of_lt_of_eq (by omega) (show 8 = cfg0.N from N_0.symm)⟩

theorem at0 : ∀ (n : Fin 4) (h : Fin 2), win0_0.index (point n h) (0 : Fin 2) = h.val ∧ win0_0.index (point n h) (1 : Fin 2) = 0 := by
  decide +kernel
theorem at1 : ∀ (n : Fin 4) (h : Fin 2), win0_1.index (point n h) (0 : Fin 2) = h.val ∧ win0_1.index (point n h) (1 : Fin 2) = (part n).val := by
  decide +kernel

theorem read0 (c : Dev nD) (n : Fin 4) (h : Fin 2) (k : Fin 2048) (i : Fin 1024) :
    iblk m c 0 (point n h) (ix2 k i) = lhs m c (ix2 (row h k) i) := by
  refine congrArg (lhs m c) (funext fun a => Fin.ext ?_)
  match a with
  | ⟨0, _⟩ => show win0_0.index (point n h) (0 : Fin 2) * 2048 + 1 * k.val = 2048 * h.val + k.val; rw [(at0 n h).1]; omega
  | ⟨1, _⟩ => show win0_0.index (point n h) (1 : Fin 2) * 1024 + 1 * i.val = i.val; rw [(at0 n h).2]; omega
theorem read1 (c : Dev nD) (n : Fin 4) (h : Fin 2) (k : Fin 2048) (j : Fin 1024) :
    iblk m c 1 (point n h) (ix2 k j) = rhs m c (ix2 (row h k) (col n j)) := by
  refine congrArg (rhs m c) (funext fun a => Fin.ext ?_)
  match a with
  | ⟨0, _⟩ => show win0_1.index (point n h) (0 : Fin 2) * 2048 + 1 * k.val = 2048 * h.val + k.val; rw [(at1 n h).1]; omega
  | ⟨1, _⟩ => show win0_1.index (point n h) (1 : Fin 2) * 1024 + 1 * j.val = 1024 * (part n).val + j.val; rw [(at1 n h).2]; omega

/-- The accumulator after both halves of block `n` is the gradient's block. -/
theorem acc_eq (c : Dev nD) (n : Fin 4) (i : Fin 1024) (j : Fin 1024) :
    k0_pay2 (k0_pay2 (k0_pay1 (F := Ideal)) (iblk m c 0 (point n 0)) (iblk m c 1 (point n 0))) (iblk m c 0 (point n 1)) (iblk m c 1 (point n 1)) (ix2 i j)
      = grad (lhs m c) (rhs m c) i (col n j) :=
  (Kernel3Ideal.Grad.acc_apply _ _ _ _ i j).trans (accumulate (lhs m c) (rhs m c) i (col n j) _ _ _ rfl
    (Finset.sum_congr rfl fun k _ => congrArg₂ (· * ·) (read0 m c n 0 k i) (read1 m c n 0 k j))
    (Finset.sum_congr rfl fun k _ => congrArg₂ (· * ·) (read0 m c n 1 k i) (read1 m c n 1 k j)))

theorem local2 (n : Fin 4) (i : Fin 1024) (j : Fin 1024) : loc2Of (ix3 n i j) = ix3 0 i j :=
  funext fun a => Fin.ext (match a with
    | ⟨0, _⟩ => Nat.mod_one _
    | ⟨1, _⟩ => Nat.mod_eq_of_lt i.isLt
    | ⟨2, _⟩ => Nat.mod_eq_of_lt j.isLt)
theorem place2 (n : Fin 4) (i : Fin 1024) (j : Fin 1024) : pt2Of (ix3 n i j) = (point n 1).val := by
  show 2 * (1 * (n.val / 1 - 0) + 1 * (i.val / 1024 - 0) + 1 * (j.val / 1024 - 0)) + 1 = 2 * n.val + 1
  omega

/-- The first result, at an element. -/
theorem result2 (c : Dev nD) (n : Fin 4) (i : Fin 1024) (j : Fin 1024) : G2 m c (ix3 n i j) = grad (lhs m c) (rhs m c) i (col n j) := by
  unfold G2
  rw [dif_pos (by rw [place2]; exact (point n 1).isLt), local2, fold0_congr m c _ _ _ (by omega) (place2 n i j), ← outsAt0_sweep m c (point n 1).val (point n 1).isLt,
    (outs m c (point n 1) (point n 0) (by show (2 * n.val + 1) % 2 = 1; omega) rfl).1]
  exact (Kernel3Ideal.Grad.pay3_apply _ 0 i j).trans (acc_eq m c n i j)
/-- The second result, at an element. -/
theorem result3 (c : Dev nD) (n : Fin 4) (i : Fin 1024) (j : Fin 1024) : G3 m c (ix3 n i j) = grad (lhs m c) (rhs m c) i (col n j) := by
  unfold G3
  have hl : loc3Of (ix3 n i j) = ix3 0 i j := local2 n i j
  have hp : pt3Of (ix3 n i j) = (point n 1).val := place2 n i j
  rw [dif_pos (by rw [hp]; exact (point n 1).isLt), hl, fold0_congr m c _ _ _ (by omega) hp, ← outsAt0_sweep m c (point n 1).val (point n 1).isLt,
    (outs m c (point n 1) (point n 0) (by show (2 * n.val + 1) % 2 = 1; omega) rfl).2]
  exact (Kernel3Ideal.Grad.pay4_apply _ 0 i j).trans (acc_eq m c n i j)

/-- Both results as arrays. -/
def result (c : Dev nD) : FVec Ideal S4x1024x1024 .f32 := fun i => grad (lhs m c) (rhs m c) (i 1) (col (i 0) (i 2))
theorem G2_eq (c : Dev nD) : G2 m c = result m c := funext fun i => by
  obtain ⟨n, p, q, rfl⟩ : ∃ (n : Fin 4) (p : Fin 1024) (q : Fin 1024), i = ix3 n p q := ⟨i 0, i 1, i 2, eq_ix3 i⟩
  exact result2 m c n p q
theorem G3_eq (c : Dev nD) : G3 m c = result m c := funext fun i => by
  obtain ⟨n, p, q, rfl⟩ : ∃ (n : Fin 4) (p : Fin 1024) (q : Fin 1024), i = ix3 n p q := ⟨i 0, i 1, i 2, eq_ix3 i⟩
  exact result3 m c n p q

end Cert.Kernel5Ideal.Grad

end
-- ==== Proof.GradInOdd.lean ====
/-
  The sixth program, the odd parts of the gradient of the input projection: what its two results hold after the run, element by
  element.
-/
module

public import proofs.«01_k».proof.Proof.GradFf2
public import proofs.«01_k».proof.Proof.Gen.Kernel6Ideal.Value
public import Idealize.ShloMosaic.Lib.Pipeline.ValueKit

@[expose] public section

set_option maxRecDepth 16384
set_option maxHeartbeats 1000000

noncomputable section

namespace Cert.Kernel6Ideal.Grad

open Idealize.ShloMosaic hiding ix1 ix2 ix3 ix4 eq_ix2 eq_ix3
open Idealize.ShloMosaic.ValueIdx Idealize.ShloMosaic.Tactic Idealize.SL.Sem Cert.Grad
open Cert.Kernel6Ideal.Gen Cert.Kernel6Ideal.Value

section Blocks
variable {F : FTy → Type} [FloatOps F]

theorem first (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) :
    sout0_A_0 c i a2 h2 a3 h3 a4 h4 a5 h5 a6 h6 e0 e1 x y = k0_pay2 (k0_pay1 (F := F)) x y := by
  unfold sout0_A_0
  rw [View.read_writes_eq_canon _ _ _ (scover0_A_0 c i a2 h2 a3 h3 a4 h4 a5 h5 a6 h6 e0 e1 x y)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S2048x1024) hz]

theorem second2 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_2 c i a2 h2 a3 h3 a4 h4 a5 h5 a6 h6 e0 e1 x y s = k0_pay3 (k0_pay2 s x y) := by
  unfold out0_B_2
  rw [View.read_writes_eq_canon _ _ _ (cover0_B_2 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

theorem second3 (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1x1024x1024 .f32) (h4 : a4.IsWhole)
    (a5 : Memref sig .tc .vmem S1x1024x1024 .bf16) (h5 : a5.IsWhole) (a6 : Memref sig .tc .vmem S1024x1024 .f32) (h6 : a6.IsWhole)
    (e0) (e1) (x : Vec F S2048x1024 .bf16) (y : Vec F S2048x1024 .bf16) (s : Vec F S1024x1024 .f32) :
    out0_B_3 c i a2 h2 a3 h3 a4 h4 a5 h5 a6 h6 e0 e1 x y s = k0_pay4 (k0_pay2 s x y) := by
  unfold out0_B_3
  rw [View.read_writes_eq_canon _ _ _ (cover0_B_3 c i a2 h2 a3 h3 a4 h4 a5 h5 a6 h6 e0 e1 x y s)]
  unfold kernelRun0_B
  dsimp only
  sl_unfold_words
  rw [View.canon_unit_zero hz3]
  simp only [View.readCov_unit_zero (S := S1024x1024) _ hz, View.readAt_eq_ld, h2.read_unread, h3.read_unread, h6.read_unread, View.ld_unit_zero (S := S2048x1024) hz, View.ld_unit_zero (S := S1024x1024) hz]

/-- After the second half of block `n`: the results' blocks, over the two halves' input blocks. -/
theorem outs (m : (ℓ : Loc nD τ sig) → Buf (Elt F) ℓ) (c : Dev nD) (t u : Fin cfg0.N) (ht : t.val % 2 = 1) (hu : u.val = t.val - 1) :
    (outsAt0 m c t.val t.isLt).1 = k0_pay3 (k0_pay2 (k0_pay2 (k0_pay1 (F := F)) (iblk m c 0 u) (iblk m c 1 u)) (iblk m c 0 t) (iblk m c 1 t))
    ∧ (outsAt0 m c t.val t.isLt).2.1 = k0_pay4 (k0_pay2 (k0_pay2 (k0_pay1 (F := F)) (iblk m c 0 u) (iblk m c 1 u)) (iblk m c 0 t) (iblk m c 1 t)) := by
  have hs : (outsAt0 m c (t.val - 1) (Nat.lt_of_le_of_lt (Nat.sub_le _ _) t.isLt)).2.2 = k0_pay2 (k0_pay1 (F := F)) (iblk m c 0 u) (iblk m c 1 u) := by
    obtain ⟨n, hn⟩ := u
    dsimp only at hu
    subst hu
    rw [outsAt0_A m c ⟨t.val - 1, hn⟩ (by dsimp only; omega) (by dsimp only; omega)]
    dsimp only
    rw [first]
  rw [outsAt0_B m c t (by omega) ht, hs]
  dsimp only
  rw [second2, second3]
  exact ⟨rfl, rfl⟩

end Blocks

/-! ## Over the extended reals -/

variable (m : (ℓ : Loc nD τ sig) → Buf (Elt Ideal) ℓ)

/-- The two arguments. -/
def lhs (c : Dev nD) : FVec Ideal S4096x1024 .bf16 := m (c.tc.loc main_arg0)
def rhs (c : Dev nD) : FVec Ideal S4096x8192 .bf16 := m (c.tc.loc main_arg1)

/-- The eighth of the columns block `n` is the gradient of. -/
def part (n : Fin 4) : Fin 8 := ![4, 0, 7, 2] n
/-- Column `j` of block `n`. -/
def col (n : Fin 4) (j : Fin 1024) : Fin 8192 := ⟨1024 * (part n).val + j.val, by omega⟩
/-- The grid point of half `h` of block `n`. -/
def point (n : Fin 4) (h : Fin 2) : Fin cfg0.N := ⟨2 * n.val + h.val, lt_of_lt_of_eq (by omega) (show 8 = cfg0.N from N_0.symm)⟩

theorem at0 : ∀ (n : Fin 4) (h : Fin 2), win0_0.index (point n h) (0 : Fin 2) = h.val ∧ win0_0.index (point n h) (1 : Fin 2) = 0 := by
  decide +kernel
theorem at1 : ∀ (n : Fin 4) (h : Fin 2), win0_1.index (point n h) (0 : Fin 2) = h.val ∧ win0_1.index (point n h) (1 : Fin 2) = (part n).val := by
  decide +kernel

theorem read0 (c : Dev nD) (n : Fin 4) (h : Fin 2) (k : Fin 2048) (i : Fin 1024) :
    iblk m c 0 (point n h) (ix2 k i) = lhs m c (ix2 (row h k) i) := by
  refine congrArg (lhs m c) (funext fun a => Fin.ext ?_)
  match a with
  | ⟨0, _⟩ => show win0_0.index (point n h) (0 : Fin 2) * 2048 + 1 * k.val = 2048 * h.val + k.val; rw [(at0 n h).1]; omega
  | ⟨1, _⟩ => show win0_0.index (point n h) (1 : Fin 2) * 1024 + 1 * i.val = i.val; rw [(at0 n h).2]; omega
theorem read1 (c : Dev nD) (n : Fin 4) (h : Fin 2) (k : Fin 2048) (j : Fin 1024) :
    iblk m c 1 (point n h) (ix2 k j) = rhs m c (ix2 (row h k) (col n j)) := by
  refine congrArg (rhs m c) (funext fun a => Fin.ext ?_)
  match a with
  | ⟨0, _⟩ => show win0_1.index (point n h) (0 : Fin 2) * 2048 + 1 * k.val = 2048 * h.val + k.val; rw [(at1 n h).1]; omega
  | ⟨1, _⟩ => show win0_1.index (point n h) (1 : Fin 2) * 1024 + 1 * j.val = 1024 * (part n).val + j.val; rw [(at1 n h).2]; omega

/-- The accumulator after both halves of block `n` is the gradient's block. -/
theorem acc_eq (c : Dev nD) (n : Fin 4) (i : Fin 1024) (j : Fin 1024) :
    k0_pay2 (k0_pay2 (k0_pay1 (F := Ideal)) (iblk m c 0 (point n 0)) (iblk m c 1 (point n 0))) (iblk m c 0 (point n 1)) (iblk m c 1 (point n 1)) (ix2 i j)
      = grad (lhs m c) (rhs m c) i (col n j) :=
  (Kernel3Ideal.Grad.acc_apply _ _ _ _ i j).trans (accumulate (lhs m c) (rhs m c) i (col n j) _ _ _ rfl
    (Finset.sum_congr rfl fun k _ => congrArg₂ (· * ·) (read0 m c n 0 k i) (read1 m c n 0 k j))
    (Finset.sum_congr rfl fun k _ => congrArg₂ (· * ·) (read0 m c n 1 k i) (read1 m c n 1 k j)))

theorem at2 : ∀ (n : Fin 4), win0_2.index (point n 1) (0 : Fin 3) = n.val ∧ win0_2.index (point n 1) (1 : Fin 3) = 0
    ∧ win0_2.index (point n 1) (2 : Fin 3) = 0 := by
  decide +kernel
/-- The block of a result written at the second half of block `n`. -/
theorem emb2 (n : Fin 4) (z : Fin 1) (i : Fin 1024) (j : Fin 1024) :
    ((cfg0.win 2).blk (point n 1)).view.emb (ix3 z i j) = (ix3 n i j : S4x1024x1024.Idx) := by
  obtain ⟨e0, e1, e2⟩ := at2 n
  refine funext fun a => Fin.ext ?_
  match a with
  | ⟨0, _⟩ => show win0_2.index (point n 1) (0 : Fin 3) * 1 + 1 * z.val = n.val; omega
  | ⟨1, _⟩ => show win0_2.index (point n 1) (1 : Fin 3) * 1024 + 1 * i.val = i.val; omega
  | ⟨2, _⟩ => show win0_2.index (point n 1) (2 : Fin 3) * 1024 + 1 * j.val = j.val; omega
/-- A point of a second half is the second half of some block. -/
theorem point_of (t : Fin cfg0.N) (h : t.val % 2 = 1) : ∃ n, t = point n 1 :=
  ⟨⟨t.val / 2, by have := lt_of_lt_of_eq t.isLt (show cfg0.N = 8 from N_0); omega⟩, Fin.ext (by show t.val = 2 * (t.val / 2) + 1; omega)⟩

/-- Both results as arrays. -/
def result (c : Dev nD) : FVec Ideal S4x1024x1024 .f32 := fun i => grad (lhs m c) (rhs m c) (i 1) (col (i 0) (i 2))
theorem final2 (c : Dev nD) : (dats m 0 c).arrAt 2 cfg0.N = result m c := by
  refine (dats m 0 c).arrAt_eq_of_covers 2 _ (by decide +kernel) fun t hf y => ?_
  obtain ⟨n, rfl⟩ := point_of t ((flush0_2 t).mp hf)
  obtain ⟨z, i, j, rfl⟩ : ∃ (z : Fin 1) (i : Fin 1024) (j : Fin 1024), y = (ix3 z i j : S1x1024x1024.Idx) := ⟨y 0, y 1, y 2, eq_ix3 y⟩
  refine Eq.trans ?_ (congrArg (result m c) (emb2 n z i j)).symm
  show (dats m 0 c).after 2 (point n 1) (ix3 z i j) = grad (lhs m c) (rhs m c) i (col n j)
  rw [after0_2, (outs m c (point n 1) (point n 0) (by show (2 * n.val + 1) % 2 = 1; omega) rfl).1]
  exact (Kernel3Ideal.Grad.pay3_apply _ z i j).trans (acc_eq m c n i j)
theorem final3 (c : Dev nD) : (dats m 0 c).arrAt 3 cfg0.N = result m c := by
  refine (dats m 0 c).arrAt_eq_of_covers 3 _ (by decide +kernel) fun t hf y => ?_
  obtain ⟨n, rfl⟩ := point_of t ((flush0_3 t).mp hf)
  obtain ⟨z, i, j, rfl⟩ : ∃ (z : Fin 1) (i : Fin 1024) (j : Fin 1024), y = (ix3 z i j : S1x1024x1024.Idx) := ⟨y 0, y 1, y 2, eq_ix3 y⟩
  refine Eq.trans ?_ (congrArg (result m c) (emb2 n z i j)).symm
  show (dats m 0 c).after 3 (point n 1) (ix3 z i j) = grad (lhs m c) (rhs m c) i (col n j)
  rw [after0_3, (outs m c (point n 1) (point n 0) (by show (2 * n.val + 1) % 2 = 1; omega) rfl).2]
  exact (Kernel3Ideal.Grad.pay4_apply _ z i j).trans (acc_eq m c n i j)

end Cert.Kernel6Ideal.Grad

end
-- ==== Proof.RefGrads.lean ====
/-
  The references of the weight gradients: each result, element by element, is the product its kernel leaves.
-/
module

public import proofs.«01_k».proof.Proof.GradFf1
public import proofs.«01_k».proof.Proof.GradOut
public import proofs.«01_k».proof.Proof.GradInEven
public import proofs.«01_k».proof.Proof.GradInOdd
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import Idealize.ShloMosaic.Lib.Pipeline.ValueKit

@[expose] public section

set_option maxRecDepth 16384
set_option maxHeartbeats 1000000

noncomputable section

open Idealize.ShloMosaic hiding ix1 ix2 ix3 ix4 eq_ix2 eq_ix3
open Idealize.ShloMosaic.ValueIdx Idealize.ShloMosaic.Tactic Idealize.SL.Sem Cert.Grad

/-- Two factors swapped, each read at an index of the same coordinates. -/
theorem Cert.Grad.swapped {s t : Shape} (x : s.Idx → EReal) (y : t.Idx → EReal) {i i' : s.Idx} {j j' : t.Idx} (hi : i = i') (hj : j = j') :
    y j * x i = x i' * y j' := by rw [hi, hj, mul_comm]

/-- One of four layers joined, if it is the named function there. -/
theorem Cert.Grad.layer_at (x : (⟨3, ![1, 1024, 1024]⟩ : Shape).Idx → EReal) (g : Fin 4 → EReal) (n : Fin 4) (k : Nat) (hk : k < 4) (i j : Fin 1024)
    (hx : x (ix3 (0 : Fin 1) i j) = g ⟨k, hk⟩) :
    PieceAt (t := (⟨3, ![4, 1024, 1024]⟩ : Shape)) 0 (ix3 n i j) (g n) ⟨3, ![1, 1024, 1024]⟩ x k := fun hn _ q h0 hq => by
  have e : q = (ix3 (0 : Fin 1) i j : (⟨3, ![1, 1024, 1024]⟩ : Shape).Idx) := by
    refine funext fun a => Fin.ext ?_
    match a with
    | ⟨0, _⟩ => exact h0
    | ⟨1, _⟩ => exact hq (1 : Fin 3) (by decide)
    | ⟨2, _⟩ => exact hq (2 : Fin 3) (by decide)
  have en : n = ⟨k, hk⟩ := Fin.ext hn
  rw [e, hx, en]

namespace Cert.Reference2Ideal.Grad

open Cert.Reference2Ideal.Read

theorem result (x : FVec Ideal S4096x1024 .bf16) (y : FVec Ideal S4096x4096 .bf16) (n : Fin 8) (i : Fin 1024) (j : Fin 512) :
    val_main_v7 (F := Ideal) x y (ix3 n i j) = grad x y i (Kernel2Ideal.Grad.col n j) := by
  rw [val_main_v7_apply, val_main_v6_apply, val_main_v5_apply, val_main_v4_apply]
  have hj := j.isLt
  have hn := n.isLt
  have hi := i.isLt
  refine Finset.sum_congr rfl fun k _ => swapped x y (funext fun a => Fin.ext ?_) (funext fun a => Fin.ext ?_)
  · match a with
    | ⟨0, _⟩ => rfl
    | ⟨1, _⟩ => show ((i.val * 8 + n.val) * 512 + j.val) / 4096 = i.val; omega
  · match a with
    | ⟨0, _⟩ => rfl
    | ⟨1, _⟩ => show ((i.val * 8 + n.val) * 512 + j.val) % 4096 = 512 * n.val + j.val; omega

end Cert.Reference2Ideal.Grad

namespace Cert.Reference3Ideal.Grad

open Cert.Reference3Ideal.Read

theorem result (x : FVec Ideal S4096x4096 .bf16) (y : FVec Ideal S4096x1024 .bf16) (n : Fin 4) (i j : Fin 1024) :
    val_main_v6 (F := Ideal) x y (ix3 n i j) = grad x y (Kernel3Ideal.Grad.col n i) j := by
  rw [val_main_v6_apply, val_main_v5_apply, val_main_v4_apply]
  have hj := j.isLt
  have hn := n.isLt
  have hi := i.isLt
  refine Finset.sum_congr rfl fun k _ => swapped x y (funext fun a => Fin.ext ?_) (funext fun a => Fin.ext ?_)
  · match a with
    | ⟨0, _⟩ => rfl
    | ⟨1, _⟩ => show ((n.val * 1024 + i.val) * 1024 + j.val) / 1024 = 1024 * n.val + i.val; omega
  · match a with
    | ⟨0, _⟩ => rfl
    | ⟨1, _⟩ => show ((n.val * 1024 + i.val) * 1024 + j.val) % 1024 = j.val; omega

end Cert.Reference3Ideal.Grad

namespace Cert.Reference4Ideal.Grad

open Cert.Reference4Ideal.Read

theorem product (x y : FVec Ideal S4096x1024 .bf16) (i j : Fin 1024) : val_main_v5 (F := Ideal) x y (ix2 i j) = grad x y i j := by
  rw [val_main_v5_apply, val_main_v4_apply]
  refine Finset.sum_congr rfl fun k _ => swapped x y (funext fun a => Fin.ext ?_) (funext fun a => Fin.ext ?_)
  all_goals match a with
    | ⟨0, _⟩ => rfl
    | ⟨1, _⟩ => rfl

theorem result (x y : FVec Ideal S4096x1024 .bf16) (n : Fin 1) (i j : Fin 1024) : val_main_v6 (F := Ideal) x y (ix3 n i j) = grad x y i j := by
  rw [val_main_v6_apply]
  exact (congrArg (val_main_v5 (F := Ideal) x y) (funext fun a => Fin.ext (by match a with | ⟨0, _⟩ => rfl | ⟨1, _⟩ => rfl))).trans (product x y i j)

end Cert.Reference4Ideal.Grad

namespace Cert.Reference5Ideal.Grad

open Cert.Reference5Ideal.Read

theorem product (x : FVec Ideal S4096x1024 .bf16) (y : FVec Ideal S4096x8192 .bf16) (i : Fin 1024) (q : Fin 8192) :
    val_main_v5 (F := Ideal) x y (ix2 i q) = grad x y i q := by
  rw [val_main_v5_apply, val_main_v4_apply]
  refine Finset.sum_congr rfl fun k _ => swapped x y (funext fun a => Fin.ext ?_) (funext fun a => Fin.ext ?_)
  all_goals match a with
    | ⟨0, _⟩ => rfl
    | ⟨1, _⟩ => rfl

/-- A block of the product's columns. -/
theorem part (x : FVec Ideal S4096x1024 .bf16) (y : FVec Ideal S4096x8192 .bf16) (n : Fin 4) (i j : Fin 1024) (q : S1024x8192.Idx)
    (h0 : (q 0).val = i.val) (h1 : (q 1).val = (Kernel5Ideal.Grad.col n j).val) :
    val_main_v5 (F := Ideal) x y q = grad x y i (Kernel5Ideal.Grad.col n j) :=
  (congrArg (val_main_v5 (F := Ideal) x y) (funext fun a => Fin.ext (by match a with | ⟨0, _⟩ => exact h0 | ⟨1, _⟩ => exact h1))).trans
    (product x y i (Kernel5Ideal.Grad.col n j))

theorem result (x : FVec Ideal S4096x1024 .bf16) (y : FVec Ideal S4096x8192 .bf16) (n : Fin 4) (i j : Fin 1024) :
    val_main_v14 (F := Ideal) x y (ix3 n i j) = grad x y i (Kernel5Ideal.Grad.col n j) := by
  unfold val_main_v14
  refine concatenate_unit_eq (t := S4x1024x1024) 0 _ _ (ix3 n i j) _ rfl
    ⟨layer_at _ (fun n => grad x y i (Kernel5Ideal.Grad.col n j)) n 0 (by decide) i j ?_, layer_at _ (fun n => grad x y i (Kernel5Ideal.Grad.col n j)) n 1 (by decide) i j ?_,
      layer_at _ (fun n => grad x y i (Kernel5Ideal.Grad.col n j)) n 2 (by decide) i j ?_, layer_at _ (fun n => grad x y i (Kernel5Ideal.Grad.col n j)) n 3 (by decide) i j ?_, trivial⟩
  · exact (val_main_v10_apply ..).trans ((val_main_v6_apply ..).trans (part x y 0 i j _ rfl rfl))
  · exact (val_main_v11_apply ..).trans ((val_main_v7_apply ..).trans (part x y 1 i j _ rfl rfl))
  · exact (val_main_v12_apply ..).trans ((val_main_v8_apply ..).trans (part x y 2 i j _ rfl rfl))
  · exact (val_main_v13_apply ..).trans ((val_main_v9_apply ..).trans (part x y 3 i j _ rfl rfl))

end Cert.Reference5Ideal.Grad

namespace Cert.Reference6Ideal.Grad

open Cert.Reference6Ideal.Read

theorem product (x : FVec Ideal S4096x1024 .bf16) (y : FVec Ideal S4096x8192 .bf16) (i : Fin 1024) (q : Fin 8192) :
    val_main_v5 (F := Ideal) x y (ix2 i q) = grad x y i q := by
  rw [val_main_v5_apply, val_main_v4_apply]
  refine Finset.sum_congr rfl fun k _ => swapped x y (funext fun a => Fin.ext ?_) (funext fun a => Fin.ext ?_)
  all_goals match a with
    | ⟨0, _⟩ => rfl
    | ⟨1, _⟩ => rfl

/-- A block of the product's columns. -/
theorem part (x : FVec Ideal S4096x1024 .bf16) (y : FVec Ideal S4096x8192 .bf16) (n : Fin 4) (i j : Fin 1024) (q : S1024x8192.Idx)
    (h0 : (q 0).val = i.val) (h1 : (q 1).val = (Kernel6Ideal.Grad.col n j).val) :
    val_main_v5 (F := Ideal) x y q = grad x y i (Kernel6Ideal.Grad.col n j) :=
  (congrArg (val_main_v5 (F := Ideal) x y) (funext fun a => Fin.ext (by match a with | ⟨0, _⟩ => exact h0 | ⟨1, _⟩ => exact h1))).trans
    (product x y i (Kernel6Ideal.Grad.col n j))

theorem result (x : FVec Ideal S4096x1024 .bf16) (y : FVec Ideal S4096x8192 .bf16) (n : Fin 4) (i j : Fin 1024) :
    val_main_v14 (F := Ideal) x y (ix3 n i j) = grad x y i (Kernel6Ideal.Grad.col n j) := by
  unfold val_main_v14
  refine concatenate_unit_eq (t := S4x1024x1024) 0 _ _ (ix3 n i j) _ rfl
    ⟨layer_at _ (fun n => grad x y i (Kernel6Ideal.Grad.col n j)) n 0 (by decide) i j ?_, layer_at _ (fun n => grad x y i (Kernel6Ideal.Grad.col n j)) n 1 (by decide) i j ?_,
      layer_at _ (fun n => grad x y i (Kernel6Ideal.Grad.col n j)) n 2 (by decide) i j ?_, layer_at _ (fun n => grad x y i (Kernel6Ideal.Grad.col n j)) n 3 (by decide) i j ?_, trivial⟩
  · exact (val_main_v10_apply ..).trans ((val_main_v6_apply ..).trans (part x y 0 i j _ rfl rfl))
  · exact (val_main_v11_apply ..).trans ((val_main_v7_apply ..).trans (part x y 1 i j _ rfl (Nat.zero_add j.val).symm))
  · exact (val_main_v12_apply ..).trans ((val_main_v8_apply ..).trans (part x y 2 i j _ rfl rfl))
  · exact (val_main_v13_apply ..).trans ((val_main_v9_apply ..).trans (part x y 3 i j _ rfl rfl))

end Cert.Reference6Ideal.Grad
-- ==== Proof.GradClaims.lean ====
/-
  The weight gradients' claims: the frames of the kernels and the references, and that a kernel and its reference leave the same results.
-/
module

public import proofs.«01_k».proof.Defs
public import proofs.«01_k».proof.Proof.RefGrads
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run

@[expose] public section

set_option maxRecDepth 16384
set_option maxHeartbeats 1000000

noncomputable section

namespace Cert.GradClaims

open Idealize.ShloMosaic hiding ix1 ix2 ix3 ix4 eq_ix2 eq_ix3
open Idealize.ShloMosaic.ValueIdx Idealize.ShloMosaic.Tactic Idealize.SL.Sem Cert.Grad

/-! ## The references' runs leave the arguments and the semaphores as they were -/

theorem reference2 [Reference2Ideal.Facts] : quiescent_Reference2Ideal := fun m ρ _ =>
  (θ_run (Reference2Ideal.defs (F := Ideal)) _ _).mono (fun r h => ⟨fun c => (h c).2.2, sem_eq_zero_of_no_sems rfl r.2⟩)
    (Reference2Ideal.Value.run m ρ)

theorem reference3 [Reference3Ideal.Facts] : quiescent_Reference3Ideal := fun m ρ _ =>
  (θ_run (Reference3Ideal.defs (F := Ideal)) _ _).mono (fun r h => ⟨fun c => (h c).2.2, sem_eq_zero_of_no_sems rfl r.2⟩)
    (Reference3Ideal.Value.run m ρ)

theorem reference4 [Reference4Ideal.Facts] : quiescent_Reference4Ideal := fun m ρ _ =>
  (θ_run (Reference4Ideal.defs (F := Ideal)) _ _).mono (fun r h => ⟨fun c => (h c).2.2, sem_eq_zero_of_no_sems rfl r.2⟩)
    (Reference4Ideal.Value.run m ρ)

theorem reference5 [Reference5Ideal.Facts] : quiescent_Reference5Ideal := fun m ρ _ =>
  (θ_run (Reference5Ideal.defs (F := Ideal)) _ _).mono (fun r h => ⟨fun c => (h c).2.2, sem_eq_zero_of_no_sems rfl r.2⟩)
    (Reference5Ideal.Value.run m ρ)

theorem reference6 [Reference6Ideal.Facts] : quiescent_Reference6Ideal := fun m ρ _ =>
  (θ_run (Reference6Ideal.defs (F := Ideal)) _ _).mono (fun r h => ⟨fun c => (h c).2.2, sem_eq_zero_of_no_sems rfl r.2⟩)
    (Reference6Ideal.Value.run m ρ)

/-! ## The results -/

theorem same2 (m : (ℓ : Loc Kernel2Ideal.nD Kernel2Ideal.τ Kernel2Ideal.sig) → Buf (Elt Ideal) ℓ) (c : Dev Kernel2Ideal.nD) :
    Reference2Ideal.Read.val_main_v7 (F := Ideal) (Kernel2Ideal.Grad.lhs m c) (Kernel2Ideal.Grad.rhs m c) = Kernel2Ideal.Grad.result m c :=
  funext fun i => (congrArg _ (eq_ix3 i)).trans (Reference2Ideal.Grad.result _ _ (i 0) (i 1) (i 2))

theorem algebraic2 [Kernel2Ideal.Facts] [Reference2Ideal.Facts] : algebraic_Kernel2Ideal_Reference2Ideal := by
  intro m g m' g' _ same
  refine ⟨fun c => Kernel2Ideal.Grad.result m c, fun c => Kernel2Ideal.Grad.result m c, ?_, ?_⟩
  · exact (θ_run Kernel2Ideal.defs _ _).mono (fun r h c => ⟨(h c).1.trans (Kernel2Ideal.Grad.G2_eq m c), (h c).2.1.trans (Kernel2Ideal.Grad.G3_eq m c), (h c).2.2⟩) (Kernel2Ideal.Value.run m g)
  · refine (θ_run Reference2Ideal.defs _ _).mono (fun r h c => ⟨?_, ?_, (h c).2.2⟩) (Reference2Ideal.Value.run m' g')
    · refine (h c).1.trans ((Reference2Ideal.Read.val_main_v7_eq (F := Ideal) _ _).trans ?_)
      rw [(same c).1, (same c).2]
      exact same2 m c
    · refine (h c).2.1.trans ((Reference2Ideal.Read.val_main_v8_eq (F := Ideal) _ _).trans ?_)
      rw [(same c).1, (same c).2]
      exact same2 m c

theorem same3 (m : (ℓ : Loc Kernel3Ideal.nD Kernel3Ideal.τ Kernel3Ideal.sig) → Buf (Elt Ideal) ℓ) (c : Dev Kernel3Ideal.nD) :
    Reference3Ideal.Read.val_main_v6 (F := Ideal) (Kernel3Ideal.Grad.lhs m c) (Kernel3Ideal.Grad.rhs m c) = Kernel3Ideal.Grad.result m c :=
  funext fun i => (congrArg _ (eq_ix3 i)).trans (Reference3Ideal.Grad.result _ _ (i 0) (i 1) (i 2))

theorem algebraic3 [Kernel3Ideal.Facts] [Reference3Ideal.Facts] : algebraic_Kernel3Ideal_Reference3Ideal := by
  intro m g m' g' _ same
  refine ⟨fun c => Kernel3Ideal.Grad.result m c, fun c => Kernel3Ideal.Grad.result m c, ?_, ?_⟩
  · exact (θ_run Kernel3Ideal.defs _ _).mono (fun r h c => ⟨(h c).1.trans (Kernel3Ideal.Grad.G2_eq m c), (h c).2.1.trans (Kernel3Ideal.Grad.G3_eq m c), (h c).2.2⟩) (Kernel3Ideal.Value.run m g)
  · refine (θ_run Reference3Ideal.defs _ _).mono (fun r h c => ⟨?_, ?_, (h c).2.2⟩) (Reference3Ideal.Value.run m' g')
    · refine (h c).1.trans ((Reference3Ideal.Read.val_main_v6_eq (F := Ideal) _ _).trans ?_)
      rw [(same c).1, (same c).2]
      exact same3 m c
    · refine (h c).2.1.trans ((Reference3Ideal.Read.val_main_v7_eq (F := Ideal) _ _).trans ?_)
      rw [(same c).1, (same c).2]
      exact same3 m c

theorem same4 (m : (ℓ : Loc Kernel4Ideal.nD Kernel4Ideal.τ Kernel4Ideal.sig) → Buf (Elt Ideal) ℓ) (c : Dev Kernel4Ideal.nD) :
    Reference4Ideal.Read.val_main_v6 (F := Ideal) (Kernel4Ideal.Grad.lhs m c) (Kernel4Ideal.Grad.rhs m c) = Kernel4Ideal.Grad.result m c :=
  funext fun i => (congrArg _ (eq_ix3 i)).trans (Reference4Ideal.Grad.result _ _ (i 0) (i 1) (i 2))

theorem algebraic4 [Kernel4Ideal.Facts] [Reference4Ideal.Facts] : algebraic_Kernel4Ideal_Reference4Ideal := by
  intro m g m' g' _ same
  refine ⟨fun c => Kernel4Ideal.Grad.result m c, fun c => Kernel4Ideal.Grad.result m c, ?_, ?_⟩
  · exact (θ_run Kernel4Ideal.defs _ _).mono (fun r h c => ⟨(h c).1.trans (Kernel4Ideal.Grad.G2_eq m c), (h c).2.1.trans (Kernel4Ideal.Grad.G3_eq m c), (h c).2.2⟩) (Kernel4Ideal.Value.run m g)
  · refine (θ_run Reference4Ideal.defs _ _).mono (fun r h c => ⟨?_, ?_, (h c).2.2⟩) (Reference4Ideal.Value.run m' g')
    · refine (h c).1.trans ((Reference4Ideal.Read.val_main_v6_eq (F := Ideal) _ _).trans ?_)
      rw [(same c).1, (same c).2]
      exact same4 m c
    · refine (h c).2.1.trans ((Reference4Ideal.Read.val_main_v8_eq (F := Ideal) _ _).trans ?_)
      rw [(same c).1, (same c).2]
      exact same4 m c

theorem same5 (m : (ℓ : Loc Kernel5Ideal.nD Kernel5Ideal.τ Kernel5Ideal.sig) → Buf (Elt Ideal) ℓ) (c : Dev Kernel5Ideal.nD) :
    Reference5Ideal.Read.val_main_v14 (F := Ideal) (Kernel5Ideal.Grad.lhs m c) (Kernel5Ideal.Grad.rhs m c) = Kernel5Ideal.Grad.result m c :=
  funext fun i => (congrArg _ (eq_ix3 i)).trans (Reference5Ideal.Grad.result _ _ (i 0) (i 1) (i 2))

theorem algebraic5 [Kernel5Ideal.Facts] [Reference5Ideal.Facts] : algebraic_Kernel5Ideal_Reference5Ideal := by
  intro m g m' g' _ same
  refine ⟨fun c => Kernel5Ideal.Grad.result m c, fun c => Kernel5Ideal.Grad.result m c, ?_, ?_⟩
  · exact (θ_run Kernel5Ideal.defs _ _).mono (fun r h c => ⟨(h c).1.trans (Kernel5Ideal.Grad.G2_eq m c), (h c).2.1.trans (Kernel5Ideal.Grad.G3_eq m c), (h c).2.2⟩) (Kernel5Ideal.Value.run m g)
  · refine (θ_run Reference5Ideal.defs _ _).mono (fun r h c => ⟨?_, ?_, (h c).2.2⟩) (Reference5Ideal.Value.run m' g')
    · refine (h c).1.trans ((Reference5Ideal.Read.val_main_v14_eq (F := Ideal) _ _).trans ?_)
      rw [(same c).1, (same c).2]
      exact same5 m c
    · refine (h c).2.1.trans ((Reference5Ideal.Read.val_main_v15_eq (F := Ideal) _ _).trans ?_)
      rw [(same c).1, (same c).2]
      exact same5 m c

theorem same6 (m : (ℓ : Loc Kernel6Ideal.nD Kernel6Ideal.τ Kernel6Ideal.sig) → Buf (Elt Ideal) ℓ) (c : Dev Kernel6Ideal.nD) :
    Reference6Ideal.Read.val_main_v14 (F := Ideal) (Kernel6Ideal.Grad.lhs m c) (Kernel6Ideal.Grad.rhs m c) = Kernel6Ideal.Grad.result m c :=
  funext fun i => (congrArg _ (eq_ix3 i)).trans (Reference6Ideal.Grad.result _ _ (i 0) (i 1) (i 2))

theorem algebraic6 [Kernel6Ideal.Facts] [Reference6Ideal.Facts] : algebraic_Kernel6Ideal_Reference6Ideal := by
  intro m g m' g' _ same
  refine ⟨fun c => Kernel6Ideal.Grad.result m c, fun c => Kernel6Ideal.Grad.result m c, ?_, ?_⟩
  · exact (θ_run Kernel6Ideal.defs _ _).mono (fun r h c => ⟨(h c).1.trans (Kernel6Ideal.Grad.final2 m c), (h c).2.1.trans (Kernel6Ideal.Grad.final3 m c), (h c).2.2⟩) (Kernel6Ideal.Value.run_blocks m g)
  · refine (θ_run Reference6Ideal.defs _ _).mono (fun r h c => ⟨?_, ?_, (h c).2.2⟩) (Reference6Ideal.Value.run m' g')
    · refine (h c).1.trans ((Reference6Ideal.Read.val_main_v14_eq (F := Ideal) _ _).trans ?_)
      rw [(same c).1, (same c).2.1]
      exact same6 m c
    · refine (h c).2.1.trans ((Reference6Ideal.Read.val_main_v15_eq (F := Ideal) _ _).trans ?_)
      rw [(same c).1, (same c).2.1]
      exact same6 m c

end Cert.GradClaims
-- ==== Proof.InSpec.lean ====
/-
  The input projection's backward pass on one row: the gradient of the modulated norm's output, what reaches the row
  itself, and the row's shares of the gradients of the norm's gain, the scale and the shift.
-/
module

public import proofs.«01_k».proof.Proof.Spec

@[expose] public section

noncomputable section

namespace Cert.In

open Idealize.ShloMosaic Cert.Mix
open scoped BigOperators

/-- Which eighth of the projection the `k`-th eighth of the gradient's columns is of. -/
def split : Fin 8 → Fin 8 := ![3, 6, 7, 0, 1, 2, 4, 5]
/-- Column `q` of the `k`-th eighth. -/
def at8 (k : Fin 8) (q : Fin 1024) : Fin 8192 := ⟨1024 * k.val + q.val, by omega⟩

/-- The gradient of the modulated norm's output: the projection's gradient through its weights. -/
def dh (p : Fin 8192 → EReal) (w : Fin 8 → Fin 1024 → Fin 1024 → EReal) : Row := fun j => ∑ k, ∑ q, p (at8 k q) * w (split k) j q
/-- … of the normed row. -/
def dn (g sc d : Row) : Row := fun j => d j * (one + sc j) * g j
/-- The row's gradient: what reaches it past the projection, and through it. -/
def gx (x dx g sc d : Row) : Row := fun j => dx j + back c1024 x (dn g sc d) j
/-- The row's shares: of the gain, the scale and the shift. -/
def share3 (x g sc d : Row) (r : Fin 8) : Row := fun j =>
  if r.val = 2 then d j
  else if r.val = 1 then x j * inv c1024 x * g j * d j
  else if r.val = 0 then x j * inv c1024 x * (d j * (one + sc j))
  else 0

/-- A sum over the rows, tile by tile. -/
theorem sum_tiles (f : Fin 4096 → EReal) :
    ∑ t ∈ Finset.range 8, ∑ i : Fin 512, f ⟨512 * (t ⊓ 7) + i.val, by omega⟩ = ∑ r, f r := by
  rw [Finset.sum_range, ← Equiv.sum_comp (finProdFinEquiv (m := 8) (n := 512)) f, Fintype.sum_prod_type]
  refine Finset.sum_congr rfl fun t _ => Finset.sum_congr rfl fun i _ => congrArg f (Fin.ext ?_)
  show 512 * (t.val ⊓ 7) + i.val = i.val + 512 * t.val
  omega

end Cert.In

end
-- ==== Proof.InTile.lean ====
/-
  The input projection's backward call, one tile: what its body leaves in the two results' blocks, as terms of the tile's
  arguments and of the sums that the tile finds.
-/
module

public import proofs.«01_k».proof.Proof.Spec
public import proofs.«01_k».proof.Proof.Reads
public import proofs.«01_k».proof.Proof.Gen.Kernel7Ideal.Value
public import Idealize.ShloMosaic.Lib.Pipeline.Value
public import Idealize.ShloMosaic.Lib.Pipeline.ValueKit
public import Idealize.ShloMosaic.Lib.WritesUnit
public import Idealize.ShloMosaic.Lib.VecWindow

@[expose] public section

set_option maxRecDepth 16384
set_option maxHeartbeats 1000000

noncomputable section

namespace Cert.Kernel7Ideal.In

open Idealize.ShloMosaic hiding ix1 ix2 ix3 ix4 eq_ix2 eq_ix3
open Idealize.ShloMosaic.ValueIdx Idealize.ShloMosaic.Tactic Idealize.SL.Sem Cert.Mix
open Cert.Kernel7Ideal.Gen
open scoped BigOperators

variable {F : FTy → Type} [FloatOps F]

theorem hz : (![0, 0] : Fin 2 → ℕ) = fun _ => 0 := funext fun a => by match a with | ⟨0, _⟩ => rfl | ⟨1, _⟩ => rfl

/-- The gradient of the modulated norm's output. -/
def dht (x0 : Vec F S512x8192 .bf16) (x1 : Vec F S8x1024x1024 .bf16) : FVec F S512x1024 .f32 :=
  k0_pay5 (k0_pay4 (View.ld x0 (Rect.unit (s := S512x8192) ![0, 0] S512x1024.size inb_S512x8192_S512x1024_0_0)) (View.ld x1 (Rect.unit (s := S8x1024x1024) ![3, 0, 0] S1x1024x1024.size inb_S8x1024x1024_S1x1024x1024_3_0_0)) (View.ld x0 (Rect.unit (s := S512x8192) ![0, 1024] S512x1024.size inb_S512x8192_S512x1024_0_1024)) (View.ld x1 (Rect.unit (s := S8x1024x1024) ![6, 0, 0] S1x1024x1024.size inb_S8x1024x1024_S1x1024x1024_6_0_0)) (View.ld x0 (Rect.unit (s := S512x8192) ![0, 2048] S512x1024.size inb_S512x8192_S512x1024_0_2048)) (View.ld x1 (Rect.unit (s := S8x1024x1024) ![7, 0, 0] S1x1024x1024.size inb_S8x1024x1024_S1x1024x1024_7_0_0)) (View.ld x0 (Rect.unit (s := S512x8192) ![0, 3072] S512x1024.size inb_S512x8192_S512x1024_0_3072)) (View.ld x1 (Rect.unit (s := S8x1024x1024) ![0, 0, 0] S1x1024x1024.size inb_S8x1024x1024_S1x1024x1024_0_0_0)))
    (View.ld x0 (Rect.unit (s := S512x8192) ![0, 4096] S512x1024.size inb_S512x8192_S512x1024_0_4096)) (View.ld x1 (Rect.unit (s := S8x1024x1024) ![1, 0, 0] S1x1024x1024.size inb_S8x1024x1024_S1x1024x1024_1_0_0)) (View.ld x0 (Rect.unit (s := S512x8192) ![0, 5120] S512x1024.size inb_S512x8192_S512x1024_0_5120)) (View.ld x1 (Rect.unit (s := S8x1024x1024) ![2, 0, 0] S1x1024x1024.size inb_S8x1024x1024_S1x1024x1024_2_0_0)) (View.ld x0 (Rect.unit (s := S512x8192) ![0, 6144] S512x1024.size inb_S512x8192_S512x1024_0_6144)) (View.ld x1 (Rect.unit (s := S8x1024x1024) ![4, 0, 0] S1x1024x1024.size inb_S8x1024x1024_S1x1024x1024_4_0_0)) (View.ld x0 (Rect.unit (s := S512x8192) ![0, 7168] S512x1024.size inb_S512x8192_S512x1024_0_7168)) (View.ld x1 (Rect.unit (s := S8x1024x1024) ![5, 0, 0] S1x1024x1024.size inb_S8x1024x1024_S1x1024x1024_5_0_0))

/-- A row of the sums, as loaded. -/
def sumRow (s : Vec F S8x1024 .f32) (r : Nat) (inb : ∀ a : Fin 2, (![r, 0] : Fin 2 → ℕ) a + S1x1024.size a ≤ S8x1024.size a) : Vec F S1x1024 .f32 :=
  View.ld s (Rect.unit (s := S8x1024) ![r, 0] S1x1024.size inb)

/-- The sums with the tile's share added, and the rows past the third as found. -/
def sums (x0 : Vec F S512x8192 .bf16) (x1 : Vec F S8x1024x1024 .bf16) (x2 : Vec F S512x1024 .f32) (x4 x5 : Vec F S1x1024 .f32) (s : Vec F S8x1024 .f32)
    (r : Fin 8) (j : Fin 1024) : Elt F .f32 :=
  if r.val = 2 then k0_pay2 (k0_pay11 (dht x0 x1)) (sumRow s 2 inb_S8x1024_S1x1024_2_0) (ix2 0 j)
  else if r.val = 1 then k0_pay1 (k0_pay12 (dht x0 x1) x2 x4 (k0_pay7 x2)) (sumRow s 1 inb_S8x1024_S1x1024_1_0) (ix2 0 j)
  else if r.val = 0 then k0_pay15 (dht x0 x1) x2 x5 (k0_pay7 x2) (sumRow s 0 inb_S8x1024_S1x1024_0_0) (ix2 0 j)
  else s (ix2 r j)

/-- Three rows stored over what was there. -/
theorem three_rows (v : View sig .tc .vmem S8x1024 .f32) (f : v.ty.Contents (Elt F)) (w2 w1 w0 : Vec F S1x1024 .f32)
    (i2 i1 i0) (L : List (View.Piece (Elt F) S8x1024 .f32)) (r : Fin 8) (j : Fin 1024) :
    v.read (Elt F) (v.writes (Elt F) f (⟨Rect.unit (s := S8x1024) ![2, 0] S1x1024.size i2, w2⟩ ::
      ⟨Rect.unit (s := S8x1024) ![1, 0] S1x1024.size i1, w1⟩ :: ⟨Rect.unit (s := S8x1024) ![0, 0] S1x1024.size i0, w0⟩ :: L)) (ix2 r j)
      = if r.val = 2 then w2 (ix2 0 j) else if r.val = 1 then w1 (ix2 0 j) else if r.val = 0 then w0 (ix2 0 j)
        else v.read (Elt F) (v.writes (Elt F) f L) (ix2 r j) := by
  by_cases h2 : r.val = 2
  · rw [if_pos h2]
    exact View.read_writes_cons_rows_of_mem v f i2 w2 _ (ix2 r j) (ix2 (0 : Fin 1) j) rfl h2 rfl
  rw [if_neg h2]
  refine (View.read_writes_cons_rows_of_not_mem v f (W := 1) i2 w2 _ (ix2 r j) rfl rfl (by show r.val < 2 ∨ 2 + 1 ≤ r.val; omega)).trans ?_
  by_cases h1 : r.val = 1
  · rw [if_pos h1]
    exact View.read_writes_cons_rows_of_mem v f i1 w1 _ (ix2 r j) (ix2 (0 : Fin 1) j) rfl h1 rfl
  rw [if_neg h1]
  refine (View.read_writes_cons_rows_of_not_mem v f (W := 1) i1 w1 _ (ix2 r j) rfl rfl (by show r.val < 1 ∨ 1 + 1 ≤ r.val; omega)).trans ?_
  by_cases h0 : r.val = 0
  · rw [if_pos h0]
    exact View.read_writes_cons_rows_of_mem v f i0 w0 _ (ix2 r j) (ix2 (0 : Fin 1) j) rfl h0 rfl
  rw [if_neg h0]
  exact View.read_writes_cons_rows_of_not_mem v f (W := 1) i0 w0 _ (ix2 r j) rfl rfl (by show r.val < 0 ∨ 0 + 1 ≤ r.val; omega)

/-- A row's load passes over stores of other rows. -/
theorem load_past (v : View sig .tc .vmem S8x1024 .f32) (p r : Nat) (hpr : p ≠ r) (w : Vec F S1x1024 .f32) (ip ir) (L : List (View.Piece (Elt F) S8x1024 .f32)) :
    v.readCov (⟨Rect.unit (s := S8x1024) ![p, 0] S1x1024.size ip, w⟩ :: L) (Rect.unit (s := S8x1024) ![r, 0] S1x1024.size ir).toLoadRect
      = v.readCov L (Rect.unit (s := S8x1024) ![r, 0] S1x1024.size ir).toLoadRect := by
  refine funext fun y => ?_
  exact View.read_writes_cons_rows_of_not_mem v _ (W := 1) ip w L _ rfl rfl (by
    have h : (y (0 : Fin 2)).val < 1 := (y (0 : Fin 2)).isLt
    show r + 1 * (y (0 : Fin 2)).val < p ∨ p + 1 ≤ r + 1 * (y (0 : Fin 2)).val
    omega)
/-- A row's load of the freshly filled block. -/
theorem load_fill (v : View sig .tc .vmem S8x1024 .f32) (r : Nat) (z : Vec F S8x1024 .f32) (iz ir) :
    v.readCov [⟨Rect.unit (s := S8x1024) ![0, 0] S8x1024.size iz, z⟩] (Rect.unit (s := S8x1024) ![r, 0] S1x1024.size ir).toLoadRect
      = sumRow z r ir := by
  refine funext fun y => ?_
  exact congrFun (View.read_writes_full v v.junk iz z []) _

theorem grad_B (c : Dev nD) (i : grid0.Coords) (a1 : Memref sig .tc .vmem S512x8192 .bf16) (h1 : a1.IsWhole) (a2 : Memref sig .tc .vmem S8x1024x1024 .bf16) (h2 : a2.IsWhole)
    (a3 : Memref sig .tc .vmem S512x1024 .f32) (h3 : a3.IsWhole) (a4 : Memref sig .tc .vmem S512x1024 .f32) (h4 : a4.IsWhole)
    (a5 : Memref sig .tc .vmem S1x1024 .f32) (h5 : a5.IsWhole) (a6 : Memref sig .tc .vmem S1x1024 .f32) (h6 : a6.IsWhole) (a7 : Memref sig .tc .vmem S1x1024 .f32) (h7 : a7.IsWhole)
    (a8 : Memref sig .tc .vmem S512x1024 .f32) (h8 : a8.IsWhole) (a9 : Memref sig .tc .vmem S8x1024 .f32) (h9 : a9.IsWhole) (e0)
    (x0 : Vec F S512x8192 .bf16) (x1 : Vec F S8x1024x1024 .bf16) (x2 x3 : Vec F S512x1024 .f32) (x4 x5 x6 : Vec F S1x1024 .f32) (s : Vec F S8x1024 .f32) :
    out0_B_7 c i a1 h1 a2 h2 a3 h3 a4 h4 a5 h5 a6 h6 a7 h7 a8 h8 a9 h9 e0 x0 x1 x2 x3 x4 x5 x6 s = k0_pay14 (dht x0 x1) x2 x4 x5 (k0_pay7 x2) (k0_pay8 x2) (k0_pay9 (F := F)) x3 := by
  unfold out0_B_7
  rw [View.read_writes_eq_canon _ _ _ (cover0_B_7 c i a1 h1 a2 h2 a3 h3 a4 h4 a5 h5 a6 h6 a7 h7 a8 h8 a9 h9 e0 x0 x1 x2 x3 x4 x5 x6 s)]
  unfold kernelRun0_B
  dsimp only
  sl_unfold_words
  rw [View.canon_unit_zero (S := S512x1024) hz]
  simp only [View.readAt_eq_ld, h1.read_unread, h2.read_unread, h3.read_unread, h4.read_unread, h5.read_unread, h6.read_unread,
    View.ld_unit_zero (S := S512x1024) hz, View.ld_unit_zero (S := S1x1024) hz]
  rfl

theorem grad_A (c : Dev nD) (i : grid0.Coords) (a1 : Memref sig .tc .vmem S512x8192 .bf16) (h1 : a1.IsWhole) (a2 : Memref sig .tc .vmem S8x1024x1024 .bf16) (h2 : a2.IsWhole)
    (a3 : Memref sig .tc .vmem S512x1024 .f32) (h3 : a3.IsWhole) (a4 : Memref sig .tc .vmem S512x1024 .f32) (h4 : a4.IsWhole)
    (a5 : Memref sig .tc .vmem S1x1024 .f32) (h5 : a5.IsWhole) (a6 : Memref sig .tc .vmem S1x1024 .f32) (h6 : a6.IsWhole) (a7 : Memref sig .tc .vmem S1x1024 .f32) (h7 : a7.IsWhole)
    (a8 : Memref sig .tc .vmem S512x1024 .f32) (h8 : a8.IsWhole) (a9 : Memref sig .tc .vmem S8x1024 .f32) (h9 : a9.IsWhole) (e0)
    (x0 : Vec F S512x8192 .bf16) (x1 : Vec F S8x1024x1024 .bf16) (x2 x3 : Vec F S512x1024 .f32) (x4 x5 x6 : Vec F S1x1024 .f32) :
    out0_A_7 c i a1 h1 a2 h2 a3 h3 a4 h4 a5 h5 a6 h6 a7 h7 a8 h8 a9 h9 e0 x0 x1 x2 x3 x4 x5 x6 = k0_pay14 (dht x0 x1) x2 x4 x5 (k0_pay7 x2) (k0_pay8 x2) (k0_pay9 (F := F)) x3 := by
  unfold out0_A_7
  rw [View.read_writes_eq_canon _ _ _ (cover0_A_7 c i a1 h1 a2 h2 a3 h3 a4 h4 a5 h5 a6 h6 a7 h7 a8 h8 a9 h9 e0 x0 x1 x2 x3 x4 x5 x6)]
  unfold kernelRun0_A
  dsimp only
  sl_unfold_words
  rw [View.canon_unit_zero (S := S512x1024) hz]
  simp only [View.readAt_eq_ld, h1.read_unread, h2.read_unread, h3.read_unread, h4.read_unread, h5.read_unread, h6.read_unread,
    View.ld_unit_zero (S := S512x1024) hz, View.ld_unit_zero (S := S1x1024) hz]
  rfl

theorem sums_B (c : Dev nD) (i : grid0.Coords) (a1 : Memref sig .tc .vmem S512x8192 .bf16) (h1 : a1.IsWhole) (a2 : Memref sig .tc .vmem S8x1024x1024 .bf16) (h2 : a2.IsWhole)
    (a3 : Memref sig .tc .vmem S512x1024 .f32) (h3 : a3.IsWhole) (a4 : Memref sig .tc .vmem S512x1024 .f32) (h4 : a4.IsWhole)
    (a5 : Memref sig .tc .vmem S1x1024 .f32) (h5 : a5.IsWhole) (a6 : Memref sig .tc .vmem S1x1024 .f32) (h6 : a6.IsWhole) (a7 : Memref sig .tc .vmem S1x1024 .f32) (h7 : a7.IsWhole)
    (a8 : Memref sig .tc .vmem S512x1024 .f32) (h8 : a8.IsWhole) (a9 : Memref sig .tc .vmem S8x1024 .f32) (h9 : a9.IsWhole) (e0)
    (x0 : Vec F S512x8192 .bf16) (x1 : Vec F S8x1024x1024 .bf16) (x2 x3 : Vec F S512x1024 .f32) (x4 x5 x6 : Vec F S1x1024 .f32) (s : Vec F S8x1024 .f32) (r : Fin 8) (j : Fin 1024) :
    out0_B_8 c i a1 h1 a2 h2 a3 h3 a4 h4 a5 h5 a6 h6 a7 h7 a8 h8 a9 h9 e0 x0 x1 x2 x3 x4 x5 x6 s (ix2 r j) = sums x0 x1 x2 x4 x5 s r j := by
  unfold out0_B_8
  unfold kernelRun0_B
  dsimp only
  sl_unfold_words
  refine (three_rows a9.view _ _ _ _ _ _ _ [] r j).trans ?_
  simp only [View.readAt_eq_ld, h1.read_unread, h2.read_unread, h3.read_unread, h4.read_unread, h5.read_unread, h6.read_unread, h9.read_unread,
    View.ld_unit_zero (S := S512x1024) hz, View.ld_unit_zero (S := S1x1024) hz, View.writes_nil]
  rfl

theorem sums_A (c : Dev nD) (i : grid0.Coords) (a1 : Memref sig .tc .vmem S512x8192 .bf16) (h1 : a1.IsWhole) (a2 : Memref sig .tc .vmem S8x1024x1024 .bf16) (h2 : a2.IsWhole)
    (a3 : Memref sig .tc .vmem S512x1024 .f32) (h3 : a3.IsWhole) (a4 : Memref sig .tc .vmem S512x1024 .f32) (h4 : a4.IsWhole)
    (a5 : Memref sig .tc .vmem S1x1024 .f32) (h5 : a5.IsWhole) (a6 : Memref sig .tc .vmem S1x1024 .f32) (h6 : a6.IsWhole) (a7 : Memref sig .tc .vmem S1x1024 .f32) (h7 : a7.IsWhole)
    (a8 : Memref sig .tc .vmem S512x1024 .f32) (h8 : a8.IsWhole) (a9 : Memref sig .tc .vmem S8x1024 .f32) (h9 : a9.IsWhole) (e0)
    (x0 : Vec F S512x8192 .bf16) (x1 : Vec F S8x1024x1024 .bf16) (x2 x3 : Vec F S512x1024 .f32) (x4 x5 x6 : Vec F S1x1024 .f32) (r : Fin 8) (j : Fin 1024) :
    out0_A_8 c i a1 h1 a2 h2 a3 h3 a4 h4 a5 h5 a6 h6 a7 h7 a8 h8 a9 h9 e0 x0 x1 x2 x3 x4 x5 x6 (ix2 r j) = sums x0 x1 x2 x4 x5 (k0_pay3 (F := F)) r j := by
  unfold out0_A_8
  unfold kernelRun0_A
  dsimp only
  sl_unfold_words
  refine (three_rows VO0_8 _ _ _ _ _ _ _ _ r j).trans ?_
  rw [load_past a9.view 1 2 (by decide), load_past a9.view 0 2 (by decide), load_past a9.view 0 1 (by decide), load_fill, load_fill, load_fill]
  simp only [View.readAt_eq_ld, h1.read_unread, h2.read_unread, h3.read_unread, h4.read_unread, h5.read_unread, h6.read_unread,
    View.ld_unit_zero (S := S512x1024) hz, View.ld_unit_zero (S := S1x1024) hz]
  rw [View.read_writes_full]
  rfl

end Cert.Kernel7Ideal.In

end
-- ==== Proof.InRead.lean ====
/-
  The input projection's backward call over the extended reals: each tile's terms at an element, the tiles' shares summed
  in turn, and what the two results hold at the end.
-/
module

public import proofs.«01_k».proof.Proof.InSpec
public import proofs.«01_k».proof.Proof.InTile
public import Idealize.ShloMosaic.Lib.MatmulPlain

@[expose] public section

set_option maxRecDepth 16384
set_option maxHeartbeats 1000000

noncomputable section

namespace Cert.Kernel7Ideal.In

open Idealize.ShloMosaic hiding ix1 ix2 ix3 ix4 eq_ix2 eq_ix3
open Idealize.ShloMosaic.ValueIdx Idealize.ShloMosaic.Tactic Idealize.SL.Sem Cert.Mix Cert.In
open Cert.Kernel7Ideal.Gen Cert.Kernel7Ideal.Value
open scoped BigOperators

/-! ## The terms at an element -/

abbrev D := dot_S512x1024_S1024x1024_S512x1024_1_1_0_0_n_n

/-- A tile's product with a weight block's transpose. -/
theorem dot_apply (x : FVec Ideal S512x1024 .bf16) (y : FVec Ideal S1024x1024 .bf16) (i : Fin 512) (j : Fin 1024) :
    matmul D none x y (constant S512x1024 .f32 0x00000000#32) (ix2 i j) = ∑ q, x (ix2 i q) * y (ix2 j q) := by
  refine (Ideal.matmul_constant_zero_apply D none x y (ix2 i j)).trans ?_
  rw [← Equiv.sum_comp (contrEquiv1 D 1024 rfl rfl).symm]
  refine Finset.sum_congr rfl fun q _ => congrArg₂ (fun a b => x a * y b) (funext fun a => Fin.ext ?_) (funext fun a => Fin.ext ?_)
  · match a with
    | ⟨0, _⟩ => rfl
    | ⟨1, _⟩ => exact contrEquiv1_symm_val D 1024 rfl rfl q
  · match a with
    | ⟨0, _⟩ => rfl
    | ⟨1, _⟩ => exact contrEquiv1_symm_val D 1024 rfl rfl q

/-- One weight block of the stack, as a matrix. -/
theorem block_apply (y : FVec Ideal S1x1024x1024 .bf16) (j q : Fin 1024) :
    shapeCast S1024x1024 y shapeCasts_S1x1024x1024_S1024x1024 (ix2 j q) = y (ix3 0 j q) :=
  shapeCast_apply y shapeCasts_S1x1024x1024_S1024x1024 _ _ (by
    rw [Shape.rowMajor_val_three, Shape.rowMajor_val_two]
    show (0 * 1024 + j.val) * 1024 + q.val = j.val * 1024 + q.val
    omega)

/-- A tile's columns from `o` on, and block `n` of the stack. -/
def cols (x0 : FVec Ideal S512x8192 .bf16) (o : Nat) (io : ∀ a : Fin 2, (![0, o] : Fin 2 → ℕ) a + S512x1024.size a ≤ S512x8192.size a) :
    FVec Ideal S512x1024 .bf16 := View.ld (Val := Elt Ideal) (e' := EltTy.bf16) x0 (Rect.unit (s := S512x8192) ![0, o] S512x1024.size io)
def blk (x1 : FVec Ideal S8x1024x1024 .bf16) (n : Nat) (iw : ∀ a : Fin 3, (![n, 0, 0] : Fin 3 → ℕ) a + S1x1024x1024.size a ≤ S8x1024x1024.size a) :
    FVec Ideal S1x1024x1024 .bf16 := View.ld (Val := Elt Ideal) (e' := EltTy.bf16) x1 (Rect.unit (s := S8x1024x1024) ![n, 0, 0] S1x1024x1024.size iw)

/-- The `k`-th of the eight products. -/
theorem part_apply (x0 : FVec Ideal S512x8192 .bf16) (x1 : FVec Ideal S8x1024x1024 .bf16) (k : Fin 8) (o n : Nat)
    (io : ∀ a : Fin 2, (![0, o] : Fin 2 → ℕ) a + S512x1024.size a ≤ S512x8192.size a)
    (iw : ∀ a : Fin 3, (![n, 0, 0] : Fin 3 → ℕ) a + S1x1024x1024.size a ≤ S8x1024x1024.size a)
    (ho : 1024 * k.val = o) (hn : (split k).val = n) (i : Fin 512) (j : Fin 1024) :
    matmul D none (cols x0 o io) (shapeCast S1024x1024 (blk x1 n iw) shapeCasts_S1x1024x1024_S1024x1024)
      (constant S512x1024 .f32 0x00000000#32) (ix2 i j)
      = ∑ q, x0 (ix2 i (at8 k q)) * x1 (ix3 (split k) j q) := by
  refine (dot_apply _ _ i j).trans (Finset.sum_congr rfl fun q _ => congrArg₂ (fun a b : EReal => a * b) ?_ ((block_apply _ j q).trans ?_))
  · exact View.ld_unit_apply_of (Val := Elt Ideal) (e := EltTy.bf16) x0 _ _ io (ix2 i q) (ix2 i (at8 k q)) fun a => by
      match a with
      | ⟨0, _⟩ => exact (Nat.zero_add i.val).symm
      | ⟨1, _⟩ => exact congrArg (· + q.val) ho
  · exact View.ld_unit_apply_of (Val := Elt Ideal) (e := EltTy.bf16) x1 _ _ iw (ix3 (0 : Fin 1) j q) (ix3 (split k) j q) fun a => by
      match a with
      | ⟨0, _⟩ => exact hn
      | ⟨1, _⟩ => exact (Nat.zero_add j.val).symm
      | ⟨2, _⟩ => exact (Nat.zero_add q.val).symm

/-- The gradient's row `i` of a tile, and the stack of weights by its indices. -/
def wide (x0 : FVec Ideal S512x8192 .bf16) (i : Fin 512) : Fin 8192 → EReal := fun q => x0 (ix2 i q)
def stack (x1 : FVec Ideal S8x1024x1024 .bf16) : Fin 8 → Fin 1024 → Fin 1024 → EReal := fun n j q => x1 (ix3 n j q)
/-- Row `i` of a tile, and the one row of a row argument. -/
def at512 (x : FVec Ideal S512x1024 .f32) (i : Fin 512) : Row := fun j => x (ix2 i j)
def only (x : FVec Ideal S1x1024 .f32) : Row := fun j => x (ix2 0 j)

theorem zero : (Ideal.ofBits .f32 0x00000000#32 : EReal) = 0 := Ideal.ofBits_zero_f32

theorem dht_apply (x0 : FVec Ideal S512x8192 .bf16) (x1 : FVec Ideal S8x1024x1024 .bf16) (i : Fin 512) (j : Fin 1024) :
    dht (F := Ideal) x0 x1 (ix2 i j) = dh (wide x0 i) (stack x1) j := by
  refine Eq.trans ?_ (Fin.sum_univ_eight _).symm
  refine (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) zero
      (part_apply x0 x1 0 0 3 inb_S512x8192_S512x1024_0_0 inb_S8x1024x1024_S1x1024x1024_3_0_0 rfl rfl i j))
      (part_apply x0 x1 1 1024 6 inb_S512x8192_S512x1024_0_1024 inb_S8x1024x1024_S1x1024x1024_6_0_0 rfl rfl i j))
      (part_apply x0 x1 2 2048 7 inb_S512x8192_S512x1024_0_2048 inb_S8x1024x1024_S1x1024x1024_7_0_0 rfl rfl i j))
      (part_apply x0 x1 3 3072 0 inb_S512x8192_S512x1024_0_3072 inb_S8x1024x1024_S1x1024x1024_0_0_0 rfl rfl i j))
      (part_apply x0 x1 4 4096 1 inb_S512x8192_S512x1024_0_4096 inb_S8x1024x1024_S1x1024x1024_1_0_0 rfl rfl i j))
      (part_apply x0 x1 5 5120 2 inb_S512x8192_S512x1024_0_5120 inb_S8x1024x1024_S1x1024x1024_2_0_0 rfl rfl i j))
      (part_apply x0 x1 6 6144 4 inb_S512x8192_S512x1024_0_6144 inb_S8x1024x1024_S1x1024x1024_4_0_0 rfl rfl i j))
      (part_apply x0 x1 7 7168 5 inb_S512x8192_S512x1024_0_7168 inb_S8x1024x1024_S1x1024x1024_5_0_0 rfl rfl i j)).trans ?_
  exact congrArg (fun a : EReal => a + _ + _ + _ + _ + _ + _ + _) (zero_add _)

section Row
variable (d x dx : FVec Ideal S512x1024 .f32) (g sc : FVec Ideal S1x1024 .f32) (i : Fin 512) (j : Fin 1024)

theorem pay6_apply (z : Fin 1) : k0_pay6 (F := Ideal) x (ix2 i z) = msq c1024 (at512 x i) :=
  congrArg (fun s : EReal => Ideal.div s c1024 + eps) ((castCol_apply _ shapeCasts_S512_S512x1 i z).trans (sumRow_apply _ _ _ _ _ i))
theorem pay7_apply (z : Fin 1) : k0_pay7 (F := Ideal) x (ix2 i z) = inv c1024 (at512 x i) := congrArg Ideal.rsqrt (pay6_apply x i z)
theorem pay8_apply (z : Fin 1) : k0_pay8 (F := Ideal) x (ix2 i z) = Ideal.div (inv c1024 (at512 x i)) (msq c1024 (at512 x i)) :=
  congrArg₂ Ideal.div (pay7_apply x i z) (pay6_apply x i z)
theorem spread_apply : broadcastTo S512x1024 (k0_pay7 (F := Ideal) x) broadcasts_S512x1_S512x1024 (ix2 i j) = inv c1024 (at512 x i) :=
  (bcastCol_apply _ broadcasts_S512x1_S512x1024 (by decide) i j).trans (pay7_apply x i 0)
theorem pay10_apply : k0_pay10 (F := Ideal) x (k0_pay7 (F := Ideal) x) (ix2 i j) = x (ix2 i j) * inv c1024 (at512 x i) :=
  congrArg (fun a : EReal => x (ix2 i j) * a) (spread_apply x i j)
theorem pay13_apply : k0_pay13 (F := Ideal) d sc (ix2 i j) = d (ix2 i j) * (one + sc (ix2 0 j)) :=
  congrArg (fun a : EReal => d (ix2 i j) * a) (bcastRow_apply _ broadcasts_S1x1024_S512x1024 (by decide) i j)
theorem dn_apply : mulf (k0_pay13 (F := Ideal) d sc) (broadcastTo S512x1024 g broadcasts_S1x1024_S512x1024) (ix2 i j)
    = dn (only g) (only sc) (at512 d i) j :=
  congrArg₂ (fun a b : EReal => a * b) (pay13_apply d sc i j) (bcastRow_apply _ broadcasts_S1x1024_S512x1024 (by decide) i j)

/-- What each element's square gets. -/
def part : FVec Ideal S512x1 .f32 :=
  shapeCast S512x1 (multiReduction .add [1] S512 (divf (mulf (shapeCast S512x1 (multiReduction .add [1] S512
      (mulf x (mulf (k0_pay13 (F := Ideal) d sc) (broadcastTo S512x1024 g broadcasts_S1x1024_S512x1024))) 0x00000000#32 reduces_S512x1024_S512 (.inl rfl) rfl)
        shapeCasts_S512_S512x1) (mulf (k0_pay9 (F := Ideal)) (k0_pay8 (F := Ideal) x))) (broadcast S512x1 (Scalar.ofBits .f32 0x44800000#32)))
    0x00000000#32 reduces_S512x1_S512 (.inl rfl) rfl) shapeCasts_S512_S512x1
theorem part_eq (z : Fin 1) : part d x g sc (ix2 i z) = share c1024 (at512 x i) (dn (only g) (only sc) (at512 d i)) := by
  refine (castCol_apply _ shapeCasts_S512_S512x1 i z).trans ((sumRow_apply _ _ _ _ _ i).trans ((Fin.sum_univ_one _).trans ?_))
  refine congrArg₂ (fun a b : EReal => Ideal.div (a * b) c1024) ?_ ?_
  · refine (castCol_apply _ shapeCasts_S512_S512x1 i 0).trans ((sumRow_apply _ _ _ _ _ i).trans (Finset.sum_congr rfl fun k _ => ?_))
    exact congrArg (fun a : EReal => x (ix2 i k) * a) (dn_apply d g sc i k)
  · exact congrArg (fun a : EReal => mhalf * a) (pay8_apply x i 0)

theorem pay14_apply : k0_pay14 (F := Ideal) d x g sc (k0_pay7 (F := Ideal) x) (k0_pay8 (F := Ideal) x) (k0_pay9 (F := Ideal)) dx (ix2 i j)
    = gx (at512 x i) (at512 dx i) (only g) (only sc) (at512 d i) j := by
  have hs := (bcastCol_apply (part d x g sc) broadcasts_S512x1_S512x1024 (by decide) i j).trans (part_eq d x g sc i 0)
  refine congrArg (fun a : EReal => dx (ix2 i j) + a) ?_
  exact congrArg₂ (fun a b : EReal => a + b) (congrArg₂ (fun a b : EReal => a + b)
    (congrArg₂ (fun a b : EReal => a * b) (dn_apply d g sc i j) (spread_apply x i j))
    (congrArg (fun a : EReal => x (ix2 i j) * a) hs)) (congrArg (fun a : EReal => a * x (ix2 i j)) hs)

theorem pay11_apply : k0_pay11 (F := Ideal) d (ix2 0 j) = ∑ i, d (ix2 i j) :=
  (castRow_apply _ shapeCasts_S1024_S1x1024 j 0).trans (sumCol_apply _ _ _ _ _ j)
theorem pay12_apply : k0_pay12 (F := Ideal) d x g (k0_pay7 (F := Ideal) x) (ix2 0 j)
    = ∑ i, x (ix2 i j) * inv c1024 (at512 x i) * g (ix2 0 j) * d (ix2 i j) := by
  refine (castRow_apply _ shapeCasts_S1024_S1x1024 j 0).trans ((sumCol_apply _ _ _ _ _ j).trans (Finset.sum_congr rfl fun i _ => ?_))
  exact congrArg (fun a : EReal => a * d (ix2 i j)) (congrArg₂ (fun a b : EReal => a * b) (pay10_apply x i j)
    (bcastRow_apply _ broadcasts_S1x1024_S512x1024 (by decide) i j))
theorem pay15_apply (s : FVec Ideal S1x1024 .f32) : k0_pay15 (F := Ideal) d x sc (k0_pay7 (F := Ideal) x) s (ix2 0 j)
    = s (ix2 0 j) + ∑ i, x (ix2 i j) * inv c1024 (at512 x i) * (d (ix2 i j) * (one + sc (ix2 0 j))) := by
  refine congrArg₂ (fun a b : EReal => a + b) (congrFun (shapeCast_self s shapeCasts_S1x1024_S1x1024) _) ?_
  refine (castRow_apply _ shapeCasts_S1024_S1x1024 j 0).trans ((sumCol_apply _ _ _ _ _ j).trans (Finset.sum_congr rfl fun i _ => ?_))
  exact congrArg₂ (fun a b : EReal => a * b) (pay10_apply x i j) (pay13_apply d sc i j)
end Row

theorem sumRow_apply' (s : FVec Ideal S8x1024 .f32) (r : Nat) (inb) (k : Fin 8) (hk : k.val = r) (j : Fin 1024) :
    sumRow (F := Ideal) s r inb (ix2 0 j) = s (ix2 k j) :=
  View.ld_unit_apply_of (Val := Elt Ideal) (e := EltTy.f32) s _ _ inb (ix2 (0 : Fin 1) j) (ix2 k j) fun a => by
    match a with
    | ⟨0, _⟩ => exact hk
    | ⟨1, _⟩ => exact (Nat.zero_add j.val).symm

/-- A tile adds its rows' shares to the sums it finds. -/
theorem sums_apply (x0 : FVec Ideal S512x8192 .bf16) (x1 : FVec Ideal S8x1024x1024 .bf16) (x2 : FVec Ideal S512x1024 .f32) (x4 x5 : FVec Ideal S1x1024 .f32)
    (s : FVec Ideal S8x1024 .f32) (r : Fin 8) (j : Fin 1024) :
    sums (F := Ideal) x0 x1 x2 x4 x5 s r j
      = s (ix2 r j) + ∑ i, share3 (at512 x2 i) (only x4) (only x5) (dh (wide x0 i) (stack x1)) r j := by
  have hd : ∀ i, dht (F := Ideal) x0 x1 (ix2 i j) = dh (wide x0 i) (stack x1) j := fun i => dht_apply x0 x1 i j
  unfold sums share3
  by_cases h2 : r.val = 2
  · rw [if_pos h2]
    simp only [if_pos h2]
    refine congrArg₂ (fun a b : EReal => a + b) ((congrFun (shapeCast_self _ shapeCasts_S1x1024_S1x1024) _).trans (sumRow_apply' s 2 _ r h2 j)) ?_
    exact (pay11_apply _ j).trans (Finset.sum_congr rfl fun i _ => hd i)
  rw [if_neg h2]
  simp only [if_neg h2]
  by_cases h1 : r.val = 1
  · rw [if_pos h1]
    simp only [if_pos h1]
    refine congrArg₂ (fun a b : EReal => a + b) ((congrFun (shapeCast_self _ shapeCasts_S1x1024_S1x1024) _).trans (sumRow_apply' s 1 _ r h1 j)) ?_
    exact (pay12_apply _ x2 x4 j).trans (Finset.sum_congr rfl fun i _ => congrArg (fun a : EReal => x2 (ix2 i j) * inv c1024 (at512 x2 i) * x4 (ix2 0 j) * a) (hd i))
  rw [if_neg h1]
  simp only [if_neg h1]
  by_cases h0 : r.val = 0
  · rw [if_pos h0]
    simp only [if_pos h0]
    refine (pay15_apply _ x2 x5 j _).trans (congrArg₂ (fun a b : EReal => a + b) (sumRow_apply' s 0 _ r h0 j) ?_)
    exact Finset.sum_congr rfl fun i _ => congrArg (fun a : EReal => x2 (ix2 i j) * inv c1024 (at512 x2 i) * (a * (one + x5 (ix2 0 j)))) (hd i)
  rw [if_neg h0]
  simp only [if_neg h0, Finset.sum_const_zero]
  exact (add_zero _).symm

/-! ## The arrays -/

variable (m : (ℓ : Loc nD τ sig) → Buf (Elt Ideal) ℓ)

def argP (c : Dev nD) : FVec Ideal S4096x8192 .bf16 := m (c.tc.loc main_arg0)
def argW (c : Dev nD) : FVec Ideal S8x1024x1024 .bf16 := m (c.tc.loc main_arg1)
def argX (c : Dev nD) : FVec Ideal S4096x1024 .f32 := m (c.tc.loc main_arg2)
def argD (c : Dev nD) : FVec Ideal S4096x1024 .f32 := m (c.tc.loc main_arg3)
def argG (c : Dev nD) : FVec Ideal S1x1024 .f32 := m (c.tc.loc main_arg4)
def argS (c : Dev nD) : FVec Ideal S1x1024 .f32 := m (c.tc.loc main_arg5)

theorem cfgN : cfg0.N = 8 := N_0
/-- Row `i` of tile `t`. -/
def tileRow (t : Nat) (i : Fin 512) : Fin 4096 := ⟨512 * (t ⊓ 7) + i.val, by omega⟩
theorem min7 (t : Fin cfg0.N) : t.val ⊓ 7 = t.val := by have := lt_of_lt_of_eq t.isLt cfgN; omega

theorem lies0 : ∀ t : Fin cfg0.N, win0_0.index t (0 : Fin 2) = t.val ∧ win0_0.index t (1 : Fin 2) = 0 := by decide +kernel
theorem lies1 : ∀ t : Fin cfg0.N, win0_1.index t (0 : Fin 3) = 0 ∧ win0_1.index t (1 : Fin 3) = 0 ∧ win0_1.index t (2 : Fin 3) = 0 := by decide +kernel
theorem lies2 : ∀ t : Fin cfg0.N, win0_2.index t (0 : Fin 2) = t.val ∧ win0_2.index t (1 : Fin 2) = 0 := by decide +kernel
theorem lies3 : ∀ t : Fin cfg0.N, win0_3.index t (0 : Fin 2) = t.val ∧ win0_3.index t (1 : Fin 2) = 0 := by decide +kernel
theorem lies4 : ∀ t : Fin cfg0.N, win0_4.index t (0 : Fin 2) = 0 ∧ win0_4.index t (1 : Fin 2) = 0 := by decide +kernel
theorem lies5 : ∀ t : Fin cfg0.N, win0_5.index t (0 : Fin 2) = 0 ∧ win0_5.index t (1 : Fin 2) = 0 := by decide +kernel
theorem lies7 : ∀ t : Fin cfg0.N, win0_7.index t (0 : Fin 2) = t.val ∧ win0_7.index t (1 : Fin 2) = 0 := by decide +kernel

theorem read0 (c : Dev nD) (t : Fin cfg0.N) (i : Fin 512) (j : Fin 8192) : iblk m c 0 t (ix2 i j) = argP m c (ix2 (tileRow t.val i) j) := by
  refine congrArg (argP m c) (funext fun a => Fin.ext ?_)
  match a with
  | ⟨0, _⟩ => show win0_0.index t (0 : Fin 2) * 512 + 1 * i.val = 512 * (t.val ⊓ 7) + i.val; rw [(lies0 t).1, min7]; omega
  | ⟨1, _⟩ => show win0_0.index t (1 : Fin 2) * 8192 + 1 * j.val = j.val; rw [(lies0 t).2]; omega
theorem read1 (c : Dev nD) (t : Fin cfg0.N) (n : Fin 8) (j q : Fin 1024) : iblk m c 1 t (ix3 n j q) = argW m c (ix3 n j q) := by
  obtain ⟨e0, e1, e2⟩ := lies1 t
  refine congrArg (argW m c) (funext fun a => Fin.ext ?_)
  match a with
  | ⟨0, _⟩ => show win0_1.index t (0 : Fin 3) * 8 + 1 * n.val = n.val; omega
  | ⟨1, _⟩ => show win0_1.index t (1 : Fin 3) * 1024 + 1 * j.val = j.val; omega
  | ⟨2, _⟩ => show win0_1.index t (2 : Fin 3) * 1024 + 1 * q.val = q.val; omega
theorem read2 (c : Dev nD) (t : Fin cfg0.N) (i : Fin 512) (j : Fin 1024) : iblk m c 2 t (ix2 i j) = argX m c (ix2 (tileRow t.val i) j) := by
  refine congrArg (argX m c) (funext fun a => Fin.ext ?_)
  match a with
  | ⟨0, _⟩ => show win0_2.index t (0 : Fin 2) * 512 + 1 * i.val = 512 * (t.val ⊓ 7) + i.val; rw [(lies2 t).1, min7]; omega
  | ⟨1, _⟩ => show win0_2.index t (1 : Fin 2) * 1024 + 1 * j.val = j.val; rw [(lies2 t).2]; omega
theorem read3 (c : Dev nD) (t : Fin cfg0.N) (i : Fin 512) (j : Fin 1024) : iblk m c 3 t (ix2 i j) = argD m c (ix2 (tileRow t.val i) j) := by
  refine congrArg (argD m c) (funext fun a => Fin.ext ?_)
  match a with
  | ⟨0, _⟩ => show win0_3.index t (0 : Fin 2) * 512 + 1 * i.val = 512 * (t.val ⊓ 7) + i.val; rw [(lies3 t).1, min7]; omega
  | ⟨1, _⟩ => show win0_3.index t (1 : Fin 2) * 1024 + 1 * j.val = j.val; rw [(lies3 t).2]; omega
theorem read4 (c : Dev nD) (t : Fin cfg0.N) (z : Fin 1) (j : Fin 1024) : iblk m c 4 t (ix2 z j) = argG m c (ix2 z j) := by
  obtain ⟨e0, e1⟩ := lies4 t
  refine congrArg (argG m c) (funext fun a => Fin.ext ?_)
  match a with
  | ⟨0, _⟩ => show win0_4.index t (0 : Fin 2) * 1 + 1 * z.val = z.val; omega
  | ⟨1, _⟩ => show win0_4.index t (1 : Fin 2) * 1024 + 1 * j.val = j.val; omega
theorem read5 (c : Dev nD) (t : Fin cfg0.N) (z : Fin 1) (j : Fin 1024) : iblk m c 5 t (ix2 z j) = argS m c (ix2 z j) := by
  obtain ⟨e0, e1⟩ := lies5 t
  refine congrArg (argS m c) (funext fun a => Fin.ext ?_)
  match a with
  | ⟨0, _⟩ => show win0_5.index t (0 : Fin 2) * 1 + 1 * z.val = z.val; omega
  | ⟨1, _⟩ => show win0_5.index t (1 : Fin 2) * 1024 + 1 * j.val = j.val; omega

/-- The two results over the arguments. -/
def rowD (p : FVec Ideal S4096x8192 .bf16) (w : FVec Ideal S8x1024x1024 .bf16) (i : Fin 4096) : Row := dh (fun q => p (ix2 i q)) (stack w)
def gradX (p : FVec Ideal S4096x8192 .bf16) (w : FVec Ideal S8x1024x1024 .bf16) (x d : FVec Ideal S4096x1024 .f32) (g s : FVec Ideal S1x1024 .f32) :
    FVec Ideal S4096x1024 .f32 := fun i => gx (fun k => x (ix2 (i 0) k)) (fun k => d (ix2 (i 0) k)) (only g) (only s) (rowD p w (i 0)) (i 1)
def gradRows (p : FVec Ideal S4096x8192 .bf16) (w : FVec Ideal S8x1024x1024 .bf16) (x : FVec Ideal S4096x1024 .f32) (g s : FVec Ideal S1x1024 .f32) :
    FVec Ideal S8x1024 .f32 := fun i => ∑ k, share3 (fun q => x (ix2 k q)) (only g) (only s) (rowD p w k) (i 0) (i 1)

theorem tile0 (c : Dev nD) (t : Fin cfg0.N) (i : Fin 512) :
    dh (wide (iblk m c 0 t) i) (stack (iblk m c 1 t)) = rowD (argP m c) (argW m c) (tileRow t.val i) :=
  congrArg₂ dh (funext fun q => read0 m c t i q) (funext fun n => funext fun j => funext fun q => read1 m c t n j q)
theorem tile2 (c : Dev nD) (t : Fin cfg0.N) (i : Fin 512) : at512 (iblk m c 2 t) i = fun k => argX m c (ix2 (tileRow t.val i) k) :=
  funext fun k => read2 m c t i k
theorem tile3 (c : Dev nD) (t : Fin cfg0.N) (i : Fin 512) : at512 (iblk m c 3 t) i = fun k => argD m c (ix2 (tileRow t.val i) k) :=
  funext fun k => read3 m c t i k
theorem tile4 (c : Dev nD) (t : Fin cfg0.N) : only (iblk m c 4 t) = only (argG m c) := funext fun k => read4 m c t 0 k
theorem tile5 (c : Dev nD) (t : Fin cfg0.N) : only (iblk m c 5 t) = only (argS m c) := funext fun k => read5 m c t 0 k

/-- The first result's block of a tile. -/
theorem grads (c : Dev nD) (t : Fin cfg0.N) : (outsAt0 m c t.val t.isLt).1
    = k0_pay14 (F := Ideal) (dht (F := Ideal) (iblk m c 0 t) (iblk m c 1 t)) (iblk m c 2 t) (iblk m c 4 t) (iblk m c 5 t)
        (k0_pay7 (F := Ideal) (iblk m c 2 t)) (k0_pay8 (F := Ideal) (iblk m c 2 t)) (k0_pay9 (F := Ideal)) (iblk m c 3 t) := by
  by_cases h : t.val % 8 = 0
  · rw [outsAt0_A m c t h]
    dsimp only
    rw [grad_A]
  · rw [outsAt0_B m c t h]
    dsimp only
    rw [grad_B]
theorem grads_apply (c : Dev nD) (t : Fin cfg0.N) (i : Fin 512) (j : Fin 1024) : (outsAt0 m c t.val t.isLt).1 (ix2 i j)
    = gradX (argP m c) (argW m c) (argX m c) (argD m c) (argG m c) (argS m c) (ix2 (tileRow t.val i) j) := by
  rw [grads, pay14_apply, tile2, tile3, tile4, tile5,
    show at512 (dht (F := Ideal) (iblk m c 0 t) (iblk m c 1 t)) i = dh (wide (iblk m c 0 t) i) (stack (iblk m c 1 t)) from
      funext fun k => dht_apply _ _ i k, tile0]
  rfl

/-- A row's share of row `r` of the sums. -/
def shareAt (c : Dev nD) (r : Fin 8) (j : Fin 1024) (k : Fin 4096) : EReal :=
  share3 (fun q => argX m c (ix2 k q)) (only (argG m c)) (only (argS m c)) (rowD (argP m c) (argW m c) k) r j
theorem step (c : Dev nD) (t : Fin cfg0.N) (s : FVec Ideal S8x1024 .f32) (r : Fin 8) (j : Fin 1024) :
    sums (F := Ideal) (iblk m c 0 t) (iblk m c 1 t) (iblk m c 2 t) (iblk m c 4 t) (iblk m c 5 t) s r j
      = s (ix2 r j) + ∑ i, shareAt m c r j (tileRow t.val i) := by
  refine (sums_apply _ _ _ _ _ s r j).trans (congrArg (fun a : EReal => s (ix2 r j) + a) (Finset.sum_congr rfl fun i _ => ?_))
  rw [tile0, tile2, tile4, tile5]
  rfl

/-- The sums after each tile. -/
theorem carried (c : Dev nD) : ∀ (n : Nat) (hn : n < cfg0.N) (r : Fin 8) (j : Fin 1024),
    (outsAt0 m c n hn).2 (ix2 r j) = ∑ t ∈ Finset.range (n + 1), ∑ i, shareAt m c r j (tileRow t i)
  | 0, hn, r, j => by
    rw [outsAt0_A m c ⟨0, hn⟩ rfl, Finset.sum_range_one]
    dsimp only
    rw [sums_A]
    refine (step m c ⟨0, hn⟩ _ r j).trans ?_
    exact (congrArg (fun a : EReal => a + _) zero).trans (zero_add _)
  | n + 1, hn, r, j => by
    rw [outsAt0_B m c ⟨n + 1, hn⟩ (by have := lt_of_lt_of_eq hn cfgN; show ¬(n + 1) % 8 = 0; omega), Finset.sum_range_succ]
    dsimp only
    rw [sums_B]
    refine (step m c ⟨n + 1, hn⟩ _ r j).trans ?_
    exact congrArg (fun a : EReal => a + _) (carried c n (Nat.lt_of_succ_lt hn) r j)

theorem emb7 (t : Fin cfg0.N) (i : Fin 512) (j : Fin 1024) : ((cfg0.win 7).blk t).view.emb (ix2 i j) = (ix2 (tileRow t.val i) j : S4096x1024.Idx) := by
  refine funext fun a => Fin.ext ?_
  match a with
  | ⟨0, _⟩ => show win0_7.index t (0 : Fin 2) * 512 + 1 * i.val = 512 * (t.val ⊓ 7) + i.val; rw [(lies7 t).1, min7]; omega
  | ⟨1, _⟩ => show win0_7.index t (1 : Fin 2) * 1024 + 1 * j.val = j.val; rw [(lies7 t).2]; omega
theorem final7 (c : Dev nD) : (dats m 0 c).arrAt 7 cfg0.N = gradX (argP m c) (argW m c) (argX m c) (argD m c) (argG m c) (argS m c) := by
  refine (dats m 0 c).arrAt_eq_of_covers 7 _ (by decide +kernel) fun t hf y => ?_
  obtain ⟨i, j, rfl⟩ : ∃ (i : Fin 512) (j : Fin 1024), y = (ix2 i j : S512x1024.Idx) := ⟨y 0, y 1, eq_ix2 y⟩
  refine Eq.trans ?_ (congrArg (gradX (argP m c) (argW m c) (argX m c) (argD m c) (argG m c) (argS m c)) (emb7 t i j)).symm
  refine Eq.trans ?_ (grads_apply m c t i j)
  show (dats m 0 c).after 7 t (ix2 i j) = _
  rw [after0_7]

theorem emb8 (r : Fin 8) (j : Fin 1024) : (cfg0.win 8).arr.view.emb (ix2 r j : S8x1024.Idx) = (ix2 r j : S8x1024.Idx) := by
  refine funext fun a => Fin.ext ?_
  match a with
  | ⟨0, _⟩ => rfl
  | ⟨1, _⟩ => rfl
theorem final8 (c : Dev nD) : (dats m 0 c).arrAt 8 cfg0.N = gradRows (argP m c) (argW m c) (argX m c) (argG m c) (argS m c) := by
  refine (dats m 0 c).arrAt_eq_of_after_last 8 (⟨7, by decide⟩ : Fin cfg0.N) (by decide) _ fun y => ?_
  obtain ⟨r, j, rfl⟩ : ∃ (r : Fin 8) (j : Fin 1024), y = (ix2 r j : S8x1024.Idx) := ⟨y 0, y 1, eq_ix2 y⟩
  refine Eq.trans ?_ (congrArg (gradRows (argP m c) (argW m c) (argX m c) (argG m c) (argS m c)) (emb8 r j)).symm
  show (dats m 0 c).after 8 (⟨7, by decide⟩ : Fin cfg0.N) (ix2 r j) = _
  rw [after0_8]
  exact (carried m c 7 (by decide) r j).trans (sum_tiles (shareAt m c r j))

end Cert.Kernel7Ideal.In

end
-- ==== Proof.InRef.lean ====
/-
  The input projection's backward reference, stage by stage at an element: its two results are the gradients that the
  kernel leaves.
-/
module

public import proofs.«01_k».proof.Proof.InRead
public import proofs.«01_k».proof.Proof.Gen.Reference7Ideal.Read

@[expose] public section

set_option maxRecDepth 16384
set_option maxHeartbeats 1000000

noncomputable section

namespace Cert.Reference7Ideal.In

open Idealize.ShloMosaic hiding ix1 ix2 ix3 ix4 eq_ix2 eq_ix3
open Idealize.ShloMosaic.ValueIdx Idealize.ShloMosaic.Tactic Cert.Mix Cert.In Cert.Reference7Ideal.Read
open Cert.Kernel7Ideal.In (stack only rowD gradX gradRows)
open scoped BigOperators

theorem zadd (x : EReal) : (FloatOps.ofBits (F := Ideal) .f32 0x00000000#32 : EReal) + x = x := by
  show Ideal.ofBits .f32 0x00000000#32 + x = x
  rw [Ideal.ofBits_zero_f32, zero_add]

/-- An index of two coordinates is the pair. -/
theorem pair {m n : Nat} (i : (⟨2, ![m, n]⟩ : Shape).Idx) (r : Fin m) (j : Fin n) (h0 : (i 0).val = r.val) (h1 : (i 1).val = j.val) : i = ix2 r j :=
  funext fun a => Fin.ext (match a with
    | ⟨0, _⟩ => h0
    | ⟨1, _⟩ => h1)

variable (p : FVec Ideal S4096x8192 .bf16) (w : FVec Ideal S8x1024x1024 .bf16) (x d : FVec Ideal S4096x1024 .f32) (g s : FVec Ideal S1x1024 .f32)

/-! ## The gradient of the modulated norm's output -/

theorem colsAt (i : S4096x8192.Idx) (k : Fin 8) (r : Fin 4096) (q : Fin 1024) (h0 : (i 0).val = r.val) (h1 : (i 1).val = 1024 * k.val + q.val) :
    val_main_v0 (F := Ideal) p i = p (ix2 r (at8 k q)) := by
  rw [val_main_v0_apply]
  exact congrArg p (pair i r (at8 k q) h0 h1)
theorem stackAt (i : S8x1024x1024.Idx) (k : Fin 8) (j q : Fin 1024) (h0 : (i 0).val = (split k).val)
    (h1 : (i 1).val = (j.val * 1024 + q.val) / 1024 % 1024) (h2 : (i 2).val = (j.val * 1024 + q.val) % 1024) :
    val_main_v1 (F := Ideal) w i = stack w (split k) j q := by
  rw [val_main_v1_apply]
  exact congrArg w (funext fun a => Fin.ext (match a with
    | ⟨0, _⟩ => h0
    | ⟨1, _⟩ => h1.trans (by show (j.val * 1024 + q.val) / 1024 % 1024 = j.val; omega)
    | ⟨2, _⟩ => h2.trans (by show (j.val * 1024 + q.val) % 1024 = q.val; omega)))
/-- One of the eight products. -/
theorem piece {f h : Fin 1024 → EReal} (k : Fin 8) (r : Fin 4096) (j : Fin 1024) (hf : ∀ q, f q = p (ix2 r (at8 k q))) (hh : ∀ q, h q = stack w (split k) j q) :
    ∑ q, f q * h q = ∑ q, p (ix2 r (at8 k q)) * stack w (split k) j q :=
  Finset.sum_congr rfl fun q _ => congrArg₂ (fun a b : EReal => a * b) (hf q) (hh q)
theorem at69 (r : Fin 4096) (j : Fin 1024) : val_main_v69 (F := Ideal) p w (ix2 r j) = rowD p w r j := by
  refine Eq.trans ?_ (Equiv.sum_comp Fin.revPerm fun k : Fin 8 => ∑ q, p (ix2 r (at8 k q)) * stack w (split k) j q)
  refine Eq.trans ?_ (Fin.sum_univ_eight _).symm
  rw [val_main_v69_apply, val_main_v67_apply, val_main_v65_apply, val_main_v63_apply, val_main_v61_apply, val_main_v59_apply, val_main_v57_apply, val_main_v55_apply, val_main_v56_apply, val_main_v58_apply, val_main_v60_apply, val_main_v62_apply, val_main_v64_apply, val_main_v66_apply, val_main_v68_apply]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (piece p w 7 r j (fun q => (val_main_v54_apply (F := Ideal) p (lidx_main_v55 (ix2 r j) q)).trans (colsAt p (idx_main_v54 (lidx_main_v55 (ix2 r j) q)) 7 r q rfl rfl))
      (fun q => (val_main_v45_apply (F := Ideal) w (ridx_main_v55 (ix2 r j) q)).trans ((val_main_v44_apply (F := Ideal) w (idx_main_v45 (ridx_main_v55 (ix2 r j) q))).trans (stackAt w _ 7 j q rfl rfl rfl))))
      (piece p w 6 r j (fun q => (val_main_v53_apply (F := Ideal) p (lidx_main_v56 (ix2 r j) q)).trans (colsAt p (idx_main_v53 (lidx_main_v56 (ix2 r j) q)) 6 r q rfl rfl))
      (fun q => (val_main_v42_apply (F := Ideal) w (ridx_main_v56 (ix2 r j) q)).trans ((val_main_v41_apply (F := Ideal) w (idx_main_v42 (ridx_main_v56 (ix2 r j) q))).trans (stackAt w _ 6 j q rfl rfl rfl)))))
      (piece p w 5 r j (fun q => (val_main_v52_apply (F := Ideal) p (lidx_main_v58 (ix2 r j) q)).trans (colsAt p (idx_main_v52 (lidx_main_v58 (ix2 r j) q)) 5 r q rfl rfl))
      (fun q => (val_main_v39_apply (F := Ideal) w (ridx_main_v58 (ix2 r j) q)).trans ((val_main_v38_apply (F := Ideal) w (idx_main_v39 (ridx_main_v58 (ix2 r j) q))).trans (stackAt w _ 5 j q rfl rfl rfl)))))
      (piece p w 4 r j (fun q => (val_main_v51_apply (F := Ideal) p (lidx_main_v60 (ix2 r j) q)).trans (colsAt p (idx_main_v51 (lidx_main_v60 (ix2 r j) q)) 4 r q rfl rfl))
      (fun q => (val_main_v36_apply (F := Ideal) w (ridx_main_v60 (ix2 r j) q)).trans ((val_main_v35_apply (F := Ideal) w (idx_main_v36 (ridx_main_v60 (ix2 r j) q))).trans (stackAt w _ 4 j q rfl rfl rfl)))))
      (piece p w 3 r j (fun q => (val_main_v50_apply (F := Ideal) p (lidx_main_v62 (ix2 r j) q)).trans (colsAt p (idx_main_v50 (lidx_main_v62 (ix2 r j) q)) 3 r q rfl rfl))
      (fun q => (val_main_v33_apply (F := Ideal) w (ridx_main_v62 (ix2 r j) q)).trans ((val_main_v32_apply (F := Ideal) w (idx_main_v33 (ridx_main_v62 (ix2 r j) q))).trans (stackAt w _ 3 j q rfl rfl rfl)))))
      (piece p w 2 r j (fun q => (val_main_v49_apply (F := Ideal) p (lidx_main_v64 (ix2 r j) q)).trans (colsAt p (idx_main_v49 (lidx_main_v64 (ix2 r j) q)) 2 r q rfl rfl))
      (fun q => (val_main_v30_apply (F := Ideal) w (ridx_main_v64 (ix2 r j) q)).trans ((val_main_v29_apply (F := Ideal) w (idx_main_v30 (ridx_main_v64 (ix2 r j) q))).trans (stackAt w _ 2 j q rfl rfl rfl)))))
      (piece p w 1 r j (fun q => (val_main_v48_apply (F := Ideal) p (lidx_main_v66 (ix2 r j) q)).trans (colsAt p (idx_main_v48 (lidx_main_v66 (ix2 r j) q)) 1 r q rfl rfl))
      (fun q => (val_main_v27_apply (F := Ideal) w (ridx_main_v66 (ix2 r j) q)).trans ((val_main_v26_apply (F := Ideal) w (idx_main_v27 (ridx_main_v66 (ix2 r j) q))).trans (stackAt w _ 1 j q rfl rfl rfl)))))
      (piece p w 0 r j (fun q => (val_main_v47_apply (F := Ideal) p (lidx_main_v68 (ix2 r j) q)).trans (colsAt p (idx_main_v47 (lidx_main_v68 (ix2 r j) q)) 0 r q rfl (by show q.val = 1024 * 0 + q.val; omega)))
      (fun q => (val_main_v24_apply (F := Ideal) w (ridx_main_v68 (ix2 r j) q)).trans ((val_main_v23_apply (F := Ideal) w (idx_main_v24 (ridx_main_v68 (ix2 r j) q))).trans (stackAt w _ 0 j q rfl rfl rfl)))))

/-! ## The norm and its derivative -/

theorem at8' (r : Fin 4096) (z : Fin 1) : val_main_v8 (F := Ideal) x (ix2 r z) = msq c1024 (fun k => x (ix2 r k)) := by
  rw [val_main_v8_apply, val_main_v6_apply, val_main_v4_apply, val_main_v3_apply, val_main_v5_apply, val_main_v7_apply]
  refine congrArg (fun a : EReal => Ideal.div a c1024 + eps) ((zadd _).trans (Finset.sum_congr rfl fun k _ => ?_))
  exact congrArg (fun i => x i * x i) (pair _ r k rfl rfl)
theorem at9 (r : Fin 4096) (z : Fin 1) : val_main_v9 (F := Ideal) x (ix2 r z) = inv c1024 (fun k => x (ix2 r k)) :=
  congrArg Ideal.rsqrt (at8' x r z)
theorem at12 (r : Fin 4096) (z : Fin 1) : val_main_v12 (F := Ideal) x (ix2 r z) = dinv c1024 (fun k => x (ix2 r k)) := by
  rw [val_main_v12_apply, val_main_v11_apply, val_main_v10_apply]
  exact congrArg₂ (fun a b : EReal => mhalf * Ideal.div a b) (at9 x r z) (at8' x r z)
theorem at14 (r : Fin 4096) (j : Fin 1024) : val_main_v14 (F := Ideal) x (ix2 r j) = x (ix2 r j) * inv c1024 (fun k => x (ix2 r k)) := by
  rw [val_main_v14_apply, val_main_v13_apply, pair (idx_main_v13 (ix2 r j)) r (0 : Fin 1) rfl rfl]
  exact congrArg (fun a : EReal => x (ix2 r j) * a) (at9 x r 0)
theorem at16 (r : Fin 4096) (j : Fin 1024) : val_main_v16 (F := Ideal) x g (ix2 r j) = x (ix2 r j) * inv c1024 (fun k => x (ix2 r k)) * g (ix2 0 j) := by
  rw [val_main_v16_apply, val_main_v15_apply, pair (idx_main_v15 (ix2 r j)) (0 : Fin 1) j rfl rfl]
  exact congrArg (fun a : EReal => a * g (ix2 0 j)) (at14 x r j)
theorem at76 (r : Fin 4096) (j : Fin 1024) : val_main_v76 (F := Ideal) p w s (ix2 r j) = rowD p w r j * (one + s (ix2 0 j)) := by
  rw [val_main_v76_apply, val_main_v75_apply, pair (idx_main_v75 (ix2 r j)) (0 : Fin 1) j rfl rfl, val_main_v18_apply, val_main_v17_apply]
  exact congrArg (fun a : EReal => a * (one + s (ix2 0 j))) (at69 p w r j)
theorem at81 (r : Fin 4096) (j : Fin 1024) : val_main_v81 (F := Ideal) p w g s (ix2 r j) = dn (only g) (only s) (rowD p w r) j := by
  rw [val_main_v81_apply, val_main_v80_apply, pair (idx_main_v80 (ix2 r j)) (0 : Fin 1) j rfl rfl]
  exact congrArg (fun a : EReal => a * g (ix2 0 j)) (at76 p w s r j)
theorem at84 (r : Fin 4096) (z : Fin 1) : val_main_v84 (F := Ideal) p w x g s (ix2 r z) = ∑ k, x (ix2 r k) * dn (only g) (only s) (rowD p w r) k := by
  rw [val_main_v84_apply, val_main_v83_apply]
  refine (zadd _).trans (Finset.sum_congr rfl fun k _ => ?_)
  rw [pair (idx_main_v83 (idx_main_v84 (ix2 r z)) k) r k (by show r.val * 1 + z.val = r.val; omega) rfl, val_main_v82_apply]
  exact congrArg (fun a : EReal => x (ix2 r k) * a) (at81 p w g s r k)
theorem at91 (r : Fin 4096) (j : Fin 1024) : val_main_v91 (F := Ideal) p w x g s (ix2 r j)
    = share c1024 (fun k => x (ix2 r k)) (dn (only g) (only s) (rowD p w r)) := by
  rw [val_main_v91_apply, val_main_v90_apply]
  refine (zadd _).trans ((Fin.sum_univ_one _).trans ?_)
  rw [pair (idx_main_v90 (idx_main_v91 (ix2 r j)) 0) r (0 : Fin 1) rfl rfl, val_main_v89_apply, val_main_v87_apply, val_main_v88_apply]
  exact congrArg₂ (fun a b : EReal => Ideal.div (a * b) c1024) (at84 p w x g s r 0) (at12 x r 0)

/-- The first result. -/
theorem at96 (r : Fin 4096) (j : Fin 1024) : val_main_v96 (F := Ideal) p w x d g s (ix2 r j) = gradX p w x d g s (ix2 r j) := by
  rw [val_main_v96_apply, val_main_v95_apply, val_main_v93_apply, val_main_v92_apply, val_main_v94_apply, val_main_v86_apply, val_main_v85_apply,
    pair (idx_main_v85 (ix2 r j)) r (0 : Fin 1) rfl rfl]
  refine congrArg (fun a : EReal => d (ix2 r j) + a) ?_
  exact congrArg₂ (fun a b : EReal => a + b) (congrArg₂ (fun a b : EReal => a + b)
    (congrArg₂ (fun a b : EReal => a * b) (at81 p w g s r j) (at9 x r 0))
    (congrArg (fun a : EReal => x (ix2 r j) * a) (at91 p w x g s r j))) (congrArg (fun a : EReal => a * x (ix2 r j)) (at91 p w x g s r j))

/-! ## The vectors' gradients -/

theorem at71 (j : Fin 1024) : val_main_v71 (F := Ideal) p w (ix2 0 j) = ∑ r, rowD p w r j := by
  rw [val_main_v71_apply, val_main_v70_apply]
  refine (zadd _).trans (Finset.sum_congr rfl fun r _ => ?_)
  rw [pair (idx_main_v70 (idx_main_v71 (ix2 0 j)) r) r j rfl (by show 0 * 1024 + j.val = j.val; omega)]
  exact at69 p w r j
theorem at74 (j : Fin 1024) : val_main_v74 (F := Ideal) p w x g (ix2 0 j) = ∑ r, x (ix2 r j) * inv c1024 (fun k => x (ix2 r k)) * g (ix2 0 j) * rowD p w r j := by
  rw [val_main_v74_apply, val_main_v73_apply]
  refine (zadd _).trans (Finset.sum_congr rfl fun r _ => ?_)
  rw [pair (idx_main_v73 (idx_main_v74 (ix2 0 j)) r) r j rfl (by show 0 * 1024 + j.val = j.val; omega), val_main_v72_apply]
  exact congrArg₂ (fun a b : EReal => a * b) (at16 x g r j) (at69 p w r j)
theorem at79 (j : Fin 1024) : val_main_v79 (F := Ideal) p w x s (ix2 0 j)
    = ∑ r, x (ix2 r j) * inv c1024 (fun k => x (ix2 r k)) * (rowD p w r j * (one + s (ix2 0 j))) := by
  rw [val_main_v79_apply, val_main_v78_apply]
  refine (zadd _).trans (Finset.sum_congr rfl fun r _ => ?_)
  rw [pair (idx_main_v78 (idx_main_v79 (ix2 0 j)) r) r j rfl (by show 0 * 1024 + j.val = j.val; omega), val_main_v77_apply]
  exact congrArg₂ (fun a b : EReal => a * b) (at14 x r j) (at76 p w s r j)

/-- Three rows over five. -/
theorem rows4 {α : Type} (x0 x1 x2 : S1x1024.Idx → α) (x3 : S5x1024.Idx → α) (v : α) (hv : ∀ i, x3 i = v) (hp) (k : Fin 8) (j : Fin 1024) :
    concatenate S8x1024 0 [⟨S1x1024, x0⟩, ⟨S1x1024, x1⟩, ⟨S1x1024, x2⟩, ⟨S5x1024, x3⟩] hp (ix2 k j)
      = if k.val = 2 then x2 (ix2 0 j) else if k.val = 1 then x1 (ix2 0 j) else if k.val = 0 then x0 (ix2 0 j) else v := by
  have off : ∀ (n : Nat) (l : Fin n) (b : Fin 2), b ≠ (0 : Fin 2) →
      ((ix2 l j : (⟨2, ![n, 1024]⟩ : Shape).Idx) b).val = ((ix2 k j : S8x1024.Idx) b).val := fun n l b hb => by
    match b with
    | ⟨0, _⟩ => exact absurd rfl hb
    | ⟨1, _⟩ => rfl
  by_cases h2 : k.val = 2
  · rw [if_pos h2]
    exact concatenate_apply_piece (t := S8x1024) 0 _ hp _ 2 (by show 2 < 4; omega) S1x1024 x2 rfl rfl 2 rfl _ (off _ _) h2.symm
  rw [if_neg h2]
  by_cases h1 : k.val = 1
  · rw [if_pos h1]
    exact concatenate_apply_piece (t := S8x1024) 0 _ hp _ 1 (by show 1 < 4; omega) S1x1024 x1 rfl rfl 1 rfl _ (off _ _) h1.symm
  rw [if_neg h1]
  by_cases h0 : k.val = 0
  · rw [if_pos h0]
    exact concatenate_apply_piece (t := S8x1024) 0 _ hp _ 0 (by show 0 < 4; omega) S1x1024 x0 rfl rfl 0 rfl _ (off _ _) h0.symm
  rw [if_neg h0]
  refine (concatenate_apply_piece (t := S8x1024) 0 _ hp _ 3 (by show 3 < 4; omega) S5x1024 x3 rfl rfl 3 rfl
    (ix2 (⟨k.val - 3, by omega⟩ : Fin 5) j) (off _ _) (by show 3 + (k.val - 3) = k.val; omega)).trans (hv _)

/-- The second result. -/
theorem at98 (k : Fin 8) (j : Fin 1024) : val_main_v98 (F := Ideal) p w x g s (ix2 k j) = gradRows p w x g s (ix2 k j) := by
  unfold val_main_v98
  refine (rows4 _ _ _ _ (0 : EReal) (fun i => (val_main_v97_apply i).trans ((val_main_cst_10_apply _).trans Ideal.ofBits_zero_f32)) _ k j).trans ?_
  show _ = ∑ r, share3 (fun q => x (ix2 r q)) (only g) (only s) (rowD p w r) k j
  unfold share3
  by_cases h2 : k.val = 2
  · simp only [if_pos h2]
    exact at71 p w j
  simp only [if_neg h2]
  by_cases h1 : k.val = 1
  · simp only [if_pos h1]
    exact at74 p w x g j
  simp only [if_neg h1]
  by_cases h0 : k.val = 0
  · simp only [if_pos h0]
    exact at79 p w x s j
  simp only [if_neg h0, Finset.sum_const_zero]

theorem result1 : val_main_v96 (F := Ideal) p w x d g s = gradX p w x d g s :=
  funext fun i => (congrArg _ (eq_ix2 i)).trans ((at96 p w x d g s (i 0) (i 1)).trans (congrArg _ (eq_ix2 i).symm))
theorem result2 : val_main_v98 (F := Ideal) p w x g s = gradRows p w x g s :=
  funext fun i => (congrArg _ (eq_ix2 i)).trans ((at98 p w x g s (i 0) (i 1)).trans (congrArg _ (eq_ix2 i).symm))

end Cert.Reference7Ideal.In

end
-- ==== Proof.InClaims.lean ====
/-
  The input projection's backward claims: the reference's frame, and that the kernel and the reference leave the same
  results.
-/
module

public import proofs.«01_k».proof.Defs
public import proofs.«01_k».proof.Proof.InRef
public import proofs.«01_k».proof.Proof.Gen.Reference7Ideal.Run

@[expose] public section

set_option maxRecDepth 16384
set_option maxHeartbeats 1000000

noncomputable section

namespace Cert.InClaims

open Idealize.ShloMosaic hiding ix1 ix2 ix3 ix4 eq_ix2 eq_ix3
open Idealize.ShloMosaic.ValueIdx Idealize.ShloMosaic.Tactic Idealize.SL.Sem Cert.Kernel7Ideal.In

theorem reference7 [Reference7Ideal.Facts] : quiescent_Reference7Ideal := fun m ρ _ =>
  (θ_run (Reference7Ideal.defs (F := Ideal)) _ _).mono (fun r h => ⟨fun c => (h c).2.2, sem_eq_zero_of_no_sems rfl r.2⟩)
    (Reference7Ideal.Value.run m ρ)

theorem algebraic7 [Kernel7Ideal.Facts] [Reference7Ideal.Facts] : algebraic_Kernel7Ideal_Reference7Ideal := by
  intro m g m' g' _ same
  refine ⟨fun c => gradX (argP m c) (argW m c) (argX m c) (argD m c) (argG m c) (argS m c),
    fun c => gradRows (argP m c) (argW m c) (argX m c) (argG m c) (argS m c), ?_, ?_⟩
  · exact (θ_run Kernel7Ideal.defs _ _).mono (fun r h c => ⟨(h c).1.trans (final7 m c), (h c).2.1.trans (final8 m c), (h c).2.2⟩) (Kernel7Ideal.Value.run_blocks m g)
  · refine (θ_run Reference7Ideal.defs _ _).mono (fun r h c => ⟨?_, ?_, (h c).2.2⟩) (Reference7Ideal.Value.run m' g')
    · refine (h c).1.trans ((Reference7Ideal.Read.val_main_v96_eq (F := Ideal) _ _).trans ?_)
      rw [(same c).1, (same c).2.1, (same c).2.2.1, (same c).2.2.2.1, (same c).2.2.2.2.1, (same c).2.2.2.2.2.1]
      exact Reference7Ideal.In.result1 _ _ _ _ _ _
    · refine (h c).2.1.trans ((Reference7Ideal.Read.val_main_v98_eq (F := Ideal) _ _).trans ?_)
      rw [(same c).1, (same c).2.1, (same c).2.2.1, (same c).2.2.2.2.1, (same c).2.2.2.2.2.1]
      exact Reference7Ideal.In.result2 _ _ _ _ _

end Cert.InClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_written
public import proofs.«01_k».proof.Proof.Frames
public import proofs.«01_k».proof.Proof.Values
public import proofs.«01_k».proof.Proof.GradClaims
public import proofs.«01_k».proof.Proof.InClaims
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame

public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.On_written.Gen.facts,
    Frames.kernel, Frames.kernel_ideal, Frames.reference,
    fun m ρ _ => Cert.Kernel2.Gen.frame m ρ, fun m ρ _ => Cert.Kernel2Ideal.Gen.frame m ρ, GradClaims.reference2,
    fun m ρ _ => Cert.Kernel3.Gen.frame m ρ, fun m ρ _ => Cert.Kernel3Ideal.Gen.frame m ρ, GradClaims.reference3,
    fun m ρ _ => Cert.Kernel4.Gen.frame m ρ, fun m ρ _ => Cert.Kernel4Ideal.Gen.frame m ρ, GradClaims.reference4,
    fun m ρ _ => Cert.Kernel5.Gen.frame m ρ, fun m ρ _ => Cert.Kernel5Ideal.Gen.frame m ρ, GradClaims.reference5,
    fun m ρ _ => Cert.Kernel6.Gen.frame m ρ, fun m ρ _ => Cert.Kernel6Ideal.Gen.frame m ρ, GradClaims.reference6,
    fun m ρ _ => Cert.Kernel7.Gen.frame m ρ, fun m ρ _ => Cert.Kernel7Ideal.Gen.frame m ρ, InClaims.reference7,
    trivial, Values.algebraic,
    trivial, GradClaims.algebraic2,
    trivial, GradClaims.algebraic3,
    trivial, GradClaims.algebraic4,
    trivial, GradClaims.algebraic5,
    trivial, GradClaims.algebraic6,
    trivial, InClaims.algebraic7⟩

end Cert.Proof
